-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "scale_log2e" .f32 0x3E38AA3B#32 (((1 / 8) * (Real.log 2)⁻¹ : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v12)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v21)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v21) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v14)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v11)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v11) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v30) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v11)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v11) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v33) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v8)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v8) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S8x2048x16x64 : Shape := ⟨4, ![8, 2048, 16, 64]⟩
abbrev S8x2048x8 : Shape := ⟨3, ![8, 2048, 8]⟩
abbrev S32x16 : Shape := ⟨2, ![32, 16]⟩
abbrev S4x64 : Shape := ⟨2, ![4, 64]⟩
abbrev S128 : Shape := ⟨1, ![128]⟩
abbrev S_ : Shape := ⟨0, ![]⟩

class Facts : Prop where
  bcast_S_S8x2048x16x64 : S_.BroadcastsInDim S8x2048x16x64 (![] : Fin 0 → Fin S8x2048x16x64.rank)
  reducesTo_S8x2048x16x64_S_d0_1_2_3 : S8x2048x16x64.ReducesTo [0, 1, 2, 3] S_
  h_S_ : 0 < S_.numel
  bcast_S_S8x2048x8 : S_.BroadcastsInDim S8x2048x8 (![] : Fin 0 → Fin S8x2048x8.rank)
  reducesTo_S8x2048x8_S_d0_1_2 : S8x2048x8.ReducesTo [0, 1, 2] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8x2048x16x64 .f32) (main_arg1 : FVec F S8x2048x16x64 .f32) (main_arg2 : FVec F S8x2048x16x64 .f32) (main_arg3 : FVec F S8x2048x8 .f32) (main_arg4 : FVec F S32x16 .f32) (main_arg5 : FVec F S4x64 .f32) (main_arg6 : FVec F S128 .f32) : IVec S_ 1 :=
  let main_v0 : FVec F S8x2048x16x64 .f32 := Host.absf main_arg0
  let main_cst : FVec F S_ .f32 := constant S_ .f32 0x7F800000#32
  let main_v1 : FVec F S8x2048x16x64 .f32 := broadcastInDim S8x2048x16x64 ![] bcast_S_S8x2048x16x64 main_cst
  let main_v2 : IVec S8x2048x16x64 1 := cmpf .olt main_v0 main_v1
  let main_c : IVec S_ 1 := constantI S_ 1 1#1
  let main_v3 : IVec S_ 1 := (fun x v => Host.reduce IntOp.andi x v reducesTo_S8x2048x16x64_S_d0_1_2_3 h_S_) main_v2 main_c
  let main_v4 : FVec F S8x2048x16x64 .f32 := Host.absf main_arg1
  let main_cst_0 : FVec F S_ .f32 := constant S_ .f32 0x7F800000#32
  let main_v5 : FVec F S8x2048x16x64 .f32 := broadcastInDim S8x2048x16x64 ![] bcast_S_S8x2048x16x64 main_cst_0
  let main_v6 : IVec S8x2048x16x64 1 := cmpf .olt main_v4 main_v5
  let main_c_1 : IVec S_ 1 := constantI S_ 1 1#1
  let main_v7 : IVec S_ 1 := (fun x v => Host.reduce IntOp.andi x v reducesTo_S8x2048x16x64_S_d0_1_2_3 h_S_) main_v6 main_c_1
  let main_v8 : FVec F S8x2048x8 .f32 := Host.absf main_arg3
  let main_cst_2 : FVec F S_ .f32 := constant S_ .f32 0x7F800000#32
  let main_v9 : FVec F S8x2048x8 .f32 := broadcastInDim S8x2048x8 ![] bcast_S_S8x2048x8 main_cst_2
  let main_v10 : IVec S8x2048x8 1 := cmpf .olt main_v8 main_v9
  let main_c_3 : IVec S_ 1 := constantI S_ 1 1#1
  let main_v11 : IVec S_ 1 := (fun x v => Host.reduce IntOp.andi x v reducesTo_S8x2048x8_S_d0_1_2 h_S_) main_v10 main_c_3
  let main_v12 : FVec F S32x16 .f32 := Host.absf main_arg4
  let main_cst_4 : FVec F S_ .f32 := constant S_ .f32 0x7F800000#32
  let main_v13 : FVec F S32x16 .f32 := broadcastInDim S32x16 ![] bcast_S_S32x16 main_cst_4
  let main_v14 : IVec S32x16 1 := cmpf .olt main_v12 main_v13
  let main_c_5 : IVec S_ 1 := constantI S_ 1 1#1
  let main_v15 : IVec S_ 1 := (fun x v => Host.reduce IntOp.andi x v reducesTo_S32x16_S_d0_1 h_S_) main_v14 main_c_5
  fn_part1 (F := F) main_v3 main_v7 main_v11 main_v15
-- ==== Kernel.lean ====
abbrev S8x2048x16x64 : Shape := ⟨4, ![8, 2048, 16, 64]⟩
abbrev S8x2048x8 : Shape := ⟨3, ![8, 2048, 8]⟩
abbrev S32x16 : Shape := ⟨2, ![32, 16]⟩
abbrev S4x64 : Shape := ⟨2, ![4, 64]⟩
abbrev S128 : Shape := ⟨1, ![128]⟩
abbrev S8x2048x1024 : Shape := ⟨3, ![8, 2048, 1024]⟩
abbrev S_ : Shape := ⟨0, ![]⟩
abbrev S8x2048x1152 : Shape := ⟨3, ![8, 2048, 1152]⟩
abbrev S8x2048x2048 : Shape := ⟨3, ![8, 2048, 2048]⟩
abbrev S32x4 : Shape := ⟨2, ![32, 4]⟩
abbrev S8x8x2048 : Shape := ⟨3, ![8, 8, 2048]⟩
abbrev S8x4x2x2048 : Shape := ⟨4, ![8, 4, 2, 2048]⟩
abbrev S256 : Shape := ⟨1, ![256]⟩
abbrev S256x1 : Shape := ⟨2, ![256, 1]⟩
abbrev S1x256 : Shape := ⟨2, ![1, 256]⟩
abbrev S8 : Shape := ⟨1, ![8]⟩
abbrev S8x1x1 : Shape := ⟨3, ![8, 1, 1]⟩
abbrev S256x256 : Shape := ⟨2, ![256, 256]⟩
abbrev S1x256x256 : Shape := ⟨3, ![1, 256, 256]⟩
abbrev S8x256x256 : Shape := ⟨3, ![8, 256, 256]⟩
abbrev S8x256x256x1 : Shape := ⟨4, ![8, 256, 256, 1]⟩
abbrev S32 : Shape := ⟨1, ![32]⟩
abbrev S1x1x1x32 : Shape := ⟨4, ![1, 1, 1, 32]⟩
abbrev S8x256x256x32 : Shape := ⟨4, ![8, 256, 256, 32]⟩
abbrev S4x8x256x256 : Shape := ⟨4, ![4, 8, 256, 256]⟩
abbrev S128x1 : Shape := ⟨2, ![128, 1]⟩
abbrev S8x1024x2048 : Shape := ⟨3, ![8, 1024, 2048]⟩
abbrev S1x256x128 : Shape := ⟨3, ![1, 256, 128]⟩
abbrev S1x128x2048 : Shape := ⟨3, ![1, 128, 2048]⟩
abbrev S1x1x2x2048 : Shape := ⟨4, ![1, 1, 2, 2048]⟩
abbrev S1x8x256x256 : Shape := ⟨4, ![1, 8, 256, 256]⟩
abbrev S1x128x256 : Shape := ⟨3, ![1, 128, 256]⟩
abbrev S2048x128 : Shape := ⟨2, ![2048, 128]⟩
abbrev S144x2048 : Shape := ⟨2, ![144, 2048]⟩
abbrev S2x2048x128 : Shape := ⟨3, ![2, 2048, 128]⟩
abbrev S1x512 : Shape := ⟨2, ![1, 512]⟩
abbrev S144x512 : Shape := ⟨2, ![144, 512]⟩
abbrev S128x2048 : Shape := ⟨2, ![128, 2048]⟩
abbrev S16x2048 : Shape := ⟨2, ![16, 2048]⟩
abbrev S1x1x1x2048 : Shape := ⟨4, ![1, 1, 1, 2048]⟩
abbrev S1x2048 : Shape := ⟨2, ![1, 2048]⟩
abbrev S1x2048x128 : Shape := ⟨3, ![1, 2048, 128]⟩
abbrev S1x128 : Shape := ⟨2, ![1, 128]⟩
abbrev S256x128 : Shape := ⟨2, ![256, 128]⟩
abbrev S512x128 : Shape := ⟨2, ![512, 128]⟩
abbrev S1024x128 : Shape := ⟨2, ![1024, 128]⟩
abbrev S1024x512 : Shape := ⟨2, ![1024, 512]⟩
abbrev S1x1024x128 : Shape := ⟨3, ![1, 1024, 128]⟩
abbrev S1024x256 : Shape := ⟨2, ![1024, 256]⟩
abbrev S1024x1 : Shape := ⟨2, ![1024, 1]⟩
abbrev S512 : Shape := ⟨1, ![512]⟩
abbrev S144x1024 : Shape := ⟨2, ![144, 1024]⟩
abbrev S64x256 : Shape := ⟨2, ![64, 256]⟩
abbrev S1x64x256 : Shape := ⟨3, ![1, 64, 256]⟩
abbrev S1x1x256x256 : Shape := ⟨4, ![1, 1, 256, 256]⟩
abbrev S1x64 : Shape := ⟨2, ![1, 64]⟩
abbrev S1 : Shape := ⟨1, ![1]⟩
abbrev S1x1 : Shape := ⟨2, ![1, 1]⟩
abbrev S128x256 : Shape := ⟨2, ![128, 256]⟩

abbrev nBuf : Space → Nat
  | .hbm => 76
  | .vmem => 19
  | .smem => 0
  | _ => 0

abbrev bufTy : (tb : Table) → Fin (tcTables nBuf tb) → BufTy
  | .hbm, ⟨0, _⟩ => ⟨S8x2048x16x64, .f32⟩
  | .hbm, ⟨1, _⟩ => ⟨S8x2048x16x64, .f32⟩
  | .hbm, ⟨2, _⟩ => ⟨S8x2048x16x64, .f32⟩
  | .hbm, ⟨3, _⟩ => ⟨S8x2048x8, .f32⟩
  | .hbm, ⟨4, _⟩ => ⟨S32x16, .f32⟩
  | .hbm, ⟨5, _⟩ => ⟨S4x64, .f32⟩
  | .hbm, ⟨6, _⟩ => ⟨S128, .f32⟩
  | .hbm, ⟨7, _⟩ => ⟨S8x2048x1024, .f32⟩
  | .hbm, ⟨8, _⟩ => ⟨S_, .i32⟩
  | .hbm, ⟨9, _⟩ => ⟨S_, .f32⟩
  | .hbm, ⟨10, _⟩ => ⟨S8x2048x1152, .f32⟩
  | .hbm, ⟨11, _⟩ => ⟨S8x2048x1024, .f32⟩
  | .hbm, ⟨12, _⟩ => ⟨S8x2048x1024, .f32⟩
  | .hbm, ⟨13, _⟩ => ⟨S8x2048x2048, .f32⟩
  | .hbm, ⟨14, _⟩ => ⟨S8x2048x2048, .f32⟩
  | .hbm, ⟨15, _⟩ => ⟨S32x4, .f32⟩
  | .hbm, ⟨16, _⟩ => ⟨S8x8x2048, .f32⟩
  | .hbm, ⟨17, _⟩ => ⟨S8x4x2x2048, .f32⟩
  | .hbm, ⟨18, _⟩ => ⟨S256, .i32⟩
  | .hbm, ⟨19, _⟩ => ⟨S256x1, .i32⟩
  | .hbm, ⟨20, _⟩ => ⟨S256, .i32⟩
  | .hbm, ⟨21, _⟩ => ⟨S1x256, .i32⟩
  | .hbm, ⟨22, _⟩ => ⟨S8, .i32⟩
  | .hbm, ⟨23, _⟩ => ⟨S8x1x1, .i32⟩
  | .hbm, ⟨24, _⟩ => ⟨S_, .i32⟩
  | .hbm, ⟨25, _⟩ => ⟨S8x1x1, .i32⟩
  | .hbm, ⟨26, _⟩ => ⟨S8x1x1, .i32⟩
  | .hbm, ⟨27, _⟩ => ⟨S256x256, .i32⟩
  | .hbm, ⟨28, _⟩ => ⟨S256x256, .i32⟩
  | .hbm, ⟨29, _⟩ => ⟨S256x256, .i32⟩
  | .hbm, ⟨30, _⟩ => ⟨S1x256x256, .i32⟩
  | .hbm, ⟨31, _⟩ => ⟨S8x256x256, .i32⟩
  | .hbm, ⟨32, _⟩ => ⟨S8x256x256, .i32⟩
  | .hbm, ⟨33, _⟩ => ⟨S8x256x256, .i32⟩
  | .hbm, ⟨34, _⟩ => ⟨S_, .i32⟩
  | .hbm, ⟨35, _⟩ => ⟨S8x256x256, .i32⟩
  | .hbm, ⟨36, _⟩ => ⟨S8x256x256, .i32⟩
  | .hbm, ⟨37, _⟩ => ⟨S8x256x256, .i32⟩
  | .hbm, ⟨38, _⟩ => ⟨S_, .i32⟩
  | .hbm, ⟨39, _⟩ => ⟨S8x256x256, .i32⟩
  | .hbm, ⟨40, _⟩ => ⟨S8x256x256, .i32⟩
  | .hbm, ⟨41, _⟩ => ⟨S_, .i32⟩
  | .hbm, ⟨42, _⟩ => ⟨S8x256x256, .i32⟩
  | .hbm, ⟨43, _⟩ => ⟨S8x256x256, .i32⟩
  | .hbm, ⟨44, _⟩ => ⟨S8x256x256, .f32⟩
  | .hbm, ⟨45, _⟩ => ⟨S_, .f32⟩
  | .hbm, ⟨46, _⟩ => ⟨S8x256x256, .f32⟩
  | .hbm, ⟨47, _⟩ => ⟨S8x256x256, .f32⟩
  | .hbm, ⟨48, _⟩ => ⟨S8x256x256, .f32⟩
  | .hbm, ⟨49, _⟩ => ⟨S_, .f32⟩
  | .hbm, ⟨50, _⟩ => ⟨S8x256x256, .f32⟩
  | .hbm, ⟨51, _⟩ => ⟨S8x256x256, .f32⟩
  | .hbm, ⟨52, _⟩ => ⟨S_, .f32⟩
  | .hbm, ⟨53, _⟩ => ⟨S8x256x256, .f32⟩
  | .hbm, ⟨54, _⟩ => ⟨S8x256x256, .f32⟩
  | .hbm, ⟨55, _⟩ => ⟨S8x256x256, .i32⟩
  | .hbm, ⟨56, _⟩ => ⟨S_, .i32⟩
  | .hbm, ⟨57, _⟩ => ⟨S8x256x256, .i32⟩
  | .hbm, ⟨58, _⟩ => ⟨S8x256x256, .i32⟩
  | .hbm, ⟨59, _⟩ => ⟨S_, .i32⟩
  | .hbm, ⟨60, _⟩ => ⟨S8x256x256, .i32⟩
  | .hbm, ⟨61, _⟩ => ⟨S8x256x256, .i1⟩
  | .hbm, ⟨62, _⟩ => ⟨S_, .i32⟩
  | .hbm, ⟨63, _⟩ => ⟨S8x256x256, .i32⟩
  | .hbm, ⟨64, _⟩ => ⟨S8x256x256, .i32⟩
  | .hbm, ⟨65, _⟩ => ⟨S8x256x256, .i32⟩
  | .hbm, ⟨66, _⟩ => ⟨S8x256x256x1, .i32⟩
  | .hbm, ⟨67, _⟩ => ⟨S32, .i32⟩
  | .hbm, ⟨68, _⟩ => ⟨S1x1x1x32, .i32⟩
  | .hbm, ⟨69, _⟩ => ⟨S8x256x256x32, .i32⟩
  | .hbm, ⟨70, _⟩ => ⟨S8x256x256x32, .i32⟩
  | .hbm, ⟨71, _⟩ => ⟨S8x256x256x32, .i1⟩
  | .hbm, ⟨72, _⟩ => ⟨S8x256x256x32, .f32⟩
  | .hbm, ⟨73, _⟩ => ⟨S4x8x256x256, .f32⟩
  | .hbm, ⟨74, _⟩ => ⟨S128x1, .f32⟩
  | .hbm, ⟨75, _⟩ => ⟨S8x1024x2048, .f32⟩
  | .local _ .vmem, ⟨0, _⟩ => ⟨S4x64, .f32⟩
  | .local _ .vmem, ⟨1, _⟩ => ⟨S1x256x128, .f32⟩
  | .local _ .vmem, ⟨2, _⟩ => ⟨S1x256x128, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x1x2x2048, .f32⟩
  | .local _ .vmem, ⟨8, _⟩ => ⟨S1x1x2x2048, .f32⟩
  | .local _ .vmem, ⟨9, _⟩ => ⟨S1x8x256x256, .f32⟩
  | .local _ .vmem, ⟨10, _⟩ => ⟨S1x8x256x256, .f32⟩
  | .local _ .vmem, ⟨11, _⟩ => ⟨S128x1, .f32⟩
  | .local _ .vmem, ⟨12, _⟩ => ⟨S1x128x256, .f32⟩
  | .local _ .vmem, ⟨13, _⟩ => ⟨S1x128x256, .f32⟩
  | .local _ .vmem, ⟨14, _⟩ => ⟨S2048x128, .bf16⟩
  | .local _ .vmem, ⟨15, _⟩ => ⟨S144x2048, .bf16⟩
  | .local _ .vmem, ⟨16, _⟩ => ⟨S2x2048x128, .f32⟩
  | .local _ .vmem, ⟨17, _⟩ => ⟨S1x512, .f32⟩
  | .local _ .vmem, ⟨18, _⟩ => ⟨S144x512, .f32⟩
  | _, _ => ⟨S8x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg1 : BitVec 32 := BitVec.ofNat 32 (i 1).val
  let c4_i32 : BitVec 32 := 4#32
  let v41 : BitVec 1 := Scalar.cmpi .slt arg1 c4_i32
  let v42 : BitVec 32 := Scalar.extui v41
  let c0_i32_10 : BitVec 32 := 0#32
  let v43 : BitVec 1 := Scalar.cmpi .ne v42 c0_i32_10
  v43

def k0_cond4 (i : grid0.Coords) : BitVec 1 :=
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let c0_i32_15 : BitVec 32 := 0#32
  let v50 : BitVec 1 := Scalar.cmpi .sgt v40 c0_i32_15
  let v51 : BitVec 32 := Scalar.extui v50
  let c0_i32_16 : BitVec 32 := 0#32
  let v52 : BitVec 1 := Scalar.cmpi .ne v51 c0_i32_16
  v52

@[reducible] def k0_t1_loop (i : grid0.Coords) : Scf.Loop 32 :=
  let c1_i32_41 : BitVec 32 := 1#32
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let v92 : BitVec 32 := Scalar.subi v40 c1_i32_41
  let c1_i32_42 : BitVec 32 := 1#32
  let v94 : BitVec 32 := Scalar.divsi v92 c1_i32_42
  let v95 : BitVec 32 := Scalar.muli v94 c1_i32_42
  let v96 : BitVec 32 := Scalar.addi c1_i32_41 v95
  let c1_i32_43 : BitVec 32 := 1#32
  ⟨c1_i32_41, v96, c1_i32_43⟩
def k0_mult1 (i : grid0.Coords) (k0_t1 : Fin (k0_t1_loop i).trips) : BitVec 32 :=
  let c1_i32_41 : BitVec 32 := 1#32
  let c1_i32_43 : BitVec 32 := 1#32
  let arg16 : BitVec 32 := Scf.iv c1_i32_41 c1_i32_43 k0_t1
  let c1024_i32_65 : BitVec 32 := 1024#32
  let v146 : BitVec 32 := Scalar.muli arg16 c1024_i32_65
  v146
def k0_off1 (i : grid0.Coords) (k0_t1 : Fin (k0_t1_loop i).trips) : Fin 2 → Nat :=
  let c1_i32_41 : BitVec 32 := 1#32
  let c1_i32_43 : BitVec 32 := 1#32
  let arg16 : BitVec 32 := Scf.iv c1_i32_41 c1_i32_43 k0_t1
  let c1024_i32_65 : BitVec 32 := 1024#32
  let v146 : BitVec 32 := Scalar.muli arg16 c1024_i32_65
  let v147 : BitVec 32 := v146
  let v148 : Index := Scalar.indexCast v147
  let c0_66 : Index := 0#32
  ![v148.toNat, 0]
def k0_off2 (i : grid0.Coords) (k0_t1 : Fin (k0_t1_loop i).trips) : Fin 3 → Nat :=
  let c0_68 : Index := 0#32
  let c1_i32_41 : BitVec 32 := 1#32
  let c1_i32_43 : BitVec 32 := 1#32
  let arg16 : BitVec 32 := Scf.iv c1_i32_41 c1_i32_43 k0_t1
  let c1024_i32_65 : BitVec 32 := 1024#32
  let v146 : BitVec 32 := Scalar.muli arg16 c1024_i32_65
  let v147 : BitVec 32 := v146
  let v151 : Index := Scalar.indexCast v147
  let c0_69 : Index := 0#32
  ![0, v151.toNat, 0]
def k0_off3 (i : grid0.Coords) (k0_t1 : Fin (k0_t1_loop i).trips) : Fin 3 → Nat :=
  let c1_70 : Index := 1#32
  let c1_i32_41 : BitVec 32 := 1#32
  let c1_i32_43 : BitVec 32 := 1#32
  let arg16 : BitVec 32 := Scf.iv c1_i32_41 c1_i32_43 k0_t1
  let c1024_i32_65 : BitVec 32 := 1024#32
  let v146 : BitVec 32 := Scalar.muli arg16 c1024_i32_65
  let v147 : BitVec 32 := v146
  let v155 : Index := Scalar.indexCast v147
  let c0_71 : Index := 0#32
  ![1, v155.toNat, 0]
def k0_off4 (i : grid0.Coords) (k0_t1 : Fin (k0_t1_loop i).trips) : Fin 2 → Nat :=
  let c0_75 : Index := 0#32
  let c1_i32_41 : BitVec 32 := 1#32
  let c1_i32_43 : BitVec 32 := 1#32
  let arg16 : BitVec 32 := Scf.iv c1_i32_41 c1_i32_43 k0_t1
  let c1024_i32_65 : BitVec 32 := 1024#32
  let v146 : BitVec 32 := Scalar.muli arg16 c1024_i32_65
  let v147 : BitVec 32 := v146
  let v169 : Index := Scalar.indexCast v147
  ![0, v169.toNat]
@[reducible] def k0_t2_loop (i : grid0.Coords) : Scf.Loop 32 :=
  let c1_i32_41 : BitVec 32 := 1#32
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let v92 : BitVec 32 := Scalar.subi v40 c1_i32_41
  let c1_i32_42 : BitVec 32 := 1#32
  let v94 : BitVec 32 := Scalar.divsi v92 c1_i32_42
  let v95 : BitVec 32 := Scalar.muli v94 c1_i32_42
  let v96 : BitVec 32 := Scalar.addi c1_i32_41 v95
  let v93 : BitVec 32 := Scalar.addi c1_i32_41 v92
  let c1_i32_44 : BitVec 32 := 1#32
  ⟨v96, v93, c1_i32_44⟩
def k0_mult2 (i : grid0.Coords) (k0_t2 : Fin (k0_t2_loop i).trips) : BitVec 32 :=
  let c1_i32_41 : BitVec 32 := 1#32
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let v92 : BitVec 32 := Scalar.subi v40 c1_i32_41
  let c1_i32_42 : BitVec 32 := 1#32
  let v94 : BitVec 32 := Scalar.divsi v92 c1_i32_42
  let v95 : BitVec 32 := Scalar.muli v94 c1_i32_42
  let v96 : BitVec 32 := Scalar.addi c1_i32_41 v95
  let c1_i32_44 : BitVec 32 := 1#32
  let arg16 : BitVec 32 := Scf.iv v96 c1_i32_44 k0_t2
  let c1024_i32_65 : BitVec 32 := 1024#32
  let v146 : BitVec 32 := Scalar.muli arg16 c1024_i32_65
  v146
def k0_off5 (i : grid0.Coords) (k0_t2 : Fin (k0_t2_loop i).trips) : Fin 2 → Nat :=
  let c1_i32_41 : BitVec 32 := 1#32
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let v92 : BitVec 32 := Scalar.subi v40 c1_i32_41
  let c1_i32_42 : BitVec 32 := 1#32
  let v94 : BitVec 32 := Scalar.divsi v92 c1_i32_42
  let v95 : BitVec 32 := Scalar.muli v94 c1_i32_42
  let v96 : BitVec 32 := Scalar.addi c1_i32_41 v95
  let c1_i32_44 : BitVec 32 := 1#32
  let arg16 : BitVec 32 := Scf.iv v96 c1_i32_44 k0_t2
  let c1024_i32_65 : BitVec 32 := 1024#32
  let v146 : BitVec 32 := Scalar.muli arg16 c1024_i32_65
  let v147 : BitVec 32 := v146
  let v148 : Index := Scalar.indexCast v147
  let c0_66 : Index := 0#32
  ![v148.toNat, 0]
def k0_off6 (i : grid0.Coords) (k0_t2 : Fin (k0_t2_loop i).trips) : Fin 3 → Nat :=
  let c0_68 : Index := 0#32
  let c1_i32_41 : BitVec 32 := 1#32
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let v92 : BitVec 32 := Scalar.subi v40 c1_i32_41
  let c1_i32_42 : BitVec 32 := 1#32
  let v94 : BitVec 32 := Scalar.divsi v92 c1_i32_42
  let v95 : BitVec 32 := Scalar.muli v94 c1_i32_42
  let v96 : BitVec 32 := Scalar.addi c1_i32_41 v95
  let c1_i32_44 : BitVec 32 := 1#32
  let arg16 : BitVec 32 := Scf.iv v96 c1_i32_44 k0_t2
  let c1024_i32_65 : BitVec 32 := 1024#32
  let v146 : BitVec 32 := Scalar.muli arg16 c1024_i32_65
  let v147 : BitVec 32 := v146
  let v151 : Index := Scalar.indexCast v147
  let c0_69 : Index := 0#32
  ![0, v151.toNat, 0]
def k0_off7 (i : grid0.Coords) (k0_t2 : Fin (k0_t2_loop i).trips) : Fin 3 → Nat :=
  let c1_70 : Index := 1#32
  let c1_i32_41 : BitVec 32 := 1#32
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let v92 : BitVec 32 := Scalar.subi v40 c1_i32_41
  let c1_i32_42 : BitVec 32 := 1#32
  let v94 : BitVec 32 := Scalar.divsi v92 c1_i32_42
  let v95 : BitVec 32 := Scalar.muli v94 c1_i32_42
  let v96 : BitVec 32 := Scalar.addi c1_i32_41 v95
  let c1_i32_44 : BitVec 32 := 1#32
  let arg16 : BitVec 32 := Scf.iv v96 c1_i32_44 k0_t2
  let c1024_i32_65 : BitVec 32 := 1024#32
  let v146 : BitVec 32 := Scalar.muli arg16 c1024_i32_65
  let v147 : BitVec 32 := v146
  let v155 : Index := Scalar.indexCast v147
  let c0_71 : Index := 0#32
  ![1, v155.toNat, 0]
def k0_off8 (i : grid0.Coords) (k0_t2 : Fin (k0_t2_loop i).trips) : Fin 2 → Nat :=
  let c0_75 : Index := 0#32
  let c1_i32_41 : BitVec 32 := 1#32
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let v92 : BitVec 32 := Scalar.subi v40 c1_i32_41
  let c1_i32_42 : BitVec 32 := 1#32
  let v94 : BitVec 32 := Scalar.divsi v92 c1_i32_42
  let v95 : BitVec 32 := Scalar.muli v94 c1_i32_42
  let v96 : BitVec 32 := Scalar.addi c1_i32_41 v95
  let c1_i32_44 : BitVec 32 := 1#32
  let arg16 : BitVec 32 := Scf.iv v96 c1_i32_44 k0_t2
  let c1024_i32_65 : BitVec 32 := 1024#32
  let v146 : BitVec 32 := Scalar.muli arg16 c1024_i32_65
  let v147 : BitVec 32 := v146
  let v169 : Index := Scalar.indexCast v147
  ![0, v169.toNat]
def k0_mult3 (i : grid0.Coords) : BitVec 32 :=
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let c1024_i32_45 : BitVec 32 := 1024#32
  let v97 : BitVec 32 := Scalar.muli v40 c1024_i32_45
  v97
def k0_off9 (i : grid0.Coords) : Fin 2 → Nat :=
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let c1024_i32_45 : BitVec 32 := 1024#32
  let v97 : BitVec 32 := Scalar.muli v40 c1024_i32_45
  let v98 : BitVec 32 := v97
  let v99 : Index := Scalar.indexCast v98
  let c0_46 : Index := 0#32
  ![v99.toNat, 0]
def k0_off10 (i : grid0.Coords) : Fin 3 → Nat :=
  let c0_48 : Index := 0#32
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let c1024_i32_45 : BitVec 32 := 1024#32
  let v97 : BitVec 32 := Scalar.muli v40 c1024_i32_45
  let v98 : BitVec 32 := v97
  let v102 : Index := Scalar.indexCast v98
  let c0_49 : Index := 0#32
  ![0, v102.toNat, 0]
def k0_off11 (i : grid0.Coords) : Fin 3 → Nat :=
  let c1_50 : Index := 1#32
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let c1024_i32_45 : BitVec 32 := 1024#32
  let v97 : BitVec 32 := Scalar.muli v40 c1024_i32_45
  let v98 : BitVec 32 := v97
  let v106 : Index := Scalar.indexCast v98
  let c0_51 : Index := 0#32
  ![1, v106.toNat, 0]
def k0_off12 (i : grid0.Coords) : Fin 2 → Nat :=
  let c0_57 : Index := 0#32
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let c1024_i32_45 : BitVec 32 := 1024#32
  let v97 : BitVec 32 := Scalar.muli v40 c1024_i32_45
  let v98 : BitVec 32 := v97
  let v131 : Index := Scalar.indexCast v98
  ![0, v131.toNat]
def k0_cond5 (i : grid0.Coords) : BitVec 1 :=
  let arg1 : BitVec 32 := BitVec.ofNat 32 (i 1).val
  let c4_i32_11 : BitVec 32 := 4#32
  let v44 : BitVec 1 := Scalar.cmpi .sge arg1 c4_i32_11
  let v45 : BitVec 32 := Scalar.extui v44
  let c0_i32_12 : BitVec 32 := 0#32
  let v46 : BitVec 1 := Scalar.cmpi .ne v45 c0_i32_12
  v46

def k0_cond6 (i : grid0.Coords) : BitVec 1 :=
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let c0_i32_13 : BitVec 32 := 0#32
  let v47 : BitVec 1 := Scalar.cmpi .eq v40 c0_i32_13
  let v48 : BitVec 32 := Scalar.extui v47
  let c0_i32_14 : BitVec 32 := 0#32
  let v49 : BitVec 1 := Scalar.cmpi .ne v48 c0_i32_14
  v49

def k0_off13 (i : grid0.Coords) (c0_i32_37 : BitVec 32) : Fin 4 → Nat :=
  let c0_39 : Index := 0#32
  let c7_i32 : BitVec 32 := 7#32
  let c0_i32_38 : BitVec 32 := 0#32
  let arg2 : BitVec 32 := BitVec.ofNat 32 (i 2).val
  let c0_i32_36 : BitVec 32 := 0#32
  let v102 : BitVec 32 := Scalar.subi arg2 c0_i32_36
  let v103 : BitVec 32 := Scalar.subi v102 c0_i32_37
  let v104 : BitVec 32 := Scalar.maxsi c0_i32_38 v103
  let v105 : BitVec 32 := Scalar.minsi c7_i32 v104
  let v106 : Index := Scalar.indexCast v105
  let c0_40 : Index := 0#32
  let c0_41 : Index := 0#32
  ![0, v106.toNat, 0, 0]
def k0_cond7 (i : grid0.Coords) : BitVec 1 :=
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let c0_i32_15 : BitVec 32 := 0#32
  let v50 : BitVec 1 := Scalar.cmpi .sgt v40 c0_i32_15
  let v51 : BitVec 32 := Scalar.extui v50
  let c0_i32_16 : BitVec 32 := 0#32
  let v52 : BitVec 1 := Scalar.cmpi .ne v51 c0_i32_16
  v52

def k0_off14 (i : grid0.Coords) (c0_i32_37 : BitVec 32) : Fin 4 → Nat :=
  let c0_39 : Index := 0#32
  let c7_i32 : BitVec 32 := 7#32
  let c0_i32_38 : BitVec 32 := 0#32
  let arg2 : BitVec 32 := BitVec.ofNat 32 (i 2).val
  let c0_i32_36 : BitVec 32 := 0#32
  let v102 : BitVec 32 := Scalar.subi arg2 c0_i32_36
  let v103 : BitVec 32 := Scalar.subi v102 c0_i32_37
  let v104 : BitVec 32 := Scalar.maxsi c0_i32_38 v103
  let v105 : BitVec 32 := Scalar.minsi c7_i32 v104
  let v106 : Index := Scalar.indexCast v105
  let c0_40 : Index := 0#32
  let c0_41 : Index := 0#32
  ![0, v106.toNat, 0, 0]
@[reducible] def k0_t3_loop (i : grid0.Coords) : Scf.Loop 32 :=
  let c1_i32_68 : BitVec 32 := 1#32
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let v146 : BitVec 32 := Scalar.subi v40 c1_i32_68
  let c1_i32_69 : BitVec 32 := 1#32
  let v148 : BitVec 32 := Scalar.divsi v146 c1_i32_69
  let v149 : BitVec 32 := Scalar.muli v148 c1_i32_69
  let v150 : BitVec 32 := Scalar.addi c1_i32_68 v149
  let c1_i32_70 : BitVec 32 := 1#32
  ⟨c1_i32_68, v150, c1_i32_70⟩
def k0_mult4 (i : grid0.Coords) (k0_t3 : Fin (k0_t3_loop i).trips) : BitVec 32 :=
  let c1_i32_68 : BitVec 32 := 1#32
  let c1_i32_70 : BitVec 32 := 1#32
  let arg16 : BitVec 32 := Scf.iv c1_i32_68 c1_i32_70 k0_t3
  let c1024_i32_114 : BitVec 32 := 1024#32
  let v221 : BitVec 32 := Scalar.muli arg16 c1024_i32_114
  v221
def k0_off15 (i : grid0.Coords) (k0_t3 : Fin (k0_t3_loop i).trips) : Fin 2 → Nat :=
  let c1_i32_68 : BitVec 32 := 1#32
  let c1_i32_70 : BitVec 32 := 1#32
  let arg16 : BitVec 32 := Scf.iv c1_i32_68 c1_i32_70 k0_t3
  let c1024_i32_114 : BitVec 32 := 1024#32
  let v221 : BitVec 32 := Scalar.muli arg16 c1024_i32_114
  let v222 : BitVec 32 := v221
  let v223 : Index := Scalar.indexCast v222
  let c0_115 : Index := 0#32
  ![v223.toNat, 0]
def k0_off16 (i : grid0.Coords) (k0_t3 : Fin (k0_t3_loop i).trips) (c0_i32_118 : BitVec 32) : Fin 4 → Nat :=
  let c0_121 : Index := 0#32
  let c7_i32_120 : BitVec 32 := 7#32
  let c0_i32_119 : BitVec 32 := 0#32
  let arg2 : BitVec 32 := BitVec.ofNat 32 (i 2).val
  let c1_i32_68 : BitVec 32 := 1#32
  let c1_i32_70 : BitVec 32 := 1#32
  let arg16 : BitVec 32 := Scf.iv c1_i32_68 c1_i32_70 k0_t3
  let c4_i32_117 : BitVec 32 := 4#32
  let v226 : BitVec 32 := Scalar.muli arg16 c4_i32_117
  let v227 : BitVec 32 := Scalar.subi arg2 v226
  let v228 : BitVec 32 := Scalar.subi v227 c0_i32_118
  let v229 : BitVec 32 := Scalar.maxsi c0_i32_119 v228
  let v230 : BitVec 32 := Scalar.minsi c7_i32_120 v229
  let v231 : Index := Scalar.indexCast v230
  let c0_122 : Index := 0#32
  let c0_123 : Index := 0#32
  ![0, v231.toNat, 0, 0]
def k0_off17 (i : grid0.Coords) (k0_t3 : Fin (k0_t3_loop i).trips) : Fin 2 → Nat :=
  let c0_146 : Index := 0#32
  let c1_i32_68 : BitVec 32 := 1#32
  let c1_i32_70 : BitVec 32 := 1#32
  let arg16 : BitVec 32 := Scf.iv c1_i32_68 c1_i32_70 k0_t3
  let c1024_i32_114 : BitVec 32 := 1024#32
  let v221 : BitVec 32 := Scalar.muli arg16 c1024_i32_114
  let v222 : BitVec 32 := v221
  let v265 : Index := Scalar.indexCast v222
  ![0, v265.toNat]
@[reducible] def k0_t4_loop (i : grid0.Coords) : Scf.Loop 32 :=
  let c1_i32_68 : BitVec 32 := 1#32
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let v146 : BitVec 32 := Scalar.subi v40 c1_i32_68
  let c1_i32_69 : BitVec 32 := 1#32
  let v148 : BitVec 32 := Scalar.divsi v146 c1_i32_69
  let v149 : BitVec 32 := Scalar.muli v148 c1_i32_69
  let v150 : BitVec 32 := Scalar.addi c1_i32_68 v149
  let v147 : BitVec 32 := Scalar.addi c1_i32_68 v146
  let c1_i32_71 : BitVec 32 := 1#32
  ⟨v150, v147, c1_i32_71⟩
def k0_mult5 (i : grid0.Coords) (k0_t4 : Fin (k0_t4_loop i).trips) : BitVec 32 :=
  let c1_i32_68 : BitVec 32 := 1#32
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let v146 : BitVec 32 := Scalar.subi v40 c1_i32_68
  let c1_i32_69 : BitVec 32 := 1#32
  let v148 : BitVec 32 := Scalar.divsi v146 c1_i32_69
  let v149 : BitVec 32 := Scalar.muli v148 c1_i32_69
  let v150 : BitVec 32 := Scalar.addi c1_i32_68 v149
  let c1_i32_71 : BitVec 32 := 1#32
  let arg16 : BitVec 32 := Scf.iv v150 c1_i32_71 k0_t4
  let c1024_i32_114 : BitVec 32 := 1024#32
  let v221 : BitVec 32 := Scalar.muli arg16 c1024_i32_114
  v221
def k0_off18 (i : grid0.Coords) (k0_t4 : Fin (k0_t4_loop i).trips) : Fin 2 → Nat :=
  let c1_i32_68 : BitVec 32 := 1#32
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let v146 : BitVec 32 := Scalar.subi v40 c1_i32_68
  let c1_i32_69 : BitVec 32 := 1#32
  let v148 : BitVec 32 := Scalar.divsi v146 c1_i32_69
  let v149 : BitVec 32 := Scalar.muli v148 c1_i32_69
  let v150 : BitVec 32 := Scalar.addi c1_i32_68 v149
  let c1_i32_71 : BitVec 32 := 1#32
  let arg16 : BitVec 32 := Scf.iv v150 c1_i32_71 k0_t4
  let c1024_i32_114 : BitVec 32 := 1024#32
  let v221 : BitVec 32 := Scalar.muli arg16 c1024_i32_114
  let v222 : BitVec 32 := v221
  let v223 : Index := Scalar.indexCast v222
  let c0_115 : Index := 0#32
  ![v223.toNat, 0]
def k0_off19 (i : grid0.Coords) (k0_t4 : Fin (k0_t4_loop i).trips) (c0_i32_118 : BitVec 32) : Fin 4 → Nat :=
  let c0_121 : Index := 0#32
  let c7_i32_120 : BitVec 32 := 7#32
  let c0_i32_119 : BitVec 32 := 0#32
  let arg2 : BitVec 32 := BitVec.ofNat 32 (i 2).val
  let c1_i32_68 : BitVec 32 := 1#32
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let v146 : BitVec 32 := Scalar.subi v40 c1_i32_68
  let c1_i32_69 : BitVec 32 := 1#32
  let v148 : BitVec 32 := Scalar.divsi v146 c1_i32_69
  let v149 : BitVec 32 := Scalar.muli v148 c1_i32_69
  let v150 : BitVec 32 := Scalar.addi c1_i32_68 v149
  let c1_i32_71 : BitVec 32 := 1#32
  let arg16 : BitVec 32 := Scf.iv v150 c1_i32_71 k0_t4
  let c4_i32_117 : BitVec 32 := 4#32
  let v226 : BitVec 32 := Scalar.muli arg16 c4_i32_117
  let v227 : BitVec 32 := Scalar.subi arg2 v226
  let v228 : BitVec 32 := Scalar.subi v227 c0_i32_118
  let v229 : BitVec 32 := Scalar.maxsi c0_i32_119 v228
  let v230 : BitVec 32 := Scalar.minsi c7_i32_120 v229
  let v231 : Index := Scalar.indexCast v230
  let c0_122 : Index := 0#32
  let c0_123 : Index := 0#32
  ![0, v231.toNat, 0, 0]
def k0_off20 (i : grid0.Coords) (k0_t4 : Fin (k0_t4_loop i).trips) : Fin 2 → Nat :=
  let c0_146 : Index := 0#32
  let c1_i32_68 : BitVec 32 := 1#32
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let v146 : BitVec 32 := Scalar.subi v40 c1_i32_68
  let c1_i32_69 : BitVec 32 := 1#32
  let v148 : BitVec 32 := Scalar.divsi v146 c1_i32_69
  let v149 : BitVec 32 := Scalar.muli v148 c1_i32_69
  let v150 : BitVec 32 := Scalar.addi c1_i32_68 v149
  let c1_i32_71 : BitVec 32 := 1#32
  let arg16 : BitVec 32 := Scf.iv v150 c1_i32_71 k0_t4
  let c1024_i32_114 : BitVec 32 := 1024#32
  let v221 : BitVec 32 := Scalar.muli arg16 c1024_i32_114
  let v222 : BitVec 32 := v221
  let v265 : Index := Scalar.indexCast v222
  ![0, v265.toNat]
def k0_mult6 (i : grid0.Coords) : BitVec 32 :=
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let c1024_i32_72 : BitVec 32 := 1024#32
  let v151 : BitVec 32 := Scalar.muli v40 c1024_i32_72
  v151
def k0_off21 (i : grid0.Coords) : Fin 2 → Nat :=
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let c1024_i32_72 : BitVec 32 := 1024#32
  let v151 : BitVec 32 := Scalar.muli v40 c1024_i32_72
  let v152 : BitVec 32 := v151
  let v153 : Index := Scalar.indexCast v152
  let c0_73 : Index := 0#32
  ![v153.toNat, 0]
def k0_off22 (i : grid0.Coords) (c0_i32_76 : BitVec 32) : Fin 4 → Nat :=
  let c0_79 : Index := 0#32
  let c7_i32_78 : BitVec 32 := 7#32
  let c0_i32_77 : BitVec 32 := 0#32
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let c4_i32_75 : BitVec 32 := 4#32
  let v156 : BitVec 32 := Scalar.muli v40 c4_i32_75
  let v157 : BitVec 32 := Scalar.subi arg2 v156
  let v158 : BitVec 32 := Scalar.subi v157 c0_i32_76
  let v159 : BitVec 32 := Scalar.maxsi c0_i32_77 v158
  let v160 : BitVec 32 := Scalar.minsi c7_i32_78 v159
  let v161 : Index := Scalar.indexCast v160
  let c0_80 : Index := 0#32
  let c0_81 : Index := 0#32
  ![0, v161.toNat, 0, 0]
def k0_off23 (i : grid0.Coords) : Fin 2 → Nat :=
  let c0_106 : Index := 0#32
  let arg2 : BitVec 32 := BitVec.ofNat 32 (i 2).val
  let c256_i32 : BitVec 32 := 256#32
  let v20 : BitVec 32 := Scalar.muli arg2 c256_i32
  let c0_i32_5 : BitVec 32 := 0#32
  let v25 : BitVec 1 := Scalar.cmpi .sgt v20 c0_i32_5
  let v26 : BitVec 32 := Scalar.extui v25
  let c0_i32_6 : BitVec 32 := 0#32
  let v27 : BitVec 1 := Scalar.cmpi .slt v20 c0_i32_6
  let v28 : BitVec 32 := Scalar.extui v27
  let v29 : BitVec 32 := Scalar.subi v26 v28
  let c1024_i32 : BitVec 32 := 1024#32
  let c0_i32_7 : BitVec 32 := 0#32
  let v30 : BitVec 1 := Scalar.cmpi .sgt c1024_i32 c0_i32_7
  let v31 : BitVec 32 := Scalar.extui v30
  let c0_i32_8 : BitVec 32 := 0#32
  let v32 : BitVec 1 := Scalar.cmpi .slt c1024_i32 c0_i32_8
  let v33 : BitVec 32 := Scalar.extui v32
  let v34 : BitVec 32 := Scalar.subi v31 v33
  let v35 : BitVec 1 := Scalar.cmpi .ne v29 v34
  let v36 : BitVec 32 := Scalar.remsi v20 c1024_i32
  let c0_i32_9 : BitVec 32 := 0#32
  let v37 : BitVec 1 := Scalar.cmpi .ne v36 c0_i32_9
  let v38 : BitVec 1 := Scalar.andi v35 v37
  let v24 : BitVec 32 := Scalar.divsi v20 c1024_i32
  let c1_i32 : BitVec 32 := 1#32
  let v39 : BitVec 32 := Scalar.subi v24 c1_i32
  let v40 : BitVec 32 := Scalar.select v38 v39 v24
  let c1024_i32_72 : BitVec 32 := 1024#32
  let v151 : BitVec 32 := Scalar.muli v40 c1024_i32_72
  let v152 : BitVec 32 := v151
  let v206 : Index := Scalar.indexCast v152
  ![0, v206.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, v0.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "neg_log2e" => some ((-((Real.log 2)⁻¹) : ℝ) : EReal)
  | "scale_log2e" => some (((1 / 8) * (Real.log 2)⁻¹ : ℝ) : EReal)
  | _ => none
-- ==== ReferenceIdeal.lean ====
abbrev S8x2048x16x64 : Shape := ⟨4, ![8, 2048, 16, 64]⟩
abbrev S8x2048x8 : Shape := ⟨3, ![8, 2048, 8]⟩
abbrev S32x16 : Shape := ⟨2, ![32, 16]⟩
abbrev S4x64 : Shape := ⟨2, ![4, 64]⟩
abbrev S128 : Shape := ⟨1, ![128]⟩
abbrev S8x8x2048 : Shape := ⟨3, ![8, 8, 2048]⟩
abbrev S2048 : Shape := ⟨1, ![2048]⟩
abbrev S8x8x2048x1 : Shape := ⟨4, ![8, 8, 2048, 1]⟩
abbrev S8x8x1x2048 : Shape := ⟨4, ![8, 8, 1, 2048]⟩
abbrev S8x8x2048x2048 : Shape := ⟨4, ![8, 8, 2048, 2048]⟩
abbrev S32x4 : Shape := ⟨2, ![32, 4]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S2048x2048x4 : Shape := ⟨3, ![2048, 2048, 4]⟩
abbrev S4x2048x2048 : Shape := ⟨3, ![4, 2048, 2048]⟩
abbrev S4x2x2048x2048 : Shape := ⟨4, ![4, 2, 2048, 2048]⟩
abbrev S8x2048x2048 : Shape := ⟨3, ![8, 2048, 2048]⟩
abbrev S1x8x2048x2048 : Shape := ⟨4, ![1, 8, 2048, 2048]⟩
abbrev S8x16x2048x2048 : Shape := ⟨4, ![8, 16, 2048, 2048]⟩
abbrev S8x16x2048 : Shape := ⟨3, ![8, 16, 2048]⟩
abbrev S8x16x2048x1 : Shape := ⟨4, ![8, 16, 2048, 1]⟩
abbrev S8x2048x8x64 : Shape := ⟨4, ![8, 2048, 8, 64]⟩
abbrev S8x8x64x2048 : Shape := ⟨4, ![8, 8, 64, 2048]⟩
abbrev S8x4x2x2048x2048 : Shape := ⟨5, ![8, 4, 2, 2048, 2048]⟩
abbrev S8x2048x4x128 : Shape := ⟨4, ![8, 2048, 4, 128]⟩
abbrev S8x4x128x2x2048 : Shape := ⟨5, ![8, 4, 128, 2, 2048]⟩
abbrev S8x2048x4x2x128 : Shape := ⟨5, ![8, 2048, 4, 2, 128]⟩
abbrev S8x2048x16 : Shape := ⟨3, ![8, 2048, 16]⟩
abbrev S8x2048x8x1 : Shape := ⟨4, ![8, 2048, 8, 1]⟩
abbrev S8x2048x4x2x1 : Shape := ⟨5, ![8, 2048, 4, 2, 1]⟩
abbrev S1x64 : Shape := ⟨2, ![1, 64]⟩
abbrev S64 : Shape := ⟨1, ![64]⟩
abbrev S8x2048x4x1x128 : Shape := ⟨5, ![8, 2048, 4, 1, 128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x2048x512 : Shape := ⟨3, ![8, 2048, 512]⟩
abbrev S8x2048x1024 : Shape := ⟨3, ![8, 2048, 1024]⟩
abbrev S8x1024x2048 : Shape := ⟨3, ![8, 1024, 2048]⟩

abbrev nBuf : Space → Nat
  | .hbm => 154
  | .vmem => 0
  | .smem => 0
  | _ => 0

abbrev hbmTy0_0 (i : Nat) : BufTy := match i % 128 with
  | 0 => ⟨S8x2048x16x64, .f32⟩
  | 1 => ⟨S8x2048x16x64, .f32⟩
  | 2 => ⟨S8x2048x16x64, .f32⟩
  | 3 => ⟨S8x2048x8, .f32⟩
  | 4 => ⟨S32x16, .f32⟩
  | 5 => ⟨S4x64, .f32⟩
  | 6 => ⟨S128, .f32⟩
  | 7 => ⟨S8x8x2048, .f32⟩
  | 8 => ⟨S2048, .i32⟩
  | 9 => ⟨S8x8x2048x1, .f32⟩
  | 10 => ⟨S8x8x1x2048, .f32⟩
  | 11 => ⟨S8x8x2048x2048, .f32⟩
  | 12 => ⟨S8x8x2048x2048, .f32⟩
  | 13 => ⟨S8x8x2048x2048, .f32⟩
  | 14 => ⟨S32x4, .f32⟩
  | 15 => ⟨S2048x1, .i32⟩
  | 16 => ⟨S1x2048, .i32⟩
  | 17 => ⟨S2048x2048, .i32⟩
  | 18 => ⟨S2048x2048, .i32⟩
  | 19 => ⟨S2048x2048, .i32⟩
  | 20 => ⟨S_, .i32⟩
  | 21 => ⟨S2048x2048, .i32⟩
  | 22 => ⟨S2048x2048, .i32⟩
  | 23 => ⟨S_, .i32⟩
  | 24 => ⟨S2048x2048, .i32⟩
  | 25 => ⟨S2048x2048, .i32⟩
  | 26 => ⟨S2048x2048, .f32⟩
  | 27 => ⟨S_, .f32⟩
  | 28 => ⟨S2048x2048, .f32⟩
  | 29 => ⟨S2048x2048, .f32⟩
  | 30 => ⟨S2048x2048, .f32⟩
  | 31 => ⟨S_, .f32⟩
  | 32 => ⟨S2048x2048, .f32⟩
  | 33 => ⟨S2048x2048, .f32⟩
  | 34 => ⟨S_, .f32⟩
  | 35 => ⟨S2048x2048, .f32⟩
  | 36 => ⟨S2048x2048, .f32⟩
  | 37 => ⟨S2048x2048, .i32⟩
  | 38 => ⟨S_, .i32⟩
  | 39 => ⟨S2048x2048, .i32⟩
  | 40 => ⟨S2048x2048, .i32⟩
  | 41 => ⟨S_, .i32⟩
  | 42 => ⟨S2048x2048, .i32⟩
  | 43 => ⟨S2048x2048, .i1⟩
  | 44 => ⟨S_, .i32⟩
  | 45 => ⟨S2048x2048, .i32⟩
  | 46 => ⟨S2048x2048, .i32⟩
  | 47 => ⟨S2048x2048, .i32⟩
  | 48 => ⟨S_, .i32⟩
  | 49 => ⟨S2048x2048, .i32⟩
  | 50 => ⟨S2048x2048, .i1⟩
  | 51 => ⟨S_, .i32⟩
  | 52 => ⟨S2048x2048, .i32⟩
  | 53 => ⟨S2048x2048, .i32⟩
  | 54 => ⟨S2048x2048, .i32⟩
  | 55 => ⟨S2048x2048x1, .i32⟩
  | 56 => ⟨S2048x2048x4, .f32⟩
  | 57 => ⟨S4x2048x2048, .f32⟩
  | 58 => ⟨S4x2x2048x2048, .f32⟩
  | 59 => ⟨S8x2048x2048, .f32⟩
  | 60 => ⟨S1x8x2048x2048, .f32⟩
  | 61 => ⟨S8x8x2048x2048, .f32⟩
  | 62 => ⟨S8x16x2048x2048, .f32⟩
  | 63 => ⟨S1x2048, .i32⟩
  | 64 => ⟨S2048x1, .i32⟩
  | 65 => ⟨S2048x2048, .i32⟩
  | 66 => ⟨S2048x2048, .i32⟩
  | 67 => ⟨S2048x2048, .i1⟩
  | 68 => ⟨S_, .f32⟩
  | 69 => ⟨S_, .f32⟩
  | 70 => ⟨S8x16x2048x2048, .i1⟩
  | 71 => ⟨S8x16x2048x2048, .f32⟩
  | 72 => ⟨S8x16x2048x2048, .f32⟩
  | 73 => ⟨S8x16x2048x2048, .f32⟩
  | 74 => ⟨S_, .f32⟩
  | 75 => ⟨S8x16x2048x2048, .f32⟩
  | 76 => ⟨S8x16x2048x2048, .f32⟩
  | 77 => ⟨S8x16x2048x2048, .f32⟩
  | 78 => ⟨S_, .f32⟩
  | 79 => ⟨S8x16x2048, .f32⟩
  | 80 => ⟨S8x16x2048x1, .f32⟩
  | 81 => ⟨S8x16x2048x2048, .f32⟩
  | 82 => ⟨S8x16x2048x2048, .f32⟩
  | 83 => ⟨S8x16x2048x2048, .f32⟩
  | 84 => ⟨S_, .f32⟩
  | 85 => ⟨S8x16x2048, .f32⟩
  | 86 => ⟨S8x8x2048x2048, .f32⟩
  | 87 => ⟨S8x2048x8x64, .f32⟩
  | 88 => ⟨S8x8x64x2048, .f32⟩
  | 89 => ⟨S8x2048x8x64, .f32⟩
  | 90 => ⟨S8x8x2048x2048, .f32⟩
  | 91 => ⟨S8x4x2x2048x2048, .f32⟩
  | 92 => ⟨S8x2048x8x64, .f32⟩
  | 93 => ⟨S8x2048x4x128, .f32⟩
  | 94 => ⟨S8x4x128x2x2048, .f32⟩
  | 95 => ⟨S8x2048x4x2x128, .f32⟩
  | 96 => ⟨S8x2048x16, .f32⟩
  | 97 => ⟨S8x2048x8, .f32⟩
  | 98 => ⟨S8x2048x8x1, .f32⟩
  | 99 => ⟨S8x2048x8x64, .f32⟩
  | 100 => ⟨S8x2048x8x64, .f32⟩
  | 101 => ⟨S8x2048x8, .f32⟩
  | 102 => ⟨S8x2048x4x2x1, .f32⟩
  | 103 => ⟨S8x2048x4x2x128, .f32⟩
  | 104 => ⟨S8x2048x4x2x128, .f32⟩
  | 105 => ⟨S1x64, .f32⟩
  | 106 => ⟨S64, .f32⟩
  | 107 => ⟨S1x64, .f32⟩
  | 108 => ⟨S64, .f32⟩
  | 109 => ⟨S64, .f32⟩
  | 110 => ⟨S_, .f32⟩
  | 111 => ⟨S_, .f32⟩
  | 112 => ⟨S_, .f32⟩
  | 113 => ⟨S1x64, .f32⟩
  | 114 => ⟨S64, .f32⟩
  | 115 => ⟨S1x64, .f32⟩
  | 116 => ⟨S64, .f32⟩
  | 117 => ⟨S64, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S8x2048x4x1x128, .f32⟩
  | 125 => ⟨S8x2048x4x128, .f32⟩
  | 126 => ⟨S8x2048x4x1x128, .f32⟩
  | 127 => ⟨S8x2048x4x128, .f32⟩
  | _ => ⟨S8x2048x16x64, .f32⟩

abbrev hbmTy0_1 (i : Nat) : BufTy := match i % 128 with
  | 0 => ⟨S8x2048x4x128, .f32⟩
  | 1 => ⟨S8x2048x4x128, .f32⟩
  | 2 => ⟨S8x2048x4x128, .f32⟩
  | 3 => ⟨S8x2048x4x128, .f32⟩
  | 4 => ⟨S_, .f32⟩
  | 5 => ⟨S8x2048x4, .f32⟩
  | 6 => ⟨S8x2048x4x1, .f32⟩
  | 7 => ⟨S_, .f32⟩
  | 8 => ⟨S8x2048x4x1, .f32⟩
  | 9 => ⟨S8x2048x4x1, .f32⟩
  | 10 => ⟨S_, .f32⟩
  | 11 => ⟨S8x2048x4x1, .f32⟩
  | 12 => ⟨S8x2048x4x1, .f32⟩
  | 13 => ⟨S8x2048x4x1, .f32⟩
  | 14 => ⟨S8x2048x4x128, .f32⟩
  | 15 => ⟨S8x2048x4x128, .f32⟩
  | 16 => ⟨S1x1x1x128, .f32⟩
  | 17 => ⟨S8x2048x4x128, .f32⟩
  | 18 => ⟨S8x2048x4x128, .f32⟩
  | 19 => ⟨S_, .f32⟩
  | 20 => ⟨S8x2048x4x128, .f32⟩
  | 21 => ⟨S8x2048x4x128, .f32⟩
  | 22 => ⟨S8x2048x512, .f32⟩
  | 23 => ⟨S8x2048x512, .f32⟩
  | 24 => ⟨S8x2048x1024, .f32⟩
  | 25 => ⟨S8x1024x2048, .f32⟩
  | _ => ⟨S8x2048x16x64, .f32⟩

abbrev hbmTy (i : Nat) : BufTy := match i / 128 with
  | 0 => hbmTy0_0 i
  | 1 => hbmTy0_1 i
  | _ => ⟨S8x2048x16x64, .f32⟩

abbrev bufTy : (tb : Table) → Fin (tcTables nBuf tb) → BufTy
  | .hbm, ⟨i, _⟩ => hbmTy i
  | _, _ => ⟨S8x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_12 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_13 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_14 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_15 : Ref sig .tc := ⟨.hbm, 132, rfl⟩
abbrev main_v105 : Ref sig .tc := ⟨.hbm, 133, rfl⟩
abbrev main_v106 : Ref sig .tc := ⟨.hbm, 134, rfl⟩
abbrev main_cst_16 : Ref sig .tc := ⟨.hbm, 135, rfl⟩
abbrev main_v107 : Ref sig .tc := ⟨.hbm, 136, rfl⟩
abbrev main_v108 : Ref sig .tc := ⟨.hbm, 137, rfl⟩
abbrev main_cst_17 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_18 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S16384x1024 : Shape := ⟨2, ![16384, 1024]⟩
abbrev S1x1024 : Shape := ⟨2, ![1, 1024]⟩
abbrev S1024x1024 : Shape := ⟨2, ![1024, 1024]⟩
abbrev S1x1024x512 : Shape := ⟨3, ![1, 1024, 512]⟩
abbrev S256x1024 : Shape := ⟨2, ![256, 1024]⟩
abbrev S1024x1 : Shape := ⟨2, ![1024, 1]⟩
abbrev S1024x512 : Shape := ⟨2, ![1024, 512]⟩
abbrev S1024x256 : Shape := ⟨2, ![1024, 256]⟩

abbrev nBuf : Space → Nat
  | .hbm => 17
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x2816, .f32⟩
  | .hbm, ⟨6, _⟩ => ⟨S1024x11x256, .f32⟩
  | .hbm, ⟨7, _⟩ => ⟨S1024x2816, .f32⟩
  | .hbm, ⟨8, _⟩ => ⟨S1024x11x256, .f32⟩
  | .hbm, ⟨9, _⟩ => ⟨S1024x11x512, .f32⟩
  | .hbm, ⟨10, _⟩ => ⟨S11x1024x512, .f32⟩
  | .hbm, ⟨11, _⟩ => ⟨S11x1024x512, .bf16⟩
  | .hbm, ⟨12, _⟩ => ⟨S2816x1024, .bf16⟩
  | .hbm, ⟨13, _⟩ => ⟨S16384x1024, .f32⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S256x1024, .bf16⟩
  | .local _ .vmem, ⟨6, _⟩ => ⟨S256x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v27 : BitVec 1 := Scalar.cmpi .eq arg1 c10_i32
  let v28 : BitVec 32 := Scalar.extui v27
  let c0_i32_15 : BitVec 32 := 0#32
  let v29 : BitVec 1 := Scalar.cmpi .ne v28 c0_i32_15
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Kernel2Ideal.lean ====
abbrev S8x2048x1024 : Shape := ⟨3, ![8, 2048, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S16384x1024 : Shape := ⟨2, ![16384, 1024]⟩
abbrev S1x1024 : Shape := ⟨2, ![1, 1024]⟩
abbrev S1024x1024 : Shape := ⟨2, ![1024, 1024]⟩
abbrev S1x1024x512 : Shape := ⟨3, ![1, 1024, 512]⟩
abbrev S256x1024 : Shape := ⟨2, ![256, 1024]⟩
abbrev S1024x1 : Shape := ⟨2, ![1024, 1]⟩
abbrev S1024x512 : Shape := ⟨2, ![1024, 512]⟩
abbrev S1024x256 : Shape := ⟨2, ![1024, 256]⟩

abbrev nBuf : Space → Nat
  | .hbm => 17
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x2816, .f32⟩
  | .hbm, ⟨6, _⟩ => ⟨S1024x11x256, .f32⟩
  | .hbm, ⟨7, _⟩ => ⟨S1024x2816, .f32⟩
  | .hbm, ⟨8, _⟩ => ⟨S1024x11x256, .f32⟩
  | .hbm, ⟨9, _⟩ => ⟨S1024x11x512, .f32⟩
  | .hbm, ⟨10, _⟩ => ⟨S11x1024x512, .f32⟩
  | .hbm, ⟨11, _⟩ => ⟨S11x1024x512, .bf16⟩
  | .hbm, ⟨12, _⟩ => ⟨S2816x1024, .bf16⟩
  | .hbm, ⟨13, _⟩ => ⟨S16384x1024, .f32⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S256x1024, .bf16⟩
  | .local _ .vmem, ⟨6, _⟩ => ⟨S256x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v27 : BitVec 1 := Scalar.cmpi .eq arg1 c10_i32
  let v28 : BitVec 32 := Scalar.extui v27
  let c0_i32_15 : BitVec 32 := 0#32
  let v29 : BitVec 1 := Scalar.cmpi .ne v28 c0_i32_15
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8x2048x1024 : Shape := ⟨3, ![8, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩
abbrev S16384x1024 : Shape := ⟨2, ![16384, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x2048x5632, .f32⟩
  | .hbm, ⟨22, _⟩ => ⟨S8x2048x2816, .f32⟩
  | .hbm, ⟨23, _⟩ => ⟨S8x2048x2816, .f32⟩
  | .hbm, ⟨24, _⟩ => ⟨S8x2048x2816, .f32⟩
  | .hbm, ⟨25, _⟩ => ⟨S8x2048x2816, .f32⟩
  | .hbm, ⟨26, _⟩ => ⟨S_, .f32⟩
  | .hbm, ⟨27, _⟩ => ⟨S8x2048x2816, .f32⟩
  | .hbm, ⟨28, _⟩ => ⟨S8x2048x2816, .f32⟩
  | .hbm, ⟨29, _⟩ => ⟨S_, .f32⟩
  | .hbm, ⟨30, _⟩ => ⟨S8x2048x2816, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S8x2048x1024, .f32⟩
  | .hbm, ⟨47, _⟩ => ⟨S8x2048x1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S1024x3080 : Shape := ⟨2, ![1024, 3080]⟩
abbrev S1024x512 : Shape := ⟨2, ![1024, 512]⟩
abbrev S1024x8 : Shape := ⟨2, ![1024, 8]⟩
abbrev S1024x2048 : Shape := ⟨2, ![1024, 2048]⟩
abbrev S2048x1024 : Shape := ⟨2, ![2048, 1024]⟩
abbrev S1x1024 : Shape := ⟨2, ![1, 1024]⟩
abbrev S8x2048x2048 : Shape := ⟨3, ![8, 2048, 2048]⟩
abbrev S1x1024x1024 : Shape := ⟨3, ![1, 1024, 1024]⟩
abbrev S1x2048x1024 : Shape := ⟨3, ![1, 2048, 1024]⟩
abbrev S1024x1024 : Shape := ⟨2, ![1024, 1024]⟩
abbrev S1024x1 : Shape := ⟨2, ![1024, 1]⟩
abbrev S8x2x16x64x2048 : Shape := ⟨5, ![8, 2, 16, 64, 2048]⟩
abbrev S8x2048x2x16x64 : Shape := ⟨5, ![8, 2048, 2, 16, 64]⟩

abbrev nBuf : Space → Nat
  | .hbm => 17
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3080, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x8, .f32⟩
  | .hbm, ⟨10, _⟩ => ⟨S1024x2048, .f32⟩
  | .hbm, ⟨11, _⟩ => ⟨S1024x2048, .bf16⟩
  | .hbm, ⟨12, _⟩ => ⟨S2048x1024, .bf16⟩
  | .hbm, ⟨13, _⟩ => ⟨S1x1024, .f32⟩
  | .hbm, ⟨14, _⟩ => ⟨S8x2048x2048, .f32⟩
  | .hbm, ⟨15, _⟩ => ⟨S8x2x16x64x2048, .f32⟩
  | .hbm, ⟨16, _⟩ => ⟨S8x2048x2x16x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S2048x1024, .bf16⟩
  | .local _ .vmem, ⟨4, _⟩ => ⟨S1x2048x1024, .f32⟩
  | .local _ .vmem, ⟨5, _⟩ => ⟨S1x2048x1024, .f32⟩
  | .local _ .vmem, ⟨6, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference3Ideal.lean ====
abbrev S8x2048x1024 : Shape := ⟨3, ![8, 2048, 1024]⟩
abbrev S1024 : Shape := ⟨1, ![1024]⟩
abbrev S1024x3080 : Shape := ⟨2, ![1024, 3080]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3080 : Shape := ⟨3, ![8, 2048, 3080]⟩
abbrev S8x2048x512 : Shape := ⟨3, ![8, 2048, 512]⟩
abbrev S8x2048x8 : Shape := ⟨3, ![8, 2048, 8]⟩
abbrev S8x2048x8x64 : Shape := ⟨4, ![8, 2048, 8, 64]⟩
abbrev S8x2048x16x64 : Shape := ⟨4, ![8, 2048, 16, 64]⟩
abbrev S8x2048x1x16x64 : Shape := ⟨5, ![8, 2048, 1, 16, 64]⟩
abbrev S8x2048x2x16x64 : Shape := ⟨5, ![8, 2048, 2, 16, 64]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3080, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x3080, .f32⟩
  | .hbm, ⟨20, _⟩ => ⟨S8x2048x512, .f32⟩
  | .hbm, ⟨21, _⟩ => ⟨S8x2048x512, .f32⟩
  | .hbm, ⟨22, _⟩ => ⟨S8x2048x512, .f32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S8x2048x8, .f32⟩
  | .hbm, ⟨27, _⟩ => ⟨S8x2048x8x64, .f32⟩
  | .hbm, ⟨28, _⟩ => ⟨S8x2048x8x64, .f32⟩
  | .hbm, ⟨29, _⟩ => ⟨S8x2048x16x64, .f32⟩
  | .hbm, ⟨30, _⟩ => ⟨S8x2048x8x64, .f32⟩
  | .hbm, ⟨31, _⟩ => ⟨S8x2048x8x64, .f32⟩
  | .hbm, ⟨32, _⟩ => ⟨S8x2048x16x64, .f32⟩
  | .hbm, ⟨33, _⟩ => ⟨S8x2048x1x16x64, .f32⟩
  | .hbm, ⟨34, _⟩ => ⟨S8x2048x1x16x64, .f32⟩
  | .hbm, ⟨35, _⟩ => ⟨S8x2048x2x16x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x1024x2048 : Shape := ⟨3, ![8, 1024, 2048]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S1x1024x512 : Shape := ⟨3, ![1, 1024, 512]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S8x1024x2048, .f32⟩
  | .hbm, ⟨2, _⟩ => ⟨S1024x1024, .f32⟩
  | .hbm, ⟨3, _⟩ => ⟨S1024, .f32⟩
  | .hbm, ⟨4, _⟩ => ⟨S1024x1024, .bf16⟩
  | .hbm, ⟨5, _⟩ => ⟨S16384x1024, .f32⟩
  | .hbm, ⟨6, _⟩ => ⟨S1x1024, .f32⟩
  | .hbm, ⟨7, _⟩ => ⟨S16384x1024, .f32⟩
  | .local _ .vmem, ⟨0, _⟩ => ⟨S1x1024x512, .f32⟩
  | .local _ .vmem, ⟨1, _⟩ => ⟨S1x1024x512, .f32⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8x2048x1024 : Shape := ⟨3, ![8, 2048, 1024]⟩
abbrev S8x1024x2048 : Shape := ⟨3, ![8, 1024, 2048]⟩
abbrev S1024x1024 : Shape := ⟨2, ![1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024x2048, .f32⟩
  | .hbm, ⟨2, _⟩ => ⟨S1024x1024, .f32⟩
  | .hbm, ⟨3, _⟩ => ⟨S1024, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel5.lean ====
abbrev S8x2048x1024 : Shape := ⟨3, ![8, 2048, 1024]⟩
abbrev S1024 : Shape := ⟨1, ![1024]⟩
abbrev S1024x2608 : Shape := ⟨2, ![1024, 2608]⟩
abbrev S1024x1024 : Shape := ⟨2, ![1024, 1024]⟩
abbrev S1024x512 : Shape := ⟨2, ![1024, 512]⟩
abbrev S1024x48 : Shape := ⟨2, ![1024, 48]⟩
abbrev S1x1024 : Shape := ⟨2, ![1, 1024]⟩
abbrev S8x1024x2048 : Shape := ⟨3, ![8, 1024, 2048]⟩
abbrev S1x1024x1024 : Shape := ⟨3, ![1, 1024, 1024]⟩
abbrev S1024x1 : Shape := ⟨2, ![1024, 1]⟩
abbrev S8x4x4x64x2048 : Shape := ⟨5, ![8, 4, 4, 64, 2048]⟩
abbrev S8x2048x4x4x64 : Shape := ⟨5, ![8, 2048, 4, 4, 64]⟩

abbrev nBuf : Space → Nat
  | .hbm => 15
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2608, .f32⟩
  | .hbm, ⟨3, _⟩ => ⟨S1024x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x48, .f32⟩
  | .hbm, ⟨8, _⟩ => ⟨S1024x1024, .f32⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S8x1024x2048, .f32⟩
  | .hbm, ⟨13, _⟩ => ⟨S8x4x4x64x2048, .f32⟩
  | .hbm, ⟨14, _⟩ => ⟨S8x2048x4x4x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference5Ideal.lean ====
abbrev S8x2048x1024 : Shape := ⟨3, ![8, 2048, 1024]⟩
abbrev S1024 : Shape := ⟨1, ![1024]⟩
abbrev S1024x2608 : Shape := ⟨2, ![1024, 2608]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2608 : Shape := ⟨3, ![8, 2048, 2608]⟩
abbrev S8x2048x512 : Shape := ⟨3, ![8, 2048, 512]⟩
abbrev S8x2048x48 : Shape := ⟨3, ![8, 2048, 48]⟩
abbrev S8x2048x2x4x64 : Shape := ⟨5, ![8, 2048, 2, 4, 64]⟩
abbrev S8x2048x4x4x64 : Shape := ⟨5, ![8, 2048, 4, 4, 64]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2608, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x2608, .f32⟩
  | .hbm, ⟨20, _⟩ => ⟨S8x2048x1024, .f32⟩
  | .hbm, ⟨21, _⟩ => ⟨S8x2048x512, .f32⟩
  | .hbm, ⟨22, _⟩ => ⟨S8x2048x512, .f32⟩
  | .hbm, ⟨23, _⟩ => ⟨S8x2048x512, .f32⟩
  | .hbm, ⟨24, _⟩ => ⟨S8x2048x48, .f32⟩
  | .hbm, ⟨25, _⟩ => ⟨S8x2048x2x4x64, .f32⟩
  | .hbm, ⟨26, _⟩ => ⟨S8x2048x2x4x64, .f32⟩
  | .hbm, ⟨27, _⟩ => ⟨S8x2048x2x4x64, .f32⟩
  | .hbm, ⟨28, _⟩ => ⟨S8x2048x4x4x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel6.lean ====
abbrev S8x2048x1024 : Shape := ⟨3, ![8, 2048, 1024]⟩
abbrev S1024 : Shape := ⟨1, ![1024]⟩
abbrev S1024x3080 : Shape := ⟨2, ![1024, 3080]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S1024x1152 : Shape := ⟨2, ![1024, 1152]⟩
abbrev S16384x1024 : Shape := ⟨2, ![16384, 1024]⟩
abbrev S1x1024 : Shape := ⟨2, ![1, 1024]⟩
abbrev S16384x1152 : Shape := ⟨2, ![16384, 1152]⟩
abbrev S1024x1024 : Shape := ⟨2, ![1024, 1024]⟩
abbrev S1024x1 : Shape := ⟨2, ![1024, 1]⟩

abbrev nBuf : Space → Nat
  | .hbm => 18
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3080, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x8, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x1152, .f32⟩
  | .hbm, ⟨14, _⟩ => ⟨S1024x1152, .bf16⟩
  | .hbm, ⟨15, _⟩ => ⟨S16384x1024, .f32⟩
  | .hbm, ⟨16, _⟩ => ⟨S1x1024, .f32⟩
  | .hbm, ⟨17, _⟩ => ⟨S16384x1152, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x2048x1024 : Shape := ⟨3, ![8, 2048, 1024]⟩
abbrev S1024 : Shape := ⟨1, ![1024]⟩
abbrev S1024x3080 : Shape := ⟨2, ![1024, 3080]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3080 : Shape := ⟨3, ![8, 2048, 3080]⟩
abbrev S8x2048x512 : Shape := ⟨3, ![8, 2048, 512]⟩
abbrev S8x2048x8 : Shape := ⟨3, ![8, 2048, 8]⟩
abbrev S8x2048x120 : Shape := ⟨3, ![8, 2048, 120]⟩
abbrev S8x2048x1152 : Shape := ⟨3, ![8, 2048, 1152]⟩
abbrev S16384x1152 : Shape := ⟨2, ![16384, 1152]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3080, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x3080, .f32⟩
  | .hbm, ⟨20, _⟩ => ⟨S8x2048x512, .f32⟩
  | .hbm, ⟨21, _⟩ => ⟨S8x2048x512, .f32⟩
  | .hbm, ⟨22, _⟩ => ⟨S8x2048x512, .f32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S8x2048x8, .f32⟩
  | .hbm, ⟨27, _⟩ => ⟨S_, .f32⟩
  | .hbm, ⟨28, _⟩ => ⟨S8x2048x120, .f32⟩
  | .hbm, ⟨29, _⟩ => ⟨S8x2048x1152, .f32⟩
  | .hbm, ⟨30, _⟩ => ⟨S16384x1152, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel7.lean ====
abbrev S8x2048x1024 : Shape := ⟨3, ![8, 2048, 1024]⟩
abbrev S1024 : Shape := ⟨1, ![1024]⟩
abbrev S1024x2608 : Shape := ⟨2, ![1024, 2608]⟩
abbrev S1024x1024 : Shape := ⟨2, ![1024, 1024]⟩
abbrev S1024x512 : Shape := ⟨2, ![1024, 512]⟩
abbrev S1024x48 : Shape := ⟨2, ![1024, 48]⟩
abbrev S1024x12 : Shape := ⟨2, ![1024, 12]⟩
abbrev S_ : Shape := ⟨0, ![]⟩
abbrev S1024x16 : Shape := ⟨2, ![1024, 16]⟩
abbrev S1024x64 : Shape := ⟨2, ![1024, 64]⟩
abbrev S1024x576 : Shape := ⟨2, ![1024, 576]⟩
abbrev S576x1024 : Shape := ⟨2, ![576, 1024]⟩
abbrev S1x1024 : Shape := ⟨2, ![1, 1024]⟩
abbrev S8x576x2048 : Shape := ⟨3, ![8, 576, 2048]⟩
abbrev S1x1024x1024 : Shape := ⟨3, ![1, 1024, 1024]⟩
abbrev S1x576x1024 : Shape := ⟨3, ![1, 576, 1024]⟩
abbrev S1024x1 : Shape := ⟨2, ![1024, 1]⟩
abbrev S8x512x512 : Shape := ⟨3, ![8, 512, 512]⟩
abbrev S8x2x4x64x512 : Shape := ⟨5, ![8, 2, 4, 64, 512]⟩
abbrev S8x512x2x4x64 : Shape := ⟨5, ![8, 512, 2, 4, 64]⟩

abbrev nBuf : Space → Nat
  | .hbm => 33
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2608, .f32⟩
  | .hbm, ⟨3, _⟩ => ⟨S1024x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x48, .f32⟩
  | .hbm, ⟨8, _⟩ => ⟨S1024x12, .f32⟩
  | .hbm, ⟨9, _⟩ => ⟨S_, .i32⟩
  | .hbm, ⟨10, _⟩ => ⟨S_, .f32⟩
  | .hbm, ⟨11, _⟩ => ⟨S1024x16, .f32⟩
  | .hbm, ⟨12, _⟩ => ⟨S1024x12, .f32⟩
  | .hbm, ⟨13, _⟩ => ⟨S_, .i32⟩
  | .hbm, ⟨14, _⟩ => ⟨S_, .f32⟩
  | .hbm, ⟨15, _⟩ => ⟨S1024x16, .f32⟩
  | .hbm, ⟨16, _⟩ => ⟨S1024x12, .f32⟩
  | .hbm, ⟨17, _⟩ => ⟨S_, .i32⟩
  | .hbm, ⟨18, _⟩ => ⟨S_, .f32⟩
  | .hbm, ⟨19, _⟩ => ⟨S1024x16, .f32⟩
  | .hbm, ⟨20, _⟩ => ⟨S1024x12, .f32⟩
  | .hbm, ⟨21, _⟩ => ⟨S_, .i32⟩
  | .hbm, ⟨22, _⟩ => ⟨S_, .f32⟩
  | .hbm, ⟨23, _⟩ => ⟨S1024x16, .f32⟩
  | .hbm, ⟨24, _⟩ => ⟨S1024x64, .f32⟩
  | .hbm, ⟨25, _⟩ => ⟨S1024x576, .f32⟩
  | .hbm, ⟨26, _⟩ => ⟨S576x1024, .f32⟩
  | .hbm, ⟨27, _⟩ => ⟨S576x1024, .bf16⟩
  | .hbm, ⟨28, _⟩ => ⟨S1x1024, .f32⟩
  | .hbm, ⟨29, _⟩ => ⟨S8x576x2048, .f32⟩
  | .hbm, ⟨30, _⟩ => ⟨S8x512x512, .f32⟩
  | .hbm, ⟨31, _⟩ => ⟨S8x2x4x64x512, .f32⟩
  | .hbm, ⟨32, _⟩ => ⟨S8x512x2x4x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S576x1024, .bf16⟩
  | .local _ .vmem, ⟨4, _⟩ => ⟨S1x576x1024, .f32⟩
  | .local _ .vmem, ⟨5, _⟩ => ⟨S1x576x1024, .f32⟩
  | .local _ .vmem, ⟨6, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_call2_v0 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_call3_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S576x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S1x576x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference7Ideal.lean ====
abbrev S8x2048x1024 : Shape := ⟨3, ![8, 2048, 1024]⟩
abbrev S1024 : Shape := ⟨1, ![1024]⟩
abbrev S1024x2608 : Shape := ⟨2, ![1024, 2608]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2608 : Shape := ⟨3, ![8, 2048, 2608]⟩
abbrev S8x2048x512 : Shape := ⟨3, ![8, 2048, 512]⟩
abbrev S8x2048x48 : Shape := ⟨3, ![8, 2048, 48]⟩
abbrev S8x2048x2x4x64 : Shape := ⟨5, ![8, 2048, 2, 4, 64]⟩
abbrev S8x512x2x4x64 : Shape := ⟨5, ![8, 512, 2, 4, 64]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2608, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x2608, .f32⟩
  | .hbm, ⟨20, _⟩ => ⟨S8x2048x1024, .f32⟩
  | .hbm, ⟨21, _⟩ => ⟨S8x2048x512, .f32⟩
  | .hbm, ⟨22, _⟩ => ⟨S8x2048x512, .f32⟩
  | .hbm, ⟨23, _⟩ => ⟨S8x2048x512, .f32⟩
  | .hbm, ⟨24, _⟩ => ⟨S8x2048x48, .f32⟩
  | .hbm, ⟨25, _⟩ => ⟨S8x2048x2x4x64, .f32⟩
  | .hbm, ⟨26, _⟩ => ⟨S8x2048x2x4x64, .f32⟩
  | .hbm, ⟨27, _⟩ => ⟨S8x2048x2x4x64, .f32⟩
  | .hbm, ⟨28, _⟩ => ⟨S8x512x2x4x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel8.lean ====
abbrev S32x1x1024 : Shape := ⟨3, ![32, 1, 1024]⟩
abbrev S1024 : Shape := ⟨1, ![1024]⟩
abbrev S1024x2608 : Shape := ⟨2, ![1024, 2608]⟩
abbrev S1x32x512x2x4x64 : Shape := ⟨6, ![1, 32, 512, 2, 4, 64]⟩
abbrev S1024x1024 : Shape := ⟨2, ![1024, 1024]⟩
abbrev S1024x512 : Shape := ⟨2, ![1024, 512]⟩
abbrev S1024x48 : Shape := ⟨2, ![1024, 48]⟩
abbrev S32x1024 : Shape := ⟨2, ![32, 1024]⟩
abbrev S1x1024 : Shape := ⟨2, ![1, 1024]⟩
abbrev S32x512 : Shape := ⟨2, ![32, 512]⟩
abbrev S32 : Shape := ⟨1, ![32]⟩
abbrev S32x1 : Shape := ⟨2, ![32, 1]⟩
abbrev S1x32x2x4x64x512 : Shape := ⟨6, ![1, 32, 2, 4, 64, 512]⟩
abbrev S32x2x4x64x512 : Shape := ⟨5, ![32, 2, 4, 64, 512]⟩
abbrev S32x2x4x64x1 : Shape := ⟨5, ![32, 2, 4, 64, 1]⟩
abbrev S32x2x4x64x513 : Shape := ⟨5, ![32, 2, 4, 64, 513]⟩
abbrev S32x512x2x4x64 : Shape := ⟨5, ![32, 512, 2, 4, 64]⟩

abbrev nBuf : Space → Nat
  | .hbm => 19
  | .vmem => 5
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x2608, .f32⟩
  | .hbm, ⟨3, _⟩ => ⟨S1x32x512x2x4x64, .f32⟩
  | .hbm, ⟨4, _⟩ => ⟨S1024x1024, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x48, .f32⟩
  | .hbm, ⟨9, _⟩ => ⟨S1024x512, .bf16⟩
  | .hbm, ⟨10, _⟩ => ⟨S32x1024, .f32⟩
  | .hbm, ⟨11, _⟩ => ⟨S1x1024, .f32⟩
  | .hbm, ⟨12, _⟩ => ⟨S32x512, .f32⟩
  | .hbm, ⟨13, _⟩ => ⟨S1x32x2x4x64x512, .f32⟩
  | .hbm, ⟨14, _⟩ => ⟨S32x2x4x64x512, .f32⟩
  | .hbm, ⟨15, _⟩ => ⟨S32x2x4x64x1, .f32⟩
  | .hbm, ⟨16, _⟩ => ⟨S32x2x4x64x513, .f32⟩
  | .hbm, ⟨17, _⟩ => ⟨S32x2x4x64x512, .f32⟩
  | .hbm, ⟨18, _⟩ => ⟨S32x512x2x4x64, .f32⟩
  | .local _ .vmem, ⟨0, _⟩ => ⟨S32x1024, .f32⟩
  | .local _ .vmem, ⟨1, _⟩ => ⟨S1x1024, .f32⟩
  | .local _ .vmem, ⟨2, _⟩ => ⟨S1024x512, .bf16⟩
  | .local _ .vmem, ⟨3, _⟩ => ⟨S32x512, .f32⟩
  | .local _ .vmem, ⟨4, _⟩ => ⟨S32x1024, .bf16⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference8Ideal.lean ====
abbrev S32x1x1024 : Shape := ⟨3, ![32, 1, 1024]⟩
abbrev S1024 : Shape := ⟨1, ![1024]⟩
abbrev S1024x2608 : Shape := ⟨2, ![1024, 2608]⟩
abbrev S1x32x512x2x4x64 : Shape := ⟨6, ![1, 32, 512, 2, 4, 64]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x2608 : Shape := ⟨3, ![32, 1, 2608]⟩
abbrev S32x1x512 : Shape := ⟨3, ![32, 1, 512]⟩
abbrev S32x1x48 : Shape := ⟨3, ![32, 1, 48]⟩
abbrev S32x1x2x4x64 : Shape := ⟨5, ![32, 1, 2, 4, 64]⟩
abbrev S32x512x2x4x64 : Shape := ⟨5, ![32, 512, 2, 4, 64]⟩
abbrev S32x513x2x4x64 : Shape := ⟨5, ![32, 513, 2, 4, 64]⟩

abbrev nBuf : Space → Nat
  | .hbm => 32
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x2608, .f32⟩
  | .hbm, ⟨3, _⟩ => ⟨S1x32x512x2x4x64, .f32⟩
  | .hbm, ⟨4, _⟩ => ⟨S32x1x1024, .f32⟩
  | .hbm, ⟨5, _⟩ => ⟨S_, .f32⟩
  | .hbm, ⟨6, _⟩ => ⟨S32x1, .f32⟩
  | .hbm, ⟨7, _⟩ => ⟨S32x1x1, .f32⟩
  | .hbm, ⟨8, _⟩ => ⟨S_, .f32⟩
  | .hbm, ⟨9, _⟩ => ⟨S32x1x1, .f32⟩
  | .hbm, ⟨10, _⟩ => ⟨S32x1x1, .f32⟩
  | .hbm, ⟨11, _⟩ => ⟨S_, .f32⟩
  | .hbm, ⟨12, _⟩ => ⟨S32x1x1, .f32⟩
  | .hbm, ⟨13, _⟩ => ⟨S32x1x1, .f32⟩
  | .hbm, ⟨14, _⟩ => ⟨S32x1x1, .f32⟩
  | .hbm, ⟨15, _⟩ => ⟨S32x1x1024, .f32⟩
  | .hbm, ⟨16, _⟩ => ⟨S32x1x1024, .f32⟩
  | .hbm, ⟨17, _⟩ => ⟨S1x1x1024, .f32⟩
  | .hbm, ⟨18, _⟩ => ⟨S32x1x1024, .f32⟩
  | .hbm, ⟨19, _⟩ => ⟨S32x1x1024, .f32⟩
  | .hbm, ⟨20, _⟩ => ⟨S32x1x2608, .f32⟩
  | .hbm, ⟨21, _⟩ => ⟨S32x1x1024, .f32⟩
  | .hbm, ⟨22, _⟩ => ⟨S32x1x512, .f32⟩
  | .hbm, ⟨23, _⟩ => ⟨S32x1x512, .f32⟩
  | .hbm, ⟨24, _⟩ => ⟨S32x1x512, .f32⟩
  | .hbm, ⟨25, _⟩ => ⟨S32x1x48, .f32⟩
  | .hbm, ⟨26, _⟩ => ⟨S32x1x2x4x64, .f32⟩
  | .hbm, ⟨27, _⟩ => ⟨S32x1x2x4x64, .f32⟩
  | .hbm, ⟨28, _⟩ => ⟨S32x1x2x4x64, .f32⟩
  | .hbm, ⟨29, _⟩ => ⟨S32x512x2x4x64, .f32⟩
  | .hbm, ⟨30, _⟩ => ⟨S32x513x2x4x64, .f32⟩
  | .hbm, ⟨31, _⟩ => ⟨S32x512x2x4x64, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel9.lean ====
abbrev S32x1x1024 : Shape := ⟨3, ![32, 1, 1024]⟩
abbrev S1024 : Shape := ⟨1, ![1024]⟩
abbrev S1024x2608 : Shape := ⟨2, ![1024, 2608]⟩
abbrev S1024x1024 : Shape := ⟨2, ![1024, 1024]⟩
abbrev S1024x512 : Shape := ⟨2, ![1024, 512]⟩
abbrev S1024x48 : Shape := ⟨2, ![1024, 48]⟩
abbrev S32x1024 : Shape := ⟨2, ![32, 1024]⟩
abbrev S1x1024 : Shape := ⟨2, ![1, 1024]⟩
abbrev S32x512 : Shape := ⟨2, ![32, 512]⟩
abbrev S32 : Shape := ⟨1, ![32]⟩
abbrev S32x1 : Shape := ⟨2, ![32, 1]⟩

abbrev nBuf : Space → Nat
  | .hbm => 13
  | .vmem => 7
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x2608, .f32⟩
  | .hbm, ⟨3, _⟩ => ⟨S1024x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x48, .f32⟩
  | .hbm, ⟨8, _⟩ => ⟨S1024x1024, .f32⟩
  | .hbm, ⟨9, _⟩ => ⟨S1024x1024, .bf16⟩
  | .hbm, ⟨10, _⟩ => ⟨S32x1024, .f32⟩
  | .hbm, ⟨11, _⟩ => ⟨S1x1024, .f32⟩
  | .hbm, ⟨12, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S1024x512, .bf16⟩
  | .local _ .vmem, ⟨3, _⟩ => ⟨S1024x512, .bf16⟩
  | .local _ .vmem, ⟨4, _⟩ => ⟨S32x512, .f32⟩
  | .local _ .vmem, ⟨5, _⟩ => ⟨S32x512, .f32⟩
  | .local _ .vmem, ⟨6, _⟩ => ⟨S32x1024, .bf16⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S32x1x1024 : Shape := ⟨3, ![32, 1, 1024]⟩
abbrev S1024 : Shape := ⟨1, ![1024]⟩
abbrev S1024x2608 : Shape := ⟨2, ![1024, 2608]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x2608 : Shape := ⟨3, ![32, 1, 2608]⟩
abbrev S32x1x512 : Shape := ⟨3, ![32, 1, 512]⟩
abbrev S32x1x48 : Shape := ⟨3, ![32, 1, 48]⟩
abbrev S32x1x2x4x64 : Shape := ⟨5, ![32, 1, 2, 4, 64]⟩
abbrev S32x1x4x4x64 : Shape := ⟨5, ![32, 1, 4, 4, 64]⟩
abbrev S32x1024 : Shape := ⟨2, ![32, 1024]⟩

abbrev nBuf : Space → Nat
  | .hbm => 30
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x2608, .f32⟩
  | .hbm, ⟨3, _⟩ => ⟨S32x1x1024, .f32⟩
  | .hbm, ⟨4, _⟩ => ⟨S_, .f32⟩
  | .hbm, ⟨5, _⟩ => ⟨S32x1, .f32⟩
  | .hbm, ⟨6, _⟩ => ⟨S32x1x1, .f32⟩
  | .hbm, ⟨7, _⟩ => ⟨S_, .f32⟩
  | .hbm, ⟨8, _⟩ => ⟨S32x1x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S32x1x1, .f32⟩
  | .hbm, ⟨14, _⟩ => ⟨S32x1x1024, .f32⟩
  | .hbm, ⟨15, _⟩ => ⟨S32x1x1024, .f32⟩
  | .hbm, ⟨16, _⟩ => ⟨S1x1x1024, .f32⟩
  | .hbm, ⟨17, _⟩ => ⟨S32x1x1024, .f32⟩
  | .hbm, ⟨18, _⟩ => ⟨S32x1x1024, .f32⟩
  | .hbm, ⟨19, _⟩ => ⟨S32x1x2608, .f32⟩
  | .hbm, ⟨20, _⟩ => ⟨S32x1x1024, .f32⟩
  | .hbm, ⟨21, _⟩ => ⟨S32x1x512, .f32⟩
  | .hbm, ⟨22, _⟩ => ⟨S32x1x512, .f32⟩
  | .hbm, ⟨23, _⟩ => ⟨S32x1x512, .f32⟩
  | .hbm, ⟨24, _⟩ => ⟨S32x1x48, .f32⟩
  | .hbm, ⟨25, _⟩ => ⟨S32x1x2x4x64, .f32⟩
  | .hbm, ⟨26, _⟩ => ⟨S32x1x2x4x64, .f32⟩
  | .hbm, ⟨27, _⟩ => ⟨S32x1x2x4x64, .f32⟩
  | .hbm, ⟨28, _⟩ => ⟨S32x1x4x4x64, .f32⟩
  | .hbm, ⟨29, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel10.lean ====
abbrev S32x1x1024 : Shape := ⟨3, ![32, 1, 1024]⟩
abbrev S1024 : Shape := ⟨1, ![1024]⟩
abbrev S1024x3080 : Shape := ⟨2, ![1024, 3080]⟩
abbrev S1024x512 : Shape := ⟨2, ![1024, 512]⟩
abbrev S1024x8 : Shape := ⟨2, ![1024, 8]⟩
abbrev S1024x2048 : Shape := ⟨2, ![1024, 2048]⟩
abbrev S32x1024 : Shape := ⟨2, ![32, 1024]⟩
abbrev S1x1024 : Shape := ⟨2, ![1, 1024]⟩
abbrev S32x2048 : Shape := ⟨2, ![32, 2048]⟩
abbrev S32x512 : Shape := ⟨2, ![32, 512]⟩
abbrev S32 : Shape := ⟨1, ![32]⟩
abbrev S32x1 : Shape := ⟨2, ![32, 1]⟩

abbrev nBuf : Space → Nat
  | .hbm => 15
  | .vmem => 7
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x3080, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x8, .f32⟩
  | .hbm, ⟨10, _⟩ => ⟨S1024x2048, .f32⟩
  | .hbm, ⟨11, _⟩ => ⟨S1024x2048, .bf16⟩
  | .hbm, ⟨12, _⟩ => ⟨S32x1024, .f32⟩
  | .hbm, ⟨13, _⟩ => ⟨S1x1024, .f32⟩
  | .hbm, ⟨14, _⟩ => ⟨S32x2048, .f32⟩
  | .local _ .vmem, ⟨0, _⟩ => ⟨S32x1024, .f32⟩
  | .local _ .vmem, ⟨1, _⟩ => ⟨S1x1024, .f32⟩
  | .local _ .vmem, ⟨2, _⟩ => ⟨S1024x512, .bf16⟩
  | .local _ .vmem, ⟨3, _⟩ => ⟨S1024x512, .bf16⟩
  | .local _ .vmem, ⟨4, _⟩ => ⟨S32x512, .f32⟩
  | .local _ .vmem, ⟨5, _⟩ => ⟨S32x512, .f32⟩
  | .local _ .vmem, ⟨6, _⟩ => ⟨S32x1024, .bf16⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S32x1x1024 : Shape := ⟨3, ![32, 1, 1024]⟩
abbrev S1024 : Shape := ⟨1, ![1024]⟩
abbrev S1024x3080 : Shape := ⟨2, ![1024, 3080]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x3080 : Shape := ⟨3, ![32, 1, 3080]⟩
abbrev S32x1x512 : Shape := ⟨3, ![32, 1, 512]⟩
abbrev S32x1x8 : Shape := ⟨3, ![32, 1, 8]⟩
abbrev S32x1x8x64 : Shape := ⟨4, ![32, 1, 8, 64]⟩
abbrev S32x1x16x64 : Shape := ⟨4, ![32, 1, 16, 64]⟩
abbrev S32x1x1x16x64 : Shape := ⟨5, ![32, 1, 1, 16, 64]⟩
abbrev S32x1x2x16x64 : Shape := ⟨5, ![32, 1, 2, 16, 64]⟩
abbrev S32x2048 : Shape := ⟨2, ![32, 2048]⟩

abbrev nBuf : Space → Nat
  | .hbm => 37
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x3080, .f32⟩
  | .hbm, ⟨3, _⟩ => ⟨S32x1x1024, .f32⟩
  | .hbm, ⟨4, _⟩ => ⟨S_, .f32⟩
  | .hbm, ⟨5, _⟩ => ⟨S32x1, .f32⟩
  | .hbm, ⟨6, _⟩ => ⟨S32x1x1, .f32⟩
  | .hbm, ⟨7, _⟩ => ⟨S_, .f32⟩
  | .hbm, ⟨8, _⟩ => ⟨S32x1x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S32x1x1, .f32⟩
  | .hbm, ⟨14, _⟩ => ⟨S32x1x1024, .f32⟩
  | .hbm, ⟨15, _⟩ => ⟨S32x1x1024, .f32⟩
  | .hbm, ⟨16, _⟩ => ⟨S1x1x1024, .f32⟩
  | .hbm, ⟨17, _⟩ => ⟨S32x1x1024, .f32⟩
  | .hbm, ⟨18, _⟩ => ⟨S32x1x1024, .f32⟩
  | .hbm, ⟨19, _⟩ => ⟨S32x1x3080, .f32⟩
  | .hbm, ⟨20, _⟩ => ⟨S32x1x512, .f32⟩
  | .hbm, ⟨21, _⟩ => ⟨S32x1x512, .f32⟩
  | .hbm, ⟨22, _⟩ => ⟨S32x1x512, .f32⟩
  | .hbm, ⟨23, _⟩ => ⟨S32x1x512, .f32⟩
  | .hbm, ⟨24, _⟩ => ⟨S32x1x512, .f32⟩
  | .hbm, ⟨25, _⟩ => ⟨S32x1x512, .f32⟩
  | .hbm, ⟨26, _⟩ => ⟨S32x1x8, .f32⟩
  | .hbm, ⟨27, _⟩ => ⟨S32x1x8x64, .f32⟩
  | .hbm, ⟨28, _⟩ => ⟨S32x1x8x64, .f32⟩
  | .hbm, ⟨29, _⟩ => ⟨S32x1x16x64, .f32⟩
  | .hbm, ⟨30, _⟩ => ⟨S32x1x8x64, .f32⟩
  | .hbm, ⟨31, _⟩ => ⟨S32x1x8x64, .f32⟩
  | .hbm, ⟨32, _⟩ => ⟨S32x1x16x64, .f32⟩
  | .hbm, ⟨33, _⟩ => ⟨S32x1x1x16x64, .f32⟩
  | .hbm, ⟨34, _⟩ => ⟨S32x1x1x16x64, .f32⟩
  | .hbm, ⟨35, _⟩ => ⟨S32x1x2x16x64, .f32⟩
  | .hbm, ⟨36, _⟩ => ⟨S32x2048, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Kernel11.lean ====
abbrev S32x1x1024 : Shape := ⟨3, ![32, 1, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S32x1024 : Shape := ⟨2, ![32, 1024]⟩
abbrev S1x1024 : Shape := ⟨2, ![1, 1024]⟩
abbrev S1x1024x512 : Shape := ⟨3, ![1, 1024, 512]⟩
abbrev S256x1024 : Shape := ⟨2, ![256, 1024]⟩
abbrev S32 : Shape := ⟨1, ![32]⟩
abbrev S32x1 : Shape := ⟨2, ![32, 1]⟩
abbrev S1024x512 : Shape := ⟨2, ![1024, 512]⟩
abbrev S32x512 : Shape := ⟨2, ![32, 512]⟩
abbrev S32x256 : Shape := ⟨2, ![32, 256]⟩

abbrev nBuf : Space → Nat
  | .hbm => 17
  | .vmem => 10
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x2816, .f32⟩
  | .hbm, ⟨6, _⟩ => ⟨S1024x11x256, .f32⟩
  | .hbm, ⟨7, _⟩ => ⟨S1024x2816, .f32⟩
  | .hbm, ⟨8, _⟩ => ⟨S1024x11x256, .f32⟩
  | .hbm, ⟨9, _⟩ => ⟨S1024x11x512, .f32⟩
  | .hbm, ⟨10, _⟩ => ⟨S11x1024x512, .f32⟩
  | .hbm, ⟨11, _⟩ => ⟨S11x1024x512, .bf16⟩
  | .hbm, ⟨12, _⟩ => ⟨S2816x1024, .bf16⟩
  | .hbm, ⟨13, _⟩ => ⟨S32x1024, .f32⟩
  | .hbm, ⟨14, _⟩ => ⟨S1x1024, .f32⟩
  | .hbm, ⟨15, _⟩ => ⟨S1x1024, .f32⟩
  | .hbm, ⟨16, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S32x1024, .f32⟩
  | .local _ .vmem, ⟨8, _⟩ => ⟨S32x1024, .bf16⟩
  | .local _ .vmem, ⟨9, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v27 : BitVec 1 := Scalar.cmpi .eq arg1 c10_i32
  let v28 : BitVec 32 := Scalar.extui v27
  let c0_i32_15 : BitVec 32 := 0#32
  let v29 : BitVec 1 := Scalar.cmpi .ne v28 c0_i32_15
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference11Ideal.lean ====
abbrev S32x1x1024 : Shape := ⟨3, ![32, 1, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x5632 : Shape := ⟨3, ![32, 1, 5632]⟩
abbrev S32x1x2816 : Shape := ⟨3, ![32, 1, 2816]⟩
abbrev S32x1024 : Shape := ⟨2, ![32, 1024]⟩

abbrev nBuf : Space → Nat
  | .hbm => 53
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32x1x1024, .f32⟩
  | .hbm, ⟨6, _⟩ => ⟨S_, .f32⟩
  | .hbm, ⟨7, _⟩ => ⟨S32x1, .f32⟩
  | .hbm, ⟨8, _⟩ => ⟨S32x1x1, .f32⟩
  | .hbm, ⟨9, _⟩ => ⟨S_, .f32⟩
  | .hbm, ⟨10, _⟩ => ⟨S32x1x1, .f32⟩
  | .hbm, ⟨11, _⟩ => ⟨S32x1x1, .f32⟩
  | .hbm, ⟨12, _⟩ => ⟨S_, .f32⟩
  | .hbm, ⟨13, _⟩ => ⟨S32x1x1, .f32⟩
  | .hbm, ⟨14, _⟩ => ⟨S32x1x1, .f32⟩
  | .hbm, ⟨15, _⟩ => ⟨S32x1x1, .f32⟩
  | .hbm, ⟨16, _⟩ => ⟨S32x1x1024, .f32⟩
  | .hbm, ⟨17, _⟩ => ⟨S32x1x1024, .f32⟩
  | .hbm, ⟨18, _⟩ => ⟨S1x1x1024, .f32⟩
  | .hbm, ⟨19, _⟩ => ⟨S32x1x1024, .f32⟩
  | .hbm, ⟨20, _⟩ => ⟨S32x1x1024, .f32⟩
  | .hbm, ⟨21, _⟩ => ⟨S32x1x5632, .f32⟩
  | .hbm, ⟨22, _⟩ => ⟨S32x1x2816, .f32⟩
  | .hbm, ⟨23, _⟩ => ⟨S32x1x2816, .f32⟩
  | .hbm, ⟨24, _⟩ => ⟨S32x1x2816, .f32⟩
  | .hbm, ⟨25, _⟩ => ⟨S32x1x2816, .f32⟩
  | .hbm, ⟨26, _⟩ => ⟨S_, .f32⟩
  | .hbm, ⟨27, _⟩ => ⟨S32x1x2816, .f32⟩
  | .hbm, ⟨28, _⟩ => ⟨S32x1x2816, .f32⟩
  | .hbm, ⟨29, _⟩ => ⟨S_, .f32⟩
  | .hbm, ⟨30, _⟩ => ⟨S32x1x2816, .f32⟩
  | .hbm, ⟨31, _⟩ => ⟨S32x1x2816, .f32⟩
  | .hbm, ⟨32, _⟩ => ⟨S32x1x2816, .f32⟩
  | .hbm, ⟨33, _⟩ => ⟨S32x1x2816, .f32⟩
  | .hbm, ⟨34, _⟩ => ⟨S32x1x1024, .f32⟩
  | .hbm, ⟨35, _⟩ => ⟨S32x1x1024, .f32⟩
  | .hbm, ⟨36, _⟩ => ⟨S_, .f32⟩
  | .hbm, ⟨37, _⟩ => ⟨S32x1, .f32⟩
  | .hbm, ⟨38, _⟩ => ⟨S32x1x1, .f32⟩
  | .hbm, ⟨39, _⟩ => ⟨S_, .f32⟩
  | .hbm, ⟨40, _⟩ => ⟨S32x1x1, .f32⟩
  | .hbm, ⟨41, _⟩ => ⟨S32x1x1, .f32⟩
  | .hbm, ⟨42, _⟩ => ⟨S_, .f32⟩
  | .hbm, ⟨43, _⟩ => ⟨S32x1x1, .f32⟩
  | .hbm, ⟨44, _⟩ => ⟨S32x1x1, .f32⟩
  | .hbm, ⟨45, _⟩ => ⟨S32x1x1, .f32⟩
  | .hbm, ⟨46, _⟩ => ⟨S32x1x1024, .f32⟩
  | .hbm, ⟨47, _⟩ => ⟨S32x1x1024, .f32⟩
  | .hbm, ⟨48, _⟩ => ⟨S1x1x1024, .f32⟩
  | .hbm, ⟨49, _⟩ => ⟨S32x1x1024, .f32⟩
  | .hbm, ⟨50, _⟩ => ⟨S32x1x1024, .f32⟩
  | .hbm, ⟨51, _⟩ => ⟨S32x1x1024, .f32⟩
  | .hbm, ⟨52, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Kernel12.lean ====
abbrev S8x2048x1152 : Shape := ⟨3, ![8, 2048, 1152]⟩
abbrev S8 : Shape := ⟨1, ![8]⟩
abbrev S_ : Shape := ⟨0, ![]⟩
abbrev S128 : Shape := ⟨1, ![128]⟩
abbrev S1x128 : Shape := ⟨2, ![1, 128]⟩
abbrev S256x256 : Shape := ⟨2, ![256, 256]⟩
abbrev S8x2048x128 : Shape := ⟨3, ![8, 2048, 128]⟩
abbrev S1x256x128 : Shape := ⟨3, ![1, 256, 128]⟩
abbrev S256x128 : Shape := ⟨2, ![256, 128]⟩
abbrev S8x2048x8 : Shape := ⟨3, ![8, 2048, 8]⟩

abbrev nBuf : Space → Nat
  | .hbm => 21
  | .vmem => 9
  | .smem => 0
  | _ => 0

abbrev bufTy : (tb : Table) → Fin (tcTables nBuf tb) → BufTy
  | .hbm, ⟨0, _⟩ => ⟨S8x2048x1152, .f32⟩
  | .hbm, ⟨1, _⟩ => ⟨S8, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S_, .f32⟩
  | .hbm, ⟨7, _⟩ => ⟨S256x256, .f32⟩
  | .hbm, ⟨8, _⟩ => ⟨S256x256, .i32⟩
  | .hbm, ⟨9, _⟩ => ⟨S_, .i32⟩
  | .hbm, ⟨10, _⟩ => ⟨S256x256, .i32⟩
  | .hbm, ⟨11, _⟩ => ⟨S256x256, .i32⟩
  | .hbm, ⟨12, _⟩ => ⟨S256x256, .i32⟩
  | .hbm, ⟨13, _⟩ => ⟨S256x256, .i1⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .bf16⟩
  | .hbm, ⟨18, _⟩ => ⟨S8x2048x128, .f32⟩
  | .hbm, ⟨19, _⟩ => ⟨S8x2048x128, .f32⟩
  | .hbm, ⟨20, _⟩ => ⟨S8x2048x8, .f32⟩
  | .local _ .vmem, ⟨0, _⟩ => ⟨S1x256x128, .f32⟩
  | .local _ .vmem, ⟨1, _⟩ => ⟨S1x256x128, .f32⟩
  | .local _ .vmem, ⟨2, _⟩ => ⟨S1x128, .f32⟩
  | .local _ .vmem, ⟨3, _⟩ => ⟨S256x256, .bf16⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x128, .f32⟩
  | _, _ => ⟨S8x2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_call1_v0 : Ref sig .tc := ⟨.hbm, 8, rfl⟩
abbrev main_call1_c : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_cst : Ref sig .tc := ⟨.hbm, 14, rfl⟩
abbrev main_call1_v5 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S8x2048x1152 : Shape := ⟨3, ![8, 2048, 1152]⟩
abbrev S8 : Shape := ⟨1, ![8]⟩
abbrev S8x2048x8 : Shape := ⟨3, ![8, 2048, 8]⟩
abbrev S1x1x8 : Shape := ⟨3, ![1, 1, 8]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x1152, .f32⟩
  | .hbm, ⟨1, _⟩ => ⟨S8, .f32⟩
  | .hbm, ⟨2, _⟩ => ⟨S8x2048x8, .f32⟩
  | .hbm, ⟨3, _⟩ => ⟨S1x1x8, .f32⟩
  | .hbm, ⟨4, _⟩ => ⟨S8x2048x8, .f32⟩
  | .hbm, ⟨5, _⟩ => ⟨S8x2048x8, .f32⟩
  | .hbm, ⟨6, _⟩ => ⟨S8x2048x8, .f32⟩
  | .hbm, ⟨7, _⟩ => ⟨S_, .f32⟩
  | .hbm, ⟨8, _⟩ => ⟨S8x2048x8, .f32⟩
  | .hbm, ⟨9, _⟩ => ⟨S8x2048x8, .f32⟩
  | .hbm, ⟨10, _⟩ => ⟨S8x2048x8, .f32⟩
  | .hbm, ⟨11, _⟩ => ⟨S8x2048x8, .f32⟩
  | .hbm, ⟨12, _⟩ => ⟨S8x2048x8, .i1⟩
  | .hbm, ⟨13, _⟩ => ⟨S8x2048x8, .f32⟩
  | .hbm, ⟨14, _⟩ => ⟨S8x2048x8, .f32⟩
  | .hbm, ⟨15, _⟩ => ⟨S8x2048x8, .f32⟩
  | .hbm, ⟨16, _⟩ => ⟨S8x2048x8, .f32⟩
  | .hbm, ⟨17, _⟩ => ⟨S8x2048x8, .f32⟩
  | .hbm, ⟨18, _⟩ => ⟨S8x2048x8, .f32⟩
  | .hbm, ⟨19, _⟩ => ⟨S8x2048x8, .f32⟩
  | .hbm, ⟨20, _⟩ => ⟨S8x2048x8, .f32⟩
  | .hbm, ⟨21, _⟩ => ⟨S8x2048x8, .f32⟩
  | _, _ => ⟨S8x2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩

abbrev nD : Nat := 1
abbrev τ : Topo := Topo.v7x

variable {F : FTy → Type} [FloatOps F]
-- ==== Kernel13.lean ====
abbrev S32x1152 : Shape := ⟨2, ![32, 1152]⟩
abbrev S8 : Shape := ⟨1, ![8]⟩
abbrev S_ : Shape := ⟨0, ![]⟩
abbrev S128 : Shape := ⟨1, ![128]⟩
abbrev S1x128 : Shape := ⟨2, ![1, 128]⟩
abbrev S1x32x1152 : Shape := ⟨3, ![1, 32, 1152]⟩
abbrev S32x32 : Shape := ⟨2, ![32, 32]⟩
abbrev S1x32x128 : Shape := ⟨3, ![1, 32, 128]⟩
abbrev S32x128 : Shape := ⟨2, ![32, 128]⟩
abbrev S1x32x8 : Shape := ⟨3, ![1, 32, 8]⟩
abbrev S32x8 : Shape := ⟨2, ![32, 8]⟩

abbrev nBuf : Space → Nat
  | .hbm => 23
  | .vmem => 6
  | .smem => 0
  | _ => 0

abbrev bufTy : (tb : Table) → Fin (tcTables nBuf tb) → BufTy
  | .hbm, ⟨0, _⟩ => ⟨S32x1152, .f32⟩
  | .hbm, ⟨1, _⟩ => ⟨S8, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S1x32x1152, .f32⟩
  | .hbm, ⟨7, _⟩ => ⟨S_, .f32⟩
  | .hbm, ⟨8, _⟩ => ⟨S32x32, .f32⟩
  | .hbm, ⟨9, _⟩ => ⟨S32x32, .i32⟩
  | .hbm, ⟨10, _⟩ => ⟨S_, .i32⟩
  | .hbm, ⟨11, _⟩ => ⟨S32x32, .i32⟩
  | .hbm, ⟨12, _⟩ => ⟨S32x32, .i32⟩
  | .hbm, ⟨13, _⟩ => ⟨S32x32, .i32⟩
  | .hbm, ⟨14, _⟩ => ⟨S32x32, .i1⟩
  | .hbm, ⟨15, _⟩ => ⟨S_, .f32⟩
  | .hbm, ⟨16, _⟩ => ⟨S32x32, .f32⟩
  | .hbm, ⟨17, _⟩ => ⟨S32x32, .f32⟩
  | .hbm, ⟨18, _⟩ => ⟨S32x32, .bf16⟩
  | .hbm, ⟨19, _⟩ => ⟨S1x32x128, .f32⟩
  | .hbm, ⟨20, _⟩ => ⟨S1x32x128, .f32⟩
  | .hbm, ⟨21, _⟩ => ⟨S1x32x8, .f32⟩
  | .hbm, ⟨22, _⟩ => ⟨S32x8, .f32⟩
  | .local _ .vmem, ⟨0, _⟩ => ⟨S1x32x128, .f32⟩
  | .local _ .vmem, ⟨1, _⟩ => ⟨S1x128, .f32⟩
  | .local _ .vmem, ⟨2, _⟩ => ⟨S32x32, .bf16⟩
  | .local _ .vmem, ⟨3, _⟩ => ⟨S1x32x128, .f32⟩
  | .local _ .vmem, ⟨4, _⟩ => ⟨S1x32x128, .f32⟩
  | .local _ .vmem, ⟨5, _⟩ => ⟨S1x128, .f32⟩
  | _, _ => ⟨S32x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_call1_v0 : Ref sig .tc := ⟨.hbm, 9, rfl⟩
abbrev main_call1_c : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_cst : Ref sig .tc := ⟨.hbm, 15, rfl⟩
abbrev main_call1_v5 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== Reference13Ideal.lean ====
abbrev S32x1152 : Shape := ⟨2, ![32, 1152]⟩
abbrev S8 : Shape := ⟨1, ![8]⟩
abbrev S32x8 : Shape := ⟨2, ![32, 8]⟩
abbrev S1x8 : Shape := ⟨2, ![1, 8]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S32x1152, .f32⟩
  | .hbm, ⟨1, _⟩ => ⟨S8, .f32⟩
  | .hbm, ⟨2, _⟩ => ⟨S32x8, .f32⟩
  | .hbm, ⟨3, _⟩ => ⟨S1x8, .f32⟩
  | .hbm, ⟨4, _⟩ => ⟨S32x8, .f32⟩
  | .hbm, ⟨5, _⟩ => ⟨S32x8, .f32⟩
  | .hbm, ⟨6, _⟩ => ⟨S32x8, .f32⟩
  | .hbm, ⟨7, _⟩ => ⟨S_, .f32⟩
  | .hbm, ⟨8, _⟩ => ⟨S32x8, .f32⟩
  | .hbm, ⟨9, _⟩ => ⟨S32x8, .f32⟩
  | .hbm, ⟨10, _⟩ => ⟨S32x8, .f32⟩
  | .hbm, ⟨11, _⟩ => ⟨S32x8, .f32⟩
  | .hbm, ⟨12, _⟩ => ⟨S32x8, .i1⟩
  | .hbm, ⟨13, _⟩ => ⟨S32x8, .f32⟩
  | .hbm, ⟨14, _⟩ => ⟨S32x8, .f32⟩
  | .hbm, ⟨15, _⟩ => ⟨S32x8, .f32⟩
  | .hbm, ⟨16, _⟩ => ⟨S32x8, .f32⟩
  | .hbm, ⟨17, _⟩ => ⟨S32x8, .f32⟩
  | .hbm, ⟨18, _⟩ => ⟨S32x8, .f32⟩
  | .hbm, ⟨19, _⟩ => ⟨S32x8, .f32⟩
  | .hbm, ⟨20, _⟩ => ⟨S32x8, .f32⟩
  | .hbm, ⟨21, _⟩ => ⟨S32x8, .f32⟩
  | _, _ => ⟨S32x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩

abbrev nD : Nat := 1
abbrev τ : Topo := Topo.v7x

variable {F : FTy → Type} [FloatOps F]
-- ==== Proof.Math.lean ====
/- Softmax attention over the extended reals: the quotient of two weighted sums does not depend on the shift of the
   exponents, and the accumulators of one or of two key tiles, scaled to the running maximum, give that quotient. -/
module

public import Idealize.ShloMosaic.PureOps.Ideal
public import Idealize.ShloMosaic.PureOps.Ideal.Laws

@[expose] public section

noncomputable section

namespace Cert.Attn

open Idealize.ShloMosaic

/-- A finite nonnegative factor goes into a sum of extended reals. -/
theorem coe_mul_sum {ι : Type} (a : ℝ) (ha : 0 ≤ a) (s : Finset ι) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- The inclusion of the reals goes into a sum. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A positive finite factor of numerator and denominator cancels. -/
theorem div_scale (a d : ℝ) (ha : 0 < a) (hd : 0 < d) (N : EReal) :
    Ideal.div ((a : EReal) * N) ((a * d : ℝ) : EReal) = Ideal.div N (d : EReal) := by
  have h1 : ((a * d : ℝ) : EReal) ≠ 0 := EReal.coe_ne_zero.mpr (mul_pos ha hd).ne'
  have h2 : ((d : ℝ) : EReal) ≠ 0 := EReal.coe_ne_zero.mpr hd.ne'
  unfold Ideal.div
  rw [if_neg h1, if_neg h2, ← EReal.coe_inv, ← EReal.coe_inv, mul_comm (a : EReal) N, mul_assoc, ← EReal.coe_mul]
  congr 2
  field_simp

/-- The maximum of finitely many extended reals below `⊤`, one of them above `⊥`, is a real number. -/
theorem fold_max_real {n : ℕ} (f : Fin n → EReal) (h : ∀ j, f j ≠ ⊤) (i : Fin n) (hi : f i ≠ ⊥) :
    ∃ μ : ℝ, (Finset.univ : Finset (Fin n)).fold max ⊥ f = (μ : EReal) := by
  have ht : (Finset.univ : Finset (Fin n)).fold max ⊥ f ≠ ⊤ :=
    (Finset.fold_max_lt _ |>.mpr ⟨bot_lt_top, fun x _ => lt_top_iff_ne_top.mpr (h x)⟩).ne
  have hb : (Finset.univ : Finset (Fin n)).fold max ⊥ f ≠ ⊥ :=
    (Finset.lt_fold_max _ |>.mpr (Or.inr ⟨i, Finset.mem_univ i, bot_lt_iff_ne_bot.mpr hi⟩)).ne'
  exact ⟨_, (EReal.coe_toReal ht hb).symm⟩

/-- The weight of key `s` for the query at position `t`: the exponential of its logit, zero for a later key. -/
def wt (L : ℕ → ℝ) (t s : ℕ) : ℝ := if s ≤ t then Real.exp (L s) else 0

/-- The weighted sum of the first `n` values. -/
def num (L : ℕ → ℝ) (v : ℕ → EReal) (t n : ℕ) : EReal := ∑ s ∈ Finset.range n, (wt L t s : EReal) * v s

/-- The sum of the first `n` weights. -/
def den (L : ℕ → ℝ) (t n : ℕ) : ℝ := ∑ s ∈ Finset.range n, wt L t s

/-- Causal softmax attention of the query at position `t` over 2048 keys with logits `L` and values `v`. -/
def att (L : ℕ → ℝ) (v : ℕ → EReal) (t : ℕ) : EReal := Ideal.div (num L v t 2048) (den L t 2048 : EReal)

theorem wt_nonneg (L : ℕ → ℝ) (t s : ℕ) : 0 ≤ wt L t s := by
  unfold wt; split
  · exact (Real.exp_pos _).le
  · exact le_rfl

theorem den_pos (L : ℕ → ℝ) (t n : ℕ) (hn : 0 < n) : 0 < den L t n := by
  refine Finset.sum_pos' (fun s _ => wt_nonneg L t s) ⟨0, Finset.mem_range.mpr hn, ?_⟩
  unfold wt; rw [if_pos (Nat.zero_le t)]; exact Real.exp_pos _

/-- Keys after the query do not count. -/
theorem num_later (L : ℕ → ℝ) (v : ℕ → EReal) (t n k : ℕ) (h : t < n) : num L v t (n + k) = num L v t n := by
  unfold num
  rw [Finset.sum_range_add]
  rw [Finset.sum_eq_zero (s := Finset.range k) fun s _ => by
    unfold wt; rw [if_neg (by omega), EReal.coe_zero, zero_mul]]
  exact add_zero _

theorem den_later (L : ℕ → ℝ) (t n k : ℕ) (h : t < n) : den L t (n + k) = den L t n := by
  unfold den
  rw [Finset.sum_range_add]
  rw [Finset.sum_eq_zero (s := Finset.range k) fun s _ => by unfold wt; rw [if_neg (by omega)]]
  exact add_zero _

/-- The denominators are the numerators of the constant value one. -/
theorem num_one (L : ℕ → ℝ) (t n : ℕ) : num L (fun _ => 1) t n = (den L t n : EReal) := by
  unfold num den
  rw [coe_sum]
  exact Finset.sum_congr rfl fun s _ => mul_one _

/-! ### The kernel: powers of two -/

/-- The factor between the kernel's powers of two at shift `μ` and the weights. -/
def lam (κ μ : ℝ) : ℝ := Real.exp κ * Real.exp (-(μ * Real.log 2))

theorem lam_pos (κ μ : ℝ) : 0 < lam κ μ := mul_pos (Real.exp_pos _) (Real.exp_pos _)

/-- One entry of a tile: the power of two of the score less the shift is the factor times the weight. -/
theorem exp2_score (L : ℕ → ℝ) (t s : ℕ) (y κ μ : ℝ) (S : EReal) (hS : S = if s ≤ t then (y : EReal) else ⊥)
    (hy : y * Real.log 2 = L s + κ) : Ideal.exp2 (S - (μ : EReal)) = (lam κ μ : EReal) * (wt L t s : EReal) := by
  by_cases h : s ≤ t
  · rw [hS, if_pos h, ← EReal.coe_sub, Ideal.exp2_coe, ← EReal.coe_mul]
    refine congrArg _ ?_
    unfold wt lam
    rw [if_pos h]
    show (2 : ℝ) ^ (y - μ) = _
    rw [Real.rpow_def_of_pos (by norm_num), ← Real.exp_add, ← Real.exp_add]
    refine congrArg _ ?_
    linear_combination hy
  · rw [hS, if_neg h]
    unfold wt
    rw [if_neg h, EReal.coe_zero, mul_zero, EReal.bot_sub, Ideal.exp2_bot]

/-- One tile of `n` keys from `a`: the product of its values with its powers of two. -/
theorem tile_sum (L : ℕ → ℝ) (v : ℕ → EReal) (t a n : ℕ) (y : ℕ → ℝ) (κ μ : ℝ) (S : Fin n → EReal)
    (hS : ∀ j : Fin n, S j = if a + j.val ≤ t then (y (a + j.val) : EReal) else ⊥)
    (hy : ∀ s, y s * Real.log 2 = L s + κ) :
    ∑ j : Fin n, v (a + j.val) * Ideal.exp2 (S j - (μ : EReal))
      = (lam κ μ : EReal) * ∑ s ∈ Finset.range n, (wt L t (a + s) : EReal) * v (a + s) := by
  rw [coe_mul_sum _ (lam_pos κ μ).le, Finset.sum_range]
  refine Finset.sum_congr rfl fun j _ => ?_
  rw [exp2_score L t (a + j.val) (y (a + j.val)) κ μ (S j) (hS j) (hy _), mul_comm, mul_assoc]

/-- The maximum of a tile that holds a visible key is a real number. -/
theorem tile_max (t a n : ℕ) (hn : 0 < n) (ha : a ≤ t) (y : ℕ → ℝ) (S : Fin n → EReal)
    (hS : ∀ j : Fin n, S j = if a + j.val ≤ t then (y (a + j.val) : EReal) else ⊥) :
    ∃ μ : ℝ, (Finset.univ : Finset (Fin n)).fold max ⊥ S = (μ : EReal) := by
  refine fold_max_real S (fun j => ?_) ⟨0, hn⟩ ?_
  · rw [hS j]; split
    · exact EReal.coe_ne_top _
    · exact bot_ne_top
  · rw [hS ⟨0, hn⟩, if_pos (by simpa using ha)]; exact EReal.coe_ne_bot _

/-- The two accumulators over a factor: their quotient is the attention. -/
theorem att_of_scaled (L : ℕ → ℝ) (v : ℕ → EReal) (t : ℕ) (a : ℝ) (ha : 0 < a) (N D : EReal)
    (hN : N = (a : EReal) * num L v t 2048) (hD : D = (a : EReal) * num L (fun _ => 1) t 2048) :
    Ideal.div N D = att L v t := by
  rw [hN, hD, num_one, ← EReal.coe_mul, div_scale a _ ha (den_pos L t 2048 (by norm_num))]
  rfl

/-- One tile of 1024 keys, the query inside it: the accumulator. -/
theorem acc_one (L : ℕ → ℝ) (v : ℕ → EReal) (t : ℕ) (ht : t < 1024) (y : ℕ → ℝ) (κ μ : ℝ) (S : Fin 1024 → EReal)
    (hS : ∀ j : Fin 1024, S j = if 0 + j.val ≤ t then (y (0 + j.val) : EReal) else ⊥)
    (hy : ∀ s, y s * Real.log 2 = L s + κ) :
    ∑ j : Fin 1024, v (0 + j.val) * Ideal.exp2 (S j - (μ : EReal)) = (lam κ μ : EReal) * num L v t 2048 := by
  rw [tile_sum L v t 0 1024 y κ μ S hS hy, show (2048 : ℕ) = 1024 + 1024 from rfl, num_later L v t 1024 1024 ht]
  unfold num
  simp only [Nat.zero_add]

/-- Two tiles of 1024 keys: the rescaled accumulator of the first plus the second. -/
theorem acc_two (L : ℕ → ℝ) (v : ℕ → EReal) (t : ℕ) (y : ℕ → ℝ) (κ μ₀ μ₁ : ℝ) (S₀ S₁ : Fin 1024 → EReal)
    (hS₀ : ∀ j : Fin 1024, S₀ j = if 0 + j.val ≤ t then (y (0 + j.val) : EReal) else ⊥)
    (hS₁ : ∀ j : Fin 1024, S₁ j = if 1024 + j.val ≤ t then (y (1024 + j.val) : EReal) else ⊥)
    (hy : ∀ s, y s * Real.log 2 = L s + κ) :
    Ideal.exp2 ((μ₀ : EReal) - (μ₁ : EReal)) * (∑ j : Fin 1024, v (0 + j.val) * Ideal.exp2 (S₀ j - (μ₀ : EReal)))
        + ∑ j : Fin 1024, v (1024 + j.val) * Ideal.exp2 (S₁ j - (μ₁ : EReal))
      = (lam κ μ₁ : EReal) * num L v t 2048 := by
  have hx : Ideal.exp2 ((μ₀ : EReal) - (μ₁ : EReal)) = ((Real.exp ((μ₀ - μ₁) * Real.log 2) : ℝ) : EReal) := by
    rw [← EReal.coe_sub, Ideal.exp2_coe]
    refine congrArg _ ?_
    show (2 : ℝ) ^ (μ₀ - μ₁) = _
    rw [Real.rpow_def_of_pos (by norm_num), mul_comm]
  have hl : Real.exp ((μ₀ - μ₁) * Real.log 2) * lam κ μ₀ = lam κ μ₁ := by
    unfold lam
    rw [← Real.exp_add, ← Real.exp_add, ← Real.exp_add]
    exact congrArg _ (by ring)
  rw [tile_sum L v t 0 1024 y κ μ₀ S₀ hS₀ hy, tile_sum L v t 1024 1024 y κ μ₁ S₁ hS₁ hy, hx, ← mul_assoc, ← EReal.coe_mul, hl,
    ← EReal.left_distrib_of_nonneg_of_ne_top (EReal.coe_nonneg.mpr (lam_pos κ μ₁).le) (EReal.coe_ne_top _)]
  refine congrArg _ ?_
  unfold num
  rw [show (2048 : ℕ) = 1024 + 1024 from rfl, Finset.sum_range_add]
  simp only [Nat.zero_add]

/-- One tile: the quotient of the two accumulators. -/
theorem att_one (L : ℕ → ℝ) (v : ℕ → EReal) (t : ℕ) (ht : t < 1024) (y : ℕ → ℝ) (κ : ℝ) (S : Fin 1024 → EReal)
    (hS : ∀ j : Fin 1024, S j = if 0 + j.val ≤ t then (y (0 + j.val) : EReal) else ⊥)
    (hy : ∀ s, y s * Real.log 2 = L s + κ) (m : EReal) (hm : m = (Finset.univ : Finset (Fin 1024)).fold max ⊥ S) :
    Ideal.div (∑ j : Fin 1024, v (0 + j.val) * Ideal.exp2 (S j - m)) (∑ j : Fin 1024, 1 * Ideal.exp2 (S j - m)) = att L v t := by
  obtain ⟨μ, hμ⟩ := tile_max t 0 1024 (by norm_num) (Nat.zero_le t) y S hS
  rw [hm, hμ]
  exact att_of_scaled L v t (lam κ μ) (lam_pos κ μ) _ _ (acc_one L v t ht y κ μ S hS hy)
    (acc_one L (fun _ => 1) t ht y κ μ S hS hy)

/-- Two tiles: the quotient of the two accumulators. -/
theorem att_two (L : ℕ → ℝ) (v : ℕ → EReal) (t : ℕ) (ht : 1024 ≤ t) (y : ℕ → ℝ) (κ : ℝ) (S₀ S₁ : Fin 1024 → EReal)
    (hS₀ : ∀ j : Fin 1024, S₀ j = if 0 + j.val ≤ t then (y (0 + j.val) : EReal) else ⊥)
    (hS₁ : ∀ j : Fin 1024, S₁ j = if 1024 + j.val ≤ t then (y (1024 + j.val) : EReal) else ⊥)
    (hy : ∀ s, y s * Real.log 2 = L s + κ) (m₀ m₁ : EReal) (hm₀ : m₀ = (Finset.univ : Finset (Fin 1024)).fold max ⊥ S₀)
    (hm₁ : m₁ = max m₀ ((Finset.univ : Finset (Fin 1024)).fold max ⊥ S₁)) :
    Ideal.div (Ideal.exp2 (m₀ - m₁) * (∑ j : Fin 1024, v (0 + j.val) * Ideal.exp2 (S₀ j - m₀))
          + ∑ j : Fin 1024, v (1024 + j.val) * Ideal.exp2 (S₁ j - m₁))
        (Ideal.exp2 (m₀ - m₁) * (∑ j : Fin 1024, 1 * Ideal.exp2 (S₀ j - m₀)) + ∑ j : Fin 1024, 1 * Ideal.exp2 (S₁ j - m₁))
      = att L v t := by
  obtain ⟨μ₀, hμ₀⟩ := tile_max t 0 1024 (by norm_num) (Nat.zero_le t) y S₀ hS₀
  obtain ⟨μ', hμ'⟩ := tile_max t 1024 1024 (by norm_num) ht y S₁ hS₁
  rw [hm₁, hm₀, hμ₀, hμ', ← EReal.coe_strictMono.monotone.map_max]
  exact att_of_scaled L v t (lam κ (max μ₀ μ')) (lam_pos _ _) _ _ (acc_two L v t y κ μ₀ _ S₀ S₁ hS₀ hS₁ hy)
    (acc_two L (fun _ => 1) t y κ μ₀ _ S₀ S₁ hS₀ hS₁ hy)

/-! ### The reference: exponentials -/

/-- The reference's quotient: exponentials of the logits less their maximum. -/
theorem att_ref (L : ℕ → ℝ) (v : ℕ → EReal) (t : ℕ) (z : Fin 2048 → EReal)
    (hz : ∀ s : Fin 2048, z s = if s.val ≤ t then (L s.val : EReal) else ⊥) (m : EReal)
    (hm : m = (Finset.univ : Finset (Fin 2048)).fold max ⊥ z) :
    Ideal.div (∑ s : Fin 2048, Ideal.exp (z s - m) * v s.val) (∑ s : Fin 2048, Ideal.exp (z s - m)) = att L v t := by
  obtain ⟨μ, hμ⟩ := tile_max t 0 2048 (by norm_num) (Nat.zero_le t) L z (fun j => by rw [hz j, Nat.zero_add])
  rw [hm, hμ]
  have he : ∀ s : Fin 2048, Ideal.exp (z s - (μ : EReal)) = ((Real.exp (-μ) : ℝ) : EReal) * (wt L t s.val : EReal) := by
    intro s
    rw [hz s]
    unfold wt
    by_cases h : s.val ≤ t
    · rw [if_pos h, if_pos h, ← EReal.coe_sub, Ideal.exp_coe, ← EReal.coe_mul, ← Real.exp_add]
      exact congrArg _ (congrArg _ (by ring))
    · rw [if_neg h, if_neg h, EReal.bot_sub, Ideal.exp_bot, EReal.coe_zero, mul_zero]
  refine att_of_scaled L v t (Real.exp (-μ)) (Real.exp_pos _) _ _ ?_ ?_
  · unfold num
    rw [coe_mul_sum _ (Real.exp_pos _).le, Finset.sum_range]
    exact Finset.sum_congr rfl fun s _ => by rw [he s, mul_assoc]
  · unfold num
    rw [coe_mul_sum _ (Real.exp_pos _).le, Finset.sum_range]
    exact Finset.sum_congr rfl fun s _ => by rw [he s, mul_one]

end Cert.Attn

end
-- ==== Proof.Tile.lean ====
/- The kernel's payloads at an index: the masked scaled queries, the score tiles, the running maximum and the
   accumulator of one and of two key tiles. -/
module

public import Idealize.ShloMosaic.Lib.Pipeline.ValueKit
public import Idealize.ShloMosaic.Lib.WordCmp
public import Idealize.ShloMosaic.Lib.IdealHost
public import proofs.«01_k».proof.Proof.Gen.KernelIdeal.Skeleton
public import proofs.«01_k».proof.Proof.Math

@[expose] public section

set_option maxRecDepth 16384

noncomputable section

open Idealize.ShloMosaic Idealize.ShloMosaic.TcCoe

namespace Cert.KernelIdeal.Tile

open Cert.KernelIdeal Cert.KernelIdeal.Gen Cert.Attn WordCmp

/-! ### The named constants -/

theorem named_mask : Named.named (F := Ideal) (φ := .f32) κ "mask" 0xF149F2CA#32 = (⊥ : EReal) :=
  IdealRules.named_const.ideal_named_scalar _ _ _ _ rfl

theorem named_scale : Named.named (F := Ideal) (φ := .f32) κ "scale_log2e" 0x3E38AA3B#32 = (((1 / 8) * (Real.log 2)⁻¹ : ℝ) : EReal) :=
  IdealRules.named_const.ideal_named_scalar _ _ _ _ rfl

theorem named_neg : Named.named (F := Ideal) (φ := .f32) κ "neg_log2e" 0xBFB8AA3B#32 = ((-((Real.log 2)⁻¹) : ℝ) : EReal) :=
  IdealRules.named_const.ideal_named_scalar _ _ _ _ rfl

theorem named_log2e : Named.named (F := Ideal) (φ := .f32) κ "log2e" 0x3FB8AA3B#32 = (((Real.log 2)⁻¹ : ℝ) : EReal) :=
  IdealRules.named_const.ideal_named_scalar _ _ _ _ rfl

/-! ### Maximum and accumulator of a score tile -/

/-- The column maxima of a score tile. -/
def tmax (S : FVec Ideal S1024x512 .f32) : FVec Ideal S1x512 .f32 :=
  shapeCast S1x512 (multiReduction .maximumf [0] S512 S 0xFF800000#32 reduces_S1024x512_S512 (.inl rfl) rfl) shapeCasts_S512_S1x512

/-- The values' product with the powers of two of a score tile less the shift `m`. -/
def tacc (S : FVec Ideal S1024x512 .f32) (m : FVec Ideal S1x512 .f32) (v : FVec Ideal S144x1024 .bf16) : FVec Ideal S144x512 .f32 :=
  matmul dot_S144x1024_S1024x512_S144x512_1_0_0_1_n_n none v
    (exp2 (truncf .bf16 (subf S (broadcastTo S1024x512 m broadcasts_S1x512_S1024x512)) bitsLt_bf16_f32))
    (constant S144x512 .f32 0x00000000#32)

/-- The accumulator `a` of shift `m₀` brought to the shift `m₁`, plus the next tile's. -/
def tupd (m₀ m₁ : FVec Ideal S1x512 .f32) (a b : FVec Ideal S144x512 .f32) : FVec Ideal S144x512 .f32 :=
  addf (mulf (broadcastTo S144x512 (exp2 (subf m₀ m₁)) broadcasts_S1x512_S144x512) a) b

theorem ofBits_neg_inf : Ideal.ofBits FTy.f32 0xFF800000#32 = (⊥ : EReal) := by
  simp [Ideal.ofBits, Ideal.ieee]

theorem tmax_apply (S : FVec Ideal S1024x512 .f32) (z : Fin 1) (j : Fin 512) :
    tmax S (ix2 z j) = (Finset.univ : Finset (Fin 1024)).fold max ⊥ (fun s => S (ix2 s j)) := by
  unfold tmax
  pointwise
  rw [ofBits_neg_inf]

theorem tacc_apply (S : FVec Ideal S1024x512 .f32) (m : FVec Ideal S1x512 .f32) (v : FVec Ideal S144x1024 .bf16) (r : Fin 144) (j : Fin 512) :
    tacc S m v (ix2 r j) = ∑ s : Fin 1024, v (ix2 r s) * Ideal.exp2 (S (ix2 s j) - m (ix2 0 j)) := by
  unfold tacc
  pointwise
  rfl

theorem tupd_apply (m₀ m₁ : FVec Ideal S1x512 .f32) (a b : FVec Ideal S144x512 .f32) (r : Fin 144) (j : Fin 512) :
    tupd m₀ m₁ a b (ix2 r j) = Ideal.exp2 (m₀ (ix2 0 j) - m₁ (ix2 0 j)) * a (ix2 r j) + b (ix2 r j) := by
  unfold tupd
  pointwise
  rfl

/-! ### The payloads as these -/

theorem pay2_eq (v19 v23 v68 v70 v73) : k0_pay2 (F := Ideal) v19 v23 v68 v70 v73 = tmax (k0_pay1 v19 v23 v68 v70 v73) := rfl
theorem pay3_eq (v19 v23 v68 v70 v73 v95) : k0_pay3 (F := Ideal) v19 v23 v68 v70 v73 v95
    = tacc (k0_pay1 v19 v23 v68 v70 v73) (tmax (k0_pay1 v19 v23 v68 v70 v73)) v95 := by
  unfold k0_pay3; simp only [shapeCast_self, pay2_eq]; rfl
theorem pay4_eq (v19 v23 v68 v70 v73) : k0_pay4 (F := Ideal) v19 v23 v68 v70 v73 = tmax (k0_pay1 v19 v23 v68 v70 v73) := by
  unfold k0_pay4; simp only [shapeCast_self, pay2_eq]
theorem pay17_eq (v19 v68 v70 v73 v84) : k0_pay17 (F := Ideal) v19 v68 v70 v73 v84
    = tacc (k0_pay15 v19 v68 v70 v73) (tmax (k0_pay15 v19 v68 v70 v73)) v84 := by
  unfold k0_pay17; simp only [shapeCast_self]; rfl
theorem pay18_eq (v19 v68 v70 v73) : k0_pay18 (F := Ideal) v19 v68 v70 v73 = tmax (k0_pay15 v19 v68 v70 v73) := by
  unfold k0_pay18; simp only [shapeCast_self]; rfl
theorem pay28_eq (v19 v23 v98 v100 v103 v107 v125) : k0_pay28 (F := Ideal) v19 v23 v98 v100 v103 v107 v125
    = maximumf v125 (tmax (k0_pay27 v19 v23 v98 v100 v103 v107)) := rfl
theorem pay29_eq (v19 v23 v98 v100 v103 v107 v125 v132 v136) : k0_pay29 (F := Ideal) v19 v23 v98 v100 v103 v107 v125 v132 v136
    = tupd v125 (maximumf v125 (tmax (k0_pay27 v19 v23 v98 v100 v103 v107))) v136
        (tacc (k0_pay27 v19 v23 v98 v100 v103 v107) (maximumf v125 (tmax (k0_pay27 v19 v23 v98 v100 v103 v107))) v132) := by
  unfold k0_pay29; simp only [shapeCast_self]; rfl
theorem pay46_eq (v101 v130 v138) : k0_pay46 (F := Ideal) v101 v130 v138 = tacc (addf v101 v130) (tmax (addf v101 v130)) v138 := by
  unfold k0_pay46; simp only [shapeCast_self]; rfl
theorem pay47_eq (v101 v130) : k0_pay47 (F := Ideal) v101 v130 = tmax (addf v101 v130) := by
  unfold k0_pay47; simp only [shapeCast_self]; rfl
theorem pay59_eq (v23 v152 v155 v163 v168 v174 v180) : k0_pay59 (F := Ideal) v23 v152 v155 v163 v168 v174 v180
    = tmax (k0_pay58 v23 v152 v155 v163 v168 v174 v180) := rfl
theorem pay62_eq (v23 v101 v130 v149) : k0_pay62 (F := Ideal) v23 v101 v130 v149
    = tacc (k0_pay60 v23 v101 v130) (tmax (k0_pay60 v23 v101 v130)) v149 := by
  unfold k0_pay62; simp only [shapeCast_self]; rfl
theorem pay63_eq (v23 v101 v130) : k0_pay63 (F := Ideal) v23 v101 v130 = tmax (k0_pay60 v23 v101 v130) := by
  unfold k0_pay63; simp only [shapeCast_self]; rfl
theorem pay65_eq (v197 v199 v200 v207 v211) : k0_pay65 (F := Ideal) v197 v199 v200 v207 v211
    = tupd v200 (maximumf v200 v199) v211 (tacc v197 (maximumf v200 v199) v207) := by
  unfold k0_pay65; simp only [shapeCast_self]; rfl

/-! ### The queries and the logits' two halves -/

/-- The scaled queries in two copies, each holding one half of the lanes. -/
theorem pay69_apply (v6 : Vec Ideal S1x256x128 .f32) (j : Fin 512) (l : Fin 128) :
    k0_pay69 v6 (ix2 j l) = if l.val / 64 = j.val / 256 then
      v6 (ix3 0 ⟨j.val % 256, Nat.mod_lt _ (by norm_num)⟩ l) * (((1 / 8) * (Real.log 2)⁻¹ : ℝ) : EReal) else 0 := by
  unfold k0_pay69
  pointwise
  rw [named_scale]
  have hl := l.isLt
  have hj := j.isLt
  rw [show (64#32 : BitVec 32) = BitVec.ofNat 32 64 from rfl, cmpi_slt_ofNat (by omega) (by norm_num)]
  by_cases h : j.val < 256
  · rw [dif_pos h, select_ofBool]
    by_cases h2 : l.val < 64
    · rw [if_pos (by simpa using h2)]
      refine Eq.trans ?_ (if_pos (by omega)).symm
      exact congrArg (fun x => v6 (ix3 0 x l) * _) (Fin.ext (Nat.mod_eq_of_lt h).symm)
    · rw [if_neg (by simpa using h2)]
      exact (if_neg (by omega)).symm
  · rw [dif_neg h, select_ofBool]
    by_cases h2 : l.val < 64
    · rw [if_pos (by simpa using h2)]
      exact (if_neg (by omega)).symm
    · rw [if_neg (by simpa using h2)]
      refine Eq.trans ?_ (if_pos (by omega)).symm
      exact congrArg (fun x => v6 (ix3 0 x l) * _) (Fin.ext (by show j.val - 256 = j.val % 256; omega))

/-- The dot product of the half `hh` of the lanes. -/
def dot (K : ℕ → ℝ) (Q : ℕ → ℝ) (hh : ℕ) : ℝ := ∑ d ∈ Finset.range 64, Q (64 * hh + d) * K (64 * hh + d)

/-- A row of keys times a masked query row: the dot product over the query's half of the lanes, scaled. -/
theorem dot_half (kr : Fin 128 → EReal) (v6 : Vec Ideal S1x256x128 .f32) (K : ℕ → ℝ) (Q : ℕ → ℕ → ℝ) (j : Fin 512)
    (hk : ∀ l, kr l = (K l.val : EReal)) (hq : ∀ (r : Fin 256) (l : Fin 128), v6 (ix3 0 r l) = (Q r.val l.val : EReal)) :
    ∑ l : Fin 128, kr l * k0_pay69 v6 (ix2 j l)
      = ((dot K (Q (j.val % 256)) (j.val / 256) * ((1 / 8) * (Real.log 2)⁻¹) : ℝ) : EReal) := by
  have hj := j.isLt
  have h1 : ∀ l : Fin 128, kr l * k0_pay69 v6 (ix2 j l)
      = (((fun n => if n / 64 = j.val / 256 then Q (j.val % 256) n * K n * ((1 / 8) * (Real.log 2)⁻¹) else 0) l.val : ℝ) : EReal) := by
    intro l
    rw [pay69_apply, hk, hq]
    dsimp only
    split
    · rw [← EReal.coe_mul, ← EReal.coe_mul]; exact congrArg _ (by ring)
    · rw [mul_zero, EReal.coe_zero]
  rw [Finset.sum_congr rfl fun l _ => h1 l, ← coe_sum]
  refine congrArg _ ?_
  rw [← Finset.sum_range (fun n => if n / 64 = j.val / 256 then Q (j.val % 256) n * K n * ((1 / 8) * (Real.log 2)⁻¹) else 0),
    show (128 : ℕ) = 64 + 64 from rfl, Finset.sum_range_add]
  unfold dot
  rw [Finset.sum_mul]
  rcases (by omega : j.val / 256 = 0 ∨ j.val / 256 = 1) with h | h <;> rw [h]
  · rw [Finset.sum_congr rfl fun d hd => if_pos (by have := Finset.mem_range.mp hd; omega),
      Finset.sum_eq_zero (s := Finset.range 64) (f := fun x => if (64 + x) / 64 = 0 then _ else _)
        fun d hd => if_neg (by omega), add_zero]
    exact Finset.sum_congr rfl fun d _ => by rw [Nat.mul_zero, Nat.zero_add]
  · rw [Finset.sum_eq_zero (s := Finset.range 64) (f := fun x => if x / 64 = 1 then _ else _)
        fun d hd => if_neg (by have := Finset.mem_range.mp hd; omega), zero_add,
      Finset.sum_congr rfl fun d hd => if_pos (by have := Finset.mem_range.mp hd; omega)]

/-- The mask: key `a + s` is seen by the query `256 q + r`. -/
theorem mask_val (i : grid0.Coords) (a : ℕ) (ha : a ≤ 1024) (b : BitVec 32) (hb : b = BitVec.ofNat 32 a) (s : Fin 1024) (z : Fin 1) (r : Fin 256) :
    IntOp.cmpi .sle (IntOp.addi b (BitVec.ofNat 32 s.val)) (k0_pay70 i (ix2 z r))
      = BitVec.ofBool (decide (a + s.val ≤ 256 * (i 2).val + r.val)) := by
  have h : k0_pay70 i (ix2 z r) = BitVec.ofNat 32 (256 * (i 2).val + r.val) := by
    unfold k0_pay70
    pointwise
    show BitVec.ofNat 32 (i 2).val * BitVec.ofNat 32 256 + BitVec.ofNat 32 r.val = _
    rw [← BitVec.ofNat_mul, ← BitVec.ofNat_add, Nat.mul_comm]
  have hi : (i 2).val < 8 := (i 2).isLt
  rw [h, hb, show IntOp.addi (BitVec.ofNat 32 a) (BitVec.ofNat 32 s.val) = BitVec.ofNat 32 (a + s.val) from (BitVec.ofNat_add ..).symm,
    cmpi_sle_ofNat (by have := s.isLt; omega) (by have := r.isLt; omega)]

/-- A score tile of keys from `a`, queries from `256 q`: the real score of a seen key, `⊥` elsewhere. -/
def IsTile (S : FVec Ideal S1024x512 .f32) (a q : ℕ) (y : ℕ → ℕ → ℕ → ℝ) : Prop :=
  ∀ (s : Fin 1024) (j : Fin 512), S (ix2 s j)
    = if a + s.val ≤ 256 * q + j.val % 256 then (y (j.val / 256) (j.val % 256) (a + s.val) : EReal) else ⊥

/-- A first head's score in powers of two: the scaled product less the key's log decay. -/
def yF (K : ℕ → ℕ → ℝ) (Q : ℕ → ℕ → ℝ) (C : ℕ → ℕ → ℝ) (hh r s : ℕ) : ℝ :=
  dot (K s) (Q r) hh * ((1 / 8) * (Real.log 2)⁻¹) + C hh s

theorem pay15_val (v6 : Vec Ideal S1x256x128 .f32) (v68 : Vec Ideal S1024x128 .bf16) (v70 v73 : Vec Ideal S1x1024x128 .f32)
    (a : ℕ) (K Q C : ℕ → ℕ → ℝ) (hk : ∀ (s : Fin 1024) (l : Fin 128), v68 (ix2 s l) = (K (a + s.val) l.val : EReal))
    (hq : ∀ (r : Fin 256) (l : Fin 128), v6 (ix3 0 r l) = (Q r.val l.val : EReal))
    (hc0 : ∀ (s : Fin 1024) (l : Fin 128), v70 (ix3 0 s l) = (C 0 (a + s.val) : EReal))
    (hc1 : ∀ (s : Fin 1024) (l : Fin 128), v73 (ix3 0 s l) = (C 1 (a + s.val) : EReal)) (s : Fin 1024) (j : Fin 512) :
    k0_pay15 (k0_pay69 v6) v68 v70 v73 (ix2 s j) = (yF K Q C (j.val / 256) (j.val % 256) (a + s.val) : EReal) := by
  have hj := j.isLt
  unfold k0_pay15
  pointwise
  rw [dot_half (fun l => v68 (ix2 s l)) v6 (K (a + s.val)) Q j (hk s) hq]
  unfold yF
  rw [EReal.coe_add]
  refine congrArg _ ?_
  by_cases h : j.val < 256
  · rw [dif_pos h, show j.val / 256 = 0 by omega]; split_ifs <;> exact hc0 _ _
  · rw [dif_neg h, show j.val / 256 = 1 by omega]; split_ifs <;> exact hc1 _ _

theorem tile_pay15 (v6 : Vec Ideal S1x256x128 .f32) (v68 : Vec Ideal S1024x128 .bf16) (v70 v73 : Vec Ideal S1x1024x128 .f32)
    (q : ℕ) (hq4 : 4 ≤ q) (K Q C : ℕ → ℕ → ℝ) (hk : ∀ (s : Fin 1024) (l : Fin 128), v68 (ix2 s l) = (K (0 + s.val) l.val : EReal))
    (hq : ∀ (r : Fin 256) (l : Fin 128), v6 (ix3 0 r l) = (Q r.val l.val : EReal))
    (hc0 : ∀ (s : Fin 1024) (l : Fin 128), v70 (ix3 0 s l) = (C 0 (0 + s.val) : EReal))
    (hc1 : ∀ (s : Fin 1024) (l : Fin 128), v73 (ix3 0 s l) = (C 1 (0 + s.val) : EReal)) :
    IsTile (k0_pay15 (k0_pay69 v6) v68 v70 v73) 0 q (yF K Q C) := by
  intro s j
  rw [pay15_val v6 v68 v70 v73 0 K Q C hk hq hc0 hc1, if_pos (by have := s.isLt; omega)]

/-- A real score plus the mask. -/
theorem add_mask (x : ℝ) (p : Prop) [Decidable p] :
    (x : EReal) + (if p then (0 : EReal) else ⊥) = if p then (x : EReal) else ⊥ := by
  split
  · exact add_zero _
  · exact EReal.add_bot _

theorem tile_pay27 (i : grid0.Coords) (v98 : BitVec 32) (a : ℕ) (ha : a ≤ 1024) (hv : v98 = BitVec.ofNat 32 a)
    (v6 : Vec Ideal S1x256x128 .f32) (v68 : Vec Ideal S1024x128 .bf16) (v70 v73 : Vec Ideal S1x1024x128 .f32)
    (K Q C : ℕ → ℕ → ℝ) (hk : ∀ (s : Fin 1024) (l : Fin 128), v68 (ix2 s l) = (K (a + s.val) l.val : EReal))
    (hq : ∀ (r : Fin 256) (l : Fin 128), v6 (ix3 0 r l) = (Q r.val l.val : EReal))
    (hc0 : ∀ (s : Fin 1024) (l : Fin 128), v70 (ix3 0 s l) = (C 0 (a + s.val) : EReal))
    (hc1 : ∀ (s : Fin 1024) (l : Fin 128), v73 (ix3 0 s l) = (C 1 (a + s.val) : EReal)) :
    IsTile (k0_pay27 (k0_pay69 v6) (k0_pay70 i) v98 v68 v70 v73) a (i 2).val (yF K Q C) := by
  intro s j
  have hj := j.isLt
  have h15 := pay15_val v6 v68 v70 v73 a K Q C hk hq hc0 hc1 s j
  have e : k0_pay27 (k0_pay69 v6) (k0_pay70 i) v98 v68 v70 v73 (ix2 s j)
      = k0_pay15 (k0_pay69 v6) v68 v70 v73 (ix2 s j)
        + (if a + s.val ≤ 256 * (i 2).val + j.val % 256 then (0 : EReal) else ⊥) := by
    unfold k0_pay27 k0_pay15
    pointwise
    refine congrArg _ ?_
    rw [named_mask]
    by_cases h : j.val < 256
    · rw [dif_pos h, mask_val i a ha v98 hv, select_ofBool]
      simp only [decide_eq_true_eq, Nat.mod_eq_of_lt h]
    · rw [dif_neg h, mask_val i a ha v98 hv, select_ofBool]
      simp only [decide_eq_true_eq, show j.val % 256 = j.val - 256 by omega]
  rw [e, h15, add_mask]

theorem pay1_eq (v19 v23 v68 v70 v73) : k0_pay1 (F := Ideal) v19 v23 v68 v70 v73 = k0_pay27 v19 v23 0#32 v68 v70 v73 := rfl

/-! ### The other heads -/

/-- A later head's score in powers of two: the scaled product plus the position bias. -/
def yD (K : ℕ → ℕ → ℝ) (Q : ℕ → ℕ → ℝ) (β : ℕ → ℕ → ℝ) (hh r s : ℕ) : ℝ :=
  dot (K s) (Q r) hh * ((1 / 8) * (Real.log 2)⁻¹) + β r s * (Real.log 2)⁻¹

/-- The four position blocks of a tile: real, and the bias wherever the key is seen. -/
def IsBias (B : Fin 4 → Vec Ideal S1x1x256x256 .f32) (a q : ℕ) (β : ℕ → ℕ → ℝ) : Prop :=
  ∀ (k : Fin 4) (x y : Fin 256), ∃ b : ℝ, B k (ix4 0 0 x y) = (b : EReal)
    ∧ (a + (256 * k.val + x.val) ≤ 256 * q + y.val → b = β y.val (a + (256 * k.val + x.val)))

theorem pick (B : Fin 4 → Vec Ideal S1x1x256x256 .f32) {k k' : Fin 4} {x x' y y' : Fin 256} (hk : k.val = k'.val)
    (hx : x.val = x'.val) (hy : y.val = y'.val) : B k (ix4 0 0 x y) = B k' (ix4 0 0 x' y') := by
  rw [Fin.ext hk, Fin.ext hx, Fin.ext hy]

theorem pay31_val (B : Fin 4 → Vec Ideal S1x1x256x256 .f32) (a q : ℕ) (β : ℕ → ℕ → ℝ) (hB : IsBias B a q β) (s : Fin 1024) (j : Fin 512) :
    ∃ b : ℝ, k0_pay31 (B 0) (B 1) (B 2) (B 3) (ix2 s j) = ((b * (Real.log 2)⁻¹ : ℝ) : EReal)
      ∧ (a + s.val ≤ 256 * q + j.val % 256 → b = β (j.val % 256) (a + s.val)) := by
  have hj := j.isLt
  have hs := s.isLt
  obtain ⟨b, hb, hb'⟩ := hB ⟨s.val / 256, by omega⟩ ⟨s.val % 256, Nat.mod_lt _ (by norm_num)⟩ ⟨j.val % 256, Nat.mod_lt _ (by norm_num)⟩
  refine ⟨b, ?_, fun h => ?_⟩
  · rw [EReal.coe_mul, ← hb]
    unfold k0_pay31
    pointwise
    rw [named_log2e]
    have e0 : ((0 : Fin 4) : ℕ) = 0 := rfl
    have e1 : ((1 : Fin 4) : ℕ) = 1 := rfl
    have e2 : ((2 : Fin 4) : ℕ) = 2 := rfl
    have e3 : ((3 : Fin 4) : ℕ) = 3 := rfl
    split_ifs <;> refine congrArg (fun x => x * _) (pick B ?_ ?_ ?_) <;> simp only [e0, e1, e2, e3] <;> omega
  · have e : 256 * (s.val / 256) + s.val % 256 = s.val := Nat.div_add_mod _ _
    have := hb' (by dsimp only; rw [e]; exact h)
    rw [this]; dsimp only; rw [e]

/-- A real product plus a real bias, with the value the seen keys have. -/
theorem tile_of (S : FVec Ideal S1024x512 .f32) (a q : ℕ) (y : ℕ → ℕ → ℕ → ℝ)
    (h : ∀ (s : Fin 1024) (j : Fin 512), ∃ x : ℝ, (a + s.val ≤ 256 * q + j.val % 256 → x = y (j.val / 256) (j.val % 256) (a + s.val))
      ∧ S (ix2 s j) = (x : EReal) + (if a + s.val ≤ 256 * q + j.val % 256 then (0 : EReal) else ⊥)) : IsTile S a q y := by
  intro s j
  obtain ⟨x, hx, hS⟩ := h s j
  rw [hS, add_mask]
  by_cases hc : a + s.val ≤ 256 * q + j.val % 256
  · rw [if_pos hc, if_pos hc, hx hc]
  · rw [if_neg hc, if_neg hc]

theorem pay30_val (v6 : Vec Ideal S1x256x128 .f32) (v100 : Vec Ideal S1024x128 .bf16)
    (a : ℕ) (K Q : ℕ → ℕ → ℝ) (hk : ∀ (s : Fin 1024) (l : Fin 128), v100 (ix2 s l) = (K (a + s.val) l.val : EReal))
    (hq : ∀ (r : Fin 256) (l : Fin 128), v6 (ix3 0 r l) = (Q r.val l.val : EReal)) (s : Fin 1024) (j : Fin 512) :
    k0_pay30 (k0_pay69 v6) v100 (ix2 s j)
      = ((dot (K (a + s.val)) (Q (j.val % 256)) (j.val / 256) * ((1 / 8) * (Real.log 2)⁻¹) : ℝ) : EReal) := by
  unfold k0_pay30
  pointwise
  exact dot_half (fun l => v100 (ix2 s l)) v6 (K (a + s.val)) Q j (hk s) hq

theorem tile_pay44 (v6 : Vec Ideal S1x256x128 .f32) (v100 : Vec Ideal S1024x128 .bf16) (B : Fin 4 → Vec Ideal S1x1x256x256 .f32)
    (q : ℕ) (hq4 : 4 ≤ q) (K Q β : ℕ → ℕ → ℝ) (hk : ∀ (s : Fin 1024) (l : Fin 128), v100 (ix2 s l) = (K (0 + s.val) l.val : EReal))
    (hq : ∀ (r : Fin 256) (l : Fin 128), v6 (ix3 0 r l) = (Q r.val l.val : EReal)) (hB : IsBias B 0 q β) :
    IsTile (addf (k0_pay30 (k0_pay69 v6) v100) (k0_pay31 (B 0) (B 1) (B 2) (B 3))) 0 q (yD K Q β) := by
  refine tile_of _ _ _ _ fun s j => ?_
  obtain ⟨b, hb, hb'⟩ := pay31_val B 0 q β hB s j
  refine ⟨dot (K (0 + s.val)) (Q (j.val % 256)) (j.val / 256) * ((1 / 8) * (Real.log 2)⁻¹) + b * (Real.log 2)⁻¹, fun h => ?_, ?_⟩
  · rw [hb' h]; rfl
  · rw [if_pos (by have := s.isLt; omega), add_zero, EReal.coe_add, ← hb, ← pay30_val v6 v100 0 K Q hk hq s j]
    rfl

/-- The mask added to a score tile. -/
theorem pay60_split (i : grid0.Coords) (v101 v130 : FVec Ideal S1024x512 .f32) (s : Fin 1024) (j : Fin 512) :
    k0_pay60 (k0_pay70 i) v101 v130 (ix2 s j) = (v101 (ix2 s j) + v130 (ix2 s j))
        + (if 0 + s.val ≤ 256 * (i 2).val + j.val % 256 then (0 : EReal) else ⊥) := by
  have hj := j.isLt
  unfold k0_pay60
  pointwise
  refine congrArg _ ?_
  rw [named_mask]
  by_cases h : j.val < 256
  · rw [dif_pos h, mask_val i 0 (by norm_num) 0#32 rfl, select_ofBool]
    simp only [decide_eq_true_eq, Nat.zero_add, Nat.mod_eq_of_lt h]
  · rw [dif_neg h, mask_val i 0 (by norm_num) 0#32 rfl, select_ofBool]
    simp only [decide_eq_true_eq, Nat.zero_add, show j.val % 256 = j.val - 256 by omega]

theorem tile_pay60 (i : grid0.Coords) (v6 : Vec Ideal S1x256x128 .f32) (v100 : Vec Ideal S1024x128 .bf16) (B : Fin 4 → Vec Ideal S1x1x256x256 .f32)
    (K Q β : ℕ → ℕ → ℝ) (hk : ∀ (s : Fin 1024) (l : Fin 128), v100 (ix2 s l) = (K (0 + s.val) l.val : EReal))
    (hq : ∀ (r : Fin 256) (l : Fin 128), v6 (ix3 0 r l) = (Q r.val l.val : EReal)) (hB : IsBias B 0 (i 2).val β) :
    IsTile (k0_pay60 (k0_pay70 i) (k0_pay30 (k0_pay69 v6) v100) (k0_pay31 (B 0) (B 1) (B 2) (B 3))) 0 (i 2).val (yD K Q β) := by
  refine tile_of _ _ _ _ fun s j => ?_
  obtain ⟨b, hb, hb'⟩ := pay31_val B 0 (i 2).val β hB s j
  refine ⟨dot (K (0 + s.val)) (Q (j.val % 256)) (j.val / 256) * ((1 / 8) * (Real.log 2)⁻¹) + b * (Real.log 2)⁻¹, fun h => ?_, ?_⟩
  · rw [hb' h]; rfl
  · rw [pay60_split, pay30_val v6 v100 0 K Q hk hq s j, hb, EReal.coe_add]

theorem tile_pay58 (i : grid0.Coords) (v152 : BitVec 32) (a : ℕ) (ha : a ≤ 1024) (hv : v152 = BitVec.ofNat 32 a)
    (v6 : Vec Ideal S1x256x128 .f32) (v100 : Vec Ideal S1024x128 .bf16) (B : Fin 4 → Vec Ideal S1x1x256x256 .f32)
    (K Q β : ℕ → ℕ → ℝ) (hk : ∀ (s : Fin 1024) (l : Fin 128), v100 (ix2 s l) = (K (a + s.val) l.val : EReal))
    (hq : ∀ (r : Fin 256) (l : Fin 128), v6 (ix3 0 r l) = (Q r.val l.val : EReal)) (hB : IsBias B a (i 2).val β) :
    IsTile (k0_pay58 (k0_pay70 i) v152 (k0_pay56 (k0_pay69 v6) v100) (k0_pay57 (B 0)) (B 1) (B 2) (B 3)) a (i 2).val (yD K Q β) := by
  refine tile_of _ _ _ _ fun s j => ?_
  have hj := j.isLt
  obtain ⟨b, hb, hb'⟩ := pay31_val B a (i 2).val β hB s j
  refine ⟨dot (K (a + s.val)) (Q (j.val % 256)) (j.val / 256) * ((1 / 8) * (Real.log 2)⁻¹) + b * (Real.log 2)⁻¹, fun h => ?_, ?_⟩
  · rw [hb' h]; rfl
  · rw [EReal.coe_add, ← hb, ← pay30_val v6 v100 a K Q hk hq s j]
    unfold k0_pay58 k0_pay56 k0_pay57 k0_pay30 k0_pay31
    pointwise
    refine congrArg _ ?_
    rw [named_mask]
    by_cases h : j.val < 256
    · rw [dif_pos h, mask_val i a ha v152 hv, select_ofBool]
      simp only [decide_eq_true_eq, Nat.mod_eq_of_lt h]
    · rw [dif_neg h, mask_val i a ha v152 hv, select_ofBool]
      simp only [decide_eq_true_eq, show j.val % 256 = j.val - 256 by omega]

/-! ### The quotient of the accumulators is the attention -/

/-- The quotient of a value row of the accumulator by its row of ones. -/
def quo (acc : FVec Ideal S144x512 .f32) (r : Fin 128) (j : Fin 512) : EReal :=
  Ideal.div (acc (ix2 ⟨r.val, by omega⟩ j)) (acc (ix2 128 j))

/-- A tile of values over ones, keys from `a`. -/
def IsVals (v : FVec Ideal S144x1024 .bf16) (a : ℕ) (V : ℕ → ℕ → EReal) : Prop :=
  (∀ (r : Fin 128) (s : Fin 1024), v (ix2 ⟨r.val, by omega⟩ s) = V r.val (a + s.val)) ∧ ∀ s : Fin 1024, v (ix2 128 s) = 1

theorem quo_one (S : FVec Ideal S1024x512 .f32) (v : FVec Ideal S144x1024 .bf16) (q : ℕ) (y : ℕ → ℕ → ℕ → ℝ) (V : ℕ → ℕ → EReal)
    (hS : IsTile S 0 q y) (hv : IsVals v 0 V) (hq : q < 4) (r : Fin 128) (j : Fin 512) (L : ℕ → ℝ) (κ : ℝ)
    (hy : ∀ s, y (j.val / 256) (j.val % 256) s * Real.log 2 = L s + κ) :
    quo (tacc S (tmax S) v) r j = att L (V r.val) (256 * q + j.val % 256) := by
  unfold quo
  rw [tacc_apply, tacc_apply, ← att_one L (V r.val) (256 * q + j.val % 256) (by omega) (y (j.val / 256) (j.val % 256)) κ
    (fun s => S (ix2 s j)) (fun s => hS s j) hy (tmax S (ix2 0 j)) (tmax_apply S 0 j)]
  simp only [hv.1, hv.2]

theorem quo_two (S₀ S₁ : FVec Ideal S1024x512 .f32) (v₀ v₁ : FVec Ideal S144x1024 .bf16) (q : ℕ) (y : ℕ → ℕ → ℕ → ℝ) (V : ℕ → ℕ → EReal)
    (hS₀ : IsTile S₀ 0 q y) (hS₁ : IsTile S₁ 1024 q y) (hv₀ : IsVals v₀ 0 V) (hv₁ : IsVals v₁ 1024 V) (hq : 4 ≤ q)
    (r : Fin 128) (j : Fin 512) (L : ℕ → ℝ) (κ : ℝ) (hy : ∀ s, y (j.val / 256) (j.val % 256) s * Real.log 2 = L s + κ) :
    quo (tupd (tmax S₀) (maximumf (tmax S₀) (tmax S₁)) (tacc S₀ (tmax S₀) v₀) (tacc S₁ (maximumf (tmax S₀) (tmax S₁)) v₁)) r j
      = att L (V r.val) (256 * q + j.val % 256) := by
  unfold quo
  rw [tupd_apply, tupd_apply, tacc_apply, tacc_apply, tacc_apply, tacc_apply,
    ← att_two L (V r.val) (256 * q + j.val % 256) (by omega) (y (j.val / 256) (j.val % 256)) κ
    (fun s => S₀ (ix2 s j)) (fun s => S₁ (ix2 s j)) (fun s => hS₀ s j) (fun s => hS₁ s j) hy (tmax S₀ (ix2 0 j))
    (maximumf (tmax S₀) (tmax S₁) (ix2 0 j)) (tmax_apply S₀ 0 j) (by rw [← tmax_apply S₁ 0 j]; rfl)]
  simp only [hv₀.1, hv₀.2, hv₁.1, hv₁.2]

/-! ### What is stored -/

theorem pay6_apply (v53 : Vec Ideal S144x512 .f32) (l : Fin 64) (r : Fin 256) :
    k0_pay6 v53 (ix3 0 l r) = quo v53 ⟨l.val, by omega⟩ ⟨r.val, by omega⟩ := by
  unfold k0_pay6
  pointwise
  rfl

theorem pay7_apply (v53 : Vec Ideal S144x512 .f32) (l : Fin 64) (r : Fin 256) :
    k0_pay7 v53 (ix3 0 l r) = quo v53 ⟨64 + l.val, by omega⟩ ⟨256 + r.val, by omega⟩ := by
  unfold k0_pay7
  pointwise
  rfl

/-- The factor of the second map, from the four rows of its parameters. -/
def lamv (w : Fin 4 → Fin 64 → EReal) : EReal :=
  Ideal.exp (∑ x : Fin 64, w 0 x * w 1 x) - Ideal.exp (∑ x : Fin 64, w 2 x * w 3 x) + Ideal.ofBits FTy.f32 0x3E4CCCCD#32

/-- A row divided by its root mean square, times the gain and 0.8. -/
def normed (o : Fin 128 → EReal) (g : EReal) (l : Fin 128) : EReal :=
  o l * Ideal.rsqrt (Ideal.div (∑ x : Fin 128, o x * o x) (Ideal.ofBits FTy.f32 0x43000000#32) + Ideal.ofBits FTy.f32 0x358637BD#32)
    * g * Ideal.ofBits FTy.f32 0x3F4CCCCD#32

theorem pay8_apply (v53 : Vec Ideal S144x512 .f32) (v54 : Vec Ideal S4x64 .f32) (v91 : Vec Ideal S128x1 .f32) (l : Fin 128) (r : Fin 256) :
    k0_pay8 (k0_pay67 v53 v54) v91 (ix3 0 l r)
      = normed (fun x => quo v53 x ⟨r.val, by omega⟩ - lamv (fun a b => v54 (ix2 a b)) * quo v53 x ⟨256 + r.val, by omega⟩)
          (v91 (ix2 l 0)) l := by
  unfold k0_pay8 k0_pay67
  pointwise
  rfl

/-! ### The scratches' contents -/

theorem pay9_apply (v47 : Vec Ideal S1x128x2048 .f32) (s : Fin 2048) (l : Fin 128) : k0_pay9 v47 (ix2 s l) = v47 (ix3 0 l s) := by
  unfold k0_pay9
  pointwise

theorem pay10_apply (v54 : Vec Ideal S1x128x2048 .f32) (l : Fin 128) (s : Fin 2048) : k0_pay10 v54 (ix2 l s) = v54 (ix3 0 l s) := by
  unfold k0_pay10
  pointwise

theorem pay11_apply (l : Fin 16) (s : Fin 2048) : k0_pay11 (F := Ideal) (ix2 l s) = 1 := by
  unfold k0_pay11
  pointwise

theorem pay12_apply (v64 : Vec Ideal S1x1x1x2048 .f32) (s : Fin 2048) (l : Fin 128) :
    k0_pay12 v64 (ix3 0 s l) = v64 (ix4 0 0 0 s) * ((-((Real.log 2)⁻¹) : ℝ) : EReal) := by
  unfold k0_pay12
  pointwise
  rw [named_neg]

theorem pay68_apply (v64 : Vec Ideal S1x1x1x2048 .f32) (s : Fin 2048) (l : Fin 128) :
    k0_pay68 (k0_pay13 v64) (k0_pay14 (F := Ideal)) (ix3 0 s l) = v64 (ix4 0 0 0 s) * ((-((Real.log 2)⁻¹) : ℝ) : EReal) := by
  unfold k0_pay68 k0_pay13 k0_pay14
  pointwise
  rw [named_neg]

end Cert.KernelIdeal.Tile

end
-- ==== Proof.Tiles2.lean ====
/- One query tile's attention from its loaded key and value tiles: the heads with forgetting and the heads with
   position biases, with one and with two key tiles. -/
module

public import Idealize.ShloMosaic.Lib.Pipeline.ValueKit
public import proofs.«01_k».proof.Proof.Tile

@[expose] public section

set_option maxRecDepth 16384

noncomputable section

open Idealize.ShloMosaic Idealize.ShloMosaic.TcCoe

namespace Cert.KernelIdeal.Tile

open Cert.KernelIdeal Cert.KernelIdeal.Gen Cert.Attn

/-- The keys of a tile from `a`. -/
def IsKeys (v : Vec Ideal S1024x128 .bf16) (a : ℕ) (K : ℕ → ℕ → ℝ) : Prop :=
  ∀ (s : Fin 1024) (l : Fin 128), v (ix2 s l) = (K (a + s.val) l.val : EReal)
/-- The queries of a tile. -/
def IsQueries (v : Vec Ideal S1x256x128 .f32) (Q : ℕ → ℕ → ℝ) : Prop :=
  ∀ (r : Fin 256) (l : Fin 128), v (ix3 0 r l) = (Q r.val l.val : EReal)
/-- The keys' additive terms of a tile from `a`, the same in every lane. -/
def IsTerm (v : Vec Ideal S1x1024x128 .f32) (a : ℕ) (C : ℕ → ℝ) : Prop :=
  ∀ (s : Fin 1024) (l : Fin 128), v (ix3 0 s l) = (C (a + s.val) : EReal)

variable (i : grid0.Coords) (v6 : Vec Ideal S1x256x128 .f32) (k₀ k₁ : Vec Ideal S1024x128 .bf16)
  (c₀ c₁ d₀ d₁ : Vec Ideal S1x1024x128 .f32) (w₀ w₁ : FVec Ideal S144x1024 .bf16) (K Q C β : ℕ → ℕ → ℝ) (V : ℕ → ℕ → EReal)
  (A B : Fin 4 → Vec Ideal S1x1x256x256 .f32) (b : BitVec 32) (hb : b = BitVec.ofNat 32 1024)
  (hq : IsQueries v6 Q) (hk₀ : IsKeys k₀ 0 K) (hk₁ : IsKeys k₁ 1024 K)
  (hc₀ : IsTerm c₀ 0 (C 0)) (hc₁ : IsTerm c₁ 0 (C 1)) (hd₀ : IsTerm d₀ 1024 (C 0)) (hd₁ : IsTerm d₁ 1024 (C 1))
  (hw₀ : IsVals w₀ 0 V) (hw₁ : IsVals w₁ 1024 V) (hA : IsBias A 0 (i 2).val β) (hB : IsBias B 1024 (i 2).val β)
  (r : Fin 128) (j : Fin 512) (L : ℕ → ℝ) (κ : ℝ)

include hq hk₀ hc₀ hc₁ hw₀ in
theorem fox_small (hi : (i 2).val < 4) (hy : ∀ s, yF K Q C (j.val / 256) (j.val % 256) s * Real.log 2 = L s + κ) :
    quo (k0_pay3 (k0_pay69 v6) (k0_pay70 i) k₀ c₀ c₁ w₀) r j = att L (V r.val) (256 * (i 2).val + j.val % 256) := by
  rw [pay3_eq, pay1_eq]
  exact quo_one _ _ _ (yF K Q C) V (tile_pay27 i 0#32 0 (by norm_num) rfl v6 k₀ c₀ c₁ K Q C hk₀ hq hc₀ hc₁) hw₀ hi r j L κ hy

include hb hq hk₀ hc₀ hc₁ hw₀ hk₁ hd₀ hd₁ hw₁ in
theorem fox_big (hi : 4 ≤ (i 2).val) (hy : ∀ s, yF K Q C (j.val / 256) (j.val % 256) s * Real.log 2 = L s + κ) :
    quo (k0_pay29 (k0_pay69 v6) (k0_pay70 i) b k₁ d₀ d₁ (k0_pay18 (k0_pay69 v6) k₀ c₀ c₁) w₁ (k0_pay17 (k0_pay69 v6) k₀ c₀ c₁ w₀)) r j
      = att L (V r.val) (256 * (i 2).val + j.val % 256) := by
  rw [pay29_eq, pay18_eq, pay17_eq]
  exact quo_two _ _ _ _ _ (yF K Q C) V (tile_pay15 v6 k₀ c₀ c₁ _ hi K Q C hk₀ hq hc₀ hc₁)
    (tile_pay27 i b 1024 (by norm_num) hb v6 k₁ d₀ d₁ K Q C hk₁ hq hd₀ hd₁) hw₀ hw₁ hi r j L κ hy

include hq hk₀ hw₀ hA in
theorem dif_small (hi : (i 2).val < 4) (hy : ∀ s, yD K Q β (j.val / 256) (j.val % 256) s * Real.log 2 = L s + κ) :
    quo (k0_pay62 (k0_pay70 i) (k0_pay30 (k0_pay69 v6) k₀) (k0_pay31 (A 0) (A 1) (A 2) (A 3)) w₀) r j
      = att L (V r.val) (256 * (i 2).val + j.val % 256) := by
  rw [pay62_eq]
  exact quo_one _ _ _ (yD K Q β) V (tile_pay60 i v6 k₀ A K Q β hk₀ hq hA) hw₀ hi r j L κ hy

include hb hq hk₀ hw₀ hk₁ hw₁ hA hB in
theorem dif_big (hi : 4 ≤ (i 2).val) (hy : ∀ s, yD K Q β (j.val / 256) (j.val % 256) s * Real.log 2 = L s + κ) :
    quo (k0_pay65 (k0_pay58 (k0_pay70 i) b (k0_pay56 (k0_pay69 v6) k₁) (k0_pay57 (B 0)) (B 1) (B 2) (B 3))
        (k0_pay59 (k0_pay70 i) b (k0_pay56 (k0_pay69 v6) k₁) (k0_pay57 (B 0)) (B 1) (B 2) (B 3))
        (k0_pay47 (k0_pay42 (k0_pay69 v6) k₀) (k0_pay43 (A 0) (A 1) (A 2) (A 3))) w₁
        (k0_pay46 (k0_pay42 (k0_pay69 v6) k₀) (k0_pay43 (A 0) (A 1) (A 2) (A 3)) w₀)) r j
      = att L (V r.val) (256 * (i 2).val + j.val % 256) := by
  rw [pay65_eq, pay59_eq, pay47_eq, pay46_eq]
  exact quo_two _ _ _ _ _ (yD K Q β) V (tile_pay44 v6 k₀ A _ hi K Q β hk₀ hq hA)
    (tile_pay58 i b 1024 (by norm_num) hb v6 k₁ B K Q β hk₁ hq hB) hw₀ hw₁ hi r j L κ hy

end Cert.KernelIdeal.Tile

end
-- ==== Proof.Bucket.lean ====
/- The distance bucket of the position bias, as a word and as a number below 32; a row of a table picked by comparing
   the bucket with every row number. -/
module

public import Idealize.ShloMosaic.Lib.Pipeline.ValueKit
public import Idealize.ShloMosaic.Lib.IdealHost
public import proofs.«01_k».proof.Proof.Math

@[expose] public section

set_option maxRecDepth 16384

noncomputable section

open Idealize.ShloMosaic

namespace Cert.Attn

/-- The bucket of a distance, as the programs compute it. -/
def bk (w : BitVec 32) : BitVec 32 :=
  Scalar.select (IntOp.cmpi .slt (IntOp.maxsi w 0#32) 16#32) (IntOp.maxsi w 0#32)
    (IntOp.minsi (IntOp.addi 16#32 (FloatOps.fptosi (F := Ideal) (φ := .f32) 32
      (Ideal.div (Ideal.log (Ideal.div (FloatOps.sitofp (F := Ideal) .f32 (IntOp.maxsi (IntOp.maxsi w 0#32) 1#32))
        (Ideal.ofBits .f32 1098907648#32))) (Ideal.ofBits .f32 1082463634#32) * Ideal.ofBits .f32 1098907648#32))) 31#32)

/-- The bucket of a distance as a number. -/
def bkn (n : ℕ) : ℕ := (bk (BitVec.ofNat 32 n)).toNat

theorem max_zero : ∀ n : Fin 2048, IntOp.maxsi (BitVec.ofNat 32 n.val) 0#32 = BitVec.ofNat 32 n.val := by decide +kernel
theorem max_one : ∀ n : Fin 2048, 16 ≤ n.val → IntOp.maxsi (BitVec.ofNat 32 n.val) 1#32 = BitVec.ofNat 32 n.val := by decide +kernel
theorem lt_16 : ∀ n : Fin 2048, IntOp.cmpi .slt (BitVec.ofNat 32 n.val) 16#32 = BitVec.ofBool (decide (n.val < 16)) := by decide +kernel
theorem min_31 : ∀ k : Fin 1024, (IntOp.minsi (IntOp.addi 16#32 (BitVec.ofNat 32 k.val)) 31#32).toNat < 32 := by decide +kernel
theorem toInt_nat : ∀ n : Fin 2048, (BitVec.ofNat 32 n.val).toInt = n.val := by decide +kernel

theorem c16 : Ideal.ofBits .f32 1098907648#32 = ((16 : ℝ) : EReal) := by
  have h : BitVec.extractLsb' 31 1 1098907648#32 = 0#1 := by decide
  rw [Ideal.ofBits]; norm_num [Ideal.ieee, Nat.shiftRight_eq_div_pow, h]

theorem c64 : ∃ r : ℝ, 4 ≤ r ∧ Ideal.ofBits .f32 1082463634#32 = (r : EReal) := by
  refine ⟨8721810 / 2097152, by norm_num, ?_⟩
  have h : BitVec.extractLsb' 31 1 1082463634#32 = 0#1 := by decide
  rw [Ideal.ofBits]; norm_num [Ideal.ieee, Nat.shiftRight_eq_div_pow, h]

/-- A real between 0 and 1023 converts to a word of its integer part. -/
theorem fptosi_small (r : ℝ) (h0 : 0 ≤ r) (h1 : r ≤ 1000) :
    ∃ k : Fin 1024, FloatOps.fptosi (F := Ideal) (φ := .f32) 32 (r : EReal) = BitVec.ofNat 32 k.val := by
  have hf0 : 0 ≤ ⌊r⌋ := Int.floor_nonneg.mpr h0
  have hf1 : ⌊r⌋ ≤ 1000 := by
    have := Int.floor_le r
    exact_mod_cast (show ((⌊r⌋ : ℤ) : ℝ) ≤ ((1000 : ℤ) : ℝ) by push_cast; linarith)
  obtain ⟨k, hk⟩ := Int.eq_ofNat_of_zero_le hf0
  refine ⟨⟨k, by omega⟩, ?_⟩
  show Ideal.fptosi 32 (r : EReal) = _
  rw [Ideal.fptosi, Ideal.toIntClamped_coe, if_pos h0, hk]
  have : max (-((2 ^ (32 - 1) : ℕ) : ℤ)) (min (((2 ^ (32 - 1) : ℕ) : ℤ) - 1) ((k : ℕ) : ℤ)) = (k : ℤ) := by
    norm_num; omega
  rw [this, BitVec.ofInt_natCast]

theorem bk_lt (n : ℕ) (hn : n < 2048) : bkn n < 32 := by
  unfold bkn bk
  rw [max_zero ⟨n, hn⟩, lt_16 ⟨n, hn⟩]
  by_cases h : n < 16
  · simp only [h, decide_true]
    show (BitVec.ofNat 32 n).toNat < 32
    rw [BitVec.toNat_ofNat]; omega
  · simp only [h, decide_false]
    show (IntOp.minsi _ _).toNat < 32
    rw [max_one ⟨n, hn⟩ (by show 16 ≤ n; omega)]
    obtain ⟨c, hc, hcv⟩ := c64
    have hs : FloatOps.sitofp (F := Ideal) .f32 (BitVec.ofNat 32 n) = ((n : ℝ) : EReal) := by
      show (((BitVec.ofNat 32 n).toInt : ℝ) : EReal) = _
      rw [toInt_nat ⟨n, hn⟩]; rfl
    have hn16 : (16 : ℝ) ≤ n := by exact_mod_cast (by omega : 16 ≤ n)
    have hn2 : (n : ℝ) ≤ 2048 := by exact_mod_cast hn.le
    have hc0' : c ≠ 0 := (lt_of_lt_of_le (by norm_num) hc).ne'
    rw [hs, c16, hcv, Ideal.div_coe (show (16 : ℝ) ≠ 0 by norm_num), ← EReal.coe_mul]
    have hpos : (0 : ℝ) < n * (1 / 16) := by linarith
    have hlog : Ideal.log (((n : ℝ) * (1 / 16) : ℝ) : EReal) = ((Real.log (n * (1 / 16)) : ℝ) : EReal) := by
      rw [Ideal.log_coe, if_neg (not_le.mpr hpos)]
    rw [hlog, Ideal.div_coe hc0', ← EReal.coe_mul, ← EReal.coe_mul]
    have hl0 : 0 ≤ Real.log (n * (1 / 16)) := Real.log_nonneg (by linarith)
    have hl1 : Real.log (n * (1 / 16)) ≤ 127 := by
      have := Real.log_le_sub_one_of_pos hpos
      linarith
    have hc4 : 1 / c ≤ 1 / 4 := one_div_le_one_div_of_le (by norm_num) hc
    have hc0 : 0 ≤ 1 / c := by positivity
    obtain ⟨k, hk⟩ := fptosi_small (Real.log (n * (1 / 16)) * (1 / c) * 16) (by positivity) (by nlinarith)
    rw [hk]
    exact min_31 k

theorem bk_max : ∀ n : Fin 2048, bk (IntOp.maxsi (BitVec.ofNat 32 n.val) 0#32) = bk (BitVec.ofNat 32 n.val) := by
  intro n; rw [max_zero n]

/-- The row of a real table that a word names, as a product with the comparisons against every row number. -/
theorem pick_row (T : Fin 32 → ℝ) (w : BitVec 32) :
    ∃ b : ℝ, (∑ k : Fin 32, (T k : EReal) * FloatOps.uitofp (F := Ideal) .f32 (IntOp.cmpi .eq w (BitVec.ofNat 32 k.val))) = (b : EReal)
      ∧ ∀ h : w.toNat < 32, b = T ⟨w.toNat, h⟩ := by
  have hu : ∀ k : Fin 32, FloatOps.uitofp (F := Ideal) .f32 (IntOp.cmpi .eq w (BitVec.ofNat 32 k.val))
      = ((if w.toNat = k.val then (1 : ℝ) else 0 : ℝ) : EReal) := by
    intro k
    have hk : w = BitVec.ofNat 32 k.val ↔ w.toNat = k.val := by
      constructor
      · intro h; rw [h, BitVec.toNat_ofNat]; omega
      · intro h; rw [← h, BitVec.ofNat_toNat, BitVec.setWidth_eq]
    show (((IntOp.cmpi .eq w (BitVec.ofNat 32 k.val)).toNat : ℝ) : EReal) = _
    by_cases h : w.toNat = k.val
    · rw [if_pos h, ← hk.mpr h]; simp [IntOp.cmpi]
    · rw [if_neg h]
      have : (w == BitVec.ofNat 32 k.val) = false := by simpa using fun e => h (hk.mp e)
      simp [IntOp.cmpi, this]
  refine ⟨∑ k : Fin 32, T k * (if w.toNat = k.val then (1 : ℝ) else 0), ?_, ?_⟩
  · rw [coe_sum]
    refine Finset.sum_congr rfl fun k _ => ?_
    rw [hu, EReal.coe_mul]
  · intro h
    rw [Finset.sum_eq_single ⟨w.toNat, h⟩]
    · simp
    · intro k _ hk
      rw [if_neg (fun e => hk (Fin.ext e.symm)), mul_zero]
    · simp

end Cert.Attn

end
-- ==== Proof.Toe.lean ====
/- The table of position biases that the kernel's host code makes: an entry is the bias of the bucket of the distance
   between a key and a query of two tiles. -/
module

public import Idealize.ShloMosaic.Lib.Pipeline.ValueKit
public import Idealize.ShloMosaic.Lib.Claim
public import Idealize.ShloMosaic.Lib.StableHlo.RunRead
public import proofs.«01_k».proof.Proof.Gen.KernelIdeal.Frame
public import proofs.«01_k».proof.Proof.Bucket

@[expose] public section

set_option maxRecDepth 16384

noncomputable section

open Idealize.ShloMosaic Idealize.ShloMosaic.TcCoe

namespace Cert.KernelIdeal.Toe

open Cert.KernelIdeal Cert.KernelIdeal.Gen Cert.Attn

variable (m : (ℓ : Loc nD τ sig) → Buf (Elt Ideal) ℓ)

/-- The bias table's entry for bucket `n` and head `h`. -/
def argT (c : Dev nD) (n h : ℕ) : EReal :=
  m (c.tc.loc main_arg4) (ix2 ⟨n % 32, Nat.mod_lt _ (by norm_num)⟩ ⟨h % 16, Nat.mod_lt _ (by norm_num)⟩)

/-- The distance word of an entry of the table. -/
def word (d x y : ℕ) : BitVec 32 :=
  IntOp.maxsi (IntOp.addi (IntOp.muli (BitVec.ofNat 32 d) 256#32) (IntOp.subi (BitVec.ofNat 32 y) (BitVec.ofNat 32 x))) 0#32

theorem word_seen (d x y : ℕ) (hd : d < 8) (hy : y < 256) (h : x ≤ 256 * d + y) : word d x y = BitVec.ofNat 32 (256 * d + y - x) := by
  have e : IntOp.addi (IntOp.muli (BitVec.ofNat 32 d) 256#32) (IntOp.subi (BitVec.ofNat 32 y) (BitVec.ofNat 32 x))
      = BitVec.ofNat 32 (256 * d + y - x) := by
    show BitVec.ofNat 32 d * 256#32 + (BitVec.ofNat 32 y - BitVec.ofNat 32 x) = _
    apply BitVec.eq_of_toNat_eq
    simp only [BitVec.toNat_add, BitVec.toNat_mul, BitVec.toNat_sub, BitVec.toNat_ofNat]
    omega
  rw [word, e, Cert.Attn.max_zero ⟨256 * d + y - x, by omega⟩]

set_option maxHeartbeats 1000000 in
theorem toe_read (c : Dev nD) (h : Fin 4) (d : Fin 8) (x y : Fin 256) :
    V m c main_v54 (ix4 h d x y) = (∑ k : Fin 32, argT m c k.val h.val
      * FloatOps.uitofp (F := Ideal) .f32 (IntOp.cmpi .eq (bk (word d.val x.val y.val)) (BitVec.ofNat 32 k.val)) : EReal) := by
  have e : ∀ k : Fin 32, argT m c k.val h.val = m (c, Proc.tc.devRef main_arg4) (ix2 k ⟨h.val, by omega⟩) := by
    intro k
    rw [argT]
    blk_ext []
  simp only [e]
  rw [V]
  simp only [hostOps0, hostOps0_1, hostOps0_2, hostOps0_3, hostOps0_4, List.flatten_cons, List.flatten_nil, List.cons_append, List.nil_append, List.append_nil]
  after_reads_simp
  simp -implicitDefEqProofs only [StableHlo.TRef.toBuf, StableHlo.TRef.ofBuf, cast_cast, cast_eq]
  pointwise
  rfl

/-- An entry is a real number, the bias of the distance wherever the key is not after the query. -/
theorem toe_val (c : Dev nD) (hT : ∀ n h, argT m c n h = ((argT m c n h).toReal : EReal)) (h : Fin 4) (d : Fin 8) (x y : Fin 256) :
    ∃ b : ℝ, V m c main_v54 (ix4 h d x y) = (b : EReal)
      ∧ (x.val ≤ 256 * d.val + y.val → b = (argT m c (bkn (256 * d.val + y.val - x.val)) h.val).toReal) := by
  obtain ⟨b, hb, hw⟩ := pick_row (fun k => (argT m c k.val h.val).toReal) (bk (word d.val x.val y.val))
  refine ⟨b, ?_, ?_⟩
  · have e : ∀ k : Fin 32, argT m c k.val h.val
        * FloatOps.uitofp (F := Ideal) .f32 (IntOp.cmpi .eq (bk (word d.val x.val y.val)) (BitVec.ofNat 32 k.val))
        = ((argT m c k.val h.val).toReal : EReal)
        * FloatOps.uitofp (F := Ideal) .f32 (IntOp.cmpi .eq (bk (word d.val x.val y.val)) (BitVec.ofNat 32 k.val)) :=
      fun k => congrArg (fun a : EReal => a * _) (hT k.val h.val)
    rw [toe_read, funext e]
    exact hb
  · intro hs
    have e := word_seen d.val x.val y.val d.isLt y.isLt hs
    have hlt : (bk (word d.val x.val y.val)).toNat < 32 := by
      rw [e]; exact bk_lt _ (by omega)
    rw [hw hlt]
    show (argT m c (bk (word d.val x.val y.val)).toNat h.val).toReal = _
    rw [e]; rfl

end Cert.KernelIdeal.Toe

end
-- ==== Proof.Blocks.lean ====
/- The blocks that the kernel's grid points read, as entries of the arguments: queries, keys, values, cumulative
   log-forget values, and the two small parameter arrays. -/
module

public import Idealize.ShloMosaic.Lib.Pipeline.ValueKit
public import Idealize.ShloMosaic.Lib.Claim
public import Idealize.ShloMosaic.Lib.StableHlo.RunRead
public import proofs.«01_k».proof.Proof.Gen.KernelIdeal.Frame

@[expose] public section

set_option maxRecDepth 16384

noncomputable section

open Idealize.ShloMosaic Idealize.ShloMosaic.TcCoe

namespace Cert.KernelIdeal.Blocks

open Cert.KernelIdeal Cert.KernelIdeal.Gen

variable (m : (ℓ : Loc nD τ sig) → Buf (Elt Ideal) ℓ)

theorem idx0 : ∀ t : Fin cfg0.N, win0_0.index t = ![0, 0] := by decide +kernel
theorem idx1 : ∀ t : Fin cfg0.N, win0_1.index t = ![t.val / 64, t.val % 8, t.val / 8 % 8] := by decide +kernel
theorem idx2 : ∀ t : Fin cfg0.N, win0_2.index t = ![t.val / 64, t.val / 8 % 8, 0] := by decide +kernel
theorem idx3 : ∀ t : Fin cfg0.N, win0_3.index t = ![t.val / 64, 8 + t.val / 8 % 8, 0] := by decide +kernel
theorem idx4 : ∀ t : Fin cfg0.N, win0_4.index t = ![t.val / 64, min (t.val / 8 % 8) 3, 0, 0] := by decide +kernel
theorem idx5 : ∀ t : Fin cfg0.N, win0_5.index t = ![t.val / 8 % 8 - 4, 0, 0, 0] := by decide +kernel
theorem idx6 : ∀ t : Fin cfg0.N, win0_6.index t = ![0, 0] := by decide +kernel
theorem idx7 : ∀ t : Fin cfg0.N, win0_7.index t = ![t.val / 64, t.val / 8 % 8, t.val % 8] := by decide +kernel
theorem coord2 : ∀ t : Fin cfg0.N, (grid0.coords t 2).val = t.val % 8 := by decide +kernel

theorem lt_64 (t : Fin cfg0.N) : t.val / 64 < 8 := by have h : t.val < 512 := t.isLt; omega

theorem blk0 (c : Dev nD) (t : Fin cfg0.N) (a : Fin 4) (d : Fin 64) :
    iblk m c 0 t (ix2 a d) = m (c.tc.loc main_arg5) (ix2 a d) := by
  blk_ext [iblk, V, idx0 t]

theorem blk6 (c : Dev nD) (t : Fin cfg0.N) (a : Fin 128) :
    iblk m c 6 t (ix2 a 0) = m (c.tc.loc main_arg6) (ix1 a) := by
  have h : iblk m c 6 t (ix2 a 0) = V m c main_v55 (ix2 a 0) := by blk_ext [iblk, idx6 t]
  rw [h, V]
  simp only [hostOps0, hostOps0_1, hostOps0_2, hostOps0_3, hostOps0_4, List.flatten_cons, List.flatten_nil, List.cons_append, List.nil_append, List.append_nil]
  after_reads_simp
  pointwise

theorem blk1 (c : Dev nD) (t : Fin cfg0.N) (r : Fin 256) (l : Fin 128) :
    iblk m c 1 t (ix3 0 r l) = m (c.tc.loc main_arg0) (ix4 ⟨t.val / 64, lt_64 t⟩ ⟨256 * (t.val % 8) + r.val, by omega⟩
      ⟨2 * (t.val / 8 % 8) + l.val / 64, by omega⟩ ⟨l.val % 64, by omega⟩) := by
  have h : iblk m c 1 t (ix3 0 r l) = V m c main_v1 (ix3 ⟨t.val / 64, lt_64 t⟩ ⟨256 * (t.val % 8) + r.val, by omega⟩
      ⟨128 * (t.val / 8 % 8) + l.val, by omega⟩) := by blk_ext [iblk, idx1 t]
  rw [h, V]
  simp only [hostOps0, hostOps0_1, hostOps0_2, hostOps0_3, hostOps0_4, List.flatten_cons, List.flatten_nil, List.cons_append, List.nil_append, List.append_nil]
  after_reads_simp
  simp -implicitDefEqProofs only [StableHlo.TRef.toBuf, StableHlo.TRef.ofBuf, cast_cast, cast_eq]
  pointwise
  rw [dif_pos ⟨lt_64 t, by omega, by omega⟩]
  blk_ext []

theorem blk2 (c : Dev nD) (t : Fin cfg0.N) (l : Fin 128) (s : Fin 2048) :
    iblk m c 2 t (ix3 0 l s) = m (c.tc.loc main_arg1) (ix4 ⟨t.val / 64, lt_64 t⟩ s
      ⟨2 * (t.val / 8 % 8) + l.val / 64, by omega⟩ ⟨l.val % 64, by omega⟩) := by
  have h : iblk m c 2 t (ix3 0 l s) = V m c main_v5 (ix3 ⟨t.val / 64, lt_64 t⟩ ⟨128 * (t.val / 8 % 8) + l.val, by omega⟩ s) := by
    blk_ext [iblk, idx2 t]
  rw [h, V]
  simp only [hostOps0, hostOps0_1, hostOps0_2, hostOps0_3, hostOps0_4, List.flatten_cons, List.flatten_nil, List.cons_append, List.nil_append, List.append_nil]
  after_reads_simp
  pointwise
  after_reads_simp
  pointwise
  rw [dif_pos (by omega)]
  blk_ext []

theorem blk3 (c : Dev nD) (t : Fin cfg0.N) (l : Fin 128) (s : Fin 2048) :
    iblk m c 3 t (ix3 0 l s) = m (c.tc.loc main_arg2) (ix4 ⟨t.val / 64, lt_64 t⟩ s
      ⟨2 * (t.val / 8 % 8) + l.val / 64, by omega⟩ ⟨l.val % 64, by omega⟩) := by
  have h : iblk m c 3 t (ix3 0 l s) = V m c main_v5 (ix3 ⟨t.val / 64, lt_64 t⟩ ⟨1024 + 128 * (t.val / 8 % 8) + l.val, by omega⟩ s) := by
    blk_ext [iblk, idx3 t]
  rw [h, V]
  simp only [hostOps0, hostOps0_1, hostOps0_2, hostOps0_3, hostOps0_4, List.flatten_cons, List.flatten_nil, List.cons_append, List.nil_append, List.append_nil]
  after_reads_simp
  pointwise
  after_reads_simp
  pointwise
  rw [dif_neg (by omega)]
  blk_ext []

theorem blk4 (c : Dev nD) (t : Fin cfg0.N) (hh : Fin 2) (s : Fin 2048) :
    iblk m c 4 t (ix4 0 0 hh s) = m (c.tc.loc main_arg3) (ix3 ⟨t.val / 64, lt_64 t⟩ s ⟨2 * min (t.val / 8 % 8) 3 + hh.val, by omega⟩) := by
  have h : iblk m c 4 t (ix4 0 0 hh s) = V m c main_v8 (ix4 ⟨t.val / 64, lt_64 t⟩ ⟨min (t.val / 8 % 8) 3, by omega⟩ hh s) := by
    blk_ext [iblk, idx4 t]
  rw [h, V]
  simp only [hostOps0, hostOps0_1, hostOps0_2, hostOps0_3, hostOps0_4, List.flatten_cons, List.flatten_nil, List.cons_append, List.nil_append, List.append_nil]
  after_reads_simp
  pointwise
  blk_ext []

theorem blk5 (c : Dev nD) (t : Fin cfg0.N) (d : Fin 8) (x y : Fin 256) :
    iblk m c 5 t (ix4 0 d x y) = V m c main_v54 (ix4 ⟨t.val / 8 % 8 - 4, by omega⟩ d x y) := by
  blk_ext [iblk, idx5 t]

end Cert.KernelIdeal.Blocks

end
-- ==== Proof.Scratch.lean ====
/- What the kernel keeps for one batch entry and one pair of heads: the keys transposed, the values over sixteen rows
   of ones, the keys' scaled cumulative log-forget values. The first query tile writes them, the others find them. -/
module

public import Idealize.ShloMosaic.Lib.Pipeline.ValueKit
public import Idealize.ShloMosaic.Lib.Pipeline.ReadBack
public import proofs.«01_k».proof.Proof.Gen.KernelIdeal.Frame
public import proofs.«01_k».proof.Proof.Tile
public import proofs.«01_k».proof.Proof.Blocks

@[expose] public section

set_option maxRecDepth 16384

noncomputable section

open Idealize.ShloMosaic Idealize.ShloMosaic.TcCoe

namespace Cert.KernelIdeal.Scratch

open Cert.KernelIdeal Cert.KernelIdeal.Gen Cert.KernelIdeal.Blocks Cert.KernelIdeal.Tile

variable (m : (ℓ : Loc nD τ sig) → Buf (Elt Ideal) ℓ)

/-- The query of batch entry `b` at position `t`, lane `l` of the head pair `p`. -/
def argQ (c : Dev nD) (b p t l : ℕ) : EReal :=
  m (c.tc.loc main_arg0) (ix4 ⟨b % 8, Nat.mod_lt _ (by norm_num)⟩ ⟨t % 2048, Nat.mod_lt _ (by norm_num)⟩
    ⟨(2 * p + l / 64) % 16, Nat.mod_lt _ (by norm_num)⟩ ⟨l % 64, Nat.mod_lt _ (by norm_num)⟩)

/-- The key at position `s`. -/
def argK (c : Dev nD) (b p s l : ℕ) : EReal :=
  m (c.tc.loc main_arg1) (ix4 ⟨b % 8, Nat.mod_lt _ (by norm_num)⟩ ⟨s % 2048, Nat.mod_lt _ (by norm_num)⟩
    ⟨(2 * p + l / 64) % 16, Nat.mod_lt _ (by norm_num)⟩ ⟨l % 64, Nat.mod_lt _ (by norm_num)⟩)

/-- The value at position `s`. -/
def argV (c : Dev nD) (b p l s : ℕ) : EReal :=
  m (c.tc.loc main_arg2) (ix4 ⟨b % 8, Nat.mod_lt _ (by norm_num)⟩ ⟨s % 2048, Nat.mod_lt _ (by norm_num)⟩
    ⟨(2 * p + l / 64) % 16, Nat.mod_lt _ (by norm_num)⟩ ⟨l % 64, Nat.mod_lt _ (by norm_num)⟩)

/-- The cumulative log-forget value of head `h` at position `s`. -/
def argC (c : Dev nD) (b h s : ℕ) : EReal :=
  m (c.tc.loc main_arg3) (ix3 ⟨b % 8, Nat.mod_lt _ (by norm_num)⟩ ⟨s % 2048, Nat.mod_lt _ (by norm_num)⟩
    ⟨h % 8, Nat.mod_lt _ (by norm_num)⟩)

theorem q_read (c : Dev nD) (t : Fin cfg0.N) (r : Fin 256) (l : Fin 128) :
    iblk m c 1 t (ix3 0 r l) = argQ m c (t.val / 64) (t.val / 8 % 8) (256 * (t.val % 8) + r.val) l.val := by
  have h64 := lt_64 t
  rw [blk1, argQ]
  blk_ext []

theorem k_read (c : Dev nD) (t : Fin cfg0.N) (l : Fin 128) (s : Fin 2048) :
    iblk m c 2 t (ix3 0 l s) = argK m c (t.val / 64) (t.val / 8 % 8) s.val l.val := by
  have h64 := lt_64 t
  rw [blk2, argK]
  blk_ext []

theorem v_read (c : Dev nD) (t : Fin cfg0.N) (l : Fin 128) (s : Fin 2048) :
    iblk m c 3 t (ix3 0 l s) = argV m c (t.val / 64) (t.val / 8 % 8) l.val s.val := by
  have h64 := lt_64 t
  rw [blk3, argV]
  blk_ext []

theorem c_read (c : Dev nD) (t : Fin cfg0.N) (hh : Fin 2) (s : Fin 2048) :
    iblk m c 4 t (ix4 0 0 hh s) = argC m c (t.val / 64) (2 * min (t.val / 8 % 8) 3 + hh.val) s.val := by
  have h64 := lt_64 t
  rw [blk4, argC]
  blk_ext []

/-- The keys kept. -/
def keepK (c : Dev nD) (n : ℕ) (s l : ℕ) : EReal := argK m c (n / 64) (n / 8 % 8) s l
/-- The values kept, over ones. -/
def keepV (c : Dev nD) (n : ℕ) (l s : ℕ) : EReal := if l < 128 then argV m c (n / 64) (n / 8 % 8) l s else 1
/-- The cumulative values kept. -/
def keepC (c : Dev nD) (n : ℕ) (hh s : ℕ) : EReal :=
  argC m c (n / 64) (2 * min (n / 8 % 8) 3 + hh) s * ((-((Real.log 2)⁻¹) : ℝ) : EReal)

/-- The last piece stored gives the entries of its rectangle. -/
theorem canon_hit {s : Shape} {e : EltTy} [∀ e, Nonempty (Elt Ideal e)] (r : Rect s) (w : r.shape.Idx → Elt Ideal e)
    (L : List (View.Piece (Elt Ideal) s e)) (x : r.shape.Idx) (y : s.Idx) (h : r.emb x = y) :
    View.canon (⟨r, w⟩ :: L) y = w x := by
  subst h; exact View.canon_cons_emb r w L x

theorem vb_canon (c : Dev nD) (t : Fin cfg0.N) (j : Fin 144) (s : Fin 2048) :
    View.canon (Val := Elt Ideal) (s := S144x2048) (e := .bf16) [⟨Rect.unit ![128, 0] ![16, 2048] inb_S144x2048_S16x2048_128_0, k0_pay11 (F := Ideal)⟩,
      ⟨Rect.unit ![0, 0] ![128, 2048] inb_S144x2048_S128x2048_0_0, k0_pay10 (iblk m c 3 t)⟩] (ix2 j s)
      = keepV m c t.val j.val s.val := by
  by_cases hj : j.val < 128
  · rw [View.canon_cons_of_not_mem]
    · rw [canon_hit _ _ _ (ix2 ⟨j.val, hj⟩ s) _ (by
      funext a; apply Fin.ext; fin_cases a
      · show 0 + 1 * j.val = j.val
        omega
      · show 0 + 1 * s.val = s.val
        omega)]
      rw [pay10_apply, v_read, keepV, if_pos hj]
    · rw [Rect.mem_set_unit]
      intro h
      have := (h 0).1
      simp at this
      omega
  · rw [canon_hit _ _ _ (ix2 ⟨j.val - 128, by omega⟩ s) _ (by
      funext a; apply Fin.ext; fin_cases a
      · show 128 + 1 * (j.val - 128) = j.val
        omega
      · show 0 + 1 * s.val = s.val
        omega)]
    rw [pay11_apply, keepV, if_neg hj]

theorem cb_canon0 (c : Dev nD) (t : Fin cfg0.N) (s : Fin 2048) (l : Fin 128) :
    View.canon (Val := Elt Ideal) (s := S2x2048x128) (e := .f32) [⟨Rect.unit ![0, 0, 0] ![1, 2048, 128] inb_S2x2048x128_S1x2048x128_0_0_0,
        k0_pay12 (View.ld (iblk m c 4 t) (Rect.unit ![0, 0, 0, 0] ![1, 1, 1, 2048] inb_S1x1x2x2048_S1x1x1x2048_0_0_0_0))⟩] (ix3 0 s l)
      = keepC m c t.val 0 s.val := by
  rw [canon_hit _ _ _ (ix3 0 s l) _ (by
      funext a; apply Fin.ext; fin_cases a
      · rfl
      · show 0 + 1 * s.val = s.val
        omega
      · show 0 + 1 * l.val = l.val
        omega)]
  rw [pay12_apply]
  have h : View.ld (iblk m c 4 t) (Rect.unit ![0, 0, 0, 0] ![1, 1, 1, 2048] inb_S1x1x2x2048_S1x1x1x2048_0_0_0_0) (ix4 0 0 0 s)
      = iblk m c 4 t (ix4 0 0 0 s) := by
    rw [View.ld_apply]; congr 1; funext a; apply Fin.ext; fin_cases a
    · rfl
    · rfl
    · rfl
    · show 0 + 1 * s.val = s.val
      omega
  rw [h, c_read]; rfl

theorem cb_canon (c : Dev nD) (t : Fin cfg0.N) (hh : Fin 2) (s : Fin 2048) (l : Fin 128) :
    View.canon (Val := Elt Ideal) (s := S2x2048x128) (e := .f32) [⟨Rect.unit ![1, 0, 0] ![1, 2048, 128] inb_S2x2048x128_S1x2048x128_1_0_0,
        k0_pay68 (k0_pay13 (View.ld (iblk m c 4 t) (Rect.unit ![0, 0, 1, 0] ![1, 1, 1, 2048] inb_S1x1x2x2048_S1x1x1x2048_0_0_1_0))) (k0_pay14 (F := Ideal))⟩,
      ⟨Rect.unit ![0, 0, 0] ![1, 2048, 128] inb_S2x2048x128_S1x2048x128_0_0_0,
        k0_pay12 (View.ld (iblk m c 4 t) (Rect.unit ![0, 0, 0, 0] ![1, 1, 1, 2048] inb_S1x1x2x2048_S1x1x1x2048_0_0_0_0))⟩] (ix3 hh s l)
      = keepC m c t.val hh.val s.val := by
  obtain rfl | rfl : hh = 0 ∨ hh = 1 := by omega
  · rw [View.canon_cons_of_not_mem]
    · exact cb_canon0 m c t s l
    · rw [Rect.mem_set_unit]
      intro h
      have := (h 0).1
      simp at this
  · rw [canon_hit _ _ _ (ix3 0 s l) _ (by
      funext a; apply Fin.ext; fin_cases a
      · rfl
      · show 0 + 1 * s.val = s.val
        omega
      · show 0 + 1 * l.val = l.val
        omega)]
    rw [pay68_apply]
    have h : View.ld (iblk m c 4 t) (Rect.unit ![0, 0, 1, 0] ![1, 1, 1, 2048] inb_S1x1x2x2048_S1x1x1x2048_0_0_1_0) (ix4 0 0 0 s)
        = iblk m c 4 t (ix4 0 0 1 s) := by
      rw [View.ld_apply]; congr 1; funext a; apply Fin.ext; fin_cases a
      · rfl
      · rfl
      · rfl
      · show 0 + 1 * s.val = s.val
        omega
    rw [h, c_read]; rfl

theorem kb_first (c : Dev nD) (t : Fin cfg0.N) (s : Fin 2048) (l : Fin 128) :
    k0_pay9 (iblk m c 2 t) (ix2 s l) = keepK m c t.val s.val l.val := by
  rw [pay9_apply, k_read]; rfl

/-- What the three kept arrays hold after grid point `n`. -/
def Kept (c : Dev nD) (n : ℕ) (hn : n < cfg0.N) : Prop :=
  (∀ (s : Fin 2048) (l : Fin 128), (outsAt0 m c n hn).2.1 (ix2 s l) = keepK m c n s.val l.val)
  ∧ (∀ (j : Fin 144) (s : Fin 2048), (outsAt0 m c n hn).2.2.1 (ix2 j s) = keepV m c n j.val s.val)
  ∧ (∀ (hh : Fin 2) (s : Fin 2048) (l : Fin 128), (outsAt0 m c n hn).2.2.2 (ix3 hh s l) = keepC m c n hh.val s.val)

theorem kept_A (c : Dev nD) (t : Fin cfg0.N) (h0 : t.val % 8 = 0) (h1 : t.val / 8 % 8 ≤ 3) (h2 : t.val % 8 ≤ 3)
    (h3 : ¬4 ≤ t.val % 8) (h4 : ¬4 ≤ t.val / 8 % 8) : Kept m c t.val t.isLt := by
  refine ⟨fun s l => ?_, fun j s => ?_, fun hh s l => ?_⟩
  · rw [outsAt0_A m c t h0 h1 h2 h3 h4]; dsimp only; frame_out; exact kb_first m c t s l
  · rw [outsAt0_A m c t h0 h1 h2 h3 h4]; dsimp only; frame_out; exact vb_canon m c t j s
  · rw [outsAt0_A m c t h0 h1 h2 h3 h4]; dsimp only; frame_out; exact cb_canon m c t hh s l

theorem kept_D (c : Dev nD) (t : Fin cfg0.N) (h0 : t.val % 8 = 0) (h1 : ¬t.val / 8 % 8 ≤ 3) (h4 : 4 ≤ t.val / 8 % 8)
    (h5 : t.val % 8 ≤ 3) (h6 : ¬4 ≤ t.val % 8) : Kept m c t.val t.isLt := by
  refine ⟨fun s l => ?_, fun j s => ?_, fun hh s l => ?_⟩
  · rw [outsAt0_D m c t h0 h1 h4 h5 h6]; dsimp only; frame_out; exact kb_first m c t s l
  · rw [outsAt0_D m c t h0 h1 h4 h5 h6]; dsimp only; frame_out; exact vb_canon m c t j s
  · rw [outsAt0_D m c t h0 h1 h4 h5 h6]; dsimp only; frame_out; exact cb_canon m c t hh s l

/-- A later query tile leaves the three arrays as they are. -/
theorem carried (c : Dev nD) (t : Fin cfg0.N) (h0 : ¬t.val % 8 = 0) :
    (outsAt0 m c t.val t.isLt).2 = (outsAt0 m c (t.val - 1) (by have h := t.isLt; omega)).2 := by
  by_cases h1 : t.val / 8 % 8 ≤ 3
  · have h4 : ¬4 ≤ t.val / 8 % 8 := by omega
    by_cases h2 : t.val % 8 ≤ 3
    · rw [outsAt0_B m c t h0 h1 h2 (by omega) h4]
      rfl
    · rw [outsAt0_C m c t h0 h1 h2 (by omega) h4]
      rfl
  · have h4 : 4 ≤ t.val / 8 % 8 := by omega
    by_cases h2 : t.val % 8 ≤ 3
    · rw [outsAt0_E m c t h0 h1 h4 h2 (by omega)]
      rfl
    · rw [outsAt0_F m c t h0 h1 h4 h2 (by omega)]
      rfl

theorem kept (c : Dev nD) : ∀ (n : ℕ) (hn : n < cfg0.N), Kept m c n hn := by
  intro n
  induction n with
  | zero =>
    intro hn
    exact kept_A m c ⟨0, hn⟩ (show 0 % 8 = 0 by decide) (show 0 / 8 % 8 ≤ 3 by decide) (show 0 % 8 ≤ 3 by decide)
      (show ¬4 ≤ 0 % 8 by decide) (show ¬4 ≤ 0 / 8 % 8 by decide)
  | succ n ih =>
    intro hn
    by_cases h0 : (n + 1) % 8 = 0
    · by_cases h1 : (n + 1) / 8 % 8 ≤ 3
      · exact kept_A m c ⟨n + 1, hn⟩ h0 h1 (show (n + 1) % 8 ≤ 3 by omega) (show ¬4 ≤ (n + 1) % 8 by omega)
          (show ¬4 ≤ (n + 1) / 8 % 8 by omega)
      · exact kept_D m c ⟨n + 1, hn⟩ h0 h1 (show 4 ≤ (n + 1) / 8 % 8 by omega) (show (n + 1) % 8 ≤ 3 by omega)
          (show ¬4 ≤ (n + 1) % 8 by omega)
    · have hc := carried m c ⟨n + 1, hn⟩ h0
      have e1 : (n + 1) / 64 = n / 64 := by omega
      have e2 : (n + 1) / 8 % 8 = n / 8 % 8 := by omega
      have hc' : (outsAt0 m c (n + 1) hn).2 = (outsAt0 m c n (by omega)).2 := hc
      have hk := ih (by omega)
      unfold Kept keepK keepV keepC at hk ⊢
      rw [hc', e1, e2]
      exact hk

end Cert.KernelIdeal.Scratch

end
-- ==== Proof.Out.lean ====
/- What each grid point writes: its query tile's attention over all visible keys, in the six ways the kernel's body
   runs. -/
module

public import Idealize.ShloMosaic.Lib.Pipeline.ValueKit
public import Idealize.ShloMosaic.Lib.Pipeline.ReadBack
public import proofs.«01_k».proof.Proof.Gen.KernelIdeal.Frame
public import proofs.«01_k».proof.Proof.Tiles2
public import proofs.«01_k».proof.Proof.Toe
public import proofs.«01_k».proof.Proof.Scratch

@[expose] public section

set_option maxRecDepth 16384

noncomputable section

open Idealize.ShloMosaic Idealize.ShloMosaic.TcCoe

namespace Cert.KernelIdeal.Out

open Cert.KernelIdeal Cert.KernelIdeal.Gen Cert.Attn Cert.KernelIdeal.Tile Cert.KernelIdeal.Blocks Cert.KernelIdeal.Scratch
  Cert.KernelIdeal.Toe

/-! ### The loads' places and the loops that never turn, decided over the grid -/

theorem trips1 : ∀ t : Fin cfg0.N, 4 ≤ t.val % 8 → (k0_t1_loop (grid0.coords t)).trips = 0 := by decide +kernel
theorem trips2 : ∀ t : Fin cfg0.N, 4 ≤ t.val % 8 → (k0_t2_loop (grid0.coords t)).trips = 0 := by decide +kernel
theorem trips3 : ∀ t : Fin cfg0.N, 4 ≤ t.val % 8 → (k0_t3_loop (grid0.coords t)).trips = 0 := by decide +kernel
theorem trips4 : ∀ t : Fin cfg0.N, 4 ≤ t.val % 8 → (k0_t4_loop (grid0.coords t)).trips = 0 := by decide +kernel
theorem off9 : ∀ t : Fin cfg0.N, 4 ≤ t.val % 8 → k0_off9 (grid0.coords t) = ![1024, 0] := by decide +kernel
theorem off10 : ∀ t : Fin cfg0.N, 4 ≤ t.val % 8 → k0_off10 (grid0.coords t) = ![0, 1024, 0] := by decide +kernel
theorem off11 : ∀ t : Fin cfg0.N, 4 ≤ t.val % 8 → k0_off11 (grid0.coords t) = ![1, 1024, 0] := by decide +kernel
theorem off12 : ∀ t : Fin cfg0.N, 4 ≤ t.val % 8 → k0_off12 (grid0.coords t) = ![0, 1024] := by decide +kernel
theorem off21 : ∀ t : Fin cfg0.N, 4 ≤ t.val % 8 → k0_off21 (grid0.coords t) = ![1024, 0] := by decide +kernel
theorem off23 : ∀ t : Fin cfg0.N, 4 ≤ t.val % 8 → k0_off23 (grid0.coords t) = ![0, 1024] := by decide +kernel
theorem off13 : ∀ (t : Fin cfg0.N) (k : Fin 4), t.val % 8 ≤ 3 →
    k0_off13 (grid0.coords t) (BitVec.ofNat 32 k.val) = ![0, t.val % 8 - 0 / 256 - k.val, 0, 0] := by decide +kernel
theorem off14 : ∀ (t : Fin cfg0.N) (k : Fin 4), 4 ≤ t.val % 8 →
    k0_off14 (grid0.coords t) (BitVec.ofNat 32 k.val) = ![0, t.val % 8 - 0 / 256 - k.val, 0, 0] := by decide +kernel
theorem off22 : ∀ (t : Fin cfg0.N) (k : Fin 4), 4 ≤ t.val % 8 →
    k0_off22 (grid0.coords t) (BitVec.ofNat 32 k.val) = ![0, t.val % 8 - 1024 / 256 - k.val, 0, 0] := by decide +kernel

/-! ### The rows of a block -/

theorem fox_rows (X : Vec Ideal S144x512 .f32) (L : ℕ → ℕ → ℕ → ℝ) (V : ℕ → ℕ → EReal) (q : ℕ)
    (hX : ∀ (x : Fin 128) (j : Fin 512), quo X x j = att (L (j.val / 256) (j.val % 256)) (V x.val) (256 * q + j.val % 256))
    (l : Fin 128) (r : Fin 256) :
    View.canon (Val := Elt Ideal) (s := S1x128x256) (e := .f32) [⟨Rect.unit ![0, 64, 0] ![1, 64, 256] inb_S1x128x256_S1x64x256_0_64_0, k0_pay7 X⟩,
      ⟨Rect.unit ![0, 0, 0] ![1, 64, 256] inb_S1x128x256_S1x64x256_0_0_0, k0_pay6 X⟩] (ix3 0 l r)
      = att (L (l.val / 64) r.val) (V l.val) (256 * q + r.val) := by
  by_cases hl : l.val < 64
  · rw [View.canon_cons_of_not_mem]
    · rw [canon_hit _ _ _ (ix3 0 ⟨l.val, hl⟩ r) _ (by
        funext a; apply Fin.ext; fin_cases a
        · rfl
        · show 0 + 1 * l.val = l.val
          omega
        · show 0 + 1 * r.val = r.val
          omega)]
      rw [pay6_apply, hX]
      show att (L (r.val / 256) (r.val % 256)) (V l.val) (256 * q + r.val % 256) = _
      rw [show r.val / 256 = l.val / 64 by omega, show r.val % 256 = r.val by omega]
    · rw [Rect.mem_set_unit]
      intro h
      have := (h 1).1
      simp at this
      omega
  · rw [canon_hit _ _ _ (ix3 0 ⟨l.val - 64, by omega⟩ r) _ (by
      funext a; apply Fin.ext; fin_cases a
      · rfl
      · show 64 + 1 * (l.val - 64) = l.val
        omega
      · show 0 + 1 * r.val = r.val
        omega)]
    rw [pay7_apply, hX]
    show att (L ((256 + r.val) / 256) ((256 + r.val) % 256)) (V (64 + (l.val - 64))) (256 * q + (256 + r.val) % 256) = _
    rw [show (256 + r.val) / 256 = l.val / 64 by omega, show (256 + r.val) % 256 = r.val by omega,
      show 64 + (l.val - 64) = l.val by omega]

theorem dif_rows (X : Vec Ideal S144x512 .f32) (v54 : Vec Ideal S4x64 .f32) (v91 : Vec Ideal S128x1 .f32) (L : ℕ → ℕ → ℕ → ℝ)
    (V : ℕ → ℕ → EReal) (q : ℕ)
    (hX : ∀ (x : Fin 128) (j : Fin 512), quo X x j = att (L (j.val / 256) (j.val % 256)) (V x.val) (256 * q + j.val % 256))
    (l : Fin 128) (r : Fin 256) :
    k0_pay8 (k0_pay67 X v54) v91 (ix3 0 l r)
      = normed (fun x => att (L 0 r.val) (V x.val) (256 * q + r.val)
          - lamv (fun a b => v54 (ix2 a b)) * att (L 1 r.val) (V x.val) (256 * q + r.val)) (v91 (ix2 l 0)) l := by
  rw [pay8_apply]
  congr 1
  funext x
  rw [hX, hX]
  show att (L (r.val / 256) (r.val % 256)) (V x.val) (256 * q + r.val % 256)
    - _ * att (L ((256 + r.val) / 256) ((256 + r.val) % 256)) (V x.val) (256 * q + (256 + r.val) % 256) = _
  rw [show r.val / 256 = 0 by omega, show r.val % 256 = r.val by omega,
    show (256 + r.val) / 256 = 1 by omega, show (256 + r.val) % 256 = r.val by omega]

variable (m : (ℓ : Loc nD τ sig) → Buf (Elt Ideal) ℓ)

/-- The queries, keys, cumulative values and biases are real numbers. -/
structure RealArgs (c : Dev nD) : Prop where
  rq : ∀ b p t l, argQ m c b p t l = ((argQ m c b p t l).toReal : EReal)
  rk : ∀ b p s l, argK m c b p s l = ((argK m c b p s l).toReal : EReal)
  rc : ∀ b h s, argC m c b h s = ((argC m c b h s).toReal : EReal)
  rt : ∀ n h, argT m c n h = ((argT m c n h).toReal : EReal)

/-- The product of a query and a key of head `hh` of pair `p`. -/
def qk (c : Dev nD) (b p hh t s : ℕ) : ℝ :=
  dot (fun l => (argK m c b p s l).toReal) (fun l => (argQ m c b p t l).toReal) hh
/-- The logits of a head with forgetting. -/
def foxL (c : Dev nD) (b p hh t s : ℕ) : ℝ :=
  qk m c b p hh t s * (1 / 8) + ((argC m c b (2 * p + hh) t).toReal - (argC m c b (2 * p + hh) s).toReal)
/-- The logits of a map of a differential head. -/
def difL (c : Dev nD) (b p hh t s : ℕ) : ℝ :=
  qk m c b p hh t s * (1 / 8) + (argT m c (bkn (t - s)) (p - 4)).toReal
/-- A row of a head with forgetting. -/
def foxV (c : Dev nD) (b p l t : ℕ) : EReal := att (foxL m c b p (l / 64) t) (argV m c b p l) t
/-- A row of a differential head. -/
def difV (c : Dev nD) (b p : ℕ) (l : Fin 128) (t : ℕ) : EReal :=
  normed (fun x => att (difL m c b p 0 t) (argV m c b p x.val) t
    - lamv (fun a d => m (c.tc.loc main_arg5) (ix2 a d)) * att (difL m c b p 1 t) (argV m c b p x.val) t)
    (m (c.tc.loc main_arg6) (ix1 l)) l

theorem log2_ne : Real.log 2 ≠ 0 := (Real.log_pos (by norm_num)).ne'

/-! ### The loads -/

section loads

variable {m}
variable {c : Dev nD} (R : RealArgs m c) (t : Fin cfg0.N)

include R in
theorem queries : IsQueries (iblk m c 1 t) (fun r l => (argQ m c (t.val / 64) (t.val / 8 % 8) (256 * (t.val % 8) + r) l).toReal) := by
  intro r l
  rw [q_read]; exact R.rq _ _ _ _

include R in
theorem keys (X : Vec Ideal S2048x128 .bf16) (hX : ∀ (s : Fin 2048) (l : Fin 128), X (ix2 s l) = keepK m c t.val s.val l.val)
    (off : Fin 2 → ℕ) (a : ℕ) (ho : off = ![a, 0]) (ha : a ≤ 1024) (inb : ∀ x, off x + (![1024, 128] : Fin 2 → ℕ) x ≤ S2048x128.size x) :
    IsKeys (View.ld X (Rect.unit off ![1024, 128] inb)) a (fun s l => (argK m c (t.val / 64) (t.val / 8 % 8) s l).toReal) := by
  subst ho
  intro s l
  rw [View.ld_unit_apply_of X ![a, 0] ![1024, 128] inb (ix2 s l) (ix2 ⟨a + s.val, by omega⟩ l) (by
    intro x; fin_cases x
    · rfl
    · show l.val = 0 + l.val
      omega), hX]
  exact R.rk _ _ _ _

theorem vals (X : Vec Ideal S144x2048 .bf16) (hX : ∀ (j : Fin 144) (s : Fin 2048), X (ix2 j s) = keepV m c t.val j.val s.val)
    (off : Fin 2 → ℕ) (a : ℕ) (ho : off = ![0, a]) (ha : a ≤ 1024) (inb : ∀ x, off x + (![144, 1024] : Fin 2 → ℕ) x ≤ S144x2048.size x) :
    IsVals (View.ld X (Rect.unit off ![144, 1024] inb)) a (argV m c (t.val / 64) (t.val / 8 % 8)) := by
  subst ho
  have h : ∀ (j : Fin 144) (s : Fin 1024), View.ld X (Rect.unit ![0, a] ![144, 1024] inb) (ix2 j s) = keepV m c t.val j.val (a + s.val) := by
    intro j s
    rw [View.ld_unit_apply_of X ![0, a] ![144, 1024] inb (ix2 j s) (ix2 j ⟨a + s.val, by omega⟩) (by
      intro x; fin_cases x
      · show j.val = 0 + j.val
        omega
      · rfl), hX]
  refine ⟨fun r s => ?_, fun s => ?_⟩
  · rw [h, keepV, if_pos r.isLt]
  · rw [h, keepV, if_neg (by decide)]

include R in
theorem term (hh : Fin 2) (hp : t.val / 8 % 8 ≤ 3) (X : Vec Ideal S2x2048x128 .f32)
    (hX : ∀ (s : Fin 2048) (l : Fin 128), X (ix3 hh s l) = keepC m c t.val hh.val s.val)
    (off : Fin 3 → ℕ) (a : ℕ) (ho : off = ![hh.val, a, 0]) (ha : a ≤ 1024)
    (inb : ∀ x, off x + (![1, 1024, 128] : Fin 3 → ℕ) x ≤ S2x2048x128.size x) :
    IsTerm (View.ld X (Rect.unit off ![1, 1024, 128] inb)) a
      (fun s => (argC m c (t.val / 64) (2 * (t.val / 8 % 8) + hh.val) s).toReal * (-((Real.log 2)⁻¹))) := by
  subst ho
  intro s l
  rw [View.ld_unit_apply_of X ![hh.val, a, 0] ![1, 1024, 128] inb (ix3 0 s l) (ix3 hh ⟨a + s.val, by omega⟩ l) (by
    intro x; fin_cases x
    · rfl
    · rfl
    · show l.val = 0 + l.val
      omega), hX, keepC, min_eq_left hp, R.rc, EReal.coe_mul]

include R in
theorem bias (hp : ¬t.val / 8 % 8 ≤ 3) (off : Fin 4 → Fin 4 → ℕ) (a : ℕ) (ha : a = 0 ∨ a = 1024)
    (ho : ∀ k, off k = ![0, t.val % 8 - a / 256 - k.val, 0, 0])
    (inb : ∀ k x, off k x + (![1, 1, 256, 256] : Fin 4 → ℕ) x ≤ S1x8x256x256.size x) :
    IsBias (fun k => View.ld (iblk m c 5 t) (Rect.unit (off k) ![1, 1, 256, 256] (inb k))) a (t.val % 8)
      (fun r s => (argT m c (bkn (256 * (t.val % 8) + r - s)) (t.val / 8 % 8 - 4)).toReal) := by
  intro k x y
  obtain ⟨b, hb, hv⟩ := toe_val m c R.rt ⟨t.val / 8 % 8 - 4, by omega⟩ ⟨t.val % 8 - a / 256 - k.val, by omega⟩ x y
  refine ⟨b, ?_, fun h => ?_⟩
  · rw [← hb, ← blk5 m c t]
    refine View.ld_unit_apply_of _ _ _ _ _ _ ?_
    intro z
    rw [show off k z = _ from congrFun (ho k) z]
    fin_cases z
    · rfl
    · rfl
    · show x.val = 0 + x.val
      omega
    · show y.val = 0 + y.val
      omega
  · dsimp only at hv
    have hd : 256 * (t.val % 8 - a / 256 - k.val) + y.val = 256 * (t.val % 8) + y.val - (a + 256 * k.val) ∧ a + 256 * k.val ≤ 256 * (t.val % 8) := by
      obtain rfl | rfl := ha <;> omega
    rw [hv (by omega)]
    congr 3
    omega

end loads

/-- A load of what was just stored. -/
theorem readCov_ld {κ : Kind} {sp : Space} {s : Shape} {e : EltTy} [∀ e, Nonempty (Elt Ideal e)] (v : View sig κ sp s e)
    (L : List (View.Piece (Elt Ideal) s e)) (r : Rect s) : v.readCov L r.toLoadRect = View.ld (View.canon L) r :=
  View.readCov_eq_canon' v L _

theorem fox_scale (D x : ℝ) : (D * (1 / 8 * (Real.log 2)⁻¹) + x * -((Real.log 2)⁻¹)) * Real.log 2 = D * (1 / 8) - x := by
  have := log2_ne
  field_simp
  ring

theorem dif_scale (D x : ℝ) : (D * (1 / 8 * (Real.log 2)⁻¹) + x * (Real.log 2)⁻¹) * Real.log 2 = D * (1 / 8) + x := by
  have := log2_ne
  field_simp

end Cert.KernelIdeal.Out

end
-- ==== Proof.Finite.lean ====
/- What the precondition says: the queries, keys, cumulative log-forget values and biases are real numbers. -/
module

public import Idealize.ShloMosaic.Lib.ReduceAll
public import proofs.«01_k».proof.Defs
public import proofs.«01_k».proof.Proof.Out

@[expose] public section

set_option maxRecDepth 16384

noncomputable section

open Idealize.ShloMosaic Idealize.ShloMosaic.TcCoe

namespace Cert.Pre_finite

/-- The predicate's side conditions. -/
theorem facts : Cert.Pre_finite.Facts where
  bcast_S_S8x2048x16x64 := by decide
  reducesTo_S8x2048x16x64_S_d0_1_2_3 := by decide
  h_S_ := by decide
  bcast_S_S8x2048x8 := by decide
  reducesTo_S8x2048x8_S_d0_1_2 := by decide
  bcast_S_S32x16 := by decide
  reducesTo_S32x16_S_d0_1 := by decide

theorem inf : Ideal.ofBits FTy.f32 0x7F800000#32 = ⊤ := by
  have h : BitVec.extractLsb' 31 1 0x7F800000#32 = 0#1 := by decide
  rw [Ideal.ofBits]; norm_num [Ideal.ieee, Nat.shiftRight_eq_div_pow, h]

/-- A number of finite size is real. -/
theorem real (a : EReal) (h : FloatOps.cmpf (F := Ideal) (φ := .f32) .olt (max a (-a)) (Ideal.ofBits FTy.f32 0x7F800000#32) = 1#1) :
    a = ((a.toReal : ℝ) : EReal) := by
  rw [inf] at h
  have h' : max a (-a) < ⊤ := by
    by_contra hn
    have e : FloatOps.cmpf (F := Ideal) (φ := .f32) .olt (max a (-a)) ⊤ = BitVec.ofBool (decide (max a (-a) < ⊤)) := rfl
    rw [e, decide_eq_false hn] at h
    exact absurd h (by decide)
  induction a using EReal.rec with
  | bot => simp at h'
  | coe x => rfl
  | top => simp at h'

theorem both (a b : BitVec 1) (h : IntOp.andi a b = 1#1) : a = 1#1 ∧ b = 1#1 := by
  revert a b; decide

variable [Facts]

/-- The four arrays are real. -/
theorem reals (x0 x1 x2 : FVec Ideal S8x2048x16x64 .f32) (x3 : FVec Ideal S8x2048x8 .f32) (x4 : FVec Ideal S32x16 .f32)
    (x5 : FVec Ideal S4x64 .f32) (x6 : FVec Ideal S128 .f32) (h : fn (F := Ideal) x0 x1 x2 x3 x4 x5 x6 = fun _ => 1#1) :
    (∀ i, x0 i = ((EReal.toReal (x0 i) : ℝ) : EReal)) ∧ (∀ i, x1 i = ((EReal.toReal (x1 i) : ℝ) : EReal))
      ∧ (∀ i, x3 i = ((EReal.toReal (x3 i) : ℝ) : EReal)) ∧ (∀ i, x4 i = ((EReal.toReal (x4 i) : ℝ) : EReal)) := by
  have j : S_.Idx := fun a => a.elim0
  have hs : Subsingleton S_.Idx := ⟨fun a b => funext fun k => k.elim0⟩
  have e := congrFun h j
  unfold fn fn_part1 at e
  obtain ⟨e, e3⟩ := both _ _ e
  obtain ⟨e, e2⟩ := both _ _ e
  obtain ⟨e0, e1⟩ := both _ _ e
  exact ⟨fun i => real _ (Host.reduce_andi_all _ _ _ _ j e0 i), fun i => real _ (Host.reduce_andi_all _ _ _ _ j e1 i),
    fun i => real _ (Host.reduce_andi_all _ _ _ _ j e2 i), fun i => real _ (Host.reduce_andi_all _ _ _ _ j e3 i)⟩

end Cert.Pre_finite

namespace Cert.Same

open Cert.KernelIdeal

theorem realArgs [Cert.Pre_finite.Facts] (m : (ℓ : Loc nD τ sig) → Buf (Elt Ideal) ℓ) (h : Cert.Pre_KernelIdeal_finite m) (c : Dev nD) :
    Out.RealArgs m c := by
  obtain ⟨h0, h1, h3, h4⟩ := Cert.Pre_finite.reals _ _ _ _ _ _ _ (h c)
  exact ⟨fun _ _ _ _ => h0 _, fun _ _ _ _ => h1 _, fun _ _ _ => h3 _, fun _ _ => h4 _⟩

end Cert.Same

end
-- ==== Proof.OutFox.lean ====
/- The grid points of the heads with forgetting: each writes its query tile's attention. -/
module

public import Idealize.ShloMosaic.Lib.Pipeline.ValueKit
public import Idealize.ShloMosaic.Lib.Pipeline.ReadBack
public import proofs.«01_k».proof.Proof.Gen.KernelIdeal.Frame
public import proofs.«01_k».proof.Proof.Out

@[expose] public section

set_option maxRecDepth 16384

noncomputable section

open Idealize.ShloMosaic Idealize.ShloMosaic.TcCoe

namespace Cert.KernelIdeal.Out

open Cert.KernelIdeal Cert.KernelIdeal.Gen Cert.Attn Cert.KernelIdeal.Tile Cert.KernelIdeal.Blocks Cert.KernelIdeal.Scratch
  Cert.KernelIdeal.Toe

variable (m : (ℓ : Loc nD τ sig) → Buf (Elt Ideal) ℓ) (c : Dev nD) (R : RealArgs m c) (t : Fin cfg0.N)

/-- The second key tile's first position, as the kernel's body works it out. -/
theorem word_C : ∀ t : Fin cfg0.N, 4 ≤ t.val % 8 → Scalar.muli (Scalar.select (Scalar.andi (Scalar.cmpi .ne (Scalar.subi (Scalar.extui (Scalar.cmpi .sgt (Scalar.muli (BitVec.ofNat 32 (grid0.coords t 2).val) 256#32) 0#32) : BitVec 32) (Scalar.extui (Scalar.cmpi .slt (Scalar.muli (BitVec.ofNat 32 (grid0.coords t 2).val) 256#32) 0#32) : BitVec 32)) 1#32) (Scalar.cmpi .ne (Scalar.remsi (Scalar.muli (BitVec.ofNat 32 (grid0.coords t 2).val) 256#32) 1024#32) 0#32)) (Scalar.subi (Scalar.divsi (Scalar.muli (BitVec.ofNat 32 (grid0.coords t 2).val) 256#32) 1024#32) 1#32) (Scalar.divsi (Scalar.muli (BitVec.ofNat 32 (grid0.coords t 2).val) 256#32) 1024#32)) 1024#32 = BitVec.ofNat 32 1024 := by decide +kernel

include R in
set_option maxHeartbeats 2000000 in
theorem fox_A (h0 : t.val % 8 = 0) (h1 : t.val / 8 % 8 ≤ 3) (h2 : t.val % 8 ≤ 3) (h3 : ¬4 ≤ t.val % 8) (h4 : ¬4 ≤ t.val / 8 % 8) (l : Fin 128) (r : Fin 256) :
    (outsAt0 m c t.val t.isLt).1 (ix3 0 l r) = foxV m c (t.val / 64) (t.val / 8 % 8) l.val (256 * (t.val % 8) + r.val) := by
  rw [outsAt0_A m c t h0 h1 h2 h3 h4]; dsimp only
  frame_open
  simp (disch := decide) only [↓ View.readCov_skip, ↓ View.readCov_cons_toLoadRect, ↓ View.readCov_fill]
  frame_out
  simp only [readCov_ld]
  refine (fox_rows _ (fun hh r => foxL m c (t.val / 64) (t.val / 8 % 8) hh (256 * (t.val % 8) + r))
    (argV m c (t.val / 64) (t.val / 8 % 8)) (t.val % 8) (fun x j => ?_) l r).trans rfl
  refine (fox_small (grid0.coords t) (iblk m c 1 t) _ _ _ _
      (fun s l => (argK m c (t.val / 64) (t.val / 8 % 8) s l).toReal)
      (fun r l => (argQ m c (t.val / 64) (t.val / 8 % 8) (256 * (t.val % 8) + r) l).toReal)
      (fun hh s => (argC m c (t.val / 64) (2 * (t.val / 8 % 8) + hh) s).toReal * (-((Real.log 2)⁻¹)))
      (argV m c (t.val / 64) (t.val / 8 % 8)) ?_ ?_ ?_ ?_ ?_ x j
      (foxL m c (t.val / 64) (t.val / 8 % 8) (j.val / 256) (256 * (t.val % 8) + j.val % 256))
      (-(argC m c (t.val / 64) (2 * (t.val / 8 % 8) + j.val / 256) (256 * (t.val % 8) + j.val % 256)).toReal) ?_ ?_).trans ?_
  · exact queries R t
  · exact keys R t _ (kb_first m c t) _ 0 (rfl) (by norm_num) _
  · exact term R t 0 h1 _ (cb_canon0 m c t) _ 0 (rfl) (by norm_num) _
  · exact term R t 1 h1 _ (cb_canon m c t 1) _ 0 (rfl) (by norm_num) _
  · exact vals t _ (vb_canon m c t) _ 0 (rfl) (by norm_num) _
  · rw [coord2]
    omega
  · exact fun s => (fox_scale _ _).trans (by unfold foxL qk; ring)
  · rw [coord2]

include R in
set_option maxHeartbeats 2000000 in
theorem fox_B (h0 : ¬t.val % 8 = 0) (h1 : t.val / 8 % 8 ≤ 3) (h2 : t.val % 8 ≤ 3) (h3 : ¬4 ≤ t.val % 8) (h4 : ¬4 ≤ t.val / 8 % 8) (l : Fin 128) (r : Fin 256) :
    (outsAt0 m c t.val t.isLt).1 (ix3 0 l r) = foxV m c (t.val / 64) (t.val / 8 % 8) l.val (256 * (t.val % 8) + r.val) := by
  have kp := kept m c t.val t.isLt
  unfold Kept at kp
  rw [carried m c t h0] at kp
  rw [outsAt0_B m c t h0 h1 h2 h3 h4]; dsimp only
  frame_open
  simp (disch := decide) only [↓ View.readCov_skip, ↓ View.readCov_cons_toLoadRect, ↓ View.readCov_fill]
  frame_out
  simp only [read_unread_whole]
  refine (fox_rows _ (fun hh r => foxL m c (t.val / 64) (t.val / 8 % 8) hh (256 * (t.val % 8) + r))
    (argV m c (t.val / 64) (t.val / 8 % 8)) (t.val % 8) (fun x j => ?_) l r).trans rfl
  refine (fox_small (grid0.coords t) (iblk m c 1 t) _ _ _ _
      (fun s l => (argK m c (t.val / 64) (t.val / 8 % 8) s l).toReal)
      (fun r l => (argQ m c (t.val / 64) (t.val / 8 % 8) (256 * (t.val % 8) + r) l).toReal)
      (fun hh s => (argC m c (t.val / 64) (2 * (t.val / 8 % 8) + hh) s).toReal * (-((Real.log 2)⁻¹)))
      (argV m c (t.val / 64) (t.val / 8 % 8)) ?_ ?_ ?_ ?_ ?_ x j
      (foxL m c (t.val / 64) (t.val / 8 % 8) (j.val / 256) (256 * (t.val % 8) + j.val % 256))
      (-(argC m c (t.val / 64) (2 * (t.val / 8 % 8) + j.val / 256) (256 * (t.val % 8) + j.val % 256)).toReal) ?_ ?_).trans ?_
  · exact queries R t
  · exact keys R t _ kp.1 _ 0 (rfl) (by norm_num) _
  · exact term R t 0 h1 _ (kp.2.2 0) _ 0 (rfl) (by norm_num) _
  · exact term R t 1 h1 _ (kp.2.2 1) _ 0 (rfl) (by norm_num) _
  · exact vals t _ kp.2.1 _ 0 (rfl) (by norm_num) _
  · rw [coord2]
    omega
  · exact fun s => (fox_scale _ _).trans (by unfold foxL qk; ring)
  · rw [coord2]

include R in
set_option maxHeartbeats 2000000 in
theorem fox_C (h0 : ¬t.val % 8 = 0) (h1 : t.val / 8 % 8 ≤ 3) (h2 : ¬t.val % 8 ≤ 3) (h3 : 4 ≤ t.val % 8) (h4 : ¬4 ≤ t.val / 8 % 8) (l : Fin 128) (r : Fin 256) :
    (outsAt0 m c t.val t.isLt).1 (ix3 0 l r) = foxV m c (t.val / 64) (t.val / 8 % 8) l.val (256 * (t.val % 8) + r.val) := by
  have kp := kept m c t.val t.isLt
  unfold Kept at kp
  rw [carried m c t h0] at kp
  rw [outsAt0_C m c t h0 h1 h2 h3 h4]; dsimp only
  have ht1 := trips1 t h3
  have ht2 := trips2 t h3
  frame_open
  simp only [ht1, pb_k0_t1, ht2, pb_k0_t2, List.nil_append, List.append_nil]
  simp (disch := decide) only [↓ View.readCov_skip, ↓ View.readCov_cons_toLoadRect, ↓ View.readCov_fill]
  frame_out
  simp only [read_unread_whole]
  refine (fox_rows _ (fun hh r => foxL m c (t.val / 64) (t.val / 8 % 8) hh (256 * (t.val % 8) + r))
    (argV m c (t.val / 64) (t.val / 8 % 8)) (t.val % 8) (fun x j => ?_) l r).trans rfl
  refine (fox_big (grid0.coords t) (iblk m c 1 t) _ _ _ _ _ _ _ _
      (fun s l => (argK m c (t.val / 64) (t.val / 8 % 8) s l).toReal)
      (fun r l => (argQ m c (t.val / 64) (t.val / 8 % 8) (256 * (t.val % 8) + r) l).toReal)
      (fun hh s => (argC m c (t.val / 64) (2 * (t.val / 8 % 8) + hh) s).toReal * (-((Real.log 2)⁻¹)))
      (argV m c (t.val / 64) (t.val / 8 % 8)) _ ?_ ?_ ?_ ?_ ?_ ?_ ?_ ?_ ?_ ?_ x j
      (foxL m c (t.val / 64) (t.val / 8 % 8) (j.val / 256) (256 * (t.val % 8) + j.val % 256))
      (-(argC m c (t.val / 64) (2 * (t.val / 8 % 8) + j.val / 256) (256 * (t.val % 8) + j.val % 256)).toReal) ?_ ?_).trans ?_
  · exact word_C t h3
  · exact queries R t
  · exact keys R t _ kp.1 _ 0 (rfl) (by norm_num) _
  · exact keys R t _ kp.1 _ 1024 (off9 t h3) (by norm_num) _
  · exact term R t 0 h1 _ (kp.2.2 0) _ 0 (rfl) (by norm_num) _
  · exact term R t 1 h1 _ (kp.2.2 1) _ 0 (rfl) (by norm_num) _
  · exact term R t 0 h1 _ (kp.2.2 0) _ 1024 (off10 t h3) (by norm_num) _
  · exact term R t 1 h1 _ (kp.2.2 1) _ 1024 (off11 t h3) (by norm_num) _
  · exact vals t _ kp.2.1 _ 0 (rfl) (by norm_num) _
  · exact vals t _ kp.2.1 _ 1024 (off12 t h3) (by norm_num) _
  · rw [coord2]
    omega
  · exact fun s => (fox_scale _ _).trans (by unfold foxL qk; ring)
  · rw [coord2]

end Cert.KernelIdeal.Out

end
-- ==== Proof.OutDif.lean ====
/- The grid points of the differential heads: each writes its query tile's two attentions, combined and normalised. -/
module

public import Idealize.ShloMosaic.Lib.Pipeline.ValueKit
public import Idealize.ShloMosaic.Lib.Pipeline.ReadBack
public import proofs.«01_k».proof.Proof.Gen.KernelIdeal.Frame
public import proofs.«01_k».proof.Proof.Out

@[expose] public section

set_option maxRecDepth 16384

noncomputable section

open Idealize.ShloMosaic Idealize.ShloMosaic.TcCoe

namespace Cert.KernelIdeal.Out

open Cert.KernelIdeal Cert.KernelIdeal.Gen Cert.Attn Cert.KernelIdeal.Tile Cert.KernelIdeal.Blocks Cert.KernelIdeal.Scratch
  Cert.KernelIdeal.Toe

variable (m : (ℓ : Loc nD τ sig) → Buf (Elt Ideal) ℓ) (c : Dev nD) (R : RealArgs m c) (t : Fin cfg0.N)

/-- The second key tile's first position, as the kernel's body works it out. -/
theorem word_F : ∀ t : Fin cfg0.N, 4 ≤ t.val % 8 → Scalar.muli (Scalar.select (Scalar.andi (Scalar.cmpi .ne (Scalar.subi (Scalar.extui (Scalar.cmpi .sgt (Scalar.muli (BitVec.ofNat 32 (grid0.coords t 2).val) 256#32) 0#32) : BitVec 32) (Scalar.extui (Scalar.cmpi .slt (Scalar.muli (BitVec.ofNat 32 (grid0.coords t 2).val) 256#32) 0#32) : BitVec 32)) 1#32) (Scalar.cmpi .ne (Scalar.remsi (Scalar.muli (BitVec.ofNat 32 (grid0.coords t 2).val) 256#32) 1024#32) 0#32)) (Scalar.subi (Scalar.divsi (Scalar.muli (BitVec.ofNat 32 (grid0.coords t 2).val) 256#32) 1024#32) 1#32) (Scalar.divsi (Scalar.muli (BitVec.ofNat 32 (grid0.coords t 2).val) 256#32) 1024#32)) 1024#32 = BitVec.ofNat 32 1024 := by decide +kernel

theorem inb_off13 (t : Fin cfg0.N) (k : Fin 4) (h : t.val % 8 ≤ 3) (x : Fin 4) :
    k0_off13 (grid0.coords t) (BitVec.ofNat 32 k.val) x + (![1, 1, 256, 256] : Fin 4 → ℕ) x ≤ S1x8x256x256.size x := by
  rw [off13 t k h]
  fin_cases x
  · exact le_refl _
  · show t.val % 8 - 0 / 256 - k.val + 1 ≤ 8
    omega
  · exact le_refl _
  · exact le_refl _

theorem inb_off14 (t : Fin cfg0.N) (k : Fin 4) (h : 4 ≤ t.val % 8) (x : Fin 4) :
    k0_off14 (grid0.coords t) (BitVec.ofNat 32 k.val) x + (![1, 1, 256, 256] : Fin 4 → ℕ) x ≤ S1x8x256x256.size x := by
  rw [off14 t k h]
  fin_cases x
  · exact le_refl _
  · show t.val % 8 - 0 / 256 - k.val + 1 ≤ 8
    omega
  · exact le_refl _
  · exact le_refl _

theorem inb_off22 (t : Fin cfg0.N) (k : Fin 4) (h : 4 ≤ t.val % 8) (x : Fin 4) :
    k0_off22 (grid0.coords t) (BitVec.ofNat 32 k.val) x + (![1, 1, 256, 256] : Fin 4 → ℕ) x ≤ S1x8x256x256.size x := by
  rw [off22 t k h]
  fin_cases x
  · exact le_refl _
  · show t.val % 8 - 1024 / 256 - k.val + 1 ≤ 8
    omega
  · exact le_refl _
  · exact le_refl _

include R in
set_option maxHeartbeats 2000000 in
theorem dif_D (h0 : t.val % 8 = 0) (h1 : ¬t.val / 8 % 8 ≤ 3) (h4 : 4 ≤ t.val / 8 % 8) (h5 : t.val % 8 ≤ 3) (h6 : ¬4 ≤ t.val % 8) (l : Fin 128) (r : Fin 256) :
    (outsAt0 m c t.val t.isLt).1 (ix3 0 l r) = difV m c (t.val / 64) (t.val / 8 % 8) l (256 * (t.val % 8) + r.val) := by
  rw [outsAt0_D m c t h0 h1 h4 h5 h6]; dsimp only
  frame_open
  simp (disch := decide) only [↓ View.readCov_skip, ↓ View.readCov_cons_toLoadRect, ↓ View.readCov_fill]
  frame_out
  simp only [readCov_ld]
  refine (dif_rows _ _ _ (fun hh r => difL m c (t.val / 64) (t.val / 8 % 8) hh (256 * (t.val % 8) + r))
    (argV m c (t.val / 64) (t.val / 8 % 8)) (t.val % 8) (fun x j => ?_) l r).trans (by rw [blk6]; simp only [blk0]; rfl)
  refine (dif_small (grid0.coords t) (iblk m c 1 t) _ _ (fun s l => (argK m c (t.val / 64) (t.val / 8 % 8) s l).toReal)
      (fun r l => (argQ m c (t.val / 64) (t.val / 8 % 8) (256 * (t.val % 8) + r) l).toReal)
      (fun r s => (argT m c (bkn (256 * (t.val % 8) + r - s)) (t.val / 8 % 8 - 4)).toReal)
      (argV m c (t.val / 64) (t.val / 8 % 8))
      (fun k => View.ld (iblk m c 5 t) (Rect.unit (k0_off13 (grid0.coords t) (BitVec.ofNat 32 k.val)) ![1, 1, 256, 256] (inb_off13 t k (by omega))))
      ?_ ?_ ?_ ?_ x j (difL m c (t.val / 64) (t.val / 8 % 8) (j.val / 256) (256 * (t.val % 8) + j.val % 256)) 0 ?_ ?_).trans ?_
  · exact queries R t
  · exact keys R t _ (kb_first m c t) _ 0 (rfl) (by norm_num) _
  · exact vals t _ (vb_canon m c t) _ 0 (rfl) (by norm_num) _
  · rw [coord2]
    exact bias R t h1 (fun k => k0_off13 (grid0.coords t) (BitVec.ofNat 32 k.val)) 0 (.inl rfl) (fun k => off13 t k (by omega)) (fun k => inb_off13 t k (by omega))
  · rw [coord2]
    omega
  · exact fun s => (dif_scale _ _).trans (by unfold difL qk; ring)
  · rw [coord2]

include R in
set_option maxHeartbeats 2000000 in
theorem dif_E (h0 : ¬t.val % 8 = 0) (h1 : ¬t.val / 8 % 8 ≤ 3) (h4 : 4 ≤ t.val / 8 % 8) (h5 : t.val % 8 ≤ 3) (h6 : ¬4 ≤ t.val % 8) (l : Fin 128) (r : Fin 256) :
    (outsAt0 m c t.val t.isLt).1 (ix3 0 l r) = difV m c (t.val / 64) (t.val / 8 % 8) l (256 * (t.val % 8) + r.val) := by
  have kp := kept m c t.val t.isLt
  unfold Kept at kp
  rw [carried m c t h0] at kp
  rw [outsAt0_E m c t h0 h1 h4 h5 h6]; dsimp only
  frame_open
  simp (disch := decide) only [↓ View.readCov_skip, ↓ View.readCov_cons_toLoadRect, ↓ View.readCov_fill]
  frame_out
  simp only [read_unread_whole]
  refine (dif_rows _ _ _ (fun hh r => difL m c (t.val / 64) (t.val / 8 % 8) hh (256 * (t.val % 8) + r))
    (argV m c (t.val / 64) (t.val / 8 % 8)) (t.val % 8) (fun x j => ?_) l r).trans (by rw [blk6]; simp only [blk0]; rfl)
  refine (dif_small (grid0.coords t) (iblk m c 1 t) _ _ (fun s l => (argK m c (t.val / 64) (t.val / 8 % 8) s l).toReal)
      (fun r l => (argQ m c (t.val / 64) (t.val / 8 % 8) (256 * (t.val % 8) + r) l).toReal)
      (fun r s => (argT m c (bkn (256 * (t.val % 8) + r - s)) (t.val / 8 % 8 - 4)).toReal)
      (argV m c (t.val / 64) (t.val / 8 % 8))
      (fun k => View.ld (iblk m c 5 t) (Rect.unit (k0_off13 (grid0.coords t) (BitVec.ofNat 32 k.val)) ![1, 1, 256, 256] (inb_off13 t k (by omega))))
      ?_ ?_ ?_ ?_ x j (difL m c (t.val / 64) (t.val / 8 % 8) (j.val / 256) (256 * (t.val % 8) + j.val % 256)) 0 ?_ ?_).trans ?_
  · exact queries R t
  · exact keys R t _ kp.1 _ 0 (rfl) (by norm_num) _
  · exact vals t _ kp.2.1 _ 0 (rfl) (by norm_num) _
  · rw [coord2]
    exact bias R t h1 (fun k => k0_off13 (grid0.coords t) (BitVec.ofNat 32 k.val)) 0 (.inl rfl) (fun k => off13 t k (by omega)) (fun k => inb_off13 t k (by omega))
  · rw [coord2]
    omega
  · exact fun s => (dif_scale _ _).trans (by unfold difL qk; ring)
  · rw [coord2]

include R in
set_option maxHeartbeats 2000000 in
theorem dif_F (h0 : ¬t.val % 8 = 0) (h1 : ¬t.val / 8 % 8 ≤ 3) (h4 : 4 ≤ t.val / 8 % 8) (h5 : ¬t.val % 8 ≤ 3) (h6 : 4 ≤ t.val % 8) (l : Fin 128) (r : Fin 256) :
    (outsAt0 m c t.val t.isLt).1 (ix3 0 l r) = difV m c (t.val / 64) (t.val / 8 % 8) l (256 * (t.val % 8) + r.val) := by
  have kp := kept m c t.val t.isLt
  unfold Kept at kp
  rw [carried m c t h0] at kp
  rw [outsAt0_F m c t h0 h1 h4 h5 h6]; dsimp only
  have ht3 := trips3 t h6
  have ht4 := trips4 t h6
  frame_open
  simp only [ht3, pb_k0_t3, ht4, pb_k0_t4, List.nil_append, List.append_nil]
  simp (disch := decide) only [↓ View.readCov_skip, ↓ View.readCov_cons_toLoadRect, ↓ View.readCov_fill]
  frame_out
  simp only [read_unread_whole]
  refine (dif_rows _ _ _ (fun hh r => difL m c (t.val / 64) (t.val / 8 % 8) hh (256 * (t.val % 8) + r))
    (argV m c (t.val / 64) (t.val / 8 % 8)) (t.val % 8) (fun x j => ?_) l r).trans (by rw [blk6]; simp only [blk0]; rfl)
  refine (dif_big (grid0.coords t) (iblk m c 1 t) _ _ _ _ (fun s l => (argK m c (t.val / 64) (t.val / 8 % 8) s l).toReal)
      (fun r l => (argQ m c (t.val / 64) (t.val / 8 % 8) (256 * (t.val % 8) + r) l).toReal)
      (fun r s => (argT m c (bkn (256 * (t.val % 8) + r - s)) (t.val / 8 % 8 - 4)).toReal)
      (argV m c (t.val / 64) (t.val / 8 % 8))
      (fun k => View.ld (iblk m c 5 t) (Rect.unit (k0_off14 (grid0.coords t) (BitVec.ofNat 32 k.val)) ![1, 1, 256, 256] (inb_off14 t k (by omega))))
      (fun k => View.ld (iblk m c 5 t) (Rect.unit (k0_off22 (grid0.coords t) (BitVec.ofNat 32 k.val)) ![1, 1, 256, 256] (inb_off22 t k (by omega))))
      _ ?_ ?_ ?_ ?_ ?_ ?_ ?_ ?_ x j
      (difL m c (t.val / 64) (t.val / 8 % 8) (j.val / 256) (256 * (t.val % 8) + j.val % 256)) 0 ?_ ?_).trans ?_
  · exact word_F t h6
  · exact queries R t
  · exact keys R t _ kp.1 _ 0 (rfl) (by norm_num) _
  · exact keys R t _ kp.1 _ 1024 (off21 t h6) (by norm_num) _
  · exact vals t _ kp.2.1 _ 0 (rfl) (by norm_num) _
  · exact vals t _ kp.2.1 _ 1024 (off23 t h6) (by norm_num) _
  · rw [coord2]
    exact bias R t h1 (fun k => k0_off14 (grid0.coords t) (BitVec.ofNat 32 k.val)) 0 (.inl rfl) (fun k => off14 t k (by omega)) (fun k => inb_off14 t k (by omega))
  · rw [coord2]
    exact bias R t h1 (fun k => k0_off22 (grid0.coords t) (BitVec.ofNat 32 k.val)) 1024 (.inr rfl) (fun k => off22 t k (by omega)) (fun k => inb_off22 t k (by omega))
  · rw [coord2]
    omega
  · exact fun s => (dif_scale _ _).trans (by unfold difL qk; ring)
  · rw [coord2]

end Cert.KernelIdeal.Out

end
-- ==== Proof.KernelValue.lean ====
/- The kernel's result array: at a batch, a row of a head pair and a query, the attention of that query. -/
module

public import proofs.«01_k».proof.Proof.Gen.KernelIdeal.Value
public import proofs.«01_k».proof.Proof.OutFox
public import proofs.«01_k».proof.Proof.OutDif

@[expose] public section

set_option maxRecDepth 16384

noncomputable section

open Idealize.ShloMosaic Idealize.ShloMosaic.TcCoe

namespace Cert.KernelIdeal.Out

open Cert.KernelIdeal Cert.KernelIdeal.Gen Cert.Attn

variable (m : (ℓ : Loc nD τ sig) → Buf (Elt Ideal) ℓ) (c : Dev nD) (R : RealArgs m c)

/-- Head pair `p` of batch `b` at its row `l` and query `t`. -/
def row (b p : ℕ) (l : Fin 128) (t : ℕ) : EReal := if p ≤ 3 then foxV m c b p l.val t else difV m c b p l t

include R in
theorem out (t : Fin cfg0.N) (l : Fin 128) (r : Fin 256) :
    (outsAt0 m c t.val t.isLt).1 (ix3 0 l r) = row m c (t.val / 64) (t.val / 8 % 8) l (256 * (t.val % 8) + r.val) := by
  unfold row
  by_cases h1 : t.val / 8 % 8 ≤ 3
  · rw [if_pos h1]
    have h4 : ¬4 ≤ t.val / 8 % 8 := by omega
    by_cases h2 : t.val % 8 ≤ 3
    · by_cases h0 : t.val % 8 = 0
      · exact fox_A m c R t h0 h1 h2 (by omega) h4 l r
      · exact fox_B m c R t h0 h1 h2 (by omega) h4 l r
    · exact fox_C m c R t (by omega) h1 h2 (by omega) h4 l r
  · rw [if_neg h1]
    have h4 : 4 ≤ t.val / 8 % 8 := by omega
    by_cases h2 : t.val % 8 ≤ 3
    · by_cases h0 : t.val % 8 = 0
      · exact dif_D m c R t h0 h1 h4 h2 (by omega) l r
      · exact dif_E m c R t h0 h1 h4 h2 (by omega) l r
    · exact dif_F m c R t (by omega) h1 h4 h2 (by omega) l r

/-- The result array. -/
def spec : Vec Ideal S8x1024x2048 .f32 := fun i =>
  row m c (i 0).val ((i 1).val / 128) ⟨(i 1).val % 128, Nat.mod_lt _ (by norm_num)⟩ (i 2).val

include R in
theorem value : Value.G7 m c = spec m c := by
  funext i
  have h0 : (i 0).val < 8 := (i 0).isLt
  have h1 : (i 1).val < 1024 := (i 1).isLt
  have h2 : (i 2).val < 2048 := (i 2).isLt
  have hp : Value.pt7Of i = 64 * (i 0).val + 8 * ((i 1).val / 128) + (i 2).val / 256 := by
    unfold Value.pt7Of Value.run7Of
    omega
  have hN : Value.pt7Of i < cfg0.N := by
    rw [hp]; show _ < 512; omega
  unfold Value.G7
  rw [dif_pos hN, ← Value.outsAt0_sweep]
  have e : Value.loc7Of i = ix3 0 ⟨(i 1).val % 128, Nat.mod_lt _ (by norm_num)⟩ ⟨(i 2).val % 256, Nat.mod_lt _ (by norm_num)⟩ := by
    funext a; apply Fin.ext; fin_cases a
    · show (i 0).val % 1 = 0
      omega
    · rfl
    · rfl
  rw [e]
  refine (out m c R ⟨Value.pt7Of i, hN⟩ _ _).trans ?_
  unfold spec
  show row m c (Value.pt7Of i / 64) (Value.pt7Of i / 8 % 8) _ (256 * (Value.pt7Of i % 8) + (i 2).val % 256) = _
  rw [hp]
  congr 1 <;> omega

end Cert.KernelIdeal.Out

end
-- ==== Proof.Ref.lean ====
/- The reference program's logits: a query and a key's product over eight plus the bias of the head, or minus infinity
   for a key after the query. -/
module

public import Idealize.ShloMosaic.Lib.Pipeline.ValueKit
public import Idealize.ShloMosaic.Lib.Pointwise.Reduce
public import Idealize.ShloMosaic.Lib.WordCmp
public import proofs.«01_k».proof.Proof.Gen.ReferenceIdeal.Read
public import proofs.«01_k».proof.Proof.Bucket

@[expose] public section

set_option maxRecDepth 16384

noncomputable section

open Idealize.ShloMosaic Idealize.ShloMosaic.TcCoe

namespace Cert.ReferenceIdeal.Ref

open Cert.ReferenceIdeal Cert.ReferenceIdeal.Gen Cert.ReferenceIdeal.Read Cert.Attn

variable (x0 x1 x2 : (⟨S8x2048x16x64, .f32⟩ : BufTy).Contents (Elt Ideal)) (x3 : (⟨S8x2048x8, .f32⟩ : BufTy).Contents (Elt Ideal))
  (x4 : (⟨S32x16, .f32⟩ : BufTy).Contents (Elt Ideal)) (x5 : (⟨S4x64, .f32⟩ : BufTy).Contents (Elt Ideal))
  (x6 : (⟨S128, .f32⟩ : BufTy).Contents (Elt Ideal))

theorem fox_bias (b : Fin 8) (h : Fin 8) (t s : Fin 2048) :
    val_main_v6 (F := Ideal) x3 (ix4 b h t s) = ((x3 (ix3 b t h) - x3 (ix3 b s h) : EReal)) := by
  unfold val_main_v6 val_main_v5 val_main_v4 val_main_v3 val_main_v2 val_main_v0
  pointwise

theorem bucket_word (t s : Fin 2048) :
    val_main_v32 (F := Ideal) (ix2 t s) = bk (IntOp.subi (BitVec.ofNat 32 t.val) (BitVec.ofNat 32 s.val)) := by
  unfold val_main_v32 val_main_v31 val_main_v30 val_main_v29 val_main_v28 val_main_v27 val_main_v26 val_main_v25 val_main_v24
    val_main_v23 val_main_v22 val_main_v21 val_main_v20 val_main_v19 val_main_v18 val_main_v17 val_main_v16 val_main_v15
    val_main_v14 val_main_v13 val_main_v12 val_main_v11 val_main_v10 val_main_v9 val_main_v8 val_main_v1 val_main_c val_main_c_0
    val_main_c_3 val_main_c_4 val_main_c_5 val_main_cst val_main_cst_1 val_main_cst_2
  pointwise
  rfl

theorem seen_word (t s : Fin 2048) :
    val_main_v50 (F := Ideal) (ix2 t s) = IntOp.cmpi .sle (BitVec.ofNat 32 s.val) (BitVec.ofNat 32 t.val) := by
  unfold val_main_v50 val_main_v49 val_main_v48 val_main_v47 val_main_v46 val_main_v1
  pointwise

theorem index_word (t s : Fin 2048) (h : s.val ≤ t.val) :
    val_main_v38 (F := Ideal) (ix3 t s 0) = BitVec.ofNat 32 (bkn (t.val - s.val)) := by
  have hw : IntOp.subi (BitVec.ofNat 32 t.val) (BitVec.ofNat 32 s.val) = BitVec.ofNat 32 (t.val - s.val) := by
    show BitVec.ofNat 32 t.val - BitVec.ofNat 32 s.val = _
    apply BitVec.eq_of_toNat_eq
    simp only [BitVec.toNat_sub, BitVec.toNat_ofNat]
    omega
  have hb : bk (BitVec.ofNat 32 (t.val - s.val)) = BitVec.ofNat 32 (bkn (t.val - s.val)) := by
    rw [bkn, BitVec.ofNat_toNat, BitVec.setWidth_eq]
  have hn : ∀ k : Fin 32, Scalar.select (IntOp.cmpi .slt (BitVec.ofNat 32 k.val) 0#32) (IntOp.addi (BitVec.ofNat 32 k.val) 32#32) (BitVec.ofNat 32 k.val)
      = BitVec.ofNat 32 k.val := by decide +kernel
  unfold val_main_v38 val_main_v37 val_main_v36 val_main_v35 val_main_v34 val_main_v33 val_main_c_6 val_main_c_7
  pointwise
  rw [bucket_word, hw, hb]
  exact hn ⟨_, bk_lt _ (by omega)⟩

theorem gather_row (x : (⟨S32x4, .f32⟩ : BufTy).Contents (Elt Ideal)) (idx : IVec S2048x2048x1 32) (t s : Fin 2048) (h : Fin 4) (n : Fin 32)
    (hn : idx (ix3 t s 0) = BitVec.ofNat 32 n.val) :
    Host.gather gather_S32x4_S2048x2048x1_S2048x2048x4_2_0_n_n_0_2_14 x idx (ix3 t s h) = x (ix2 n h) := by
  unfold Host.gather
  congr 1
  have hv : ∀ k : Fin 32, min ((BitVec.ofNat 32 k.val).toInt.toNat) 31 = k.val := by decide +kernel
  funext a
  refine Fin.ext ?_
  show gather_S32x4_S2048x2048x1_S2048x2048x4_2_0_n_n_0_2_14.start (ix3 t s h) idx a
    + gather_S32x4_S2048x2048x1_S2048x2048x4_2_0_n_n_0_2_14.batchCoord (ix3 t s h) a
    + gather_S32x4_S2048x2048x1_S2048x2048x4_2_0_n_n_0_2_14.offCoord (ix3 t s h) a = _
  obtain rfl | rfl : a = 0 ∨ a = 1 := by
    match a with
    | ⟨0, _⟩ => exact Or.inl rfl
    | ⟨1, _⟩ => exact Or.inr rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x4_S2048x2048x1_S2048x2048x4_2_0_n_n_0_2_14.startIndexMap from List.mem_singleton.mpr rfl)]
    have hsi : gather_S32x4_S2048x2048x1_S2048x2048x4_2_0_n_n_0_2_14.siIdx (ix3 t s h)
        ⟨List.idxOf (0 : Fin 2) gather_S32x4_S2048x2048x1_S2048x2048x4_2_0_n_n_0_2_14.startIndexMap,
          List.idxOf_lt_length_iff.2 (List.mem_singleton.mpr rfl)⟩ = ix3 t s 0 := by
      funext b; refine Fin.ext ?_
      match b with
      | ⟨0, _⟩ => rfl
      | ⟨1, _⟩ => rfl
      | ⟨2, _⟩ => rfl
    rw [hsi, hn]
    exact hv n
  · rw [GatherDims.batchCoord_eq_zero _ _ _ List.not_mem_nil]
    unfold GatherDims.start
    rw [dif_neg (by decide)]
    simp only [Nat.zero_add, Nat.add_zero]
    rfl

theorem dif_bias (b : Fin 8) (h : Fin 8) (t s : Fin 2048) (hs : s.val ≤ t.val) :
    val_main_v44 (F := Ideal) x4 (ix4 b h t s)
      = x4 (ix2 ⟨bkn (t.val - s.val), bk_lt _ (by omega)⟩ ⟨h.val / 2, by omega⟩) := by
  rw [val_main_v44_apply, val_main_v43_apply, val_main_v42_apply, val_main_v41_apply, val_main_v40_apply]
  have e : idx_main_v40 (idx_main_v41 (idx_main_v42 (idx_main_v43 (idx_main_v44 (ix4 b h t s))))) = ix3 t s ⟨h.val / 2, by omega⟩ := by
    blk_ext [idx_main_v40, idx_main_v41, idx_main_v42, idx_main_v43, idx_main_v44]
  rw [e]
  unfold val_main_v39
  rw [gather_row _ _ t s _ ⟨bkn (t.val - s.val), bk_lt _ (by omega)⟩ (index_word t s hs)]
  unfold val_main_v7
  pointwise

theorem bias_lo (b : Fin 8) (h : Fin 16) (hh : h.val < 8) (t s : Fin 2048) :
    val_main_v45 (F := Ideal) x3 x4 (ix4 b h t s) = val_main_v6 (F := Ideal) x3 (ix4 b ⟨h.val, hh⟩ t s) := by
  unfold val_main_v45
  pointwise
  rw [dif_pos hh]

theorem bias_hi (b : Fin 8) (h : Fin 16) (hh : ¬h.val < 8) (t s : Fin 2048) :
    val_main_v45 (F := Ideal) x3 x4 (ix4 b h t s) = val_main_v44 (F := Ideal) x4 (ix4 b ⟨h.val - 8, by omega⟩ t s) := by
  unfold val_main_v45
  pointwise
  rw [dif_neg hh]

theorem product (b : Fin 8) (h : Fin 16) (t s : Fin 2048) :
    val_main_v54 (F := Ideal) x0 x1 (ix4 b h t s)
      = ((∑ d : Fin 64, x0 (ix4 b t h d) * x1 (ix4 b s h d)) * Ideal.ofBits FTy.f32 0x3E000000#32 : EReal) := by
  unfold val_main_v54 val_main_v53 val_main_v52 val_main_cst_9
  pointwise

theorem ninf : Ideal.ofBits FTy.f32 0xFF800000#32 = ⊥ := by
  have h : BitVec.extractLsb' 31 1 0xFF800000#32 = 1#1 := by decide
  rw [Ideal.ofBits]; norm_num [Ideal.ieee, Nat.shiftRight_eq_div_pow, h]

theorem logit (b : Fin 8) (h : Fin 16) (t s : Fin 2048) :
    val_main_v55 (F := Ideal) x0 x1 x3 x4 (ix4 b h t s)
      = (val_main_v54 (F := Ideal) x0 x1 (ix4 b h t s)
        + (if s.val ≤ t.val then val_main_v45 (F := Ideal) x3 x4 (ix4 b h t s) else ⊥) : EReal) := by
  unfold val_main_v55 val_main_v51 val_main_call1_v2 val_main_call1_v1 val_main_call1_v0 val_main_cst_8
  pointwise
  rw [seen_word]
  rw [WordCmp.cmpi_sle_eq, WordCmp.toInt_ofNat_of_lt (by omega), WordCmp.toInt_ofNat_of_lt (by omega)]
  by_cases hs : s.val ≤ t.val
  · rw [if_pos hs, show decide ((s.val : ℤ) ≤ (t.val : ℤ)) = true by simpa using hs]
    rfl
  · rw [if_neg hs, show decide ((s.val : ℤ) ≤ (t.val : ℤ)) = false by simpa using hs]
    exact congrArg (_ + ·) ninf

theorem largest (b : Fin 8) (h : Fin 16) (t : Fin 2048) :
    val_main_v56 (F := Ideal) x0 x1 x3 x4 (ix3 b h t)
      = Finset.univ.fold max (⊥ : EReal) (fun s : Fin 2048 => val_main_v55 (F := Ideal) x0 x1 x3 x4 (ix4 b h t s)) := by
  unfold val_main_v56 val_main_cst_10
  pointwise
  rw [ninf]

theorem weight (b : Fin 8) (h : Fin 16) (t s : Fin 2048) :
    val_main_v60 (F := Ideal) x0 x1 x3 x4 (ix4 b h t s)
      = Ideal.exp (val_main_v55 (F := Ideal) x0 x1 x3 x4 (ix4 b h t s) - val_main_v56 (F := Ideal) x0 x1 x3 x4 (ix3 b h t)) := by
  unfold val_main_v60 val_main_v59 val_main_v58 val_main_v57
  pointwise

theorem total (b : Fin 8) (h : Fin 16) (t : Fin 2048) :
    val_main_v61 (F := Ideal) x0 x1 x3 x4 (ix3 b h t) = (∑ s : Fin 2048, val_main_v60 (F := Ideal) x0 x1 x3 x4 (ix4 b h t s) : EReal) := by
  unfold val_main_v61 val_main_cst_11
  pointwise

end Cert.ReferenceIdeal.Ref

end
-- ==== Proof.RefQuot.lean ====
/- The reference program's weighted sums of values over the totals of their weights. -/
module

public import Idealize.ShloMosaic.Lib.Pipeline.ValueKit
public import Idealize.ShloMosaic.Lib.Pointwise.Reduce
public import Idealize.ShloMosaic.Lib.WordCmp
public import proofs.«01_k».proof.Proof.Gen.ReferenceIdeal.Read
public import proofs.«01_k».proof.Proof.Ref

@[expose] public section

set_option maxRecDepth 16384

noncomputable section

open Idealize.ShloMosaic Idealize.ShloMosaic.TcCoe

namespace Cert.ReferenceIdeal.Ref

open Cert.ReferenceIdeal Cert.ReferenceIdeal.Gen Cert.ReferenceIdeal.Read Cert.Attn

variable (x0 x1 x2 : (⟨S8x2048x16x64, .f32⟩ : BufTy).Contents (Elt Ideal)) (x3 : (⟨S8x2048x8, .f32⟩ : BufTy).Contents (Elt Ideal))
  (x4 : (⟨S32x16, .f32⟩ : BufTy).Contents (Elt Ideal)) (x5 : (⟨S4x64, .f32⟩ : BufTy).Contents (Elt Ideal))
  (x6 : (⟨S128, .f32⟩ : BufTy).Contents (Elt Ideal))

theorem fox_quotient (b : Fin 8) (t : Fin 2048) (h : Fin 8) (d : Fin 64) :
    val_main_v76 (F := Ideal) x0 x1 x2 x3 x4 (ix4 b t h d)
      = Ideal.div (∑ s : Fin 2048, x2 (ix4 b s ⟨h.val, by omega⟩ d) * val_main_v60 (F := Ideal) x0 x1 x3 x4 (ix4 b ⟨h.val, by omega⟩ t s))
          (val_main_v61 (F := Ideal) x0 x1 x3 x4 (ix3 b ⟨h.val, by omega⟩ t)) := by
  unfold val_main_v76 val_main_v75 val_main_v74 val_main_v73 val_main_v72 val_main_v65 val_main_v64 val_main_v63 val_main_v62
  pointwise

theorem dif_values (b : Fin 8) (s : Fin 2048) (p : Fin 4) (x : Fin 128) :
    val_main_v69 (F := Ideal) x2 (ix4 b s p x) = x2 (ix4 b s ⟨8 + 2 * p.val + x.val / 64, by omega⟩ ⟨x.val % 64, by omega⟩) := by
  rw [val_main_v69_apply, val_main_v68_apply]
  refine congrArg x2 ?_
  blk_ext [idx_main_v68, idx_main_v69]

theorem dif_weights (b : Fin 8) (p : Fin 4) (hh : Fin 2) (t s : Fin 2048) :
    val_main_v67 (F := Ideal) x0 x1 x3 x4 (ix5 b p hh t s) = val_main_v60 (F := Ideal) x0 x1 x3 x4 (ix4 b ⟨8 + 2 * p.val + hh.val, by omega⟩ t s) := by
  rw [val_main_v67_apply, val_main_v66_apply]
  refine congrArg (val_main_v60 (F := Ideal) x0 x1 x3 x4) ?_
  blk_ext [idx_main_v66, idx_main_v67]

theorem dif_total (b : Fin 8) (t : Fin 2048) (p : Fin 4) (hh : Fin 2) (x : Fin 128) :
    val_main_v79 (F := Ideal) x0 x1 x3 x4 (ix5 b t p hh x) = val_main_v61 (F := Ideal) x0 x1 x3 x4 (ix3 b ⟨8 + 2 * p.val + hh.val, by omega⟩ t) := by
  rw [val_main_v79_apply, val_main_v78_apply, val_main_v77_apply, val_main_v72_apply]
  refine congrArg (val_main_v61 (F := Ideal) x0 x1 x3 x4) ?_
  blk_ext [idx_main_v72, idx_main_v77, idx_main_v78, idx_main_v79]

theorem dif_quotient (b : Fin 8) (t : Fin 2048) (p : Fin 4) (hh : Fin 2) (x : Fin 128) :
    val_main_v80 (F := Ideal) x0 x1 x2 x3 x4 (ix5 b t p hh x)
      = Ideal.div (∑ s : Fin 2048, x2 (ix4 b s ⟨8 + 2 * p.val + x.val / 64, by omega⟩ ⟨x.val % 64, by omega⟩)
            * val_main_v60 (F := Ideal) x0 x1 x3 x4 (ix4 b ⟨8 + 2 * p.val + hh.val, by omega⟩ t s))
          (val_main_v61 (F := Ideal) x0 x1 x3 x4 (ix3 b ⟨8 + 2 * p.val + hh.val, by omega⟩ t)) := by
  unfold val_main_v80
  pointwise
  rw [dif_total]
  congr 1
  rw [val_main_v71_apply, val_main_v70_apply]
  refine Finset.sum_congr rfl fun s _ => ?_
  have e1 : lidx_main_v70 (idx_main_v71 (ix5 b t p hh x)) s = ix4 b s p x := by
    blk_ext [lidx_main_v70, idx_main_v71]
  have e2 : ridx_main_v70 (idx_main_v71 (ix5 b t p hh x)) s = ix5 b p hh t s := by
    blk_ext [ridx_main_v70, idx_main_v71]
  rw [e1, e2, dif_values, dif_weights]

end Cert.ReferenceIdeal.Ref

end
-- ==== Proof.RefOut.lean ====
/- The reference program's result from its quotients: the combination of the two maps of a differential head, the
   normalisation, and the joined rows. -/
module

public import Idealize.ShloMosaic.Lib.Pipeline.ValueKit
public import Idealize.ShloMosaic.Lib.Pointwise.Reduce
public import Idealize.ShloMosaic.Lib.WordCmp
public import proofs.«01_k».proof.Proof.Gen.ReferenceIdeal.Read
public import proofs.«01_k».proof.Proof.Ref

@[expose] public section

set_option maxRecDepth 16384

noncomputable section

open Idealize.ShloMosaic Idealize.ShloMosaic.TcCoe

namespace Cert.ReferenceIdeal.Ref

open Cert.ReferenceIdeal Cert.ReferenceIdeal.Gen Cert.ReferenceIdeal.Read Cert.Attn

variable (x0 x1 x2 : (⟨S8x2048x16x64, .f32⟩ : BufTy).Contents (Elt Ideal)) (x3 : (⟨S8x2048x8, .f32⟩ : BufTy).Contents (Elt Ideal))
  (x4 : (⟨S32x16, .f32⟩ : BufTy).Contents (Elt Ideal)) (x5 : (⟨S4x64, .f32⟩ : BufTy).Contents (Elt Ideal))
  (x6 : (⟨S128, .f32⟩ : BufTy).Contents (Elt Ideal))

theorem row5 (k : Fin 64) :
    val_main_v82 (F := Ideal) x5 (ix1 k) = x5 (ix2 0 k) ∧ val_main_v84 (F := Ideal) x5 (ix1 k) = x5 (ix2 1 k)
    ∧ val_main_v89 (F := Ideal) x5 (ix1 k) = x5 (ix2 2 k) ∧ val_main_v91 (F := Ideal) x5 (ix1 k) = x5 (ix2 3 k) := by
  refine ⟨?_, ?_, ?_, ?_⟩
  · rw [val_main_v82_apply, val_main_v81_apply]
    refine congrArg x5 ?_
    blk_ext [idx_main_v81, idx_main_v82]
  · rw [val_main_v84_apply, val_main_v83_apply]
    refine congrArg x5 ?_
    blk_ext [idx_main_v83, idx_main_v84]
  · rw [val_main_v89_apply, val_main_v88_apply]
    refine congrArg x5 ?_
    blk_ext [idx_main_v88, idx_main_v89]
  · rw [val_main_v91_apply, val_main_v90_apply]
    refine congrArg x5 ?_
    blk_ext [idx_main_v90, idx_main_v91]

theorem factor (i : S_.Idx) :
    val_main_v96 (F := Ideal) x5 i = (Ideal.exp (∑ x : Fin 64, x5 (ix2 0 x) * x5 (ix2 1 x)) - Ideal.exp (∑ x : Fin 64, x5 (ix2 2 x) * x5 (ix2 3 x))
      + Ideal.ofBits FTy.f32 0x3E4CCCCD#32 : EReal) := by
  unfold val_main_v96 val_main_v95 val_main_v94 val_main_v93 val_main_v92 val_main_v87 val_main_v86 val_main_v85 val_main_cst_12
    val_main_cst_13 val_main_cst_14
  pointwise
  simp only [row5]

theorem maps (b : Fin 8) (t : Fin 2048) (p : Fin 4) (x : Fin 128) :
    val_main_v98 (F := Ideal) x0 x1 x2 x3 x4 (ix4 b t p x) = val_main_v80 (F := Ideal) x0 x1 x2 x3 x4 (ix5 b t p 0 x)
    ∧ val_main_v100 (F := Ideal) x0 x1 x2 x3 x4 (ix4 b t p x) = val_main_v80 (F := Ideal) x0 x1 x2 x3 x4 (ix5 b t p 1 x) := by
  refine ⟨?_, ?_⟩
  · rw [val_main_v98_apply, val_main_v97_apply]
    refine congrArg (val_main_v80 (F := Ideal) x0 x1 x2 x3 x4) ?_
    blk_ext [idx_main_v97, idx_main_v98]
  · rw [val_main_v100_apply, val_main_v99_apply]
    refine congrArg (val_main_v80 (F := Ideal) x0 x1 x2 x3 x4) ?_
    blk_ext [idx_main_v99, idx_main_v100]

theorem difference (b : Fin 8) (t : Fin 2048) (p : Fin 4) (x : Fin 128) :
    val_main_v103 (F := Ideal) x0 x1 x2 x3 x4 x5 (ix4 b t p x)
      = (val_main_v80 (F := Ideal) x0 x1 x2 x3 x4 (ix5 b t p 0 x)
        - val_main_v96 (F := Ideal) x5 ix0 * val_main_v80 (F := Ideal) x0 x1 x2 x3 x4 (ix5 b t p 1 x) : EReal) := by
  rw [val_main_v103_apply, val_main_v102_apply, val_main_v101_apply, (maps x0 x1 x2 x3 x4 b t p x).1, (maps x0 x1 x2 x3 x4 b t p x).2,
    show idx_main_v101 (ix4 b t p x) = ix0 from funext fun a => a.elim0]
  generalize val_main_v80 (F := Ideal) x0 x1 x2 x3 x4 = y
  generalize val_main_v96 (F := Ideal) x5 = z
  rfl

theorem squares (b : Fin 8) (t : Fin 2048) (p : Fin 4) :
    val_main_v105 (F := Ideal) x0 x1 x2 x3 x4 x5 (ix3 b t p)
      = (∑ x : Fin 128, val_main_v103 (F := Ideal) x0 x1 x2 x3 x4 x5 (ix4 b t p x)
          * val_main_v103 (F := Ideal) x0 x1 x2 x3 x4 x5 (ix4 b t p x) : EReal) := by
  rw [val_main_v105_apply, show (val_main_cst_15 (F := Ideal)) (Shape.Idx.first h_S_) = (0 : EReal) from Ideal.ofBits_zero_f32, zero_add]
  refine Finset.sum_congr rfl fun x _ => ?_
  rw [val_main_v104_apply, show idx_main_v105 (ix3 b t p) x = ix4 b t p x by blk_ext [idx_main_v105]]
  generalize val_main_v103 (F := Ideal) x0 x1 x2 x3 x4 x5 = y
  rfl

theorem inverse (b : Fin 8) (t : Fin 2048) (p : Fin 4) (l : Fin 128) :
    val_main_v112 (F := Ideal) x0 x1 x2 x3 x4 x5 (ix4 b t p l)
      = (Ideal.rsqrt (Ideal.div (val_main_v105 (F := Ideal) x0 x1 x2 x3 x4 x5 (ix3 b t p)) (Ideal.ofBits FTy.f32 0x43000000#32)
            + Ideal.ofBits FTy.f32 0x358637BD#32) : EReal) := by
  rw [val_main_v112_apply, val_main_v111_apply, val_main_v110_apply, val_main_v108_apply, val_main_v106_apply,
    show idx_main_v106 (idx_main_v112 (ix4 b t p l)) = ix3 b t p by blk_ext [idx_main_v106, idx_main_v112]]
  rw [val_main_v107_apply, val_main_v109_apply]
  generalize val_main_v105 (F := Ideal) x0 x1 x2 x3 x4 x5 = y
  rfl

theorem normalised (b : Fin 8) (t : Fin 2048) (p : Fin 4) (l : Fin 128) :
    val_main_v118 (F := Ideal) x0 x1 x2 x3 x4 x5 x6 (ix4 b t p l)
      = (val_main_v103 (F := Ideal) x0 x1 x2 x3 x4 x5 (ix4 b t p l)
        * Ideal.rsqrt (Ideal.div (∑ x : Fin 128, val_main_v103 (F := Ideal) x0 x1 x2 x3 x4 x5 (ix4 b t p x)
            * val_main_v103 (F := Ideal) x0 x1 x2 x3 x4 x5 (ix4 b t p x)) (Ideal.ofBits FTy.f32 0x43000000#32)
            + Ideal.ofBits FTy.f32 0x358637BD#32)
        * x6 (ix1 l) * Ideal.ofBits FTy.f32 0x3F4CCCCD#32 : EReal) := by
  rw [val_main_v118_apply, val_main_v116_apply, val_main_v113_apply, inverse, squares, val_main_v115_apply, val_main_v114_apply,
    val_main_v117_apply, show idx_main_v114 (idx_main_v115 (ix4 b t p l)) = ix1 l by blk_ext [idx_main_v114, idx_main_v115]]
  generalize val_main_v103 (F := Ideal) x0 x1 x2 x3 x4 x5 = y
  rfl

theorem result_lo (b : Fin 8) (w : Fin 1024) (t : Fin 2048) (hw : w.val < 512) :
    val_main_v122 (F := Ideal) x0 x1 x2 x3 x4 x5 x6 (ix3 b w t)
      = val_main_v76 (F := Ideal) x0 x1 x2 x3 x4 (ix4 b t ⟨w.val / 64, by omega⟩ ⟨w.val % 64, by omega⟩) := by
  unfold val_main_v122 val_main_v121
  pointwise
  rw [dif_pos hw, val_main_v119_apply]
  refine congrArg (val_main_v76 (F := Ideal) x0 x1 x2 x3 x4) ?_
  blk_ext [idx_main_v119]

theorem result_hi (b : Fin 8) (w : Fin 1024) (t : Fin 2048) (hw : ¬w.val < 512) :
    val_main_v122 (F := Ideal) x0 x1 x2 x3 x4 x5 x6 (ix3 b w t)
      = val_main_v118 (F := Ideal) x0 x1 x2 x3 x4 x5 x6 (ix4 b t ⟨w.val / 128 - 4, by omega⟩ ⟨w.val % 128, by omega⟩) := by
  unfold val_main_v122 val_main_v121
  pointwise
  rw [dif_neg hw, val_main_v120_apply]
  refine congrArg (val_main_v118 (F := Ideal) x0 x1 x2 x3 x4 x5 x6) ?_
  blk_ext [idx_main_v120]

end Cert.ReferenceIdeal.Ref

end
-- ==== Proof.RefValue.lean ====
/- The reference program's result array is the kernel's: at a batch, a row of a head pair and a query, the attention of
   that query. -/
module

public import proofs.«01_k».proof.Proof.KernelValue
public import proofs.«01_k».proof.Proof.RefQuot
public import proofs.«01_k».proof.Proof.RefOut

@[expose] public section

set_option maxRecDepth 16384

noncomputable section

open Idealize.ShloMosaic Idealize.ShloMosaic.TcCoe

namespace Cert.Same

open Cert.KernelIdeal Cert.KernelIdeal.Gen Cert.KernelIdeal.Tile Cert.KernelIdeal.Scratch Cert.KernelIdeal.Toe Cert.KernelIdeal.Out Cert.Attn
open Cert.ReferenceIdeal.Read Cert.ReferenceIdeal.Ref

variable (m : (ℓ : Loc nD τ sig) → Buf (Elt Ideal) ℓ) (c : Dev nD) (R : RealArgs m c)

/-- The queries. -/
abbrev a0 : (⟨S8x2048x16x64, .f32⟩ : BufTy).Contents (Elt Ideal) := m (c.tc.loc main_arg0)
/-- The keys. -/
abbrev a1 : (⟨S8x2048x16x64, .f32⟩ : BufTy).Contents (Elt Ideal) := m (c.tc.loc main_arg1)
/-- The values. -/
abbrev a2 : (⟨S8x2048x16x64, .f32⟩ : BufTy).Contents (Elt Ideal) := m (c.tc.loc main_arg2)
/-- The cumulative log-forget values. -/
abbrev a3 : (⟨S8x2048x8, .f32⟩ : BufTy).Contents (Elt Ideal) := m (c.tc.loc main_arg3)
/-- The bias table. -/
abbrev a4 : (⟨S32x16, .f32⟩ : BufTy).Contents (Elt Ideal) := m (c.tc.loc main_arg4)
/-- The vectors of the factor of the second map. -/
abbrev a5 : (⟨S4x64, .f32⟩ : BufTy).Contents (Elt Ideal) := m (c.tc.loc main_arg5)
/-- The gain of the normalisation. -/
abbrev a6 : (⟨S128, .f32⟩ : BufTy).Contents (Elt Ideal) := m (c.tc.loc main_arg6)

theorem query (b : Fin 8) (t : Fin 2048) (h : Fin 16) (d : Fin 64) :
    a0 m c (ix4 b t h d) = argQ m c b.val (h.val / 2) t.val (64 * (h.val % 2) + d.val) := by
  unfold argQ
  refine congrArg (a0 m c) ?_
  blk_ext []

theorem key (b : Fin 8) (t : Fin 2048) (h : Fin 16) (d : Fin 64) :
    a1 m c (ix4 b t h d) = argK m c b.val (h.val / 2) t.val (64 * (h.val % 2) + d.val) := by
  unfold argK
  refine congrArg (a1 m c) ?_
  blk_ext []

theorem val (b : Fin 8) (t : Fin 2048) (h : Fin 16) (d : Fin 64) (p l : ℕ) (hp : 2 * p + l / 64 = h.val) (hl : l % 64 = d.val) :
    a2 m c (ix4 b t h d) = argV m c b.val p l t.val := by
  unfold argV
  refine congrArg (a2 m c) ?_
  blk_ext []

theorem cum (b : Fin 8) (t : Fin 2048) (h : Fin 8) : a3 m c (ix3 b t h) = argC m c b.val h.val t.val := by
  unfold argC
  refine congrArg (a3 m c) ?_
  blk_ext []

theorem tab (n : Fin 32) (h : Fin 16) : a4 m c (ix2 n h) = argT m c n.val h.val := by
  unfold argT
  refine congrArg (a4 m c) ?_
  blk_ext []

theorem eighth : Ideal.ofBits FTy.f32 0x3E000000#32 = ((1 / 8 : ℝ) : EReal) := by
  have h : BitVec.extractLsb' 31 1 0x3E000000#32 = 0#1 := by decide
  rw [Ideal.ofBits]; norm_num [Ideal.ieee, Nat.shiftRight_eq_div_pow, h]

/-- A normalised row, given the row. -/
theorem normed_of (y o : Fin 128 → EReal) (g : EReal) (l : Fin 128) (h : ∀ x, y x = o x) :
    y l * Ideal.rsqrt (Ideal.div (∑ x : Fin 128, y x * y x) (Ideal.ofBits FTy.f32 0x43000000#32) + Ideal.ofBits FTy.f32 0x358637BD#32)
      * g * Ideal.ofBits FTy.f32 0x3F4CCCCD#32 = normed o g l := by
  rw [show y = o from funext h]
  rfl

include R

/-- A scaled product of a query and a key. -/
theorem scaled (b : Fin 8) (h : Fin 16) (t s : Fin 2048) :
    val_main_v54 (F := Ideal) (a0 m c) (a1 m c) (ix4 b h t s)
      = ((qk m c b.val (h.val / 2) (h.val % 2) t.val s.val * (1 / 8) : ℝ) : EReal) := by
  rw [product, eighth, EReal.coe_mul]
  refine congrArg (· * (((1 / 8 : ℝ)) : EReal)) ?_
  unfold qk dot
  rw [coe_sum, Finset.sum_range]
  refine Finset.sum_congr rfl fun d _ => ?_
  rw [query, key, EReal.coe_mul]
  exact congrArg₂ (fun a b : EReal => a * b) (R.rq _ _ _ _) (R.rk _ _ _ _)

/-- A logit of a head with forgetting. -/
theorem logit_lo (b : Fin 8) (h : Fin 16) (hh : h.val < 8) (t s : Fin 2048) :
    val_main_v55 (F := Ideal) (a0 m c) (a1 m c) (a3 m c) (a4 m c) (ix4 b h t s)
      = if s.val ≤ t.val then ((foxL m c b.val (h.val / 2) (h.val % 2) t.val s.val : ℝ) : EReal) else ⊥ := by
  rw [logit, scaled m c R]
  by_cases hs : s.val ≤ t.val
  · rw [if_pos hs, if_pos hs, bias_lo _ _ _ _ hh, fox_bias, cum, cum, R.rc _ _ t.val, R.rc _ _ s.val]
    unfold foxL
    rw [EReal.coe_add, EReal.coe_sub, show 2 * (h.val / 2) + h.val % 2 = h.val by omega]
  · rw [if_neg hs, if_neg hs, EReal.add_bot]

/-- A logit of a map of a differential head. -/
theorem logit_hi (b : Fin 8) (h : Fin 16) (hh : ¬h.val < 8) (t s : Fin 2048) :
    val_main_v55 (F := Ideal) (a0 m c) (a1 m c) (a3 m c) (a4 m c) (ix4 b h t s)
      = if s.val ≤ t.val then ((difL m c b.val (h.val / 2) (h.val % 2) t.val s.val : ℝ) : EReal) else ⊥ := by
  rw [logit, scaled m c R]
  by_cases hs : s.val ≤ t.val
  · rw [if_pos hs, if_pos hs, bias_hi _ _ _ _ hh, dif_bias _ _ _ _ _ hs, tab, R.rt]
    unfold difL
    rw [EReal.coe_add]
    simp only [show (h.val - 8) / 2 = h.val / 2 - 4 by omega]
  · rw [if_neg hs, if_neg hs, EReal.add_bot]

/-- A quotient of a head, given its logits. -/
theorem quotient (L : ℕ → ℝ) (v : ℕ → EReal) (w : Fin 2048 → EReal) (b : Fin 8) (h : Fin 16) (t : Fin 2048)
    (hw : ∀ s, w s = v s.val)
    (hL : ∀ s : Fin 2048, val_main_v55 (F := Ideal) (a0 m c) (a1 m c) (a3 m c) (a4 m c) (ix4 b h t s)
      = if s.val ≤ t.val then ((L s.val : ℝ) : EReal) else ⊥) :
    Ideal.div (∑ s : Fin 2048, w s * val_main_v60 (F := Ideal) (a0 m c) (a1 m c) (a3 m c) (a4 m c) (ix4 b h t s))
      (val_main_v61 (F := Ideal) (a0 m c) (a1 m c) (a3 m c) (a4 m c) (ix3 b h t)) = att L v t.val := by
  rw [total]
  refine Eq.trans ?_ (att_ref L v t.val
    (fun s => val_main_v55 (F := Ideal) (a0 m c) (a1 m c) (a3 m c) (a4 m c) (ix4 b h t s)) hL
    (val_main_v56 (F := Ideal) (a0 m c) (a1 m c) (a3 m c) (a4 m c) (ix3 b h t)) (largest _ _ _ _ b h t))
  refine congrArg₂ Ideal.div (Finset.sum_congr rfl fun s _ => ?_) (Finset.sum_congr rfl fun s _ => weight _ _ _ _ b h t s)
  rw [hw, mul_comm]
  exact congrArg (· * v s.val) (weight _ _ _ _ b h t s)

theorem fox (b : Fin 8) (t : Fin 2048) (h : Fin 8) (d : Fin 64) :
    val_main_v76 (F := Ideal) (a0 m c) (a1 m c) (a2 m c) (a3 m c) (a4 m c) (ix4 b t h d)
      = foxV m c b.val (h.val / 2) (64 * (h.val % 2) + d.val) t.val := by
  rw [fox_quotient]
  unfold foxV
  refine quotient m c R _ _ _ b ⟨h.val, by omega⟩ t (fun s => val m c b s _ _ _ _ ?_ ?_) fun s => ?_
  · show 2 * (h.val / 2) + (64 * (h.val % 2) + d.val) / 64 = h.val
    omega
  · omega
  · rw [show (64 * (h.val % 2) + d.val) / 64 = h.val % 2 by omega]
    exact logit_lo m c R b _ h.isLt t s

theorem dif (b : Fin 8) (t : Fin 2048) (p : Fin 4) (hh : Fin 2) (x : Fin 128) :
    val_main_v80 (F := Ideal) (a0 m c) (a1 m c) (a2 m c) (a3 m c) (a4 m c) (ix5 b t p hh x)
      = att (difL m c b.val (p.val + 4) hh.val t.val) (argV m c b.val (p.val + 4) x.val) t.val := by
  rw [dif_quotient]
  refine quotient m c R _ _ _ b ⟨8 + 2 * p.val + hh.val, by omega⟩ t (fun s => val m c b s _ _ _ _ ?_ rfl) fun s => ?_
  · show 2 * (p.val + 4) + x.val / 64 = 8 + 2 * p.val + x.val / 64
    omega
  · refine (logit_hi m c R b ⟨8 + 2 * p.val + hh.val, by omega⟩ (by show ¬8 + 2 * p.val + hh.val < 8; omega) t s).trans ?_
    rw [show (8 + 2 * p.val + hh.val) / 2 = p.val + 4 by omega, show (8 + 2 * p.val + hh.val) % 2 = hh.val by omega]

theorem normal (b : Fin 8) (t : Fin 2048) (p : Fin 4) (l : Fin 128) :
    val_main_v118 (F := Ideal) (a0 m c) (a1 m c) (a2 m c) (a3 m c) (a4 m c) (a5 m c) (a6 m c) (ix4 b t p l)
      = difV m c b.val (p.val + 4) l t.val := by
  have h : ∀ x : Fin 128, val_main_v103 (F := Ideal) (a0 m c) (a1 m c) (a2 m c) (a3 m c) (a4 m c) (a5 m c) (ix4 b t p x)
      = (att (difL m c b.val (p.val + 4) 0 t.val) (argV m c b.val (p.val + 4) x.val) t.val
        - lamv (fun a d => m (c.tc.loc main_arg5) (ix2 a d))
          * att (difL m c b.val (p.val + 4) 1 t.val) (argV m c b.val (p.val + 4) x.val) t.val : EReal) := by
    intro x
    rw [difference, dif m c R, dif m c R, factor, Fin.val_zero, Fin.val_one]
    unfold lamv
    generalize att (difL m c b.val (p.val + 4) 0 t.val) (argV m c b.val (p.val + 4) x.val) t.val = u
    generalize att (difL m c b.val (p.val + 4) 1 t.val) (argV m c b.val (p.val + 4) x.val) t.val = w
    with_reducible rfl
  rw [normalised]
  unfold difV
  exact normed_of _ _ _ l h

/-- The result arrays of the two programs are one. -/
theorem value : val_main_v122 (F := Ideal) (a0 m c) (a1 m c) (a2 m c) (a3 m c) (a4 m c) (a5 m c) (a6 m c) = spec m c := by
  funext i
  obtain ⟨b, w, t, rfl⟩ : ∃ (b : Fin 8) (w : Fin 1024) (t : Fin 2048), i = ix3 b w t := ⟨i 0, i 1, i 2, by blk_ext []⟩
  show _ = row m c b.val (w.val / 128) ⟨w.val % 128, _⟩ t.val
  unfold row
  by_cases hw : w.val < 512
  · rw [if_pos (by omega), result_lo _ _ _ _ _ _ _ _ _ _ hw, fox m c R]
    show foxV m c b.val (w.val / 64 / 2) (64 * (w.val / 64 % 2) + w.val % 64) t.val = foxV m c b.val (w.val / 128) (w.val % 128) t.val
    rw [show w.val / 64 / 2 = w.val / 128 by omega, show 64 * (w.val / 64 % 2) + w.val % 64 = w.val % 128 by omega]
  · rw [if_neg (by omega), result_hi _ _ _ _ _ _ _ _ _ _ hw, normal m c R]
    show difV m c b.val (w.val / 128 - 4 + 4) _ t.val = _
    rw [show w.val / 128 - 4 + 4 = w.val / 128 by omega]

end Cert.Same

end
-- ==== Proof.FfnMath.lean ====
/- The feed-forward part of a layer as mathematics: a row is normalised, taken to gates and values, gated, taken back,
   normalised and added to the row. -/
module

public import Idealize.ShloMosaic.Lib.Pipeline.ValueKit
public import Idealize.ShloMosaic.Lib.Claim

@[expose] public section

set_option maxRecDepth 16384

noncomputable section

open Idealize.ShloMosaic Idealize.ShloMosaic.TcCoe

namespace Cert.Ffn

/-- Entry `l` of a row divided by the root of its mean square, times a gain. -/
def normed (o : Fin 1024 → EReal) (g : EReal) (l : Fin 1024) : EReal :=
  o l * Ideal.rsqrt (Ideal.div (∑ x : Fin 1024, o x * o x) (Ideal.ofBits FTy.f32 0x44800000#32) + Ideal.ofBits FTy.f32 0x358637BD#32) * g

/-- A gate `a` applied to a value `b`. -/
def gated (a b : EReal) : EReal := a * Ideal.div 1 (1 + Ideal.exp (-a)) * b

variable (X : ℕ → ℕ → EReal) (G : ℕ → EReal) (W O : ℕ → ℕ → EReal) (H : ℕ → EReal)

/-- Row `r` normalised. -/
def hidden (r : ℕ) (d : Fin 1024) : EReal := normed (fun e => X r e.val) (G d.val) d

/-- Column `k` of the normalised row's product with the first weights. -/
def column (r k : ℕ) : EReal := ∑ d : Fin 1024, hidden X G r d * W d.val k

/-- Column `k` gated. -/
def act (r k : ℕ) : EReal := gated (column X G W r k) (column X G W r (2816 + k))

/-- The first `n` terms of column `j` of the product with the second weights. -/
def part (r j n : ℕ) : EReal := ∑ k ∈ Finset.range n, act X G W r k * O k j

/-- The result in row `r`, column `j`. -/
def result (r : ℕ) (j : Fin 1024) : EReal := X r j.val + normed (fun e => part X G W O r e.val 2816) (H j.val) j

/-- A normalised entry, given the row. -/
theorem normed_congr (y o : Fin 1024 → EReal) (g g' : EReal) (l : Fin 1024) (h : ∀ x, y x = o x) (hg : g = g') :
    normed y g l = normed o g' l := by
  rw [show y = o from funext h, hg]

theorem part_zero (r j : ℕ) : part X G W O r j 0 = 0 := by
  unfold part; rw [Finset.range_zero, Finset.sum_empty]

/-- The next 256 terms. -/
theorem part_step (r j n : ℕ) :
    part X G W O r j (n + 256) = part X G W O r j n + ∑ k : Fin 256, act X G W r (n + k.val) * O (n + k.val) j := by
  unfold part
  rw [Finset.sum_range_add, Finset.sum_range (n := 256)]

theorem part_all (r j : ℕ) : part X G W O r j 2816 = ∑ k : Fin 2816, act X G W r k.val * O k.val j := by
  unfold part
  rw [Finset.sum_range]

end Cert.Ffn

end
-- ==== Proof.FfnTile.lean ====
/- One step of the feed-forward kernel: the normalised rows, the product of the gated columns added to what was there,
   the result of the last step. -/
module

public import Idealize.ShloMosaic.Lib.Pipeline.ValueKit
public import Idealize.ShloMosaic.Lib.Pointwise.Reduce
public import proofs.«01_k».proof.Proof.Gen.Kernel2Ideal.Skeleton
public import proofs.«01_k».proof.Proof.FfnMath

@[expose] public section

set_option maxRecDepth 16384

noncomputable section

open Idealize.ShloMosaic Idealize.ShloMosaic.TcCoe

namespace Cert.Kernel2Ideal.Tile

open Cert.Kernel2Ideal Cert.Kernel2Ideal.Gen Cert.Ffn

theorem pay1_apply (v30 : Vec Ideal S1024x1024 .f32) (v32 : Vec Ideal S1x1024 .f32) (r d : Fin 1024) :
    k0_pay1 v30 v32 (ix2 r d) = normed (fun e => v30 (ix2 r e)) (v32 (ix2 0 d)) d := by
  unfold k0_pay1
  pointwise
  rfl

theorem pay2_apply (r d : Fin 1024) : k0_pay2 (F := Ideal) (ix2 r d) = (0 : EReal) := by
  unfold k0_pay2
  pointwise

theorem pay3_apply (v3 : Vec Ideal S1024x1024 .bf16) (v4 : Vec Ideal S1x1024x512 .bf16) (v7 : Vec Ideal S1024x1024 .f32)
    (v20 : Vec Ideal S256x1024 .bf16) (r j : Fin 1024) :
    k0_pay3 v3 v4 v7 v20 (ix2 r j) = (v7 (ix2 r j) + ∑ k : Fin 256,
      gated (∑ d : Fin 1024, v3 (ix2 r d) * v4 (ix3 0 d ⟨k.val, by omega⟩)) (∑ d : Fin 1024, v3 (ix2 r d) * v4 (ix3 0 d ⟨256 + k.val, by omega⟩))
        * v20 (ix2 k j) : EReal) := by
  unfold k0_pay3
  pointwise
  simp only [gated, zero_sub]

theorem pay4_apply (v30 v32 : Vec Ideal S1024x1024 .f32) (v33 : Vec Ideal S1x1024 .f32) (r j : Fin 1024) :
    k0_pay4 v30 v32 v33 (ix2 r j) = (v30 (ix2 r j) + normed (fun e => v32 (ix2 r e)) (v33 (ix2 0 j)) j : EReal) := by
  unfold k0_pay4
  pointwise
  rfl

end Cert.Kernel2Ideal.Tile

end
-- ==== Proof.FfnBlocks.lean ====
/- The blocks that the feed-forward kernel's grid points read, as entries of the arguments. -/
module

public import Idealize.ShloMosaic.Lib.Pipeline.ValueKit
public import Idealize.ShloMosaic.Lib.Claim
public import Idealize.ShloMosaic.Lib.StableHlo.RunRead
public import proofs.«01_k».proof.Proof.Gen.Kernel2Ideal.Frame

@[expose] public section

set_option maxRecDepth 16384

noncomputable section

open Idealize.ShloMosaic Idealize.ShloMosaic.TcCoe

namespace Cert.Kernel2Ideal.Blocks

open Cert.Kernel2Ideal Cert.Kernel2Ideal.Gen

variable (m : (ℓ : Loc nD τ sig) → Buf (Elt Ideal) ℓ)

theorem idx0 : ∀ t : Fin cfg0.N, win0_0.index t = ![t.val / 11, 0] := by decide +kernel
theorem idx1 : ∀ t : Fin cfg0.N, win0_1.index t = ![0, 0] := by decide +kernel
theorem idx2 : ∀ t : Fin cfg0.N, win0_2.index t = ![t.val % 11, 0, 0] := by decide +kernel
theorem idx3 : ∀ t : Fin cfg0.N, win0_3.index t = ![t.val % 11, 0] := by decide +kernel
theorem idx4 : ∀ t : Fin cfg0.N, win0_4.index t = ![0, 0] := by decide +kernel

/-- Row `r`, column `d` of the layer's input. -/
def argX (c : Dev nD) (r d : ℕ) : EReal :=
  m (c.tc.loc main_arg0) (ix3 ⟨r / 2048 % 8, Nat.mod_lt _ (by norm_num)⟩ ⟨r % 2048, Nat.mod_lt _ (by norm_num)⟩
    ⟨d % 1024, Nat.mod_lt _ (by norm_num)⟩)
/-- The gain of the first normalisation. -/
def argG (c : Dev nD) (d : ℕ) : EReal := m (c.tc.loc main_arg1) (ix1 ⟨d % 1024, Nat.mod_lt _ (by norm_num)⟩)
/-- The first weights. -/
def argW (c : Dev nD) (d k : ℕ) : EReal :=
  m (c.tc.loc main_arg2) (ix2 ⟨d % 1024, Nat.mod_lt _ (by norm_num)⟩ ⟨k % 5632, Nat.mod_lt _ (by norm_num)⟩)
/-- The second weights. -/
def argO (c : Dev nD) (k j : ℕ) : EReal :=
  m (c.tc.loc main_arg3) (ix2 ⟨k % 2816, Nat.mod_lt _ (by norm_num)⟩ ⟨j % 1024, Nat.mod_lt _ (by norm_num)⟩)
/-- The gain of the second normalisation. -/
def argH (c : Dev nD) (j : ℕ) : EReal := m (c.tc.loc main_arg4) (ix1 ⟨j % 1024, Nat.mod_lt _ (by norm_num)⟩)

theorem lt_16 (t : Fin cfg0.N) : t.val / 11 < 16 := by have h : t.val < 176 := t.isLt; omega

theorem blk0 (c : Dev nD) (t : Fin cfg0.N) (r d : Fin 1024) :
    iblk m c 0 t (ix2 r d) = argX m c (1024 * (t.val / 11) + r.val) d.val := by
  have ht := lt_16 t
  have h : iblk m c 0 t (ix2 r d) = V m c main_v8 (ix2 ⟨1024 * (t.val / 11) + r.val, by omega⟩ d) := by blk_ext [iblk, idx0 t]
  rw [h, V, argX]
  simp only [hostOps0]
  after_reads_simp
  pointwise
  blk_ext []

theorem blk1 (c : Dev nD) (t : Fin cfg0.N) (d : Fin 1024) :
    iblk m c 1 t (ix2 0 d) = argG m c d.val := by
  have h : iblk m c 1 t (ix2 0 d) = V m c main_v9 (ix2 0 d) := by blk_ext [iblk, idx1 t]
  rw [h, V, argG]
  simp only [hostOps0]
  after_reads_simp
  pointwise
  blk_ext []

theorem blk4 (c : Dev nD) (t : Fin cfg0.N) (d : Fin 1024) :
    iblk m c 4 t (ix2 0 d) = argH m c d.val := by
  have h : iblk m c 4 t (ix2 0 d) = V m c main_v10 (ix2 0 d) := by blk_ext [iblk, idx4 t]
  rw [h, V, argH]
  simp only [hostOps0]
  after_reads_simp
  pointwise
  blk_ext []

theorem blk3 (c : Dev nD) (t : Fin cfg0.N) (k : Fin 256) (j : Fin 1024) :
    iblk m c 3 t (ix2 k j) = argO m c (256 * (t.val % 11) + k.val) j.val := by
  have h : iblk m c 3 t (ix2 k j) = V m c main_v7 (ix2 ⟨256 * (t.val % 11) + k.val, by omega⟩ j) := by blk_ext [iblk, idx3 t]
  rw [h, V, argO]
  simp only [hostOps0]
  after_reads_simp
  pointwise
  blk_ext []

theorem blk2_gate (c : Dev nD) (t : Fin cfg0.N) (d : Fin 1024) (k : Fin 256) :
    iblk m c 2 t (ix3 0 d ⟨k.val, by omega⟩) = argW m c d.val (256 * (t.val % 11) + k.val) := by
  have h : iblk m c 2 t (ix3 0 d ⟨k.val, by omega⟩) = V m c main_v6 (ix3 ⟨t.val % 11, by omega⟩ d ⟨k.val, by omega⟩) := by
    blk_ext [iblk, idx2 t]
  rw [h, V, argW]
  simp only [hostOps0]
  after_reads_simp
  pointwise
  after_reads_simp
  pointwise
  blk_ext []

theorem blk2_value (c : Dev nD) (t : Fin cfg0.N) (d : Fin 1024) (k : Fin 256) :
    iblk m c 2 t (ix3 0 d ⟨256 + k.val, by omega⟩) = argW m c d.val (2816 + (256 * (t.val % 11) + k.val)) := by
  have h : iblk m c 2 t (ix3 0 d ⟨256 + k.val, by omega⟩) = V m c main_v6 (ix3 ⟨t.val % 11, by omega⟩ d ⟨256 + k.val, by omega⟩) := by
    blk_ext [iblk, idx2 t]
  rw [h, V, argW]
  simp only [hostOps0]
  after_reads_simp
  pointwise
  after_reads_simp
  pointwise
  blk_ext []

end Cert.Kernel2Ideal.Blocks

end
-- ==== Proof.FfnSteps.lean ====
/- What the feed-forward kernel keeps for a block of rows: the normalised rows, and the product with the second weights
   over the columns seen so far. The last step of a block writes its result. -/
module

public import Idealize.ShloMosaic.Lib.Pipeline.ValueKit
public import Idealize.ShloMosaic.Lib.Pipeline.ReadBack
public import proofs.«01_k».proof.Proof.Gen.Kernel2Ideal.Frame
public import proofs.«01_k».proof.Proof.FfnMath
public import proofs.«01_k».proof.Proof.FfnTile
public import proofs.«01_k».proof.Proof.FfnBlocks

@[expose] public section

set_option maxRecDepth 16384

noncomputable section

open Idealize.ShloMosaic Idealize.ShloMosaic.TcCoe

namespace Cert.Kernel2Ideal.Steps

open Cert.Kernel2Ideal Cert.Kernel2Ideal.Gen Cert.Kernel2Ideal.Blocks Cert.Kernel2Ideal.Tile Cert.Ffn

variable (m : (ℓ : Loc nD τ sig) → Buf (Elt Ideal) ℓ)

/-- The normalised rows of a grid point's block. -/
theorem first_h (c : Dev nD) (t : Fin cfg0.N) (r d : Fin 1024) :
    k0_pay1 (iblk m c 0 t) (iblk m c 1 t) (ix2 r d) = hidden (argX m c) (argG m c) (1024 * (t.val / 11) + r.val) d := by
  rw [pay1_apply]
  exact normed_congr _ _ _ _ _ (fun e => blk0 m c t r e) (blk1 m c t d)

/-- A grid point adds 256 columns, given the normalised rows and the sum so far. -/
theorem step (c : Dev nD) (t : Fin cfg0.N) (hs : Vec Ideal S1024x1024 .bf16) (ac : Vec Ideal S1024x1024 .f32)
    (hh : ∀ r d : Fin 1024, hs (ix2 r d) = hidden (argX m c) (argG m c) (1024 * (t.val / 11) + r.val) d)
    (ha : ∀ r j : Fin 1024, ac (ix2 r j) = part (argX m c) (argG m c) (argW m c) (argO m c) (1024 * (t.val / 11) + r.val) j.val (256 * (t.val % 11)))
    (r j : Fin 1024) :
    k0_pay3 hs (iblk m c 2 t) ac (iblk m c 3 t) (ix2 r j)
      = part (argX m c) (argG m c) (argW m c) (argO m c) (1024 * (t.val / 11) + r.val) j.val (256 * (t.val % 11 + 1)) := by
  rw [pay3_apply, ha, show 256 * (t.val % 11 + 1) = 256 * (t.val % 11) + 256 by omega, part_step]
  refine congrArg₂ (fun a b : EReal => a + b) rfl (Finset.sum_congr rfl fun k _ => ?_)
  rw [blk3]
  refine congrArg₂ (fun a b : EReal => a * b) ?_ rfl
  unfold act column
  refine congrArg₂ gated (Finset.sum_congr rfl fun d _ => ?_) (Finset.sum_congr rfl fun d _ => ?_)
  · rw [hh, blk2_gate]
  · rw [hh, blk2_value]

/-- What the two kept arrays hold after grid point `n`. -/
def Kept (c : Dev nD) (n : ℕ) (hn : n < cfg0.N) : Prop :=
  (∀ r d : Fin 1024, (outsAt0 m c n hn).2.1 (ix2 r d) = hidden (argX m c) (argG m c) (1024 * (n / 11) + r.val) d)
  ∧ (∀ r j : Fin 1024, (outsAt0 m c n hn).2.2 (ix2 r j)
    = part (argX m c) (argG m c) (argW m c) (argO m c) (1024 * (n / 11) + r.val) j.val (256 * (n % 11 + 1)))

theorem kept_A (c : Dev nD) (t : Fin cfg0.N) (h0 : t.val % 11 = 0) (h1 : ¬t.val % 11 = 10) : Kept m c t.val t.isLt := by
  refine ⟨fun r d => ?_, fun r j => ?_⟩
  · rw [outsAt0_A m c t h0 h1]; dsimp only; frame_out; exact first_h m c t r d
  · rw [outsAt0_A m c t h0 h1]; dsimp only; frame_out
    refine step m c t _ _ (first_h m c t) (fun r j => ?_) r j
    rw [pay2_apply, h0, Nat.mul_zero, part_zero]

theorem kept_next (c : Dev nD) (n : ℕ) (hn : n + 1 < cfg0.N) (h0 : ¬(n + 1) % 11 = 0) (ih : Kept m c n (by omega)) :
    Kept m c (n + 1) hn := by
  have e : (n + 1) / 11 = n / 11 := by omega
  have e' : (n + 1) % 11 = n % 11 + 1 := by omega
  by_cases h1 : (n + 1) % 11 = 10
  · refine ⟨fun r d => ?_, fun r j => ?_⟩
    · rw [outsAt0_C m c ⟨n + 1, hn⟩ h0 h1, e]
      exact ih.1 r d
    · rw [outsAt0_C m c ⟨n + 1, hn⟩ h0 h1]; dsimp only; frame_out
      simp only [read_unread_whole]
      refine step m c ⟨n + 1, hn⟩ _ _ (fun r d => ?_) (fun r j => ?_) r j
      · show _ = hidden _ _ (1024 * ((n + 1) / 11) + _) _
        rw [e]; exact ih.1 r d
      · show _ = part _ _ _ _ (1024 * ((n + 1) / 11) + _) _ (256 * ((n + 1) % 11))
        rw [e, e']; exact ih.2 r j
  · refine ⟨fun r d => ?_, fun r j => ?_⟩
    · rw [outsAt0_B m c ⟨n + 1, hn⟩ h0 h1, e]
      exact ih.1 r d
    · rw [outsAt0_B m c ⟨n + 1, hn⟩ h0 h1]; dsimp only; frame_out
      simp only [read_unread_whole]
      refine step m c ⟨n + 1, hn⟩ _ _ (fun r d => ?_) (fun r j => ?_) r j
      · show _ = hidden _ _ (1024 * ((n + 1) / 11) + _) _
        rw [e]; exact ih.1 r d
      · show _ = part _ _ _ _ (1024 * ((n + 1) / 11) + _) _ (256 * ((n + 1) % 11))
        rw [e, e']; exact ih.2 r j

theorem kept (c : Dev nD) : ∀ (n : ℕ) (hn : n < cfg0.N), Kept m c n hn := by
  intro n
  induction n with
  | zero =>
    intro hn
    exact kept_A m c ⟨0, hn⟩ (show 0 % 11 = 0 by decide) (show ¬0 % 11 = 10 by decide)
  | succ n ih =>
    intro hn
    by_cases h0 : (n + 1) % 11 = 0
    · exact kept_A m c ⟨n + 1, hn⟩ h0 (show ¬(n + 1) % 11 = 10 by omega)
    · exact kept_next m c n hn h0 (ih (by omega))

/-- The last grid point of a block of rows writes the block's result. -/
theorem last (c : Dev nD) (n : ℕ) (hn : n + 1 < cfg0.N) (h1 : (n + 1) % 11 = 10) (r j : Fin 1024) :
    (outsAt0 m c (n + 1) hn).1 (ix2 r j)
      = result (argX m c) (argG m c) (argW m c) (argO m c) (argH m c) (1024 * ((n + 1) / 11) + r.val) j := by
  have h0 : ¬(n + 1) % 11 = 0 := by omega
  have hk := (kept m c (n + 1) hn).2
  rw [outsAt0_C m c ⟨n + 1, hn⟩ h0 h1] at hk ⊢
  dsimp only at hk ⊢
  revert hk
  frame_out
  intro hk
  rw [pay4_apply]
  refine congrArg₂ (fun a b : EReal => a + b) (blk0 m c ⟨n + 1, hn⟩ r j) (normed_congr _ _ _ _ _ (fun e => ?_) (blk4 m c ⟨n + 1, hn⟩ j))
  refine (hk r e).trans ?_
  rw [h1]

end Cert.Kernel2Ideal.Steps

end
-- ==== Proof.FfnKernel.lean ====
/- The feed-forward kernel's result array: a row of the layer's input with its feed-forward part added. -/
module

public import proofs.«01_k».proof.Proof.Gen.Kernel2Ideal.Value
public import proofs.«01_k».proof.Proof.FfnSteps

@[expose] public section

set_option maxRecDepth 16384

noncomputable section

open Idealize.ShloMosaic Idealize.ShloMosaic.TcCoe

namespace Cert.Kernel2Ideal.Out

open Cert.Kernel2Ideal Cert.Kernel2Ideal.Gen Cert.Kernel2Ideal.Blocks Cert.Kernel2Ideal.Steps Cert.Ffn

variable (m : (ℓ : Loc nD τ sig) → Buf (Elt Ideal) ℓ) (c : Dev nD)

/-- The result array. -/
def spec : Vec Ideal S16384x1024 .f32 := fun i =>
  result (argX m c) (argG m c) (argW m c) (argO m c) (argH m c) (i 0).val ⟨(i 1).val % 1024, Nat.mod_lt _ (by norm_num)⟩

theorem value : Value.G5 m c = spec m c := by
  funext i
  have h0 : (i 0).val < 16384 := (i 0).isLt
  have h1 : (i 1).val < 1024 := (i 1).isLt
  have hp : Value.pt5Of i = 11 * ((i 0).val / 1024) + 9 + 1 := by
    unfold Value.pt5Of Value.run5Of
    omega
  have hN : Value.pt5Of i < cfg0.N := by
    rw [hp]; show _ < 176; omega
  unfold Value.G5
  rw [dif_pos hN, ← Value.outsAt0_sweep m c (Value.pt5Of i) hN]
  have e : Value.loc5Of i = ix2 ⟨(i 0).val % 1024, Nat.mod_lt _ (by norm_num)⟩ ⟨(i 1).val % 1024, Nat.mod_lt _ (by norm_num)⟩ := by
    funext a; apply Fin.ext; fin_cases a
    · rfl
    · rfl
  rw [e]
  simp only [hp]
  rw [last m c (11 * ((i 0).val / 1024) + 9) (by rw [← hp]; exact hN) (by omega)]
  unfold spec
  congr 1
  show 1024 * ((11 * ((i 0).val / 1024) + 9 + 1) / 11) + (i 0).val % 1024 = (i 0).val
  omega

end Cert.Kernel2Ideal.Out

end
-- ==== Proof.FfnRef.lean ====
/- The reference program of the feed-forward part, read entry by entry. -/
module

public import Idealize.ShloMosaic.Lib.Pipeline.ValueKit
public import Idealize.ShloMosaic.Lib.Pointwise.Reduce
public import proofs.«01_k».proof.Proof.Gen.Reference2Ideal.Read
public import proofs.«01_k».proof.Proof.FfnMath

@[expose] public section

set_option maxRecDepth 16384

noncomputable section

open Idealize.ShloMosaic Idealize.ShloMosaic.TcCoe

namespace Cert.Reference2Ideal.Ref

open Cert.Reference2Ideal Cert.Reference2Ideal.Gen Cert.Reference2Ideal.Read Cert.Ffn

variable (x0 : (⟨S8x2048x1024, .f32⟩ : BufTy).Contents (Elt Ideal)) (x1 x4 : (⟨S1024, .f32⟩ : BufTy).Contents (Elt Ideal))
  (x2 : (⟨S1024x5632, .f32⟩ : BufTy).Contents (Elt Ideal)) (x3 : (⟨S2816x1024, .f32⟩ : BufTy).Contents (Elt Ideal))

/-- The normalised input. -/
theorem normal (b : Fin 8) (t : Fin 2048) (d : Fin 1024) :
    val_main_v12 (F := Ideal) x0 x1 (ix3 b t d) = normed (fun e => x0 (ix3 b t e)) (x1 (ix1 d)) d := by
  unfold val_main_v12 val_main_v11 val_main_v10 val_main_v9 val_main_v8 val_main_v7 val_main_v6 val_main_v5 val_main_v4 val_main_v3
    val_main_v2 val_main_v1 val_main_v0 val_main_cst val_main_cst_0 val_main_cst_1
  pointwise
  rfl

/-- The product with the first weights. -/
theorem first (b : Fin 8) (t : Fin 2048) (k : Fin 5632) :
    val_main_v13 (F := Ideal) x0 x1 x2 (ix3 b t k)
      = ∑ d : Fin 1024, (normed (fun e => x0 (ix3 b t e)) (x1 (ix1 d)) d * x2 (ix2 d k) : EReal) := by
  rw [val_main_v13_apply]
  refine Finset.sum_congr rfl fun d _ => ?_
  rw [show lidx_main_v13 (ix3 b t k) d = ix3 b t d by blk_ext [lidx_main_v13], show ridx_main_v13 (ix3 b t k) d = ix2 d k by blk_ext [ridx_main_v13],
    normal]

/-- The gated columns. -/
theorem gate (b : Fin 8) (t : Fin 2048) (k : Fin 2816) :
    val_main_v17 (F := Ideal) x0 x1 x2 (ix3 b t k)
      = gated (val_main_v13 (F := Ideal) x0 x1 x2 (ix3 b t ⟨k.val, by omega⟩)) (val_main_v13 (F := Ideal) x0 x1 x2 (ix3 b t ⟨2816 + k.val, by omega⟩)) := by
  unfold val_main_v17 val_main_v16 val_main_call0_v5 val_main_call0_v4 val_main_call0_v3 val_main_call0_v2 val_main_call0_v1 val_main_call0_v0
    val_main_call0_cst val_main_call0_cst_0 val_main_v15 val_main_v14
  generalize val_main_v13 (F := Ideal) x0 x1 x2 = y
  pointwise
  rfl

/-- The product with the second weights. -/
theorem second (b : Fin 8) (t : Fin 2048) (j : Fin 1024) :
    val_main_v18 (F := Ideal) x0 x1 x2 x3 (ix3 b t j)
      = ∑ k : Fin 2816, (val_main_v17 (F := Ideal) x0 x1 x2 (ix3 b t k) * x3 (ix2 k j) : EReal) := by
  rw [val_main_v18_apply]
  refine Finset.sum_congr rfl fun k _ => ?_
  rw [show lidx_main_v18 (ix3 b t j) k = ix3 b t k by blk_ext [lidx_main_v18], show ridx_main_v18 (ix3 b t j) k = ix2 k j by blk_ext [ridx_main_v18]]

/-- The result, from the product with the second weights. -/
theorem final (b : Fin 8) (t : Fin 2048) (j : Fin 1024) :
    val_main_v32 (F := Ideal) x0 x1 x2 x3 x4 (ix3 b t j)
      = (x0 (ix3 b t j) + normed (fun e => val_main_v18 (F := Ideal) x0 x1 x2 x3 (ix3 b t e)) (x4 (ix1 j)) j : EReal) := by
  unfold val_main_v32 val_main_v31 val_main_v30 val_main_v29 val_main_v28 val_main_v27 val_main_v26 val_main_v25 val_main_v24 val_main_v23
    val_main_v22 val_main_v21 val_main_v20 val_main_v19 val_main_cst_2 val_main_cst_3 val_main_cst_4
  generalize val_main_v18 (F := Ideal) x0 x1 x2 x3 = y
  pointwise
  rfl

/-- The result's rows are the batches' positions in order. -/
theorem rows (i : S16384x1024.Idx) :
    val_main_v33 (F := Ideal) x0 x1 x2 x3 x4 i
      = val_main_v32 (F := Ideal) x0 x1 x2 x3 x4 (ix3 ⟨(i 0).val / 2048, by have h : (i 0).val < 16384 := (i 0).isLt; omega⟩
          ⟨(i 0).val % 2048, Nat.mod_lt _ (by norm_num)⟩ ⟨(i 1).val % 1024, Nat.mod_lt _ (by norm_num)⟩) := by
  have h1 : (i 1).val < 1024 := (i 1).isLt
  rw [val_main_v33_apply]
  refine congrArg (val_main_v32 (F := Ideal) x0 x1 x2 x3 x4) ?_
  blk_ext [idx_main_v33]

end Cert.Reference2Ideal.Ref

end
-- ==== Proof.FfnValue.lean ====
/- The two programs of the feed-forward part give one result array. -/
module

public import proofs.«01_k».proof.Proof.FfnKernel
public import proofs.«01_k».proof.Proof.FfnRef

@[expose] public section

set_option maxRecDepth 16384

noncomputable section

open Idealize.ShloMosaic Idealize.ShloMosaic.TcCoe

namespace Cert.Reference2Ideal.Ref

open Cert.Reference2Ideal Cert.Reference2Ideal.Gen Cert.Reference2Ideal.Read Cert.Ffn Cert.Kernel2Ideal.Blocks

variable (m : (ℓ : Loc Cert.Kernel2Ideal.nD Cert.Kernel2Ideal.τ Cert.Kernel2Ideal.sig) → Buf (Elt Ideal) ℓ) (c : Dev Cert.Kernel2Ideal.nD)

/-- The layer's input. -/
abbrev b0 : (⟨S8x2048x1024, .f32⟩ : BufTy).Contents (Elt Ideal) := m (c.tc.loc Cert.Kernel2Ideal.main_arg0)
/-- The gain of the first normalisation. -/
abbrev b1 : (⟨S1024, .f32⟩ : BufTy).Contents (Elt Ideal) := m (c.tc.loc Cert.Kernel2Ideal.main_arg1)
/-- The first weights. -/
abbrev b2 : (⟨S1024x5632, .f32⟩ : BufTy).Contents (Elt Ideal) := m (c.tc.loc Cert.Kernel2Ideal.main_arg2)
/-- The second weights. -/
abbrev b3 : (⟨S2816x1024, .f32⟩ : BufTy).Contents (Elt Ideal) := m (c.tc.loc Cert.Kernel2Ideal.main_arg3)
/-- The gain of the second normalisation. -/
abbrev b4 : (⟨S1024, .f32⟩ : BufTy).Contents (Elt Ideal) := m (c.tc.loc Cert.Kernel2Ideal.main_arg4)

theorem input (b : Fin 8) (t : Fin 2048) (d : Fin 1024) : b0 m c (ix3 b t d) = argX m c (2048 * b.val + t.val) d.val := by
  unfold argX
  refine congrArg (b0 m c) ?_
  blk_ext []

theorem gain1 (d : Fin 1024) : b1 m c (ix1 d) = argG m c d.val := by
  unfold argG
  refine congrArg (b1 m c) ?_
  blk_ext []

theorem weight1 (d : Fin 1024) (k : Fin 5632) : b2 m c (ix2 d k) = argW m c d.val k.val := by
  unfold argW
  refine congrArg (b2 m c) ?_
  blk_ext []

theorem weight2 (k : Fin 2816) (j : Fin 1024) : b3 m c (ix2 k j) = argO m c k.val j.val := by
  unfold argO
  refine congrArg (b3 m c) ?_
  blk_ext []

theorem gain2 (d : Fin 1024) : b4 m c (ix1 d) = argH m c d.val := by
  unfold argH
  refine congrArg (b4 m c) ?_
  blk_ext []

theorem columns (b : Fin 8) (t : Fin 2048) (k : Fin 5632) :
    val_main_v13 (F := Ideal) (b0 m c) (b1 m c) (b2 m c) (ix3 b t k) = column (argX m c) (argG m c) (argW m c) (2048 * b.val + t.val) k.val := by
  rw [first]
  unfold column Cert.Ffn.hidden
  refine Finset.sum_congr rfl fun d _ => ?_
  rw [weight1]
  exact congrArg (fun a : EReal => a * argW m c d.val k.val) (normed_congr _ _ _ _ _ (fun e => input m c b t e) (gain1 m c d))

theorem products (b : Fin 8) (t : Fin 2048) (j : Fin 1024) :
    val_main_v18 (F := Ideal) (b0 m c) (b1 m c) (b2 m c) (b3 m c) (ix3 b t j)
      = part (argX m c) (argG m c) (argW m c) (argO m c) (2048 * b.val + t.val) j.val 2816 := by
  rw [second, part_all]
  refine Finset.sum_congr rfl fun k _ => ?_
  rw [gate, columns, columns, weight2]
  rfl

/-- The result arrays of the two programs are one. -/
theorem value : val_main_v33 (F := Ideal) (b0 m c) (b1 m c) (b2 m c) (b3 m c) (b4 m c) = Cert.Kernel2Ideal.Out.spec m c := by
  funext i
  rw [rows, final]
  unfold Cert.Kernel2Ideal.Out.spec result
  have e : 2048 * ((i 0).val / 2048) + (i 0).val % 2048 = (i 0).val := by omega
  refine congrArg₂ (fun a b : EReal => a + b) ?_ (normed_congr _ _ _ _ _ (fun x => ?_) (gain2 m c _))
  · rw [input, e]
  · rw [products, e]

end Cert.Reference2Ideal.Ref

end
-- ==== Proof.KvEven.lean ====
/- The even layer's keys and values: the grid's blocks, the array that it fills, and the result. -/
module

public import Idealize.ShloMosaic.Lib.Pipeline.ValueKit
public import Idealize.ShloMosaic.Lib.Pointwise.Reduce
public import Idealize.ShloMosaic.Lib.Pipeline.ReadBack
public import Idealize.ShloMosaic.Lib.Pipeline.Value
public import Idealize.ShloMosaic.Lib.Claim
public import Idealize.ShloMosaic.Lib.StableHlo.RunRead
public import proofs.«01_k».proof.Proof.Gen.Kernel3Ideal.Frame
public import proofs.«01_k».proof.Proof.FfnMath

@[expose] public section

set_option maxRecDepth 16384

noncomputable section

open Idealize.ShloMosaic Idealize.ShloMosaic.TcCoe

namespace Cert.Kernel3Ideal.Out

open Cert.Kernel3Ideal Cert.Kernel3Ideal.Gen Cert.Ffn

theorem pay1_apply (v10 : Vec Ideal S1x1024x1024 .f32) (v12 : Vec Ideal S1x1024 .f32) (r d : Fin 1024) :
    k0_pay1 v10 v12 (ix2 r d) = normed (fun e => v10 (ix3 0 r e)) (v12 (ix2 0 d)) d := by
  unfold k0_pay1
  pointwise
  rfl

theorem pay2_apply (v3 : Vec Ideal S2048x1024 .bf16) (v5 : Vec Ideal S1024x1024 .bf16) (k : Fin 2048) (r : Fin 1024) :
    k0_pay2 v3 v5 (ix3 0 k r) = (∑ d : Fin 1024, v3 (ix2 k d) * v5 (ix2 r d) : EReal) := by
  unfold k0_pay2
  pointwise

/-- The column of the layer's input weights that gives column `n` of the keys and values: the keys of the two kinds of heads,
    then their values. -/
def pick (n : ℕ) : ℕ := if n < 512 then 512 + (n - 0) else if n < 1024 then 2048 + (n - 512) else if n < 1536 then 1024 + (n - 1024) else 2560 + (n - 1536)

variable (m : (ℓ : Loc nD τ sig) → Buf (Elt Ideal) ℓ)

theorem idx0 : ∀ t : Fin cfg0.N, win0_0.index t = ![t.val / 2, t.val % 2, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![t.val / 2, 0, t.val % 2] := by decide +kernel

/-- Row `r`, column `d` of the layer's input. -/
def argX (c : Dev nD) (r d : ℕ) : EReal :=
  m (c.tc.loc main_arg0) (ix3 ⟨r / 2048 % 8, Nat.mod_lt _ (by norm_num)⟩ ⟨r % 2048, Nat.mod_lt _ (by norm_num)⟩
    ⟨d % 1024, Nat.mod_lt _ (by norm_num)⟩)
/-- The gain of the normalisation. -/
def argG (c : Dev nD) (d : ℕ) : EReal := m (c.tc.loc main_arg1) (ix1 ⟨d % 1024, Nat.mod_lt _ (by norm_num)⟩)
/-- The layer's input weights. -/
def argW (c : Dev nD) (d k : ℕ) : EReal :=
  m (c.tc.loc main_arg2) (ix2 ⟨d % 1024, Nat.mod_lt _ (by norm_num)⟩ ⟨k % 3080, Nat.mod_lt _ (by norm_num)⟩)

theorem lt_16 (t : Fin cfg0.N) : t.val < 16 := t.isLt

theorem blk0 (c : Dev nD) (t : Fin cfg0.N) (r d : Fin 1024) :
    iblk m c 0 t (ix3 0 r d) = argX m c (1024 * t.val + r.val) d.val := by
  have ht := lt_16 t
  have h : iblk m c 0 t (ix3 0 r d) = V m c main_arg0 (ix3 ⟨t.val / 2, by omega⟩ ⟨1024 * (t.val % 2) + r.val, by omega⟩ d) := by
    blk_ext [iblk, idx0 t]
  rw [h, V_main_arg0, argX]
  blk_ext []

theorem blk1 (c : Dev nD) (t : Fin cfg0.N) (d : Fin 1024) :
    iblk m c 1 t (ix2 0 d) = argG m c d.val := by
  have h : iblk m c 1 t (ix2 0 d) = V m c main_v10 (ix2 0 d) := by blk_ext [iblk, idx1 t]
  rw [h, V, argG]
  simp only [hostOps0]
  after_reads_simp
  pointwise
  blk_ext []

theorem blk2_0 (c : Dev nD) (t : Fin cfg0.N) (k : Fin 512) (d : Fin 1024) :
    iblk m c 2 t (ix2 ⟨k.val, by omega⟩ d) = argW m c d.val (512 + k.val) := by
  have h : iblk m c 2 t (ix2 ⟨k.val, by omega⟩ d) = V m c main_v9 (ix2 ⟨k.val, by omega⟩ d) := by blk_ext [iblk, idx2 t]
  rw [h, V, argW]
  simp only [hostOps0]
  after_reads_simp
  pointwise
  after_reads_simp
  pointwise
  blk_ext []

theorem blk2_1 (c : Dev nD) (t : Fin cfg0.N) (k : Fin 512) (d : Fin 1024) :
    iblk m c 2 t (ix2 ⟨512 + k.val, by omega⟩ d) = argW m c d.val (2048 + k.val) := by
  have h : iblk m c 2 t (ix2 ⟨512 + k.val, by omega⟩ d) = V m c main_v9 (ix2 ⟨512 + k.val, by omega⟩ d) := by blk_ext [iblk, idx2 t]
  rw [h, V, argW]
  simp only [hostOps0]
  after_reads_simp
  pointwise
  after_reads_simp
  pointwise
  blk_ext []

theorem blk2_2 (c : Dev nD) (t : Fin cfg0.N) (k : Fin 512) (d : Fin 1024) :
    iblk m c 2 t (ix2 ⟨1024 + k.val, by omega⟩ d) = argW m c d.val (1024 + k.val) := by
  have h : iblk m c 2 t (ix2 ⟨1024 + k.val, by omega⟩ d) = V m c main_v9 (ix2 ⟨1024 + k.val, by omega⟩ d) := by blk_ext [iblk, idx2 t]
  rw [h, V, argW]
  simp only [hostOps0]
  after_reads_simp
  pointwise
  after_reads_simp
  pointwise
  rw [dif_neg (by omega), dif_neg (by omega), dif_pos (by omega)]
  blk_ext []

theorem blk2_3 (c : Dev nD) (t : Fin cfg0.N) (k : Fin 512) (d : Fin 1024) :
    iblk m c 2 t (ix2 ⟨1536 + k.val, by omega⟩ d) = argW m c d.val (2560 + k.val) := by
  have h : iblk m c 2 t (ix2 ⟨1536 + k.val, by omega⟩ d) = V m c main_v9 (ix2 ⟨1536 + k.val, by omega⟩ d) := by blk_ext [iblk, idx2 t]
  rw [h, V, argW]
  simp only [hostOps0]
  after_reads_simp
  pointwise
  after_reads_simp
  pointwise
  rw [dif_neg (by omega), dif_neg (by omega), dif_neg (by omega)]
  blk_ext []

theorem blk2 (c : Dev nD) (t : Fin cfg0.N) (k : Fin 2048) (d : Fin 1024) :
    iblk m c 2 t (ix2 k d) = argW m c d.val (pick k.val) := by
  have hk := k.isLt
  by_cases h0 : k.val < 512
  · have e : k = ⟨(⟨k.val - 0, by omega⟩ : Fin 512).val, by dsimp only; omega⟩ := Fin.ext (by dsimp only; omega)
    rw [e, blk2_0]
    refine congrArg (argW m c d.val) ?_
    dsimp only
    unfold pick
    rw [if_pos (by omega)]
    omega
  by_cases h1 : k.val < 1024
  · have e : k = ⟨512 + (⟨k.val - 512, by omega⟩ : Fin 512).val, by dsimp only; omega⟩ := Fin.ext (by dsimp only; omega)
    rw [e, blk2_1]
    refine congrArg (argW m c d.val) ?_
    dsimp only
    unfold pick
    rw [if_neg (by omega)]
    rw [if_pos (by omega)]
    omega
  by_cases h2 : k.val < 1536
  · have e : k = ⟨1024 + (⟨k.val - 1024, by omega⟩ : Fin 512).val, by dsimp only; omega⟩ := Fin.ext (by dsimp only; omega)
    rw [e, blk2_2]
    refine congrArg (argW m c d.val) ?_
    dsimp only
    unfold pick
    rw [if_neg (by omega)]
    rw [if_neg (by omega)]
    rw [if_pos (by omega)]
    omega
  have e : k = ⟨1536 + (⟨k.val - 1536, by omega⟩ : Fin 512).val, by dsimp only; omega⟩ := Fin.ext (by dsimp only; omega)
  rw [e, blk2_3]
  refine congrArg (argW m c d.val) ?_
  dsimp only
  unfold pick
  rw [if_neg (by omega)]
  rw [if_neg (by omega)]
  rw [if_neg (by omega)]
  omega

/-- A grid point's block of the array: a column of the product of the normalised rows with the weights. -/
theorem point (c : Dev nD) (t : Fin cfg0.N) (k : Fin 2048) (r : Fin 1024) :
    outsAt0 m c t (ix3 0 k r) = column (argX m c) (argG m c) (argW m c) (1024 * t.val + r.val) (pick k.val) := by
  unfold outsAt0
  frame_out
  rw [pay2_apply]
  unfold column
  refine Finset.sum_congr rfl fun d _ => ?_
  rw [blk2, pay1_apply, mul_comm]
  refine congrArg (fun a : EReal => a * argW m c d.val (pick k.val)) ?_
  exact normed_congr _ _ _ _ _ (fun e => blk0 m c t r e) (blk1 m c t d)

/-- The array that the grid fills. -/
def arr (c : Dev nD) : Vec Ideal S8x2048x2048 .f32 := fun i =>
  column (argX m c) (argG m c) (argW m c) (2048 * (i 0).val + (i 2).val) (pick (i 1).val)

theorem flushed (c : Dev nD) (t : Fin cfg0.N) :
    (dats m 0 c).flushed 3 t = ((cfg0.win 3).blk t).view.read (Elt Ideal) (arr m c) := by
  show (cfg0.win 3).cut (grid0.coords t) ((dats m 0 c).after 3 t) = _
  rw [after0_3]
  funext y
  have hy0 : (y 0).val < 1 := (y 0).isLt
  have hy1 : (y 1).val < 2048 := (y 1).isLt
  have hy2 : (y 2).val < 1024 := (y 2).isLt
  have hb0 : (((cfg0.win 3).blk t).view.emb y 0).val = win0_3.index t (0 : Fin 3) * 1 + 1 * (y 0).val := rfl
  have hb1 : (((cfg0.win 3).blk t).view.emb y 1).val = win0_3.index t (1 : Fin 3) * 2048 + 1 * (y 1).val := rfl
  have hb2 : (((cfg0.win 3).blk t).view.emb y 2).val = win0_3.index t (2 : Fin 3) * 1024 + 1 * (y 2).val := rfl
  have e0 : win0_3.index t (0 : Fin 3) = t.val / 2 := congrFun (idx3 t) 0
  have e1 : win0_3.index t (1 : Fin 3) = 0 := congrFun (idx3 t) 1
  have e2 : win0_3.index t (2 : Fin 3) = t.val % 2 := congrFun (idx3 t) 2
  have e : (cfg0.win 3).xinj (grid0.coords t) y = ix3 0 ⟨(y 1).val, hy1⟩ ⟨(y 2).val, hy2⟩ := by
    funext a; apply Fin.ext
    match a with
    | ⟨0, _⟩ => show (y 0).val = 0; omega
    | ⟨1, _⟩ => rfl
    | ⟨2, _⟩ => rfl
  show outsAt0 m c t ((cfg0.win 3).xinj (grid0.coords t) y) = arr m c (((cfg0.win 3).blk t).view.emb y)
  rw [e, point]
  unfold arr
  rw [hb0, hb1, hb2, e0, e1, e2]
  dsimp only
  rw [show 2048 * (t.val / 2 * 1 + 1 * (y 0).val) + (t.val % 2 * 1024 + 1 * (y 2).val) = 1024 * t.val + (y 2).val by omega,
    show 0 * 2048 + 1 * (y 1).val = (y 1).val by omega]

theorem mem_blk (t : Fin cfg0.N) (i : S8x2048x2048.Idx) :
    i ∈ ((cfg0.win 3).blk t).view.set ↔ ∀ a : Fin 3, win0_3.index t a * S1x2048x1024.size a ≤ (i a).val ∧ (i a).val < win0_3.index t a * S1x2048x1024.size a + S1x2048x1024.size a := by
  show i ∈ ((View.whole main_v11).slice (win0_3.rect t)).set ↔ _
  rw [View.set_slice_whole, Rect.mem_set_unit]
  exact Iff.rfl

theorem flushes : ∀ t : Fin cfg0.N, (cfg0.win 3).flush t = true := (by decide +kernel : ∀ t : Fin grid0.N, win0_3.flush t = true)

theorem final (c : Dev nD) : (dats m 0 c).arrAt 3 cfg0.N = arr m c :=
  (dats m 0 c).arrAt_eq_of_cover 3 _ (fun t _ => flushed m c t) (fun i => by
    have h0 : (i 0).val < 8 := (i 0).isLt
    have h1 : (i 1).val < 2048 := (i 1).isLt
    have h2 : (i 2).val < 2048 := (i 2).isLt
    let t : Fin cfg0.N := ⟨2 * (i 0).val + (i 2).val / 1024, by show _ < 16; omega⟩
    have ht : t.val = 2 * (i 0).val + (i 2).val / 1024 := rfl
    refine ⟨t, flushes t, ?_⟩
    rw [mem_blk]
    have e0 : win0_3.index t (0 : Fin 3) = t.val / 2 := congrFun (idx3 t) 0
    have e1 : win0_3.index t (1 : Fin 3) = 0 := congrFun (idx3 t) 1
    have e2 : win0_3.index t (2 : Fin 3) = t.val % 2 := congrFun (idx3 t) 2
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 2048 ≤ (i 1).val ∧ (i 1).val < win0_3.index t (1 : Fin 3) * 2048 + 2048; omega
    | ⟨2, _⟩ => show win0_3.index t (2 : Fin 3) * 1024 ≤ (i 2).val ∧ (i 2).val < win0_3.index t (2 : Fin 3) * 1024 + 1024; omega)

/-- The result array: position `i 1` of batch `i 0`, for key or value `i 2`, head `i 3`, feature `i 4`. -/
def spec (c : Dev nD) : Vec Ideal S8x2048x2x16x64 .f32 := fun i =>
  column (argX m c) (argG m c) (argW m c) (2048 * (i 0).val + (i 1).val) (pick ((16 * (i 2).val + (i 3).val) * 64 + (i 4).val))

theorem inj : Function.Injective (Pipeline.arrRef spec0) := by decide

/-- What the two operations after the grid leave in the result. -/
theorem tail (c : Dev nD) : Pipeline.afterTail₀ cfgs (dats m) 0 (V0 m) [hostOps1] c main_v13 = spec m c := by
  have hw := (Pipeline.withArrays_arr spec0 inj c (V0 m c) (fun w => (dats m 0 c).arrAt w cfg0.N) 3).trans (final m c)
  unfold Pipeline.afterTail₀
  simp only [hostOps1]
  after_reads_simp
  funext i
  obtain ⟨b, t, s, h, e, rfl⟩ : ∃ (b : Fin 8) (t : Fin 2048) (s : Fin 2) (h : Fin 16) (e : Fin 64), i = ix5 b t s h e := ⟨_, _, _, _, _, eq_ix5 i⟩
  pointwise
  refine (congrFun hw _).trans ?_
  unfold arr spec
  congr 1
  congr 1
  show s.val * 1024 + h.val * 64 + e.val = (16 * s.val + h.val) * 64 + e.val
  omega

theorem run (ρ : Dev nD → PrngReg) : θ_run defs (onTc (τ := τ) (main (F := Ideal))) ⟨m, fun _ => 0, ρ⟩ fun r => ∀ c : Dev nD,
      r.2.mem ((c.tc : Thread nD τ).loc main_v13) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h.1 c).2 main_v13 (Pipeline.mem_restRefs_of main_v13 (by decide) (by decide))).trans (tail m c), h.2 c⟩)
    (θ_run_and (run_main m ρ) (unchanged m ρ))

end Cert.Kernel3Ideal.Out

end
-- ==== Proof.KvEvenRef.lean ====
/- The reference program of the even layer's keys and values, read entry by entry; the two programs give one result array. -/
module

public import Idealize.ShloMosaic.Lib.Pipeline.ValueKit
public import Idealize.ShloMosaic.Lib.Pointwise.Reduce
public import Idealize.ShloMosaic.Lib.Claim
public import proofs.«01_k».proof.Proof.Gen.Reference3Ideal.Read
public import proofs.«01_k».proof.Proof.FfnMath
public import proofs.«01_k».proof.Proof.KvEven

@[expose] public section

set_option maxRecDepth 16384

noncomputable section

open Idealize.ShloMosaic Idealize.ShloMosaic.TcCoe

namespace Cert.Reference3Ideal.Ref

open Cert.Reference3Ideal Cert.Reference3Ideal.Gen Cert.Reference3Ideal.Read Cert.Ffn

section Reading

variable (x0 : (⟨S8x2048x1024, .f32⟩ : BufTy).Contents (Elt Ideal)) (x1 : (⟨S1024, .f32⟩ : BufTy).Contents (Elt Ideal))
  (x2 : (⟨S1024x3080, .f32⟩ : BufTy).Contents (Elt Ideal))

/-- The normalised input. -/
theorem normal (b : Fin 8) (t : Fin 2048) (d : Fin 1024) :
    val_main_v12 (F := Ideal) x0 x1 (ix3 b t d) = normed (fun e => x0 (ix3 b t e)) (x1 (ix1 d)) d := by
  unfold val_main_v12 val_main_v11 val_main_v10 val_main_v9 val_main_v8 val_main_v7 val_main_v6 val_main_v5 val_main_v4 val_main_v3
    val_main_v2 val_main_v1 val_main_v0 val_main_cst val_main_cst_0 val_main_cst_1
  pointwise
  rfl

/-- The product with the weights. -/
theorem first (b : Fin 8) (t : Fin 2048) (k : Fin 3080) :
    val_main_v13 (F := Ideal) x0 x1 x2 (ix3 b t k)
      = ∑ d : Fin 1024, (normed (fun e => x0 (ix3 b t e)) (x1 (ix1 d)) d * x2 (ix2 d k) : EReal) := by
  rw [val_main_v13_apply]
  refine Finset.sum_congr rfl fun d _ => ?_
  rw [show lidx_main_v13 (ix3 b t k) d = ix3 b t d by blk_ext [lidx_main_v13], show ridx_main_v13 (ix3 b t k) d = ix2 d k by blk_ext [ridx_main_v13],
    normal]

theorem piece0 (b : Fin 8) (t : Fin 2048) (h : Fin 8) (e : Fin 64) :
    val_main_v29 (F := Ideal) x0 x1 x2 (ix5 b t 0 ⟨h.val, by omega⟩ e)
      = val_main_v13 (F := Ideal) x0 x1 x2 (ix3 b t ⟨512 + (64 * h.val + e.val), by omega⟩) := by
  unfold val_main_v29 val_main_v28 val_main_v27 val_main_v26 val_main_v25 val_main_v24 val_main_v23 val_main_v22 val_main_v21 val_main_v19 val_main_v18 val_main_v16 val_main_v15
  generalize val_main_v13 (F := Ideal) x0 x1 x2 = y
  pointwise
  refine congrArg y ?_
  blk_ext []

theorem piece1 (b : Fin 8) (t : Fin 2048) (h : Fin 8) (e : Fin 64) :
    val_main_v29 (F := Ideal) x0 x1 x2 (ix5 b t 0 ⟨8 + h.val, by omega⟩ e)
      = val_main_v13 (F := Ideal) x0 x1 x2 (ix3 b t ⟨2048 + (64 * h.val + e.val), by omega⟩) := by
  unfold val_main_v29 val_main_v28 val_main_v27 val_main_v26 val_main_v25 val_main_v24 val_main_v23 val_main_v22 val_main_v21 val_main_v19 val_main_v18 val_main_v16 val_main_v15
  generalize val_main_v13 (F := Ideal) x0 x1 x2 = y
  pointwise
  refine congrArg y ?_
  blk_ext []

theorem piece2 (b : Fin 8) (t : Fin 2048) (h : Fin 8) (e : Fin 64) :
    val_main_v29 (F := Ideal) x0 x1 x2 (ix5 b t 1 ⟨h.val, by omega⟩ e)
      = val_main_v13 (F := Ideal) x0 x1 x2 (ix3 b t ⟨1024 + (64 * h.val + e.val), by omega⟩) := by
  unfold val_main_v29 val_main_v28 val_main_v27 val_main_v26 val_main_v25 val_main_v24 val_main_v23 val_main_v22 val_main_v21 val_main_v19 val_main_v18 val_main_v16 val_main_v15
  generalize val_main_v13 (F := Ideal) x0 x1 x2 = y
  pointwise
  refine congrArg y ?_
  blk_ext []

theorem piece3 (b : Fin 8) (t : Fin 2048) (h : Fin 8) (e : Fin 64) :
    val_main_v29 (F := Ideal) x0 x1 x2 (ix5 b t 1 ⟨8 + h.val, by omega⟩ e)
      = val_main_v13 (F := Ideal) x0 x1 x2 (ix3 b t ⟨2560 + (64 * h.val + e.val), by omega⟩) := by
  unfold val_main_v29 val_main_v28 val_main_v27 val_main_v26 val_main_v25 val_main_v24 val_main_v23 val_main_v22 val_main_v21 val_main_v19 val_main_v18 val_main_v16 val_main_v15
  generalize val_main_v13 (F := Ideal) x0 x1 x2 = y
  pointwise
  refine congrArg y ?_
  blk_ext []

end Reading

open Cert.Kernel3Ideal.Out (argX argG argW)

variable (m : (ℓ : Loc Cert.Kernel3Ideal.nD Cert.Kernel3Ideal.τ Cert.Kernel3Ideal.sig) → Buf (Elt Ideal) ℓ) (c : Dev Cert.Kernel3Ideal.nD)

/-- The layer's input. -/
abbrev b0 : (⟨S8x2048x1024, .f32⟩ : BufTy).Contents (Elt Ideal) := m (c.tc.loc Cert.Kernel3Ideal.main_arg0)
/-- The gain of the normalisation. -/
abbrev b1 : (⟨S1024, .f32⟩ : BufTy).Contents (Elt Ideal) := m (c.tc.loc Cert.Kernel3Ideal.main_arg1)
/-- The layer's input weights. -/
abbrev b2 : (⟨S1024x3080, .f32⟩ : BufTy).Contents (Elt Ideal) := m (c.tc.loc Cert.Kernel3Ideal.main_arg2)

theorem input (b : Fin 8) (t : Fin 2048) (d : Fin 1024) : b0 m c (ix3 b t d) = argX m c (2048 * b.val + t.val) d.val := by
  unfold argX
  refine congrArg (b0 m c) ?_
  blk_ext []

theorem gain (d : Fin 1024) : b1 m c (ix1 d) = argG m c d.val := by
  unfold argG
  refine congrArg (b1 m c) ?_
  blk_ext []

theorem weight (d : Fin 1024) (k : Fin 3080) : b2 m c (ix2 d k) = argW m c d.val k.val := by
  unfold argW
  refine congrArg (b2 m c) ?_
  blk_ext []

theorem columns (b : Fin 8) (t : Fin 2048) (k : Fin 3080) :
    val_main_v13 (F := Ideal) (b0 m c) (b1 m c) (b2 m c) (ix3 b t k) = column (argX m c) (argG m c) (argW m c) (2048 * b.val + t.val) k.val := by
  rw [first]
  unfold column Cert.Ffn.hidden
  refine Finset.sum_congr rfl fun d _ => ?_
  rw [weight]
  exact congrArg (fun a : EReal => a * argW m c d.val k.val) (normed_congr _ _ _ _ _ (fun e => input m c b t e) (gain m c d))

/-- The result arrays of the two programs are one. -/
theorem value : val_main_v29 (F := Ideal) (b0 m c) (b1 m c) (b2 m c) = Cert.Kernel3Ideal.Out.spec m c := by
  funext i
  obtain ⟨b, t, s, h, e, rfl⟩ : ∃ (b : Fin 8) (t : Fin 2048) (s : Fin 2) (h : Fin 16) (e : Fin 64), i = ix5 b t s h e := ⟨_, _, _, _, _, eq_ix5 i⟩
  have hs := s.isLt
  have hh := h.isLt
  have he := e.isLt
  unfold Cert.Kernel3Ideal.Out.spec
  dsimp only
  by_cases h0 : s.val = 0
  · by_cases h1 : h.val < 8
    · have e1 : s = 0 := Fin.ext (by show s.val = 0; omega)
      have e2 : h = ⟨(⟨h.val - 0, by omega⟩ : Fin 8).val, by dsimp only; omega⟩ := Fin.ext (by dsimp only; omega)
      rw [e2, e1, piece0, columns]
      refine congrArg _ ?_
      show _ = Cert.Kernel3Ideal.Out.pick _
      unfold Cert.Kernel3Ideal.Out.pick
      dsimp only
      split_ifs <;> simp at * <;> omega
    · have e1 : s = 0 := Fin.ext (by show s.val = 0; omega)
      have e2 : h = ⟨8 + (⟨h.val - 8, by omega⟩ : Fin 8).val, by dsimp only; omega⟩ := Fin.ext (by dsimp only; omega)
      rw [e2, e1, piece1, columns]
      refine congrArg _ ?_
      show _ = Cert.Kernel3Ideal.Out.pick _
      unfold Cert.Kernel3Ideal.Out.pick
      dsimp only
      split_ifs <;> simp at * <;> omega
  · by_cases h1 : h.val < 8
    · have e1 : s = 1 := Fin.ext (by show s.val = 1; omega)
      have e2 : h = ⟨(⟨h.val - 0, by omega⟩ : Fin 8).val, by dsimp only; omega⟩ := Fin.ext (by dsimp only; omega)
      rw [e2, e1, piece2, columns]
      refine congrArg _ ?_
      show _ = Cert.Kernel3Ideal.Out.pick _
      unfold Cert.Kernel3Ideal.Out.pick
      dsimp only
      split_ifs <;> simp at * <;> omega
    · have e1 : s = 1 := Fin.ext (by show s.val = 1; omega)
      have e2 : h = ⟨8 + (⟨h.val - 8, by omega⟩ : Fin 8).val, by dsimp only; omega⟩ := Fin.ext (by dsimp only; omega)
      rw [e2, e1, piece3, columns]
      refine congrArg _ ?_
      show _ = Cert.Kernel3Ideal.Out.pick _
      unfold Cert.Kernel3Ideal.Out.pick
      dsimp only
      split_ifs <;> simp at * <;> omega

end Cert.Reference3Ideal.Ref

end
-- ==== Proof.OutProj.lean ====
/- The output projection: the grid's blocks and the array that it fills. -/
module

public import Idealize.ShloMosaic.Lib.Pipeline.ValueKit
public import Idealize.ShloMosaic.Lib.Pointwise.Reduce
public import Idealize.ShloMosaic.Lib.Pipeline.ReadBack
public import Idealize.ShloMosaic.Lib.Pipeline.Value
public import Idealize.ShloMosaic.Lib.Claim
public import Idealize.ShloMosaic.Lib.StableHlo.RunRead
public import proofs.«01_k».proof.Proof.Gen.Kernel4Ideal.Value
public import proofs.«01_k».proof.Proof.FfnMath

@[expose] public section

set_option maxRecDepth 16384

noncomputable section

open Idealize.ShloMosaic Idealize.ShloMosaic.TcCoe

namespace Cert.Kernel4Ideal.Out

open Cert.Kernel4Ideal Cert.Kernel4Ideal.Gen Cert.Ffn

theorem pay1_apply (v0 : Vec Ideal S1x1024x512 .f32) (v4 : Vec Ideal S1024x1024 .bf16) (v7 : Vec Ideal S512x1024 .f32) (v9 : Vec Ideal S1x1024 .f32)
    (r : Fin 512) (j : Fin 1024) :
    k0_pay1 v0 v4 v7 v9 (ix2 r j)
      = (v7 (ix2 r j) + normed (fun e => (∑ k : Fin 1024, v0 (ix3 0 k r) * v4 (ix2 k e) : EReal)) (v9 (ix2 0 j)) j : EReal) := by
  unfold k0_pay1
  pointwise
  rfl

variable (m : (ℓ : Loc nD τ sig) → Buf (Elt Ideal) ℓ)

theorem idx0 : ∀ t : Fin cfg0.N, win0_0.index t = ![t.val / 4, 0, t.val % 4] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![t.val, 0] := by decide +kernel

/-- Row `r`, column `d` of the layer's input. -/
def argX (c : Dev nD) (r d : ℕ) : EReal :=
  m (c.tc.loc main_arg0) (ix3 ⟨r / 2048 % 8, Nat.mod_lt _ (by norm_num)⟩ ⟨r % 2048, Nat.mod_lt _ (by norm_num)⟩
    ⟨d % 1024, Nat.mod_lt _ (by norm_num)⟩)
/-- Feature `k` of row `r` of the attention's result. -/
def argA (c : Dev nD) (r k : ℕ) : EReal :=
  m (c.tc.loc main_arg1) (ix3 ⟨r / 2048 % 8, Nat.mod_lt _ (by norm_num)⟩ ⟨k % 1024, Nat.mod_lt _ (by norm_num)⟩
    ⟨r % 2048, Nat.mod_lt _ (by norm_num)⟩)
/-- The output weights. -/
def argO (c : Dev nD) (k j : ℕ) : EReal :=
  m (c.tc.loc main_arg2) (ix2 ⟨k % 1024, Nat.mod_lt _ (by norm_num)⟩ ⟨j % 1024, Nat.mod_lt _ (by norm_num)⟩)
/-- The gain of the normalisation. -/
def argH (c : Dev nD) (j : ℕ) : EReal := m (c.tc.loc main_arg3) (ix1 ⟨j % 1024, Nat.mod_lt _ (by norm_num)⟩)

/-- Column `e` of row `r` of the attention's result times the output weights. -/
def proj (c : Dev nD) (r e : ℕ) : EReal := ∑ k : Fin 1024, argA m c r k.val * argO m c k.val e

/-- The result in row `r`, column `j`. -/
def added (c : Dev nD) (r : ℕ) (j : Fin 1024) : EReal := argX m c r j.val + normed (fun e => proj m c r e.val) (argH m c j.val) j

theorem lt_32 (t : Fin cfg0.N) : t.val < 32 := t.isLt

theorem blk0 (c : Dev nD) (t : Fin cfg0.N) (k : Fin 1024) (r : Fin 512) :
    iblk m c 0 t (ix3 0 k r) = argA m c (512 * t.val + r.val) k.val := by
  have ht := lt_32 t
  have h : iblk m c 0 t (ix3 0 k r) = V m c main_arg1 (ix3 ⟨t.val / 4, by omega⟩ k ⟨512 * (t.val % 4) + r.val, by omega⟩) := by
    blk_ext [iblk, idx0 t]
  rw [h, V_main_arg1, argA]
  blk_ext []

theorem blk1 (c : Dev nD) (t : Fin cfg0.N) (k j : Fin 1024) :
    iblk m c 1 t (ix2 k j) = argO m c k.val j.val := by
  have h : iblk m c 1 t (ix2 k j) = V m c main_v0 (ix2 k j) := by blk_ext [iblk, idx1 t]
  rw [h, V, argO]
  simp only [hostOps0]
  after_reads_simp
  pointwise
  blk_ext []

theorem blk2 (c : Dev nD) (t : Fin cfg0.N) (d : Fin 1024) :
    iblk m c 2 t (ix2 0 d) = argH m c d.val := by
  have h : iblk m c 2 t (ix2 0 d) = V m c main_v2 (ix2 0 d) := by blk_ext [iblk, idx2 t]
  rw [h, V, argH]
  simp only [hostOps0]
  after_reads_simp
  pointwise
  blk_ext []

theorem blk3 (c : Dev nD) (t : Fin cfg0.N) (r : Fin 512) (d : Fin 1024) :
    iblk m c 3 t (ix2 r d) = argX m c (512 * t.val + r.val) d.val := by
  have ht := lt_32 t
  have h : iblk m c 3 t (ix2 r d) = V m c main_v1 (ix2 ⟨512 * t.val + r.val, by omega⟩ d) := by blk_ext [iblk, idx3 t]
  rw [h, V, argX]
  simp only [hostOps0]
  after_reads_simp
  pointwise
  blk_ext []

/-- A grid point's block of the array. -/
theorem point (c : Dev nD) (t : Fin cfg0.N) (r : Fin 512) (j : Fin 1024) :
    out0_4 (iblk m c 0 t) (iblk m c 1 t) (iblk m c 2 t) (iblk m c 3 t) (ix2 r j) = added m c (512 * t.val + r.val) j := by
  frame_out
  rw [pay1_apply]
  unfold added
  refine congrArg₂ (fun a b : EReal => a + b) (blk3 m c t r j) (normed_congr _ _ _ _ _ (fun e => ?_) (blk2 m c t j))
  unfold proj
  refine Finset.sum_congr rfl fun k _ => ?_
  rw [blk0, blk1]

/-- The result array. -/
def spec (c : Dev nD) : Vec Ideal S16384x1024 .f32 := fun i => added m c (i 0).val ⟨(i 1).val % 1024, Nat.mod_lt _ (by norm_num)⟩

theorem flushed (c : Dev nD) (t : Fin cfg0.N) :
    (dats m 0 c).flushed 4 t = ((cfg0.win 4).blk t).view.read (Elt Ideal) (spec m c) := by
  show (cfg0.win 4).cut (grid0.coords t) ((dats m 0 c).after 4 t) = _
  rw [after0_4]
  funext y
  have hy0 : (y 0).val < 512 := (y 0).isLt
  have hy1 : (y 1).val < 1024 := (y 1).isLt
  have hb0 : (((cfg0.win 4).blk t).view.emb y 0).val = win0_4.index t (0 : Fin 2) * 512 + 1 * (y 0).val := rfl
  have hb1 : (((cfg0.win 4).blk t).view.emb y 1).val = win0_4.index t (1 : Fin 2) * 1024 + 1 * (y 1).val := rfl
  have e0 : win0_4.index t (0 : Fin 2) = t.val := congrFun (idx4 t) 0
  have e1 : win0_4.index t (1 : Fin 2) = 0 := congrFun (idx4 t) 1
  have e : (cfg0.win 4).xinj (grid0.coords t) y = ix2 ⟨(y 0).val, hy0⟩ ⟨(y 1).val, hy1⟩ := by
    funext a; apply Fin.ext
    match a with
    | ⟨0, _⟩ => rfl
    | ⟨1, _⟩ => rfl
  show out0_4 (iblk m c 0 t) (iblk m c 1 t) (iblk m c 2 t) (iblk m c 3 t) ((cfg0.win 4).xinj (grid0.coords t) y) = spec m c (((cfg0.win 4).blk t).view.emb y)
  rw [e, point]
  unfold spec
  simp only [hb0, hb1, e0, e1]
  congr 1
  · omega
  · apply Fin.ext; show (y 1).val = _; dsimp only; omega

theorem mem_blk (t : Fin cfg0.N) (i : S16384x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v3).slice (win0_4.rect t)).set ↔ _
  rw [View.set_slice_whole, Rect.mem_set_unit]
  exact Iff.rfl

theorem flushes : ∀ t : Fin cfg0.N, (cfg0.win 4).flush t = true := (by decide +kernel : ∀ t : Fin grid0.N, win0_4.flush t = true)

theorem final (c : Dev nD) : (dats m 0 c).arrAt 4 cfg0.N = spec m c :=
  (dats m 0 c).arrAt_eq_of_cover 4 _ (fun t _ => flushed m c t) (fun i => by
    have h0 : (i 0).val < 16384 := (i 0).isLt
    have h1 : (i 1).val < 1024 := (i 1).isLt
    let t : Fin cfg0.N := ⟨(i 0).val / 512, by show _ < 32; omega⟩
    have ht : t.val = (i 0).val / 512 := rfl
    refine ⟨t, flushes t, ?_⟩
    rw [mem_blk]
    have e0 : win0_4.index t (0 : Fin 2) = t.val := congrFun (idx4 t) 0
    have e1 : win0_4.index t (1 : Fin 2) = 0 := congrFun (idx4 t) 1
    intro a
    match a with
    | ⟨0, _⟩ => show win0_4.index t (0 : Fin 2) * 512 ≤ (i 0).val ∧ (i 0).val < win0_4.index t (0 : Fin 2) * 512 + 512; omega
    | ⟨1, _⟩ => show win0_4.index t (1 : Fin 2) * 1024 ≤ (i 1).val ∧ (i 1).val < win0_4.index t (1 : Fin 2) * 1024 + 1024; omega)

end Cert.Kernel4Ideal.Out

end
-- ==== Proof.OutProjRef.lean ====
/- The reference program of the output projection, read entry by entry; the two programs give one result array. -/
module

public import Idealize.ShloMosaic.Lib.Pipeline.ValueKit
public import Idealize.ShloMosaic.Lib.Pointwise.Reduce
public import Idealize.ShloMosaic.Lib.Claim
public import proofs.«01_k».proof.Proof.Gen.Reference4Ideal.Read
public import proofs.«01_k».proof.Proof.FfnMath
public import proofs.«01_k».proof.Proof.OutProj

@[expose] public section

set_option maxRecDepth 16384

noncomputable section

open Idealize.ShloMosaic Idealize.ShloMosaic.TcCoe

namespace Cert.Reference4Ideal.Ref

open Cert.Reference4Ideal Cert.Reference4Ideal.Gen Cert.Reference4Ideal.Read Cert.Ffn

section Reading

variable (x0 : (⟨S8x2048x1024, .f32⟩ : BufTy).Contents (Elt Ideal)) (x1 : (⟨S8x1024x2048, .f32⟩ : BufTy).Contents (Elt Ideal))
  (x2 : (⟨S1024x1024, .f32⟩ : BufTy).Contents (Elt Ideal)) (x3 : (⟨S1024, .f32⟩ : BufTy).Contents (Elt Ideal))

/-- The product with the output weights. -/
theorem first (b : Fin 8) (t : Fin 2048) (j : Fin 1024) :
    val_main_v1 (F := Ideal) x1 x2 (ix3 b t j) = ∑ k : Fin 1024, (x1 (ix3 b k t) * x2 (ix2 k j) : EReal) := by
  rw [val_main_v1_apply]
  refine Finset.sum_congr rfl fun k _ => ?_
  rw [show lidx_main_v1 (ix3 b t j) k = ix3 b t k by blk_ext [lidx_main_v1], show ridx_main_v1 (ix3 b t j) k = ix2 k j by blk_ext [ridx_main_v1]]
  unfold val_main_v0
  pointwise

/-- The result, from the product. -/
theorem added (b : Fin 8) (t : Fin 2048) (j : Fin 1024) :
    val_main_v15 (F := Ideal) x0 x1 x2 x3 (ix3 b t j)
      = (x0 (ix3 b t j) + normed (fun e => val_main_v1 (F := Ideal) x1 x2 (ix3 b t e)) (x3 (ix1 j)) j : EReal) := by
  unfold val_main_v15 val_main_v14 val_main_v13 val_main_v12 val_main_v11 val_main_v10 val_main_v9 val_main_v8 val_main_v7 val_main_v6
    val_main_v5 val_main_v4 val_main_v3 val_main_v2 val_main_cst val_main_cst_0 val_main_cst_1
  generalize val_main_v1 (F := Ideal) x1 x2 = y
  pointwise
  rfl

/-- The result's rows are the batches' positions in order. -/
theorem rows (i : S16384x1024.Idx) :
    val_main_v16 (F := Ideal) x0 x1 x2 x3 i
      = val_main_v15 (F := Ideal) x0 x1 x2 x3 (ix3 ⟨(i 0).val / 2048, by have h : (i 0).val < 16384 := (i 0).isLt; omega⟩
          ⟨(i 0).val % 2048, Nat.mod_lt _ (by norm_num)⟩ ⟨(i 1).val % 1024, Nat.mod_lt _ (by norm_num)⟩) := by
  have h1 : (i 1).val < 1024 := (i 1).isLt
  rw [val_main_v16_apply]
  refine congrArg (val_main_v15 (F := Ideal) x0 x1 x2 x3) ?_
  blk_ext [idx_main_v16]

end Reading

open Cert.Kernel4Ideal.Out (argX argA argO argH)

variable (m : (ℓ : Loc Cert.Kernel4Ideal.nD Cert.Kernel4Ideal.τ Cert.Kernel4Ideal.sig) → Buf (Elt Ideal) ℓ) (c : Dev Cert.Kernel4Ideal.nD)

/-- The layer's input. -/
abbrev b0 : (⟨S8x2048x1024, .f32⟩ : BufTy).Contents (Elt Ideal) := m (c.tc.loc Cert.Kernel4Ideal.main_arg0)
/-- The attention's result. -/
abbrev b1 : (⟨S8x1024x2048, .f32⟩ : BufTy).Contents (Elt Ideal) := m (c.tc.loc Cert.Kernel4Ideal.main_arg1)
/-- The output weights. -/
abbrev b2 : (⟨S1024x1024, .f32⟩ : BufTy).Contents (Elt Ideal) := m (c.tc.loc Cert.Kernel4Ideal.main_arg2)
/-- The gain of the normalisation. -/
abbrev b3 : (⟨S1024, .f32⟩ : BufTy).Contents (Elt Ideal) := m (c.tc.loc Cert.Kernel4Ideal.main_arg3)

theorem input (b : Fin 8) (t : Fin 2048) (d : Fin 1024) : b0 m c (ix3 b t d) = argX m c (2048 * b.val + t.val) d.val := by
  unfold argX
  refine congrArg (b0 m c) ?_
  blk_ext []

theorem attn (b : Fin 8) (t : Fin 2048) (k : Fin 1024) : b1 m c (ix3 b k t) = argA m c (2048 * b.val + t.val) k.val := by
  unfold argA
  refine congrArg (b1 m c) ?_
  blk_ext []

theorem weight (k j : Fin 1024) : b2 m c (ix2 k j) = argO m c k.val j.val := by
  unfold argO
  refine congrArg (b2 m c) ?_
  blk_ext []

theorem gain (d : Fin 1024) : b3 m c (ix1 d) = argH m c d.val := by
  unfold argH
  refine congrArg (b3 m c) ?_
  blk_ext []

theorem products (b : Fin 8) (t : Fin 2048) (j : Fin 1024) :
    val_main_v1 (F := Ideal) (b1 m c) (b2 m c) (ix3 b t j) = Cert.Kernel4Ideal.Out.proj m c (2048 * b.val + t.val) j.val := by
  rw [first]
  unfold Cert.Kernel4Ideal.Out.proj
  refine Finset.sum_congr rfl fun k _ => ?_
  rw [attn, weight]

/-- The result arrays of the two programs are one. -/
theorem value : val_main_v16 (F := Ideal) (b0 m c) (b1 m c) (b2 m c) (b3 m c) = Cert.Kernel4Ideal.Out.spec m c := by
  funext i
  rw [rows, added]
  unfold Cert.Kernel4Ideal.Out.spec Cert.Kernel4Ideal.Out.added
  have e : 2048 * ((i 0).val / 2048) + (i 0).val % 2048 = (i 0).val := by omega
  refine congrArg₂ (fun a b : EReal => a + b) ?_ (normed_congr _ _ _ _ _ (fun x => ?_) (gain m c _))
  · rw [input, e]
  · rw [products, e]

end Cert.Reference4Ideal.Ref

end
-- ==== Proof.KvOdd.lean ====
/- The odd layer's keys and values for compression and selection: the grid's blocks, the array that it fills, and the result. -/
module

public import Idealize.ShloMosaic.Lib.Pipeline.ValueKit
public import Idealize.ShloMosaic.Lib.Pointwise.Reduce
public import Idealize.ShloMosaic.Lib.Pipeline.ReadBack
public import Idealize.ShloMosaic.Lib.Pipeline.Value
public import Idealize.ShloMosaic.Lib.Claim
public import Idealize.ShloMosaic.Lib.StableHlo.RunRead
public import proofs.«01_k».proof.Proof.Gen.Kernel5Ideal.Frame
public import proofs.«01_k».proof.Proof.FfnMath

@[expose] public section

set_option maxRecDepth 16384

noncomputable section

open Idealize.ShloMosaic Idealize.ShloMosaic.TcCoe

namespace Cert.Kernel5Ideal.Out

open Cert.Kernel5Ideal Cert.Kernel5Ideal.Gen Cert.Ffn

theorem pay1_apply (v10 : Vec Ideal S1x1024x1024 .f32) (v12 : Vec Ideal S1x1024 .f32) (r d : Fin 1024) :
    k0_pay1 v10 v12 (ix2 r d) = normed (fun e => v10 (ix3 0 r e)) (v12 (ix2 0 d)) d := by
  unfold k0_pay1
  pointwise
  rfl

theorem pay2_apply (v3 : Vec Ideal S1024x1024 .bf16) (v5 : Vec Ideal S1024x1024 .bf16) (k : Fin 1024) (r : Fin 1024) :
    k0_pay2 v3 v5 (ix3 0 k r) = (∑ d : Fin 1024, v3 (ix2 k d) * v5 (ix2 r d) : EReal) := by
  unfold k0_pay2
  pointwise

/-- The column of the layer's input weights that gives column `n` of the compressed and the selected keys and values. -/
def pick (n : ℕ) : ℕ := if n < 512 then 1024 + (n - 0) else 1536 + (n - 512)

variable (m : (ℓ : Loc nD τ sig) → Buf (Elt Ideal) ℓ)

theorem idx0 : ∀ t : Fin cfg0.N, win0_0.index t = ![t.val / 2, t.val % 2, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![t.val / 2, 0, t.val % 2] := by decide +kernel

/-- Row `r`, column `d` of the layer's input. -/
def argX (c : Dev nD) (r d : ℕ) : EReal :=
  m (c.tc.loc main_arg0) (ix3 ⟨r / 2048 % 8, Nat.mod_lt _ (by norm_num)⟩ ⟨r % 2048, Nat.mod_lt _ (by norm_num)⟩
    ⟨d % 1024, Nat.mod_lt _ (by norm_num)⟩)
/-- The gain of the normalisation. -/
def argG (c : Dev nD) (d : ℕ) : EReal := m (c.tc.loc main_arg1) (ix1 ⟨d % 1024, Nat.mod_lt _ (by norm_num)⟩)
/-- The layer's input weights. -/
def argW (c : Dev nD) (d k : ℕ) : EReal :=
  m (c.tc.loc main_arg2) (ix2 ⟨d % 1024, Nat.mod_lt _ (by norm_num)⟩ ⟨k % 2608, Nat.mod_lt _ (by norm_num)⟩)

theorem lt_16 (t : Fin cfg0.N) : t.val < 16 := t.isLt

theorem blk0 (c : Dev nD) (t : Fin cfg0.N) (r d : Fin 1024) :
    iblk m c 0 t (ix3 0 r d) = argX m c (1024 * t.val + r.val) d.val := by
  have ht := lt_16 t
  have h : iblk m c 0 t (ix3 0 r d) = V m c main_arg0 (ix3 ⟨t.val / 2, by omega⟩ ⟨1024 * (t.val % 2) + r.val, by omega⟩ d) := by
    blk_ext [iblk, idx0 t]
  rw [h, V_main_arg0, argX]
  blk_ext []

theorem blk1 (c : Dev nD) (t : Fin cfg0.N) (d : Fin 1024) :
    iblk m c 1 t (ix2 0 d) = argG m c d.val := by
  have h : iblk m c 1 t (ix2 0 d) = V m c main_v8 (ix2 0 d) := by blk_ext [iblk, idx1 t]
  rw [h, V, argG]
  simp only [hostOps0]
  after_reads_simp
  pointwise
  blk_ext []

theorem blk2_0 (c : Dev nD) (t : Fin cfg0.N) (k : Fin 512) (d : Fin 1024) :
    iblk m c 2 t (ix2 ⟨k.val, by omega⟩ d) = argW m c d.val (1024 + k.val) := by
  have h : iblk m c 2 t (ix2 ⟨k.val, by omega⟩ d) = V m c main_v7 (ix2 ⟨k.val, by omega⟩ d) := by blk_ext [iblk, idx2 t]
  rw [h, V, argW]
  simp only [hostOps0]
  after_reads_simp
  pointwise
  after_reads_simp
  pointwise
  blk_ext []

theorem blk2_1 (c : Dev nD) (t : Fin cfg0.N) (k : Fin 512) (d : Fin 1024) :
    iblk m c 2 t (ix2 ⟨512 + k.val, by omega⟩ d) = argW m c d.val (1536 + k.val) := by
  have h : iblk m c 2 t (ix2 ⟨512 + k.val, by omega⟩ d) = V m c main_v7 (ix2 ⟨512 + k.val, by omega⟩ d) := by blk_ext [iblk, idx2 t]
  rw [h, V, argW]
  simp only [hostOps0]
  after_reads_simp
  pointwise
  after_reads_simp
  pointwise
  blk_ext []

theorem blk2 (c : Dev nD) (t : Fin cfg0.N) (k : Fin 1024) (d : Fin 1024) :
    iblk m c 2 t (ix2 k d) = argW m c d.val (pick k.val) := by
  have hk := k.isLt
  by_cases h0 : k.val < 512
  · have e : k = ⟨(⟨k.val - 0, by omega⟩ : Fin 512).val, by dsimp only; omega⟩ := Fin.ext (by dsimp only; omega)
    rw [e, blk2_0]
    refine congrArg (argW m c d.val) ?_
    dsimp only
    unfold pick
    rw [if_pos (by omega)]
    omega
  have e : k = ⟨512 + (⟨k.val - 512, by omega⟩ : Fin 512).val, by dsimp only; omega⟩ := Fin.ext (by dsimp only; omega)
  rw [e, blk2_1]
  refine congrArg (argW m c d.val) ?_
  dsimp only
  unfold pick
  rw [if_neg (by omega)]
  omega

/-- A grid point's block of the array: a column of the product of the normalised rows with the weights. -/
theorem point (c : Dev nD) (t : Fin cfg0.N) (k : Fin 1024) (r : Fin 1024) :
    outsAt0 m c t (ix3 0 k r) = column (argX m c) (argG m c) (argW m c) (1024 * t.val + r.val) (pick k.val) := by
  unfold outsAt0
  frame_out
  rw [pay2_apply]
  unfold column
  refine Finset.sum_congr rfl fun d _ => ?_
  rw [blk2, pay1_apply, mul_comm]
  refine congrArg (fun a : EReal => a * argW m c d.val (pick k.val)) ?_
  exact normed_congr _ _ _ _ _ (fun e => blk0 m c t r e) (blk1 m c t d)

/-- The array that the grid fills. -/
def arr (c : Dev nD) : Vec Ideal S8x1024x2048 .f32 := fun i =>
  column (argX m c) (argG m c) (argW m c) (2048 * (i 0).val + (i 2).val) (pick (i 1).val)

theorem flushed (c : Dev nD) (t : Fin cfg0.N) :
    (dats m 0 c).flushed 3 t = ((cfg0.win 3).blk t).view.read (Elt Ideal) (arr m c) := by
  show (cfg0.win 3).cut (grid0.coords t) ((dats m 0 c).after 3 t) = _
  rw [after0_3]
  funext y
  have hy0 : (y 0).val < 1 := (y 0).isLt
  have hy1 : (y 1).val < 1024 := (y 1).isLt
  have hy2 : (y 2).val < 1024 := (y 2).isLt
  have hb0 : (((cfg0.win 3).blk t).view.emb y 0).val = win0_3.index t (0 : Fin 3) * 1 + 1 * (y 0).val := rfl
  have hb1 : (((cfg0.win 3).blk t).view.emb y 1).val = win0_3.index t (1 : Fin 3) * 1024 + 1 * (y 1).val := rfl
  have hb2 : (((cfg0.win 3).blk t).view.emb y 2).val = win0_3.index t (2 : Fin 3) * 1024 + 1 * (y 2).val := rfl
  have e0 : win0_3.index t (0 : Fin 3) = t.val / 2 := congrFun (idx3 t) 0
  have e1 : win0_3.index t (1 : Fin 3) = 0 := congrFun (idx3 t) 1
  have e2 : win0_3.index t (2 : Fin 3) = t.val % 2 := congrFun (idx3 t) 2
  have e : (cfg0.win 3).xinj (grid0.coords t) y = ix3 0 ⟨(y 1).val, hy1⟩ ⟨(y 2).val, hy2⟩ := by
    funext a; apply Fin.ext
    match a with
    | ⟨0, _⟩ => show (y 0).val = 0; omega
    | ⟨1, _⟩ => rfl
    | ⟨2, _⟩ => rfl
  show outsAt0 m c t ((cfg0.win 3).xinj (grid0.coords t) y) = arr m c (((cfg0.win 3).blk t).view.emb y)
  rw [e, point]
  unfold arr
  rw [hb0, hb1, hb2, e0, e1, e2]
  dsimp only
  rw [show 2048 * (t.val / 2 * 1 + 1 * (y 0).val) + (t.val % 2 * 1024 + 1 * (y 2).val) = 1024 * t.val + (y 2).val by omega,
    show 0 * 1024 + 1 * (y 1).val = (y 1).val by omega]

theorem mem_blk (t : Fin cfg0.N) (i : S8x1024x2048.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v9).slice (win0_3.rect t)).set ↔ _
  rw [View.set_slice_whole, Rect.mem_set_unit]
  exact Iff.rfl

theorem flushes : ∀ t : Fin cfg0.N, (cfg0.win 3).flush t = true := (by decide +kernel : ∀ t : Fin grid0.N, win0_3.flush t = true)

theorem final (c : Dev nD) : (dats m 0 c).arrAt 3 cfg0.N = arr m c :=
  (dats m 0 c).arrAt_eq_of_cover 3 _ (fun t _ => flushed m c t) (fun i => by
    have h0 : (i 0).val < 8 := (i 0).isLt
    have h1 : (i 1).val < 1024 := (i 1).isLt
    have h2 : (i 2).val < 2048 := (i 2).isLt
    let t : Fin cfg0.N := ⟨2 * (i 0).val + (i 2).val / 1024, by show _ < 16; omega⟩
    have ht : t.val = 2 * (i 0).val + (i 2).val / 1024 := rfl
    refine ⟨t, flushes t, ?_⟩
    rw [mem_blk]
    have e0 : win0_3.index t (0 : Fin 3) = t.val / 2 := congrFun (idx3 t) 0
    have e1 : win0_3.index t (1 : Fin 3) = 0 := congrFun (idx3 t) 1
    have e2 : win0_3.index t (2 : Fin 3) = t.val % 2 := congrFun (idx3 t) 2
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 1024 ≤ (i 1).val ∧ (i 1).val < win0_3.index t (1 : Fin 3) * 1024 + 1024; omega
    | ⟨2, _⟩ => show win0_3.index t (2 : Fin 3) * 1024 ≤ (i 2).val ∧ (i 2).val < win0_3.index t (2 : Fin 3) * 1024 + 1024; omega)

/-- The result array: position `i 1` of batch `i 0`, for key or value `i 2`, head `i 3`, feature `i 4`. -/
def spec (c : Dev nD) : Vec Ideal S8x2048x4x4x64 .f32 := fun i =>
  column (argX m c) (argG m c) (argW m c) (2048 * (i 0).val + (i 1).val) (pick ((4 * (i 2).val + (i 3).val) * 64 + (i 4).val))

theorem inj : Function.Injective (Pipeline.arrRef spec0) := by decide

/-- What the two operations after the grid leave in the result. -/
theorem tail (c : Dev nD) : Pipeline.afterTail₀ cfgs (dats m) 0 (V0 m) [hostOps1] c main_v11 = spec m c := by
  have hw := (Pipeline.withArrays_arr spec0 inj c (V0 m c) (fun w => (dats m 0 c).arrAt w cfg0.N) 3).trans (final m c)
  unfold Pipeline.afterTail₀
  simp only [hostOps1]
  after_reads_simp
  funext i
  obtain ⟨b, t, s, h, e, rfl⟩ : ∃ (b : Fin 8) (t : Fin 2048) (s : Fin 4) (h : Fin 4) (e : Fin 64), i = ix5 b t s h e := ⟨_, _, _, _, _, eq_ix5 i⟩
  pointwise
  refine (congrFun hw _).trans ?_
  unfold arr spec
  congr 1
  congr 1
  show s.val * 256 + h.val * 64 + e.val = (4 * s.val + h.val) * 64 + e.val
  omega

theorem run (ρ : Dev nD → PrngReg) : θ_run defs (onTc (τ := τ) (main (F := Ideal))) ⟨m, fun _ => 0, ρ⟩ fun r => ∀ c : Dev nD,
      r.2.mem ((c.tc : Thread nD τ).loc main_v11) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h.1 c).2 main_v11 (Pipeline.mem_restRefs_of main_v11 (by decide) (by decide))).trans (tail m c), h.2 c⟩)
    (θ_run_and (run_main m ρ) (unchanged m ρ))

end Cert.Kernel5Ideal.Out

end
-- ==== Proof.KvOddRef.lean ====
/- The reference program of the odd layer's keys and values for compression and selection, read entry by entry; the two programs give
   one result array. -/
module

public import Idealize.ShloMosaic.Lib.Pipeline.ValueKit
public import Idealize.ShloMosaic.Lib.Pointwise.Reduce
public import Idealize.ShloMosaic.Lib.Claim
public import proofs.«01_k».proof.Proof.Gen.Reference5Ideal.Read
public import proofs.«01_k».proof.Proof.FfnMath
public import proofs.«01_k».proof.Proof.KvOdd

@[expose] public section

set_option maxRecDepth 16384

noncomputable section

open Idealize.ShloMosaic Idealize.ShloMosaic.TcCoe

namespace Cert.Reference5Ideal.Ref

open Cert.Reference5Ideal Cert.Reference5Ideal.Gen Cert.Reference5Ideal.Read Cert.Ffn

section Reading

variable (x0 : (⟨S8x2048x1024, .f32⟩ : BufTy).Contents (Elt Ideal)) (x1 : (⟨S1024, .f32⟩ : BufTy).Contents (Elt Ideal))
  (x2 : (⟨S1024x2608, .f32⟩ : BufTy).Contents (Elt Ideal))

/-- The normalised input. -/
theorem normal (b : Fin 8) (t : Fin 2048) (d : Fin 1024) :
    val_main_v12 (F := Ideal) x0 x1 (ix3 b t d) = normed (fun e => x0 (ix3 b t e)) (x1 (ix1 d)) d := by
  unfold val_main_v12 val_main_v11 val_main_v10 val_main_v9 val_main_v8 val_main_v7 val_main_v6 val_main_v5 val_main_v4 val_main_v3
    val_main_v2 val_main_v1 val_main_v0 val_main_cst val_main_cst_0 val_main_cst_1
  pointwise
  rfl

/-- The product with the weights. -/
theorem first (b : Fin 8) (t : Fin 2048) (k : Fin 2608) :
    val_main_v13 (F := Ideal) x0 x1 x2 (ix3 b t k)
      = ∑ d : Fin 1024, (normed (fun e => x0 (ix3 b t e)) (x1 (ix1 d)) d * x2 (ix2 d k) : EReal) := by
  rw [val_main_v13_apply]
  refine Finset.sum_congr rfl fun d _ => ?_
  rw [show lidx_main_v13 (ix3 b t k) d = ix3 b t d by blk_ext [lidx_main_v13], show ridx_main_v13 (ix3 b t k) d = ix2 d k by blk_ext [ridx_main_v13],
    normal]

theorem piece0 (b : Fin 8) (t : Fin 2048) (s : Fin 2) (h : Fin 4) (e : Fin 64) :
    val_main_v22 (F := Ideal) x0 x1 x2 (ix5 b t ⟨s.val, by omega⟩ h e)
      = val_main_v13 (F := Ideal) x0 x1 x2 (ix3 b t ⟨1024 + (64 * (4 * s.val + h.val) + e.val), by omega⟩) := by
  unfold val_main_v22 val_main_v20 val_main_v19 val_main_v16 val_main_v15
  generalize val_main_v13 (F := Ideal) x0 x1 x2 = y
  pointwise
  refine congrArg y ?_
  blk_ext []

theorem piece1 (b : Fin 8) (t : Fin 2048) (s : Fin 2) (h : Fin 4) (e : Fin 64) :
    val_main_v22 (F := Ideal) x0 x1 x2 (ix5 b t ⟨2 + s.val, by omega⟩ h e)
      = val_main_v13 (F := Ideal) x0 x1 x2 (ix3 b t ⟨1536 + (64 * (4 * s.val + h.val) + e.val), by omega⟩) := by
  unfold val_main_v22 val_main_v20 val_main_v19 val_main_v16 val_main_v15
  generalize val_main_v13 (F := Ideal) x0 x1 x2 = y
  pointwise
  refine congrArg y ?_
  blk_ext []

end Reading

open Cert.Kernel5Ideal.Out (argX argG argW)

variable (m : (ℓ : Loc Cert.Kernel5Ideal.nD Cert.Kernel5Ideal.τ Cert.Kernel5Ideal.sig) → Buf (Elt Ideal) ℓ) (c : Dev Cert.Kernel5Ideal.nD)

/-- The layer's input. -/
abbrev b0 : (⟨S8x2048x1024, .f32⟩ : BufTy).Contents (Elt Ideal) := m (c.tc.loc Cert.Kernel5Ideal.main_arg0)
/-- The gain of the normalisation. -/
abbrev b1 : (⟨S1024, .f32⟩ : BufTy).Contents (Elt Ideal) := m (c.tc.loc Cert.Kernel5Ideal.main_arg1)
/-- The layer's input weights. -/
abbrev b2 : (⟨S1024x2608, .f32⟩ : BufTy).Contents (Elt Ideal) := m (c.tc.loc Cert.Kernel5Ideal.main_arg2)

theorem input (b : Fin 8) (t : Fin 2048) (d : Fin 1024) : b0 m c (ix3 b t d) = argX m c (2048 * b.val + t.val) d.val := by
  unfold argX
  refine congrArg (b0 m c) ?_
  blk_ext []

theorem gain (d : Fin 1024) : b1 m c (ix1 d) = argG m c d.val := by
  unfold argG
  refine congrArg (b1 m c) ?_
  blk_ext []

theorem weight (d : Fin 1024) (k : Fin 2608) : b2 m c (ix2 d k) = argW m c d.val k.val := by
  unfold argW
  refine congrArg (b2 m c) ?_
  blk_ext []

theorem columns (b : Fin 8) (t : Fin 2048) (k : Fin 2608) :
    val_main_v13 (F := Ideal) (b0 m c) (b1 m c) (b2 m c) (ix3 b t k) = column (argX m c) (argG m c) (argW m c) (2048 * b.val + t.val) k.val := by
  rw [first]
  unfold column Cert.Ffn.hidden
  refine Finset.sum_congr rfl fun d _ => ?_
  rw [weight]
  exact congrArg (fun a : EReal => a * argW m c d.val k.val) (normed_congr _ _ _ _ _ (fun e => input m c b t e) (gain m c d))

/-- The result arrays of the two programs are one. -/
theorem value : val_main_v22 (F := Ideal) (b0 m c) (b1 m c) (b2 m c) = Cert.Kernel5Ideal.Out.spec m c := by
  funext i
  obtain ⟨b, t, s, h, e, rfl⟩ : ∃ (b : Fin 8) (t : Fin 2048) (s : Fin 4) (h : Fin 4) (e : Fin 64), i = ix5 b t s h e := ⟨_, _, _, _, _, eq_ix5 i⟩
  have hs := s.isLt
  have hh := h.isLt
  have he := e.isLt
  unfold Cert.Kernel5Ideal.Out.spec
  dsimp only
  by_cases h0 : s.val < 2
  · have e1 : s = ⟨(⟨s.val - 0, by omega⟩ : Fin 2).val, by dsimp only; omega⟩ := Fin.ext (by dsimp only; omega)
    rw [e1, piece0, columns]
    refine congrArg _ ?_
    show _ = Cert.Kernel5Ideal.Out.pick _
    unfold Cert.Kernel5Ideal.Out.pick
    dsimp only
    split_ifs <;> simp at * <;> omega
  · have e1 : s = ⟨2 + (⟨s.val - 2, by omega⟩ : Fin 2).val, by dsimp only; omega⟩ := Fin.ext (by dsimp only; omega)
    rw [e1, piece1, columns]
    refine congrArg _ ?_
    show _ = Cert.Kernel5Ideal.Out.pick _
    unfold Cert.Kernel5Ideal.Out.pick
    dsimp only
    split_ifs <;> simp at * <;> omega

end Cert.Reference5Ideal.Ref

end
-- ==== Proof.QGate.lean ====
/- The even layer's queries and forget gates: the grid's blocks and the array that it fills. -/
module

public import Idealize.ShloMosaic.Lib.Pipeline.ValueKit
public import Idealize.ShloMosaic.Lib.Pointwise.Reduce
public import Idealize.ShloMosaic.Lib.Pipeline.ReadBack
public import Idealize.ShloMosaic.Lib.Pipeline.Value
public import Idealize.ShloMosaic.Lib.Claim
public import Idealize.ShloMosaic.Lib.StableHlo.RunRead
public import proofs.«01_k».proof.Proof.Gen.Kernel6Ideal.Value
public import proofs.«01_k».proof.Proof.FfnMath

@[expose] public section

set_option maxRecDepth 16384

noncomputable section

open Idealize.ShloMosaic Idealize.ShloMosaic.TcCoe

namespace Cert.Kernel6Ideal.Out

open Cert.Kernel6Ideal Cert.Kernel6Ideal.Gen Cert.Ffn

theorem pay1_apply (v8 : Vec Ideal S1024x1024 .f32) (v10 : Vec Ideal S1x1024 .f32) (r d : Fin 1024) :
    k0_pay1 v8 v10 (ix2 r d) = normed (fun e => v8 (ix2 r e)) (v10 (ix2 0 d)) d := by
  unfold k0_pay1
  pointwise
  rfl

theorem pay2_apply (v3 : Vec Ideal S1024x1024 .bf16) (v4 : Vec Ideal S1024x1152 .bf16) (r : Fin 1024) (k : Fin 1152) :
    k0_pay2 v3 v4 (ix2 r k) = (∑ d : Fin 1024, v3 (ix2 r d) * v4 (ix2 d k) : EReal) := by
  unfold k0_pay2
  pointwise

theorem sitofp_zero : (FloatOps.sitofp (F := Ideal) FTy.f32 (0#32 : BitVec 32) : EReal) = 0 := by
  show (((0#32 : BitVec 32).toInt : ℝ) : EReal) = 0
  simp

/-- The column of the layer's input weights that gives column `n`: the queries of the two kinds of heads, then the forget gates. -/
def pick (n : ℕ) : ℕ := if n < 512 then n else if n < 1024 then 1536 + (n - 512) else 3072 + (n - 1024)

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![t.val, 0] := by decide +kernel

/-- Row `r`, column `d` of the layer's input. -/
def argX (c : Dev nD) (r d : ℕ) : EReal :=
  m (c.tc.loc main_arg0) (ix3 ⟨r / 2048 % 8, Nat.mod_lt _ (by norm_num)⟩ ⟨r % 2048, Nat.mod_lt _ (by norm_num)⟩
    ⟨d % 1024, Nat.mod_lt _ (by norm_num)⟩)
/-- The gain of the normalisation. -/
def argG (c : Dev nD) (d : ℕ) : EReal := m (c.tc.loc main_arg1) (ix1 ⟨d % 1024, Nat.mod_lt _ (by norm_num)⟩)
/-- The layer's input weights. -/
def argW (c : Dev nD) (d k : ℕ) : EReal :=
  m (c.tc.loc main_arg2) (ix2 ⟨d % 1024, Nat.mod_lt _ (by norm_num)⟩ ⟨k % 3080, Nat.mod_lt _ (by norm_num)⟩)

/-- Row `d`, column `k` of the weights that the grid reads: the last 120 columns are zeros. -/
def padded (c : Dev nD) (d k : ℕ) : EReal := if k < 1032 then argW m c d (pick k) else 0

theorem lt_16 (t : Fin cfg0.N) : t.val < 16 := t.isLt

theorem blk0 (c : Dev nD) (t : Fin cfg0.N) (r d : Fin 1024) :
    iblk m c 0 t (ix2 r d) = argX m c (1024 * t.val + r.val) d.val := by
  have ht := lt_16 t
  have h : iblk m c 0 t (ix2 r d) = V m c main_v10 (ix2 ⟨1024 * t.val + r.val, by omega⟩ d) := by blk_ext [iblk, idx0 t]
  rw [h, V, argX]
  simp only [hostOps0, hostOps0_1, hostOps0_2]
  after_reads_simp
  pointwise
  blk_ext []

theorem blk1 (c : Dev nD) (t : Fin cfg0.N) (d : Fin 1024) :
    iblk m c 1 t (ix2 0 d) = argG m c d.val := by
  have h : iblk m c 1 t (ix2 0 d) = V m c main_v11 (ix2 0 d) := by blk_ext [iblk, idx1 t]
  rw [h, V, argG]
  simp only [hostOps0, hostOps0_1, hostOps0_2]
  after_reads_simp
  pointwise
  blk_ext []

theorem blk2_0 (c : Dev nD) (t : Fin cfg0.N) (d : Fin 1024) (k : Fin 512) :
    iblk m c 2 t (ix2 d ⟨k.val, by omega⟩) = (argW m c d.val (k.val) : EReal) := by
  have h : iblk m c 2 t (ix2 d ⟨k.val, by omega⟩) = V m c main_v9 (ix2 d ⟨k.val, by omega⟩) := by blk_ext [iblk, idx2 t]
  rw [h, V, argW]
  simp only [hostOps0, hostOps0_1, hostOps0_2]
  after_reads_simp
  pointwise
  after_reads_simp
  pointwise
  blk_ext []

theorem blk2_1 (c : Dev nD) (t : Fin cfg0.N) (d : Fin 1024) (k : Fin 512) :
    iblk m c 2 t (ix2 d ⟨512 + k.val, by omega⟩) = (argW m c d.val (1536 + k.val) : EReal) := by
  have h : iblk m c 2 t (ix2 d ⟨512 + k.val, by omega⟩) = V m c main_v9 (ix2 d ⟨512 + k.val, by omega⟩) := by blk_ext [iblk, idx2 t]
  rw [h, V, argW]
  simp only [hostOps0, hostOps0_1, hostOps0_2]
  after_reads_simp
  pointwise
  after_reads_simp
  pointwise
  blk_ext []

theorem blk2_2 (c : Dev nD) (t : Fin cfg0.N) (d : Fin 1024) (k : Fin 8) :
    iblk m c 2 t (ix2 d ⟨1024 + k.val, by omega⟩) = (argW m c d.val (3072 + k.val) : EReal) := by
  have h : iblk m c 2 t (ix2 d ⟨1024 + k.val, by omega⟩) = V m c main_v9 (ix2 d ⟨1024 + k.val, by omega⟩) := by blk_ext [iblk, idx2 t]
  rw [h, V, argW]
  simp only [hostOps0, hostOps0_1, hostOps0_2]
  after_reads_simp
  pointwise
  after_reads_simp
  pointwise
  rw [dif_neg (by omega), dif_neg (by omega)]
  change pad S1024x128 ![0, 0] ![0, 120] ![0, 0] (extractStridedSlice S1024x8 ![0, 3072] (m (c.tc.loc main_arg2)) slices_S1024x3080_S1024x8_0_3072)
    (sitofp (F := Ideal) .f32 (constantI S_ 32 0#32)) pads_S1024x8_S1024x128_000_01200 h_S_ (ix2 d ⟨1024 + k.val - 512 - 512, by omega⟩) = _
  pointwise
  rw [dif_pos (by omega)]
  blk_ext []

theorem blk2_3 (c : Dev nD) (t : Fin cfg0.N) (d : Fin 1024) (k : Fin 120) :
    iblk m c 2 t (ix2 d ⟨1032 + k.val, by omega⟩) = (0 : EReal) := by
  have h : iblk m c 2 t (ix2 d ⟨1032 + k.val, by omega⟩) = V m c main_v9 (ix2 d ⟨1032 + k.val, by omega⟩) := by blk_ext [iblk, idx2 t]
  rw [h, V]
  simp only [hostOps0, hostOps0_1, hostOps0_2]
  after_reads_simp
  pointwise
  after_reads_simp
  pointwise
  rw [dif_neg (by omega), dif_neg (by omega)]
  change pad S1024x128 ![0, 0] ![0, 120] ![0, 0] (extractStridedSlice S1024x8 ![0, 3072] (m (c.tc.loc main_arg2)) slices_S1024x3080_S1024x8_0_3072)
    (sitofp (F := Ideal) .f32 (constantI S_ 32 0#32)) pads_S1024x8_S1024x128_000_01200 h_S_ (ix2 d ⟨1032 + k.val - 512 - 512, by omega⟩) = _
  pointwise
  rw [dif_neg (by omega)]
  exact sitofp_zero

theorem blk2 (c : Dev nD) (t : Fin cfg0.N) (d : Fin 1024) (k : Fin 1152) :
    iblk m c 2 t (ix2 d k) = padded m c d.val k.val := by
  have hk := k.isLt
  unfold padded pick
  by_cases h0 : k.val < 512
  · rw [if_pos (by omega), if_pos h0]
    exact blk2_0 m c t d ⟨k.val, h0⟩
  · by_cases h1 : k.val < 1024
    · have e : k = ⟨512 + (⟨k.val - 512, by omega⟩ : Fin 512).val, by dsimp only; omega⟩ := Fin.ext (by dsimp only; omega)
      rw [if_pos (by omega), if_neg h0, if_pos h1, e, blk2_1]
      refine congrArg (argW m c d.val) ?_
      dsimp only
      omega
    · by_cases h2 : k.val < 1032
      · have e : k = ⟨1024 + (⟨k.val - 1024, by omega⟩ : Fin 8).val, by dsimp only; omega⟩ := Fin.ext (by dsimp only; omega)
        rw [if_pos (by omega), if_neg h0, if_neg h1, e, blk2_2]
        refine congrArg (argW m c d.val) ?_
        dsimp only
        omega
      · have e : k = ⟨1032 + (⟨k.val - 1032, by omega⟩ : Fin 120).val, by dsimp only; omega⟩ := Fin.ext (by dsimp only; omega)
        rw [if_neg (by omega), e, blk2_3]

/-- Column `k` of row `r` of the result. -/
def entry (c : Dev nD) (r k : ℕ) : EReal := if k < 1032 then column (argX m c) (argG m c) (argW m c) r (pick k) else 0

/-- A grid point's block of the array. -/
theorem point (c : Dev nD) (t : Fin cfg0.N) (r : Fin 1024) (k : Fin 1152) :
    outsAt0 m c t (ix2 r k) = entry m c (1024 * t.val + r.val) k.val := by
  unfold outsAt0
  frame_out
  rw [pay2_apply]
  have hh : ∀ d : Fin 1024, k0_pay1 (iblk m c 0 t) (iblk m c 1 t) (ix2 r d) = hidden (argX m c) (argG m c) (1024 * t.val + r.val) d := by
    intro d
    rw [pay1_apply]
    exact normed_congr _ _ _ _ _ (fun e => blk0 m c t r e) (blk1 m c t d)
  unfold entry
  by_cases h : k.val < 1032
  · rw [if_pos h]
    unfold column
    refine Finset.sum_congr rfl fun d _ => ?_
    rw [blk2, hh, padded, if_pos h]
  · rw [if_neg h]
    refine Finset.sum_eq_zero fun d _ => ?_
    rw [blk2, padded, if_neg h, mul_zero]

/-- The result array. -/
def spec (c : Dev nD) : Vec Ideal S16384x1152 .f32 := fun i => entry m c (i 0).val (i 1).val

theorem flushed (c : Dev nD) (t : Fin cfg0.N) :
    (dats m 0 c).flushed 3 t = ((cfg0.win 3).blk t).view.read (Elt Ideal) (spec m c) := by
  show (cfg0.win 3).cut (grid0.coords t) ((dats m 0 c).after 3 t) = _
  rw [after0_3]
  funext y
  have hy0 : (y 0).val < 1024 := (y 0).isLt
  have hy1 : (y 1).val < 1152 := (y 1).isLt
  have hb0 : (((cfg0.win 3).blk t).view.emb y 0).val = win0_3.index t (0 : Fin 2) * 1024 + 1 * (y 0).val := rfl
  have hb1 : (((cfg0.win 3).blk t).view.emb y 1).val = win0_3.index t (1 : Fin 2) * 1152 + 1 * (y 1).val := rfl
  have e0 : win0_3.index t (0 : Fin 2) = t.val := congrFun (idx3 t) 0
  have e1 : win0_3.index t (1 : Fin 2) = 0 := congrFun (idx3 t) 1
  have e : (cfg0.win 3).xinj (grid0.coords t) y = ix2 ⟨(y 0).val, hy0⟩ ⟨(y 1).val, hy1⟩ := by
    funext a; apply Fin.ext
    match a with
    | ⟨0, _⟩ => rfl
    | ⟨1, _⟩ => rfl
  show outsAt0 m c t ((cfg0.win 3).xinj (grid0.coords t) y) = spec m c (((cfg0.win 3).blk t).view.emb y)
  rw [e, point]
  unfold spec
  simp only [hb0, hb1, e0, e1]
  congr 1
  · omega
  · omega

theorem mem_blk (t : Fin cfg0.N) (i : S16384x1152.Idx) :
    i ∈ ((cfg0.win 3).blk t).view.set ↔ ∀ a : Fin 2, win0_3.index t a * S1024x1152.size a ≤ (i a).val ∧ (i a).val < win0_3.index t a * S1024x1152.size a + S1024x1152.size a := by
  show i ∈ ((View.whole main_v12).slice (win0_3.rect t)).set ↔ _
  rw [View.set_slice_whole, Rect.mem_set_unit]
  exact Iff.rfl

theorem flushes : ∀ t : Fin cfg0.N, (cfg0.win 3).flush t = true := (by decide +kernel : ∀ t : Fin grid0.N, win0_3.flush t = true)

theorem final (c : Dev nD) : (dats m 0 c).arrAt 3 cfg0.N = spec m c :=
  (dats m 0 c).arrAt_eq_of_cover 3 _ (fun t _ => flushed m c t) (fun i => by
    have h0 : (i 0).val < 16384 := (i 0).isLt
    have h1 : (i 1).val < 1152 := (i 1).isLt
    let t : Fin cfg0.N := ⟨(i 0).val / 1024, by show _ < 16; omega⟩
    have ht : t.val = (i 0).val / 1024 := rfl
    refine ⟨t, flushes t, ?_⟩
    rw [mem_blk]
    have e0 : win0_3.index t (0 : Fin 2) = t.val := congrFun (idx3 t) 0
    have e1 : win0_3.index t (1 : Fin 2) = 0 := congrFun (idx3 t) 1
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 1152 ≤ (i 1).val ∧ (i 1).val < win0_3.index t (1 : Fin 2) * 1152 + 1152; omega)

end Cert.Kernel6Ideal.Out

end
-- ==== Proof.QGateRef.lean ====
/- The reference program of the even layer's queries and forget gates, read entry by entry; the two programs give one result array. -/
module

public import Idealize.ShloMosaic.Lib.Pipeline.ValueKit
public import Idealize.ShloMosaic.Lib.Pointwise.Reduce
public import Idealize.ShloMosaic.Lib.Claim
public import proofs.«01_k».proof.Proof.Gen.Reference6Ideal.Read
public import proofs.«01_k».proof.Proof.FfnMath
public import proofs.«01_k».proof.Proof.QGate

@[expose] public section

set_option maxRecDepth 16384

noncomputable section

open Idealize.ShloMosaic Idealize.ShloMosaic.TcCoe

namespace Cert.Reference6Ideal.Ref

open Cert.Reference6Ideal Cert.Reference6Ideal.Gen Cert.Reference6Ideal.Read Cert.Ffn

section Reading

variable (x0 : (⟨S8x2048x1024, .f32⟩ : BufTy).Contents (Elt Ideal)) (x1 : (⟨S1024, .f32⟩ : BufTy).Contents (Elt Ideal))
  (x2 : (⟨S1024x3080, .f32⟩ : BufTy).Contents (Elt Ideal))

/-- The normalised input. -/
theorem normal (b : Fin 8) (t : Fin 2048) (d : Fin 1024) :
    val_main_v12 (F := Ideal) x0 x1 (ix3 b t d) = normed (fun e => x0 (ix3 b t e)) (x1 (ix1 d)) d := by
  unfold val_main_v12 val_main_v11 val_main_v10 val_main_v9 val_main_v8 val_main_v7 val_main_v6 val_main_v5 val_main_v4 val_main_v3
    val_main_v2 val_main_v1 val_main_v0 val_main_cst val_main_cst_0 val_main_cst_1
  pointwise
  rfl

/-- The product with the weights. -/
theorem first (b : Fin 8) (t : Fin 2048) (k : Fin 3080) :
    val_main_v13 (F := Ideal) x0 x1 x2 (ix3 b t k)
      = ∑ d : Fin 1024, (normed (fun e => x0 (ix3 b t e)) (x1 (ix1 d)) d * x2 (ix2 d k) : EReal) := by
  rw [val_main_v13_apply]
  refine Finset.sum_congr rfl fun d _ => ?_
  rw [show lidx_main_v13 (ix3 b t k) d = ix3 b t d by blk_ext [lidx_main_v13], show ridx_main_v13 (ix3 b t k) d = ix2 d k by blk_ext [ridx_main_v13],
    normal]

theorem piece0 (b : Fin 8) (t : Fin 2048) (k : Fin 512) :
    val_main_v22 (F := Ideal) x0 x1 x2 (ix3 b t ⟨k.val, by omega⟩) = val_main_v13 (F := Ideal) x0 x1 x2 (ix3 b t ⟨k.val, by omega⟩) := by
  unfold val_main_v22 val_main_v21 val_main_v20 val_main_v17 val_main_v14 val_main_cst_2
  generalize val_main_v13 (F := Ideal) x0 x1 x2 = y
  pointwise

theorem piece1 (b : Fin 8) (t : Fin 2048) (k : Fin 512) :
    val_main_v22 (F := Ideal) x0 x1 x2 (ix3 b t ⟨512 + k.val, by omega⟩) = val_main_v13 (F := Ideal) x0 x1 x2 (ix3 b t ⟨1536 + k.val, by omega⟩) := by
  unfold val_main_v22 val_main_v21 val_main_v20 val_main_v17 val_main_v14 val_main_cst_2
  generalize val_main_v13 (F := Ideal) x0 x1 x2 = y
  pointwise

theorem piece2 (b : Fin 8) (t : Fin 2048) (k : Fin 8) :
    val_main_v22 (F := Ideal) x0 x1 x2 (ix3 b t ⟨1024 + k.val, by omega⟩) = val_main_v13 (F := Ideal) x0 x1 x2 (ix3 b t ⟨3072 + k.val, by omega⟩) := by
  unfold val_main_v22 val_main_v21 val_main_v20 val_main_v17 val_main_v14 val_main_cst_2
  generalize val_main_v13 (F := Ideal) x0 x1 x2 = y
  pointwise
  rw [dif_neg (by omega), dif_neg (by omega), dif_pos (by omega)]
  refine congrArg y ?_
  blk_ext []

theorem piece3 (b : Fin 8) (t : Fin 2048) (k : Fin 120) :
    val_main_v22 (F := Ideal) x0 x1 x2 (ix3 b t ⟨1032 + k.val, by omega⟩) = (0 : EReal) := by
  unfold val_main_v22 val_main_v21 val_main_v20 val_main_v17 val_main_v14 val_main_cst_2
  generalize val_main_v13 (F := Ideal) x0 x1 x2 = y
  pointwise
  rw [dif_neg (by omega), dif_neg (by omega), dif_neg (by omega)]

/-- The result's rows are the batches' positions in order. -/
theorem rows (b : Fin 8) (t : Fin 2048) (k : Fin 1152) :
    val_main_v23 (F := Ideal) x0 x1 x2 (ix2 ⟨2048 * b.val + t.val, by omega⟩ k) = val_main_v22 (F := Ideal) x0 x1 x2 (ix3 b t k) := by
  rw [val_main_v23_apply]
  refine congrArg (val_main_v22 (F := Ideal) x0 x1 x2) ?_
  blk_ext [idx_main_v23]

end Reading

open Cert.Kernel6Ideal.Out (argX argG argW)

variable (m : (ℓ : Loc Cert.Kernel6Ideal.nD Cert.Kernel6Ideal.τ Cert.Kernel6Ideal.sig) → Buf (Elt Ideal) ℓ) (c : Dev Cert.Kernel6Ideal.nD)

/-- The layer's input. -/
abbrev b0 : (⟨S8x2048x1024, .f32⟩ : BufTy).Contents (Elt Ideal) := m (c.tc.loc Cert.Kernel6Ideal.main_arg0)
/-- The gain of the normalisation. -/
abbrev b1 : (⟨S1024, .f32⟩ : BufTy).Contents (Elt Ideal) := m (c.tc.loc Cert.Kernel6Ideal.main_arg1)
/-- The layer's input weights. -/
abbrev b2 : (⟨S1024x3080, .f32⟩ : BufTy).Contents (Elt Ideal) := m (c.tc.loc Cert.Kernel6Ideal.main_arg2)

theorem input (b : Fin 8) (t : Fin 2048) (d : Fin 1024) : b0 m c (ix3 b t d) = argX m c (2048 * b.val + t.val) d.val := by
  unfold argX
  refine congrArg (b0 m c) ?_
  blk_ext []

theorem gain (d : Fin 1024) : b1 m c (ix1 d) = argG m c d.val := by
  unfold argG
  refine congrArg (b1 m c) ?_
  blk_ext []

theorem weight (d : Fin 1024) (k : Fin 3080) : b2 m c (ix2 d k) = argW m c d.val k.val := by
  unfold argW
  refine congrArg (b2 m c) ?_
  blk_ext []

theorem columns (b : Fin 8) (t : Fin 2048) (k : Fin 3080) :
    val_main_v13 (F := Ideal) (b0 m c) (b1 m c) (b2 m c) (ix3 b t k) = column (argX m c) (argG m c) (argW m c) (2048 * b.val + t.val) k.val := by
  rw [first]
  unfold column Cert.Ffn.hidden
  refine Finset.sum_congr rfl fun d _ => ?_
  rw [weight]
  exact congrArg (fun a : EReal => a * argW m c d.val k.val) (normed_congr _ _ _ _ _ (fun e => input m c b t e) (gain m c d))

theorem entries (b : Fin 8) (t : Fin 2048) (k : Fin 1152) :
    val_main_v22 (F := Ideal) (b0 m c) (b1 m c) (b2 m c) (ix3 b t k) = Cert.Kernel6Ideal.Out.entry m c (2048 * b.val + t.val) k.val := by
  have hk := k.isLt
  unfold Cert.Kernel6Ideal.Out.entry Cert.Kernel6Ideal.Out.pick
  by_cases h0 : k.val < 512
  · rw [if_pos (by omega), if_pos h0]
    exact (piece0 _ _ _ b t ⟨k.val, h0⟩).trans (columns m c b t _)
  · by_cases h1 : k.val < 1024
    · have e : k = ⟨512 + (⟨k.val - 512, by omega⟩ : Fin 512).val, by dsimp only; omega⟩ := Fin.ext (by dsimp only; omega)
      rw [if_pos (by omega), if_neg h0, if_pos h1, e, piece1, columns]
      refine congrArg (column _ _ _ _) ?_
      dsimp only
      omega
    · by_cases h2 : k.val < 1032
      · have e : k = ⟨1024 + (⟨k.val - 1024, by omega⟩ : Fin 8).val, by dsimp only; omega⟩ := Fin.ext (by dsimp only; omega)
        rw [if_pos (by omega), if_neg h0, if_neg h1, e, piece2, columns]
        refine congrArg (column _ _ _ _) ?_
        dsimp only
        omega
      · have e : k = ⟨1032 + (⟨k.val - 1032, by omega⟩ : Fin 120).val, by dsimp only; omega⟩ := Fin.ext (by dsimp only; omega)
        rw [if_neg (by omega), e, piece3]

/-- The result arrays of the two programs are one. -/
theorem value : val_main_v23 (F := Ideal) (b0 m c) (b1 m c) (b2 m c) = Cert.Kernel6Ideal.Out.spec m c := by
  funext i
  have h0 : (i 0).val < 16384 := (i 0).isLt
  have h1 : (i 1).val < 1152 := (i 1).isLt
  have e : i = ix2 ⟨2048 * (⟨(i 0).val / 2048, by omega⟩ : Fin 8).val + (⟨(i 0).val % 2048, by omega⟩ : Fin 2048).val, by dsimp only; omega⟩ ⟨(i 1).val, h1⟩ := by
    funext a; apply Fin.ext
    match a with
    | ⟨0, _⟩ => show (i 0).val = 2048 * ((i 0).val / 2048) + (i 0).val % 2048; omega
    | ⟨1, _⟩ => rfl
  have r := (rows (b0 m c) (b1 m c) (b2 m c) ⟨(i 0).val / 2048, by omega⟩ ⟨(i 0).val % 2048, by omega⟩ ⟨(i 1).val, h1⟩).trans (entries m c _ _ _)
  rw [← e] at r
  refine r.trans ?_
  unfold Cert.Kernel6Ideal.Out.spec
  refine congrArg (fun a => Cert.Kernel6Ideal.Out.entry m c a (i 1).val) ?_
  dsimp only
  omega

end Cert.Reference6Ideal.Ref

end
-- ==== Proof.Window.lean ====
/- The odd layer's window keys and values: the grid's blocks, the array that it fills, and the result. -/
module

public import Idealize.ShloMosaic.Lib.Pipeline.ValueKit
public import Idealize.ShloMosaic.Lib.Pointwise.Reduce
public import Idealize.ShloMosaic.Lib.Pipeline.ReadBack
public import Idealize.ShloMosaic.Lib.Pipeline.Value
public import Idealize.ShloMosaic.Lib.Claim
public import Idealize.ShloMosaic.Lib.StableHlo.RunRead
public import proofs.«01_k».proof.Proof.Gen.Kernel7Ideal.Frame
public import proofs.«01_k».proof.Proof.FfnMath

@[expose] public section

set_option maxRecDepth 16384

noncomputable section

open Idealize.ShloMosaic Idealize.ShloMosaic.TcCoe

namespace Cert.Kernel7Ideal.Out

open Cert.Kernel7Ideal Cert.Kernel7Ideal.Gen Cert.Ffn

theorem pay1_apply (v10 : Vec Ideal S1x1024x1024 .f32) (v12 : Vec Ideal S1x1024 .f32) (r d : Fin 1024) :
    k0_pay1 v10 v12 (ix2 r d) = normed (fun e => v10 (ix3 0 r e)) (v12 (ix2 0 d)) d := by
  unfold k0_pay1
  pointwise
  rfl

theorem pay2_apply (v3 : Vec Ideal S576x1024 .bf16) (v5 : Vec Ideal S1024x1024 .bf16) (k : Fin 576) (r : Fin 1024) :
    k0_pay2 v3 v5 (ix3 0 k r) = (∑ d : Fin 1024, v3 (ix2 k d) * v5 (ix2 r d) : EReal) := by
  unfold k0_pay2
  pointwise

variable (m : (ℓ : Loc nD τ sig) → Buf (Elt Ideal) ℓ)

theorem idx0 : ∀ t : Fin cfg0.N, win0_0.index t = ![t.val / 2, t.val % 2, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![t.val / 2, 0, t.val % 2] := by decide +kernel

/-- Row `r`, column `d` of the layer's input. -/
def argX (c : Dev nD) (r d : ℕ) : EReal :=
  m (c.tc.loc main_arg0) (ix3 ⟨r / 2048 % 8, Nat.mod_lt _ (by norm_num)⟩ ⟨r % 2048, Nat.mod_lt _ (by norm_num)⟩
    ⟨d % 1024, Nat.mod_lt _ (by norm_num)⟩)
/-- The gain of the normalisation. -/
def argG (c : Dev nD) (d : ℕ) : EReal := m (c.tc.loc main_arg1) (ix1 ⟨d % 1024, Nat.mod_lt _ (by norm_num)⟩)
/-- The layer's input weights. -/
def argW (c : Dev nD) (d k : ℕ) : EReal :=
  m (c.tc.loc main_arg2) (ix2 ⟨d % 1024, Nat.mod_lt _ (by norm_num)⟩ ⟨k % 2608, Nat.mod_lt _ (by norm_num)⟩)

theorem lt_16 (t : Fin cfg0.N) : t.val < 16 := t.isLt

theorem blk0 (c : Dev nD) (t : Fin cfg0.N) (r d : Fin 1024) :
    iblk m c 0 t (ix3 0 r d) = argX m c (1024 * t.val + r.val) d.val := by
  have ht := lt_16 t
  have h : iblk m c 0 t (ix3 0 r d) = V m c main_arg0 (ix3 ⟨t.val / 2, by omega⟩ ⟨1024 * (t.val % 2) + r.val, by omega⟩ d) := by
    blk_ext [iblk, idx0 t]
  rw [h, V_main_arg0, argX]
  blk_ext []

theorem blk1 (c : Dev nD) (t : Fin cfg0.N) (d : Fin 1024) :
    iblk m c 1 t (ix2 0 d) = argG m c d.val := by
  have h : iblk m c 1 t (ix2 0 d) = V m c main_v17 (ix2 0 d) := by blk_ext [iblk, idx1 t]
  rw [h, V, argG]
  simp only [hostOps0, hostOps0_1, hostOps0_2, hostOps0_3, hostOps0_4, hostOps0_5, hostOps0_6, hostOps0_7, hostOps0_8]
  after_reads_simp
  pointwise
  blk_ext []

/-- The weights that the grid reads, one row for each column of the result. -/
def wts (c : Dev nD) : Vec Ideal S576x1024 .bf16 := V m c main_v16

theorem blk2 (c : Dev nD) (t : Fin cfg0.N) (k : Fin 576) (d : Fin 1024) :
    iblk m c 2 t (ix2 k d) = wts m c (ix2 k d) := by
  unfold wts
  blk_ext [iblk, idx2 t]

/-- The first 512 rows are columns of the layer's input weights. -/
theorem wts_row (c : Dev nD) (k : Fin 512) (d : Fin 1024) : wts m c (ix2 ⟨k.val, by omega⟩ d) = argW m c d.val (2048 + k.val) := by
  show V m c main_v16 (ix2 ⟨k.val, by omega⟩ d) = _
  rw [V, argW, V0]
  simp only [hostOps0, hostOps0_1, hostOps0_2, hostOps0_3, hostOps0_4, hostOps0_5, hostOps0_6, hostOps0_7, hostOps0_8]
  after_reads_simp
  pointwise
  after_reads_simp
  pointwise
  blk_ext []

/-- Row `r` of the array that the grid fills, column `k`. -/
def fill (c : Dev nD) (r k : ℕ) : EReal :=
  ∑ d : Fin 1024, hidden (argX m c) (argG m c) r d * (wts m c (ix2 ⟨k % 576, Nat.mod_lt _ (by norm_num)⟩ d) : EReal)

theorem fill_window (c : Dev nD) (r : ℕ) (k : Fin 512) : fill m c r k.val = column (argX m c) (argG m c) (argW m c) r (2048 + k.val) := by
  unfold fill column
  refine Finset.sum_congr rfl fun d _ => ?_
  rw [← wts_row]
  refine congrArg (fun a : EReal => hidden (argX m c) (argG m c) r d * a) ?_
  refine congrArg (wts m c) ?_
  have hk := k.isLt
  blk_ext []

/-- A grid point's block of the array: a column of the product of the normalised rows with the weights. -/
theorem point (c : Dev nD) (t : Fin cfg0.N) (k : Fin 576) (r : Fin 1024) :
    outsAt0 m c t (ix3 0 k r) = fill m c (1024 * t.val + r.val) k.val := by
  unfold outsAt0
  frame_out
  rw [pay2_apply]
  unfold fill
  refine Finset.sum_congr rfl fun d _ => ?_
  rw [blk2, pay1_apply, mul_comm]
  refine congrArg₂ (fun a b : EReal => a * b) (normed_congr _ _ _ _ _ (fun e => blk0 m c t r e) (blk1 m c t d)) ?_
  refine congrArg (wts m c) ?_
  have hk := k.isLt
  blk_ext []

/-- The array that the grid fills. -/
def arr (c : Dev nD) : Vec Ideal S8x576x2048 .f32 := fun i =>
  fill m c (2048 * (i 0).val + (i 2).val) (i 1).val

theorem flushed (c : Dev nD) (t : Fin cfg0.N) :
    (dats m 0 c).flushed 3 t = ((cfg0.win 3).blk t).view.read (Elt Ideal) (arr m c) := by
  show (cfg0.win 3).cut (grid0.coords t) ((dats m 0 c).after 3 t) = _
  rw [after0_3]
  funext y
  have hy0 : (y 0).val < 1 := (y 0).isLt
  have hy1 : (y 1).val < 576 := (y 1).isLt
  have hy2 : (y 2).val < 1024 := (y 2).isLt
  have hb0 : (((cfg0.win 3).blk t).view.emb y 0).val = win0_3.index t (0 : Fin 3) * 1 + 1 * (y 0).val := rfl
  have hb1 : (((cfg0.win 3).blk t).view.emb y 1).val = win0_3.index t (1 : Fin 3) * 576 + 1 * (y 1).val := rfl
  have hb2 : (((cfg0.win 3).blk t).view.emb y 2).val = win0_3.index t (2 : Fin 3) * 1024 + 1 * (y 2).val := rfl
  have e0 : win0_3.index t (0 : Fin 3) = t.val / 2 := congrFun (idx3 t) 0
  have e1 : win0_3.index t (1 : Fin 3) = 0 := congrFun (idx3 t) 1
  have e2 : win0_3.index t (2 : Fin 3) = t.val % 2 := congrFun (idx3 t) 2
  have e : (cfg0.win 3).xinj (grid0.coords t) y = ix3 0 ⟨(y 1).val, hy1⟩ ⟨(y 2).val, hy2⟩ := by
    funext a; apply Fin.ext
    match a with
    | ⟨0, _⟩ => show (y 0).val = 0; omega
    | ⟨1, _⟩ => rfl
    | ⟨2, _⟩ => rfl
  show outsAt0 m c t ((cfg0.win 3).xinj (grid0.coords t) y) = arr m c (((cfg0.win 3).blk t).view.emb y)
  rw [e, point]
  unfold arr
  rw [hb0, hb1, hb2, e0, e1, e2]
  dsimp only
  rw [show 2048 * (t.val / 2 * 1 + 1 * (y 0).val) + (t.val % 2 * 1024 + 1 * (y 2).val) = 1024 * t.val + (y 2).val by omega,
    show 0 * 576 + 1 * (y 1).val = (y 1).val by omega]

theorem mem_blk (t : Fin cfg0.N) (i : S8x576x2048.Idx) :
    i ∈ ((cfg0.win 3).blk t).view.set ↔ ∀ a : Fin 3, win0_3.index t a * S1x576x1024.size a ≤ (i a).val ∧ (i a).val < win0_3.index t a * S1x576x1024.size a + S1x576x1024.size a := by
  show i ∈ ((View.whole main_v18).slice (win0_3.rect t)).set ↔ _
  rw [View.set_slice_whole, Rect.mem_set_unit]
  exact Iff.rfl

theorem flushes : ∀ t : Fin cfg0.N, (cfg0.win 3).flush t = true := (by decide +kernel : ∀ t : Fin grid0.N, win0_3.flush t = true)

theorem final (c : Dev nD) : (dats m 0 c).arrAt 3 cfg0.N = arr m c :=
  (dats m 0 c).arrAt_eq_of_cover 3 _ (fun t _ => flushed m c t) (fun i => by
    have h0 : (i 0).val < 8 := (i 0).isLt
    have h1 : (i 1).val < 576 := (i 1).isLt
    have h2 : (i 2).val < 2048 := (i 2).isLt
    let t : Fin cfg0.N := ⟨2 * (i 0).val + (i 2).val / 1024, by show _ < 16; omega⟩
    have ht : t.val = 2 * (i 0).val + (i 2).val / 1024 := rfl
    refine ⟨t, flushes t, ?_⟩
    rw [mem_blk]
    have e0 : win0_3.index t (0 : Fin 3) = t.val / 2 := congrFun (idx3 t) 0
    have e1 : win0_3.index t (1 : Fin 3) = 0 := congrFun (idx3 t) 1
    have e2 : win0_3.index t (2 : Fin 3) = t.val % 2 := congrFun (idx3 t) 2
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 576 ≤ (i 1).val ∧ (i 1).val < win0_3.index t (1 : Fin 3) * 576 + 576; omega
    | ⟨2, _⟩ => show win0_3.index t (2 : Fin 3) * 1024 ≤ (i 2).val ∧ (i 2).val < win0_3.index t (2 : Fin 3) * 1024 + 1024; omega)

/-- The result array: position `1536 + i 1` of batch `i 0`, for key or value `i 2`, head `i 3`, feature `i 4`. -/
def spec (c : Dev nD) : Vec Ideal S8x512x2x4x64 .f32 := fun i =>
  column (argX m c) (argG m c) (argW m c) (2048 * (i 0).val + (1536 + (i 1).val)) (2048 + ((4 * (i 2).val + (i 3).val) * 64 + (i 4).val))

theorem inj : Function.Injective (Pipeline.arrRef spec0) := by decide

/-- What the operations after the grid leave in the result. -/
theorem tail (c : Dev nD) : Pipeline.afterTail₀ cfgs (dats m) 0 (V0 m) [hostOps1] c main_v21 = spec m c := by
  have hw := (Pipeline.withArrays_arr spec0 inj c (V0 m c) (fun w => (dats m 0 c).arrAt w cfg0.N) 3).trans (final m c)
  unfold Pipeline.afterTail₀
  simp only [hostOps1]
  after_reads_simp
  funext i
  obtain ⟨b, t, s, h, e, rfl⟩ : ∃ (b : Fin 8) (t : Fin 512) (s : Fin 2) (h : Fin 4) (e : Fin 64), i = ix5 b t s h e := ⟨_, _, _, _, _, eq_ix5 i⟩
  pointwise
  refine (congrFun hw _).trans ?_
  unfold arr spec
  dsimp only
  have hs := s.isLt
  have hh := h.isLt
  have he := e.isLt
  refine Eq.trans ?_ (fill_window m c (2048 * b.val + (1536 + t.val)) ⟨(4 * s.val + h.val) * 64 + e.val, by omega⟩)
  congr 1
  show s.val * 256 + h.val * 64 + e.val = (4 * s.val + h.val) * 64 + e.val
  omega

theorem run (ρ : Dev nD → PrngReg) : θ_run defs (onTc (τ := τ) (main (F := Ideal))) ⟨m, fun _ => 0, ρ⟩ fun r => ∀ c : Dev nD,
      r.2.mem ((c.tc : Thread nD τ).loc main_v21) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h.1 c).2 main_v21 (Pipeline.mem_restRefs_of main_v21 (by decide) (by decide))).trans (tail m c), h.2 c⟩)
    (θ_run_and (run_main m ρ) (unchanged m ρ))

end Cert.Kernel7Ideal.Out

end
-- ==== Proof.WindowRef.lean ====
/- The reference program of the odd layer's window keys and values, read entry by entry; the two programs give one result array. -/
module

public import Idealize.ShloMosaic.Lib.Pipeline.ValueKit
public import Idealize.ShloMosaic.Lib.Pointwise.Reduce
public import Idealize.ShloMosaic.Lib.Claim
public import proofs.«01_k».proof.Proof.Gen.Reference7Ideal.Read
public import proofs.«01_k».proof.Proof.FfnMath
public import proofs.«01_k».proof.Proof.Window

@[expose] public section

set_option maxRecDepth 16384

noncomputable section

open Idealize.ShloMosaic Idealize.ShloMosaic.TcCoe

namespace Cert.Reference7Ideal.Ref

open Cert.Reference7Ideal Cert.Reference7Ideal.Gen Cert.Reference7Ideal.Read Cert.Ffn

section Reading

variable (x0 : (⟨S8x2048x1024, .f32⟩ : BufTy).Contents (Elt Ideal)) (x1 : (⟨S1024, .f32⟩ : BufTy).Contents (Elt Ideal))
  (x2 : (⟨S1024x2608, .f32⟩ : BufTy).Contents (Elt Ideal))

/-- The normalised input. -/
theorem normal (b : Fin 8) (t : Fin 2048) (d : Fin 1024) :
    val_main_v12 (F := Ideal) x0 x1 (ix3 b t d) = normed (fun e => x0 (ix3 b t e)) (x1 (ix1 d)) d := by
  unfold val_main_v12 val_main_v11 val_main_v10 val_main_v9 val_main_v8 val_main_v7 val_main_v6 val_main_v5 val_main_v4 val_main_v3
    val_main_v2 val_main_v1 val_main_v0 val_main_cst val_main_cst_0 val_main_cst_1
  pointwise
  rfl

/-- The product with the weights. -/
theorem first (b : Fin 8) (t : Fin 2048) (k : Fin 2608) :
    val_main_v13 (F := Ideal) x0 x1 x2 (ix3 b t k)
      = ∑ d : Fin 1024, (normed (fun e => x0 (ix3 b t e)) (x1 (ix1 d)) d * x2 (ix2 d k) : EReal) := by
  rw [val_main_v13_apply]
  refine Finset.sum_congr rfl fun d _ => ?_
  rw [show lidx_main_v13 (ix3 b t k) d = ix3 b t d by blk_ext [lidx_main_v13], show ridx_main_v13 (ix3 b t k) d = ix2 d k by blk_ext [ridx_main_v13],
    normal]

theorem piece (b : Fin 8) (t : Fin 512) (s : Fin 2) (h : Fin 4) (e : Fin 64) :
    val_main_v22 (F := Ideal) x0 x1 x2 (ix5 b t s h e)
      = val_main_v13 (F := Ideal) x0 x1 x2 (ix3 b ⟨1536 + t.val, by omega⟩ ⟨2048 + ((4 * s.val + h.val) * 64 + e.val), by omega⟩) := by
  unfold val_main_v22 val_main_v21 val_main_v17
  generalize val_main_v13 (F := Ideal) x0 x1 x2 = y
  pointwise
  refine congrArg y ?_
  blk_ext []

end Reading

open Cert.Kernel7Ideal.Out (argX argG argW)

variable (m : (ℓ : Loc Cert.Kernel7Ideal.nD Cert.Kernel7Ideal.τ Cert.Kernel7Ideal.sig) → Buf (Elt Ideal) ℓ) (c : Dev Cert.Kernel7Ideal.nD)

/-- The layer's input. -/
abbrev b0 : (⟨S8x2048x1024, .f32⟩ : BufTy).Contents (Elt Ideal) := m (c.tc.loc Cert.Kernel7Ideal.main_arg0)
/-- The gain of the normalisation. -/
abbrev b1 : (⟨S1024, .f32⟩ : BufTy).Contents (Elt Ideal) := m (c.tc.loc Cert.Kernel7Ideal.main_arg1)
/-- The layer's input weights. -/
abbrev b2 : (⟨S1024x2608, .f32⟩ : BufTy).Contents (Elt Ideal) := m (c.tc.loc Cert.Kernel7Ideal.main_arg2)

theorem input (b : Fin 8) (t : Fin 2048) (d : Fin 1024) : b0 m c (ix3 b t d) = argX m c (2048 * b.val + t.val) d.val := by
  unfold argX
  refine congrArg (b0 m c) ?_
  blk_ext []

theorem gain (d : Fin 1024) : b1 m c (ix1 d) = argG m c d.val := by
  unfold argG
  refine congrArg (b1 m c) ?_
  blk_ext []

theorem weight (d : Fin 1024) (k : Fin 2608) : b2 m c (ix2 d k) = argW m c d.val k.val := by
  unfold argW
  refine congrArg (b2 m c) ?_
  blk_ext []

theorem columns (b : Fin 8) (t : Fin 2048) (k : Fin 2608) :
    val_main_v13 (F := Ideal) (b0 m c) (b1 m c) (b2 m c) (ix3 b t k) = column (argX m c) (argG m c) (argW m c) (2048 * b.val + t.val) k.val := by
  rw [first]
  unfold column Cert.Ffn.hidden
  refine Finset.sum_congr rfl fun d _ => ?_
  rw [weight]
  exact congrArg (fun a : EReal => a * argW m c d.val k.val) (normed_congr _ _ _ _ _ (fun e => input m c b t e) (gain m c d))

/-- The result arrays of the two programs are one. -/
theorem value : val_main_v22 (F := Ideal) (b0 m c) (b1 m c) (b2 m c) = Cert.Kernel7Ideal.Out.spec m c := by
  funext i
  obtain ⟨b, t, s, h, e, rfl⟩ : ∃ (b : Fin 8) (t : Fin 512) (s : Fin 2) (h : Fin 4) (e : Fin 64), i = ix5 b t s h e := ⟨_, _, _, _, _, eq_ix5 i⟩
  rw [piece, columns]
  rfl

end Cert.Reference7Ideal.Ref

end
-- ==== Proof.WindowSample.lean ====
/- The odd layer's window after one new position: the grid's array, and the window's result. -/
module

public import Idealize.ShloMosaic.Lib.ValueIdxRank6
public import Idealize.ShloMosaic.Lib.Pipeline.ValueKit
public import Idealize.ShloMosaic.Lib.Pointwise.Reduce
public import Idealize.ShloMosaic.Lib.Pipeline.ReadBack
public import Idealize.ShloMosaic.Lib.Pipeline.Value
public import Idealize.ShloMosaic.Lib.Claim
public import Idealize.ShloMosaic.Lib.StableHlo.RunRead
public import proofs.«01_k».proof.Proof.Gen.Kernel8Ideal.Frame
public import proofs.«01_k».proof.Proof.FfnMath

@[expose] public section

set_option maxRecDepth 16384

noncomputable section

open Idealize.ShloMosaic Idealize.ShloMosaic.TcCoe

namespace Cert.Kernel8Ideal.Out

open Cert.Kernel8Ideal Cert.Kernel8Ideal.Gen Cert.Ffn

theorem pay1_apply (v8 : Vec Ideal S32x1024 .f32) (v10 : Vec Ideal S1x1024 .f32) (r : Fin 32) (d : Fin 1024) :
    k0_pay1 v8 v10 (ix2 r d) = normed (fun e => v8 (ix2 r e)) (v10 (ix2 0 d)) d := by
  unfold k0_pay1
  pointwise
  rfl

theorem pay2_apply (v3 : Vec Ideal S32x1024 .bf16) (v4 : Vec Ideal S1024x512 .bf16) (r : Fin 32) (k : Fin 512) :
    k0_pay2 v3 v4 (ix2 r k) = (∑ d : Fin 1024, v3 (ix2 r d) * v4 (ix2 d k) : EReal) := by
  unfold k0_pay2
  pointwise

variable (m : (ℓ : Loc nD τ sig) → Buf (Elt Ideal) ℓ)

theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![0, t.val] := by decide +kernel
theorem idx3 : ∀ t : Fin cfg0.N, win0_3.index t = ![0, t.val] := by decide +kernel

/-- Row `r`, column `d` of the layer's input. -/
def argX (c : Dev nD) (r d : ℕ) : EReal :=
  m (c.tc.loc main_arg0) (ix3 ⟨r % 32, Nat.mod_lt _ (by norm_num)⟩ 0 ⟨d % 1024, Nat.mod_lt _ (by norm_num)⟩)
/-- The gain of the normalisation. -/
def argG (c : Dev nD) (d : ℕ) : EReal := m (c.tc.loc main_arg1) (ix1 ⟨d % 1024, Nat.mod_lt _ (by norm_num)⟩)
/-- The layer's input weights. -/
def argW (c : Dev nD) (d k : ℕ) : EReal :=
  m (c.tc.loc main_arg2) (ix2 ⟨d % 1024, Nat.mod_lt _ (by norm_num)⟩ ⟨k % 2608, Nat.mod_lt _ (by norm_num)⟩)

theorem lt_n (t : Fin cfg0.N) : t.val < 1 := t.isLt

theorem blk0 (c : Dev nD) (t : Fin cfg0.N) (r : Fin 32) (d : Fin 1024) :
    iblk m c 0 t (ix2 r d) = argX m c r.val d.val := by
  have h : iblk m c 0 t (ix2 r d) = V m c main_v6 (ix2 r d) := by blk_ext [iblk, idx0 t]
  rw [h, V, argX]
  simp only [hostOps0]
  after_reads_simp
  pointwise
  blk_ext []

theorem blk1 (c : Dev nD) (t : Fin cfg0.N) (d : Fin 1024) :
    iblk m c 1 t (ix2 0 d) = argG m c d.val := by
  have h : iblk m c 1 t (ix2 0 d) = V m c main_v7 (ix2 0 d) := by blk_ext [iblk, idx1 t]
  rw [h, V, argG]
  simp only [hostOps0]
  after_reads_simp
  pointwise
  blk_ext []

theorem blk2 (c : Dev nD) (t : Fin cfg0.N) (k : Fin 512) (d : Fin 1024) :
    iblk m c 2 t (ix2 d k) = argW m c d.val (2048 + (512 * t.val + k.val)) := by
  have ht := lt_n t
  have h : iblk m c 2 t (ix2 d k) = V m c main_v5 (ix2 d k) := by blk_ext [iblk, idx2 t]
  rw [h, V, argW]
  simp only [hostOps0]
  after_reads_simp
  pointwise
  blk_ext []

/-- The product of the normalised rows with a grid point's block of weights. -/
theorem product (c : Dev nD) (t : Fin cfg0.N) (hs : Vec Ideal S32x1024 .bf16)
    (hh : ∀ (r : Fin 32) (d : Fin 1024), hs (ix2 r d) = hidden (argX m c) (argG m c) r.val d) (r : Fin 32) (k : Fin 512) :
    k0_pay2 hs (iblk m c 2 t) (ix2 r k) = column (argX m c) (argG m c) (argW m c) r.val (2048 + (512 * t.val + k.val)) := by
  rw [pay2_apply]
  unfold column
  refine Finset.sum_congr rfl fun d _ => ?_
  rw [hh, blk2]

/-- The normalised rows. -/
theorem first_h (c : Dev nD) (t : Fin cfg0.N) (r : Fin 32) (d : Fin 1024) :
    k0_pay1 (iblk m c 0 t) (iblk m c 1 t) (ix2 r d) = hidden (argX m c) (argG m c) r.val d := by
  rw [pay1_apply]
  exact normed_congr _ _ _ _ _ (fun e => blk0 m c t r e) (blk1 m c t d)

/-- The grid's one block. -/
theorem point (c : Dev nD) (t : Fin cfg0.N) (r : Fin 32) (k : Fin 512) :
    outsAt0 m c t (ix2 r k) = column (argX m c) (argG m c) (argW m c) r.val (2048 + (512 * t.val + k.val)) := by
  unfold outsAt0
  frame_out
  exact product m c t _ (first_h m c t) r k

/-- The array that the grid fills. -/
def arr (c : Dev nD) : Vec Ideal S32x512 .f32 := fun i => column (argX m c) (argG m c) (argW m c) (i 0).val (2048 + (i 1).val)

theorem flushed (c : Dev nD) (t : Fin cfg0.N) :
    (dats m 0 c).flushed 3 t = ((cfg0.win 3).blk t).view.read (Elt Ideal) (arr m c) := by
  show (cfg0.win 3).cut (grid0.coords t) ((dats m 0 c).after 3 t) = _
  rw [after0_3]
  funext y
  have hy0 : (y 0).val < 32 := (y 0).isLt
  have hy1 : (y 1).val < 512 := (y 1).isLt
  have hb0 : (((cfg0.win 3).blk t).view.emb y 0).val = win0_3.index t (0 : Fin 2) * 32 + 1 * (y 0).val := rfl
  have hb1 : (((cfg0.win 3).blk t).view.emb y 1).val = win0_3.index t (1 : Fin 2) * 512 + 1 * (y 1).val := rfl
  have e0 : win0_3.index t (0 : Fin 2) = 0 := congrFun (idx3 t) 0
  have e1 : win0_3.index t (1 : Fin 2) = t.val := congrFun (idx3 t) 1
  have e : (cfg0.win 3).xinj (grid0.coords t) y = ix2 ⟨(y 0).val, hy0⟩ ⟨(y 1).val, hy1⟩ := by
    funext a; apply Fin.ext
    match a with
    | ⟨0, _⟩ => rfl
    | ⟨1, _⟩ => rfl
  show outsAt0 m c t ((cfg0.win 3).xinj (grid0.coords t) y) = arr m c (((cfg0.win 3).blk t).view.emb y)
  rw [e, point]
  unfold arr
  simp only [hb0, hb1, e0, e1]
  rw [show 0 * 32 + 1 * (y 0).val = (y 0).val by omega, show t.val * 512 + 1 * (y 1).val = 512 * t.val + (y 1).val by omega]

theorem mem_blk (t : Fin cfg0.N) (i : S32x512.Idx) :
    i ∈ ((cfg0.win 3).blk t).view.set ↔ ∀ a : Fin 2, win0_3.index t a * S32x512.size a ≤ (i a).val ∧ (i a).val < win0_3.index t a * S32x512.size a + S32x512.size a := by
  show i ∈ ((View.whole main_v8).slice (win0_3.rect t)).set ↔ _
  rw [View.set_slice_whole, Rect.mem_set_unit]
  exact Iff.rfl

theorem flushes : ∀ t : Fin cfg0.N, (cfg0.win 3).flush t = true := (by decide +kernel : ∀ t : Fin grid0.N, win0_3.flush t = true)

theorem final (c : Dev nD) : (dats m 0 c).arrAt 3 cfg0.N = arr m c :=
  (dats m 0 c).arrAt_eq_of_cover 3 _ (fun t _ => flushed m c t) (fun i => by
    have h0 : (i 0).val < 32 := (i 0).isLt
    have h1 : (i 1).val < 512 := (i 1).isLt
    let t : Fin cfg0.N := ⟨(i 1).val / 512, by show _ < 1; omega⟩
    have ht : t.val = (i 1).val / 512 := rfl
    refine ⟨t, flushes t, ?_⟩
    rw [mem_blk]
    have e0 : win0_3.index t (0 : Fin 2) = 0 := congrFun (idx3 t) 0
    have e1 : win0_3.index t (1 : Fin 2) = t.val := congrFun (idx3 t) 1
    intro a
    match a with
    | ⟨0, _⟩ => show win0_3.index t (0 : Fin 2) * 32 ≤ (i 0).val ∧ (i 0).val < win0_3.index t (0 : Fin 2) * 32 + 32; omega
    | ⟨1, _⟩ => show win0_3.index t (1 : Fin 2) * 512 ≤ (i 1).val ∧ (i 1).val < win0_3.index t (1 : Fin 2) * 512 + 512; omega)

/-- The window before the new position: its position `t` in batch `b`. -/
def argS (c : Dev nD) (b : Fin 32) (t : Fin 512) (s : Fin 2) (h : Fin 4) (e : Fin 64) : EReal :=
  m (c.tc.loc main_arg3) (ix6 0 b t s h e)

/-- The result: the window moved by one position, with the new position's keys and values last. -/
def entry (c : Dev nD) (b : Fin 32) (t : Fin 512) (s : Fin 2) (h : Fin 4) (e : Fin 64) : EReal :=
  if ht : t.val + 1 < 512 then argS m c b ⟨t.val + 1, ht⟩ s h e
  else column (argX m c) (argG m c) (argW m c) b.val (2048 + ((4 * s.val + h.val) * 64 + e.val))

/-- The result array. -/
def spec (c : Dev nD) : Vec Ideal S32x512x2x4x64 .f32 := fun i => entry m c (i 0) (i 1) (i 2) (i 3) (i 4)

theorem inj : Function.Injective (Pipeline.arrRef spec0) := by decide

/-- What the operations after the grid leave in the result. -/
theorem tail (c : Dev nD) : Pipeline.afterTail₀ cfgs (dats m) 0 (V0 m) [hostOps1] c main_v14 = spec m c := by
  have hw := (Pipeline.withArrays_arr spec0 inj c (V0 m c) (fun w => (dats m 0 c).arrAt w cfg0.N) 3).trans (final m c)
  have hv := (Pipeline.withArrays_of_ne spec0 c (V0 m c) (fun w => (dats m 0 c).arrAt w cfg0.N) main_arg3 (by decide))
  unfold Pipeline.afterTail₀
  simp only [hostOps1]
  after_reads_simp
  funext i
  obtain ⟨b, t, s, h, e, rfl⟩ : ∃ (b : Fin 32) (t : Fin 512) (s : Fin 2) (h : Fin 4) (e : Fin 64), i = ix5 b t s h e := ⟨_, _, _, _, _, eq_ix5 i⟩
  pointwise
  refine Eq.trans ?_ (show entry m c b t s h e = _ from rfl)
  unfold entry
  by_cases ht : t.val + 1 < 512
  · rw [dif_pos ht, dif_pos (by omega)]
    after_reads_simp
    pointwise
    refine (congrFun hv _).trans ?_
    refine (congrFun (V_main_arg3 m c) _).trans ?_
    unfold argS
    refine congrArg (m (c.tc.loc main_arg3)) ?_
    have hs := s.isLt
    have hh := h.isLt
    have he := e.isLt
    blk_ext []
  · rw [dif_neg ht, dif_neg (by omega)]
    after_reads_simp
    pointwise
    refine (congrFun hw _).trans ?_
    unfold arr
    dsimp only
    congr 1
    congr 1
    show s.val * 256 + h.val * 64 + e.val = (4 * s.val + h.val) * 64 + e.val
    omega

theorem run (ρ : Dev nD → PrngReg) : θ_run defs (onTc (τ := τ) (main (F := Ideal))) ⟨m, fun _ => 0, ρ⟩ fun r => ∀ c : Dev nD,
      r.2.mem ((c.tc : Thread nD τ).loc main_v14) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h.1 c).2 main_v14 (Pipeline.mem_restRefs_of main_v14 (by decide) (by decide))).trans (tail m c), h.2 c⟩)
    (θ_run_and (run_main m ρ) (unchanged m ρ))

end Cert.Kernel8Ideal.Out

end
-- ==== Proof.WindowSampleRef.lean ====
/- The reference program of the odd layer's window after one new position, read entry by entry; the two programs give one result array. -/
module

public import Idealize.ShloMosaic.Lib.ValueIdxRank6
public import Idealize.ShloMosaic.Lib.Pipeline.ValueKit
public import Idealize.ShloMosaic.Lib.Pointwise.Reduce
public import Idealize.ShloMosaic.Lib.Claim
public import proofs.«01_k».proof.Proof.Gen.Reference8Ideal.Read
public import proofs.«01_k».proof.Proof.FfnMath
public import proofs.«01_k».proof.Proof.WindowSample

@[expose] public section

set_option maxRecDepth 16384

noncomputable section

open Idealize.ShloMosaic Idealize.ShloMosaic.TcCoe

namespace Cert.Reference8Ideal.Ref

open Cert.Reference8Ideal Cert.Reference8Ideal.Gen Cert.Reference8Ideal.Read Cert.Ffn

section Reading

variable (x0 : (⟨S32x1x1024, .f32⟩ : BufTy).Contents (Elt Ideal)) (x1 : (⟨S1024, .f32⟩ : BufTy).Contents (Elt Ideal))
  (x2 : (⟨S1024x2608, .f32⟩ : BufTy).Contents (Elt Ideal))

variable (x3 : (⟨S1x32x512x2x4x64, .f32⟩ : BufTy).Contents (Elt Ideal))

/-- The normalised input. -/
theorem normal (b : Fin 32) (d : Fin 1024) :
    val_main_v12 (F := Ideal) x0 x1 (ix3 b 0 d) = normed (fun e => x0 (ix3 b 0 e)) (x1 (ix1 d)) d := by
  unfold val_main_v12 val_main_v11 val_main_v10 val_main_v9 val_main_v8 val_main_v7 val_main_v6 val_main_v5 val_main_v4 val_main_v3
    val_main_v2 val_main_v1 val_main_v0 val_main_cst val_main_cst_0 val_main_cst_1
  pointwise
  rfl

/-- The product with the weights. -/
theorem first (b : Fin 32) (k : Fin 2608) :
    val_main_v13 (F := Ideal) x0 x1 x2 (ix3 b 0 k)
      = ∑ d : Fin 1024, (normed (fun e => x0 (ix3 b 0 e)) (x1 (ix1 d)) d * x2 (ix2 d k) : EReal) := by
  rw [val_main_v13_apply]
  refine Finset.sum_congr rfl fun d _ => ?_
  rw [show lidx_main_v13 (ix3 b 0 k) d = ix3 b 0 d by blk_ext [lidx_main_v13], show ridx_main_v13 (ix3 b 0 k) d = ix2 d k by blk_ext [ridx_main_v13],
    normal]

theorem old (b : Fin 32) (t : Fin 512) (s : Fin 2) (h : Fin 4) (e : Fin 64) (ht : t.val + 1 < 512) :
    val_main_v24 (F := Ideal) x0 x1 x2 x3 (ix5 b t s h e) = x3 (ix6 0 b ⟨t.val + 1, ht⟩ s h e) := by
  unfold val_main_v24 val_main_v23 val_main_v21 val_main_v22 val_main_v17
  generalize val_main_v13 (F := Ideal) x0 x1 x2 = y
  pointwise
  rw [dif_pos (by omega)]
  refine congrArg x3 ?_
  blk_ext []

theorem new (b : Fin 32) (t : Fin 512) (s : Fin 2) (h : Fin 4) (e : Fin 64) (ht : ¬t.val + 1 < 512) :
    val_main_v24 (F := Ideal) x0 x1 x2 x3 (ix5 b t s h e)
      = val_main_v13 (F := Ideal) x0 x1 x2 (ix3 b 0 ⟨2048 + ((4 * s.val + h.val) * 64 + e.val), by omega⟩) := by
  unfold val_main_v24 val_main_v23 val_main_v21 val_main_v22 val_main_v17
  generalize val_main_v13 (F := Ideal) x0 x1 x2 = y
  pointwise
  rw [dif_neg (by omega)]
  refine congrArg y ?_
  blk_ext []

end Reading

open Cert.Kernel8Ideal.Out (argX argG argW)

variable (m : (ℓ : Loc Cert.Kernel8Ideal.nD Cert.Kernel8Ideal.τ Cert.Kernel8Ideal.sig) → Buf (Elt Ideal) ℓ) (c : Dev Cert.Kernel8Ideal.nD)

/-- The layer's input. -/
abbrev b0 : (⟨S32x1x1024, .f32⟩ : BufTy).Contents (Elt Ideal) := m (c.tc.loc Cert.Kernel8Ideal.main_arg0)
/-- The gain of the normalisation. -/
abbrev b1 : (⟨S1024, .f32⟩ : BufTy).Contents (Elt Ideal) := m (c.tc.loc Cert.Kernel8Ideal.main_arg1)
/-- The layer's input weights. -/
abbrev b2 : (⟨S1024x2608, .f32⟩ : BufTy).Contents (Elt Ideal) := m (c.tc.loc Cert.Kernel8Ideal.main_arg2)

/-- The window before the new position. -/
abbrev b3 : (⟨S1x32x512x2x4x64, .f32⟩ : BufTy).Contents (Elt Ideal) := m (c.tc.loc Cert.Kernel8Ideal.main_arg3)

theorem input (b : Fin 32) (d : Fin 1024) : b0 m c (ix3 b 0 d) = argX m c (b.val) d.val := by
  unfold argX
  refine congrArg (b0 m c) ?_
  blk_ext []

theorem gain (d : Fin 1024) : b1 m c (ix1 d) = argG m c d.val := by
  unfold argG
  refine congrArg (b1 m c) ?_
  blk_ext []

theorem weight (d : Fin 1024) (k : Fin 2608) : b2 m c (ix2 d k) = argW m c d.val k.val := by
  unfold argW
  refine congrArg (b2 m c) ?_
  blk_ext []

theorem columns (b : Fin 32) (k : Fin 2608) :
    val_main_v13 (F := Ideal) (b0 m c) (b1 m c) (b2 m c) (ix3 b 0 k) = column (argX m c) (argG m c) (argW m c) (b.val) k.val := by
  rw [first]
  unfold column Cert.Ffn.hidden
  refine Finset.sum_congr rfl fun d _ => ?_
  rw [weight]
  exact congrArg (fun a : EReal => a * argW m c d.val k.val) (normed_congr _ _ _ _ _ (fun e => input m c b e) (gain m c d))

/-- The result arrays of the two programs are one. -/
theorem value : val_main_v24 (F := Ideal) (b0 m c) (b1 m c) (b2 m c) (b3 m c) = Cert.Kernel8Ideal.Out.spec m c := by
  funext i
  obtain ⟨b, t, s, h, e, rfl⟩ : ∃ (b : Fin 32) (t : Fin 512) (s : Fin 2) (h : Fin 4) (e : Fin 64), i = ix5 b t s h e := ⟨_, _, _, _, _, eq_ix5 i⟩
  refine Eq.trans ?_ (show Cert.Kernel8Ideal.Out.entry m c b t s h e = _ from rfl)
  unfold Cert.Kernel8Ideal.Out.entry
  by_cases ht : t.val + 1 < 512
  · rw [dif_pos ht, old _ _ _ _ b t s h e ht]
    rfl
  · rw [dif_neg ht, new _ _ _ _ b t s h e ht, columns]

end Cert.Reference8Ideal.Ref

end
-- ==== Proof.KvOddSample.lean ====
/- The odd layer's keys and values of one new position for each batch: the grid's blocks and the array that it fills. -/
module

public import Idealize.ShloMosaic.Lib.Pipeline.ValueKit
public import Idealize.ShloMosaic.Lib.Pointwise.Reduce
public import Idealize.ShloMosaic.Lib.Pipeline.ReadBack
public import Idealize.ShloMosaic.Lib.Pipeline.Value
public import Idealize.ShloMosaic.Lib.Claim
public import Idealize.ShloMosaic.Lib.StableHlo.RunRead
public import proofs.«01_k».proof.Proof.Gen.Kernel9Ideal.Value
public import proofs.«01_k».proof.Proof.FfnMath

@[expose] public section

set_option maxRecDepth 16384

noncomputable section

open Idealize.ShloMosaic Idealize.ShloMosaic.TcCoe

namespace Cert.Kernel9Ideal.Out

open Cert.Kernel9Ideal Cert.Kernel9Ideal.Gen Cert.Ffn

theorem pay1_apply (v8 : Vec Ideal S32x1024 .f32) (v10 : Vec Ideal S1x1024 .f32) (r : Fin 32) (d : Fin 1024) :
    k0_pay1 v8 v10 (ix2 r d) = normed (fun e => v8 (ix2 r e)) (v10 (ix2 0 d)) d := by
  unfold k0_pay1
  pointwise
  rfl

theorem pay2_apply (v3 : Vec Ideal S32x1024 .bf16) (v4 : Vec Ideal S1024x512 .bf16) (r : Fin 32) (k : Fin 512) :
    k0_pay2 v3 v4 (ix2 r k) = (∑ d : Fin 1024, v3 (ix2 r d) * v4 (ix2 d k) : EReal) := by
  unfold k0_pay2
  pointwise

variable (m : (ℓ : Loc nD τ sig) → Buf (Elt Ideal) ℓ)

theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![0, t.val] := by decide +kernel
theorem idx3 : ∀ t : Fin cfg0.N, win0_3.index t = ![0, t.val] := by decide +kernel

/-- Row `r`, column `d` of the layer's input. -/
def argX (c : Dev nD) (r d : ℕ) : EReal :=
  m (c.tc.loc main_arg0) (ix3 ⟨r % 32, Nat.mod_lt _ (by norm_num)⟩ 0 ⟨d % 1024, Nat.mod_lt _ (by norm_num)⟩)
/-- The gain of the normalisation. -/
def argG (c : Dev nD) (d : ℕ) : EReal := m (c.tc.loc main_arg1) (ix1 ⟨d % 1024, Nat.mod_lt _ (by norm_num)⟩)
/-- The layer's input weights. -/
def argW (c : Dev nD) (d k : ℕ) : EReal :=
  m (c.tc.loc main_arg2) (ix2 ⟨d % 1024, Nat.mod_lt _ (by norm_num)⟩ ⟨k % 2608, Nat.mod_lt _ (by norm_num)⟩)

theorem lt_n (t : Fin cfg0.N) : t.val < 2 := t.isLt

theorem blk0 (c : Dev nD) (t : Fin cfg0.N) (r : Fin 32) (d : Fin 1024) :
    iblk m c 0 t (ix2 r d) = argX m c r.val d.val := by
  have h : iblk m c 0 t (ix2 r d) = V m c main_v7 (ix2 r d) := by blk_ext [iblk, idx0 t]
  rw [h, V, argX]
  simp only [hostOps0]
  after_reads_simp
  pointwise
  blk_ext []

theorem blk1 (c : Dev nD) (t : Fin cfg0.N) (d : Fin 1024) :
    iblk m c 1 t (ix2 0 d) = argG m c d.val := by
  have h : iblk m c 1 t (ix2 0 d) = V m c main_v8 (ix2 0 d) := by blk_ext [iblk, idx1 t]
  rw [h, V, argG]
  simp only [hostOps0]
  after_reads_simp
  pointwise
  blk_ext []

/-- The column of the layer's input weights that gives column `n` of the compressed and the selected keys and values. -/
def pick (n : ℕ) : ℕ := if n < 512 then 1024 + (n - 0) else 1536 + (n - 512)

theorem wts_0 (c : Dev nD) (k : Fin 512) (d : Fin 1024) :
    (V m c main_v6 : Vec Ideal S1024x1024 .bf16) (ix2 d ⟨k.val, by omega⟩) = argW m c d.val (1024 + k.val) := by
  rw [V, argW]
  simp only [hostOps0]
  after_reads_simp
  pointwise
  after_reads_simp
  pointwise
  blk_ext []

theorem wts_1 (c : Dev nD) (k : Fin 512) (d : Fin 1024) :
    (V m c main_v6 : Vec Ideal S1024x1024 .bf16) (ix2 d ⟨512 + k.val, by omega⟩) = argW m c d.val (1536 + k.val) := by
  rw [V, argW]
  simp only [hostOps0]
  after_reads_simp
  pointwise
  after_reads_simp
  pointwise
  blk_ext []

theorem wts (c : Dev nD) (k : Fin 1024) (d : Fin 1024) :
    (V m c main_v6 : Vec Ideal S1024x1024 .bf16) (ix2 d k) = argW m c d.val (pick k.val) := by
  have hk := k.isLt
  by_cases h0 : k.val < 512
  · have e : k = ⟨(⟨k.val - 0, by omega⟩ : Fin 512).val, by dsimp only; omega⟩ := Fin.ext (by dsimp only; omega)
    rw [e, wts_0]
    refine congrArg (argW m c d.val) ?_
    dsimp only
    unfold pick
    rw [if_pos (by omega)]
    omega
  have e : k = ⟨512 + (⟨k.val - 512, by omega⟩ : Fin 512).val, by dsimp only; omega⟩ := Fin.ext (by dsimp only; omega)
  rw [e, wts_1]
  refine congrArg (argW m c d.val) ?_
  dsimp only
  unfold pick
  rw [if_neg (by omega)]
  omega

theorem blk2 (c : Dev nD) (t : Fin cfg0.N) (k : Fin 512) (d : Fin 1024) :
    iblk m c 2 t (ix2 d k) = argW m c d.val (pick (512 * t.val + k.val)) := by
  have ht := lt_n t
  have h : iblk m c 2 t (ix2 d k) = (V m c main_v6 : Vec Ideal S1024x1024 .bf16) (ix2 d ⟨512 * t.val + k.val, by omega⟩) := by blk_ext [iblk, idx2 t]
  rw [h, wts]

/-- The product of the normalised rows with a grid point's block of weights. -/
theorem product (c : Dev nD) (t : Fin cfg0.N) (hs : Vec Ideal S32x1024 .bf16)
    (hh : ∀ (r : Fin 32) (d : Fin 1024), hs (ix2 r d) = hidden (argX m c) (argG m c) r.val d) (r : Fin 32) (k : Fin 512) :
    k0_pay2 hs (iblk m c 2 t) (ix2 r k) = column (argX m c) (argG m c) (argW m c) r.val (pick (512 * t.val + k.val)) := by
  rw [pay2_apply]
  unfold column
  refine Finset.sum_congr rfl fun d _ => ?_
  rw [hh, blk2]

/-- The normalised rows. -/
theorem first_h (c : Dev nD) (t : Fin cfg0.N) (r : Fin 32) (d : Fin 1024) :
    k0_pay1 (iblk m c 0 t) (iblk m c 1 t) (ix2 r d) = hidden (argX m c) (argG m c) r.val d := by
  rw [pay1_apply]
  exact normed_congr _ _ _ _ _ (fun e => blk0 m c t r e) (blk1 m c t d)

/-- The kept array holds the normalised rows after every grid point. -/
theorem kept (c : Dev nD) : ∀ (n : ℕ) (hn : n < cfg0.N) (r : Fin 32) (d : Fin 1024),
    (outsAt0 m c n hn).2 (ix2 r d) = hidden (argX m c) (argG m c) r.val d := by
  intro n
  induction n with
  | zero =>
    intro hn r d
    rw [outsAt0_A m c ⟨0, hn⟩ (show 0 % 2 = 0 by decide)]; dsimp only; frame_out; exact first_h m c _ r d
  | succ n ih =>
    intro hn r d
    have hl : n + 1 < 2 := hn
    rw [outsAt0_B m c ⟨n + 1, hn⟩ (show ¬(n + 1) % 2 = 0 by omega)]
    exact ih (by omega) r d

/-- A grid point's block of the array. -/
theorem point (c : Dev nD) (t : Fin cfg0.N) (r : Fin 32) (k : Fin 512) :
    (outsAt0 m c t.val t.isLt).1 (ix2 r k) = column (argX m c) (argG m c) (argW m c) r.val (pick (512 * t.val + k.val)) := by
  by_cases h0 : t.val % 2 = 0
  · rw [outsAt0_A m c t h0]; dsimp only; frame_out; exact product m c t _ (first_h m c t) r k
  · rw [outsAt0_B m c t h0]; dsimp only; frame_out
    simp only [read_unread_whole]
    exact product m c t _ (kept m c _ _) r k

/-- The result array. -/
def spec (c : Dev nD) : Vec Ideal S32x1024 .f32 := fun i => column (argX m c) (argG m c) (argW m c) (i 0).val (pick (i 1).val)

theorem flushed (c : Dev nD) (t : Fin cfg0.N) :
    (dats m 0 c).flushed 3 t = ((cfg0.win 3).blk t).view.read (Elt Ideal) (spec m c) := by
  show (cfg0.win 3).cut (grid0.coords t) ((dats m 0 c).after 3 t) = _
  rw [after0_3]
  funext y
  have hy0 : (y 0).val < 32 := (y 0).isLt
  have hy1 : (y 1).val < 512 := (y 1).isLt
  have hb0 : (((cfg0.win 3).blk t).view.emb y 0).val = win0_3.index t (0 : Fin 2) * 32 + 1 * (y 0).val := rfl
  have hb1 : (((cfg0.win 3).blk t).view.emb y 1).val = win0_3.index t (1 : Fin 2) * 512 + 1 * (y 1).val := rfl
  have e0 : win0_3.index t (0 : Fin 2) = 0 := congrFun (idx3 t) 0
  have e1 : win0_3.index t (1 : Fin 2) = t.val := congrFun (idx3 t) 1
  have e : (cfg0.win 3).xinj (grid0.coords t) y = ix2 ⟨(y 0).val, hy0⟩ ⟨(y 1).val, hy1⟩ := by
    funext a; apply Fin.ext
    match a with
    | ⟨0, _⟩ => rfl
    | ⟨1, _⟩ => rfl
  show (outsAt0 m c t.val t.isLt).1 ((cfg0.win 3).xinj (grid0.coords t) y) = spec m c (((cfg0.win 3).blk t).view.emb y)
  rw [e, point]
  unfold spec
  simp only [hb0, hb1, e0, e1]
  rw [show 0 * 32 + 1 * (y 0).val = (y 0).val by omega, show t.val * 512 + 1 * (y 1).val = 512 * t.val + (y 1).val by omega]

theorem mem_blk (t : Fin cfg0.N) (i : S32x1024.Idx) :
    i ∈ ((cfg0.win 3).blk t).view.set ↔ ∀ a : Fin 2, win0_3.index t a * S32x512.size a ≤ (i a).val ∧ (i a).val < win0_3.index t a * S32x512.size a + S32x512.size a := by
  show i ∈ ((View.whole main_v9).slice (win0_3.rect t)).set ↔ _
  rw [View.set_slice_whole, Rect.mem_set_unit]
  exact Iff.rfl

theorem flushes : ∀ t : Fin cfg0.N, (cfg0.win 3).flush t = true := (by decide +kernel : ∀ t : Fin grid0.N, win0_3.flush t = true)

theorem final (c : Dev nD) : (dats m 0 c).arrAt 3 cfg0.N = spec m c :=
  (dats m 0 c).arrAt_eq_of_cover 3 _ (fun t _ => flushed m c t) (fun i => by
    have h0 : (i 0).val < 32 := (i 0).isLt
    have h1 : (i 1).val < 1024 := (i 1).isLt
    let t : Fin cfg0.N := ⟨(i 1).val / 512, by show _ < 2; omega⟩
    have ht : t.val = (i 1).val / 512 := rfl
    refine ⟨t, flushes t, ?_⟩
    rw [mem_blk]
    have e0 : win0_3.index t (0 : Fin 2) = 0 := congrFun (idx3 t) 0
    have e1 : win0_3.index t (1 : Fin 2) = t.val := congrFun (idx3 t) 1
    intro a
    match a with
    | ⟨0, _⟩ => show win0_3.index t (0 : Fin 2) * 32 ≤ (i 0).val ∧ (i 0).val < win0_3.index t (0 : Fin 2) * 32 + 32; omega
    | ⟨1, _⟩ => show win0_3.index t (1 : Fin 2) * 512 ≤ (i 1).val ∧ (i 1).val < win0_3.index t (1 : Fin 2) * 512 + 512; omega)

end Cert.Kernel9Ideal.Out

end
-- ==== Proof.KvOddSampleRef.lean ====
/- The reference program of the odd layer's new keys and values, read entry by entry; the two programs give one result array. -/
module

public import Idealize.ShloMosaic.Lib.Pipeline.ValueKit
public import Idealize.ShloMosaic.Lib.Pointwise.Reduce
public import Idealize.ShloMosaic.Lib.Claim
public import proofs.«01_k».proof.Proof.Gen.Reference9Ideal.Read
public import proofs.«01_k».proof.Proof.FfnMath
public import proofs.«01_k».proof.Proof.KvOddSample

@[expose] public section

set_option maxRecDepth 16384

noncomputable section

open Idealize.ShloMosaic Idealize.ShloMosaic.TcCoe

namespace Cert.Reference9Ideal.Ref

open Cert.Reference9Ideal Cert.Reference9Ideal.Gen Cert.Reference9Ideal.Read Cert.Ffn

section Reading

variable (x0 : (⟨S32x1x1024, .f32⟩ : BufTy).Contents (Elt Ideal)) (x1 : (⟨S1024, .f32⟩ : BufTy).Contents (Elt Ideal))
  (x2 : (⟨S1024x2608, .f32⟩ : BufTy).Contents (Elt Ideal))

/-- The normalised input. -/
theorem normal (b : Fin 32) (d : Fin 1024) :
    val_main_v12 (F := Ideal) x0 x1 (ix3 b 0 d) = normed (fun e => x0 (ix3 b 0 e)) (x1 (ix1 d)) d := by
  unfold val_main_v12 val_main_v11 val_main_v10 val_main_v9 val_main_v8 val_main_v7 val_main_v6 val_main_v5 val_main_v4 val_main_v3
    val_main_v2 val_main_v1 val_main_v0 val_main_cst val_main_cst_0 val_main_cst_1
  pointwise
  rfl

/-- The product with the weights. -/
theorem first (b : Fin 32) (k : Fin 2608) :
    val_main_v13 (F := Ideal) x0 x1 x2 (ix3 b 0 k)
      = ∑ d : Fin 1024, (normed (fun e => x0 (ix3 b 0 e)) (x1 (ix1 d)) d * x2 (ix2 d k) : EReal) := by
  rw [val_main_v13_apply]
  refine Finset.sum_congr rfl fun d _ => ?_
  rw [show lidx_main_v13 (ix3 b 0 k) d = ix3 b 0 d by blk_ext [lidx_main_v13], show ridx_main_v13 (ix3 b 0 k) d = ix2 d k by blk_ext [ridx_main_v13],
    normal]

theorem piece0 (b : Fin 32) (k : Fin 512) :
    val_main_v23 (F := Ideal) x0 x1 x2 (ix2 b ⟨k.val, by omega⟩) = val_main_v13 (F := Ideal) x0 x1 x2 (ix3 b 0 ⟨1024 + k.val, by omega⟩) := by
  rw [val_main_v23_apply]
  have e : idx_main_v23 (ix2 b ⟨k.val, by omega⟩) = ix5 b 0 ⟨k.val / 256, by omega⟩ ⟨k.val / 64 % 4, by omega⟩ ⟨k.val % 64, by omega⟩ := by
    have hk := k.isLt
    blk_ext [idx_main_v23]
  rw [e]
  unfold val_main_v22 val_main_v20 val_main_v19 val_main_v16 val_main_v15
  generalize val_main_v13 (F := Ideal) x0 x1 x2 = y
  pointwise
  rw [dif_pos (by omega)]

theorem piece1 (b : Fin 32) (k : Fin 512) :
    val_main_v23 (F := Ideal) x0 x1 x2 (ix2 b ⟨512 + k.val, by omega⟩) = val_main_v13 (F := Ideal) x0 x1 x2 (ix3 b 0 ⟨1536 + k.val, by omega⟩) := by
  rw [val_main_v23_apply]
  have e : idx_main_v23 (ix2 b ⟨512 + k.val, by omega⟩) = ix5 b 0 ⟨2 + k.val / 256, by omega⟩ ⟨k.val / 64 % 4, by omega⟩ ⟨k.val % 64, by omega⟩ := by
    have hk := k.isLt
    blk_ext [idx_main_v23]
  rw [e]
  unfold val_main_v22 val_main_v20 val_main_v19 val_main_v16 val_main_v15
  generalize val_main_v13 (F := Ideal) x0 x1 x2 = y
  pointwise

end Reading

open Cert.Kernel9Ideal.Out (argX argG argW)

variable (m : (ℓ : Loc Cert.Kernel9Ideal.nD Cert.Kernel9Ideal.τ Cert.Kernel9Ideal.sig) → Buf (Elt Ideal) ℓ) (c : Dev Cert.Kernel9Ideal.nD)

/-- The layer's input. -/
abbrev b0 : (⟨S32x1x1024, .f32⟩ : BufTy).Contents (Elt Ideal) := m (c.tc.loc Cert.Kernel9Ideal.main_arg0)
/-- The gain of the normalisation. -/
abbrev b1 : (⟨S1024, .f32⟩ : BufTy).Contents (Elt Ideal) := m (c.tc.loc Cert.Kernel9Ideal.main_arg1)
/-- The layer's input weights. -/
abbrev b2 : (⟨S1024x2608, .f32⟩ : BufTy).Contents (Elt Ideal) := m (c.tc.loc Cert.Kernel9Ideal.main_arg2)

theorem input (b : Fin 32) (d : Fin 1024) : b0 m c (ix3 b 0 d) = argX m c (b.val) d.val := by
  unfold argX
  refine congrArg (b0 m c) ?_
  blk_ext []

theorem gain (d : Fin 1024) : b1 m c (ix1 d) = argG m c d.val := by
  unfold argG
  refine congrArg (b1 m c) ?_
  blk_ext []

theorem weight (d : Fin 1024) (k : Fin 2608) : b2 m c (ix2 d k) = argW m c d.val k.val := by
  unfold argW
  refine congrArg (b2 m c) ?_
  blk_ext []

theorem columns (b : Fin 32) (k : Fin 2608) :
    val_main_v13 (F := Ideal) (b0 m c) (b1 m c) (b2 m c) (ix3 b 0 k) = column (argX m c) (argG m c) (argW m c) (b.val) k.val := by
  rw [first]
  unfold column Cert.Ffn.hidden
  refine Finset.sum_congr rfl fun d _ => ?_
  rw [weight]
  exact congrArg (fun a : EReal => a * argW m c d.val k.val) (normed_congr _ _ _ _ _ (fun e => input m c b e) (gain m c d))

/-- The result arrays of the two programs are one. -/
theorem value : val_main_v23 (F := Ideal) (b0 m c) (b1 m c) (b2 m c) = Cert.Kernel9Ideal.Out.spec m c := by
  funext i
  obtain ⟨b, k, rfl⟩ : ∃ (b : Fin 32) (k : Fin 1024), i = ix2 b k := ⟨_, _, eq_ix2 i⟩
  have hk := k.isLt
  unfold Cert.Kernel9Ideal.Out.spec
  dsimp only
  by_cases h0 : k.val < 512
  · have e : k = ⟨(⟨k.val - 0, by omega⟩ : Fin 512).val, by dsimp only; omega⟩ := Fin.ext (by dsimp only; omega)
    rw [e, piece0, columns]
    refine congrArg _ ?_
    show _ = Cert.Kernel9Ideal.Out.pick _
    unfold Cert.Kernel9Ideal.Out.pick
    dsimp only
    split_ifs <;> simp at * <;> omega
  have e : k = ⟨512 + (⟨k.val - 512, by omega⟩ : Fin 512).val, by dsimp only; omega⟩ := Fin.ext (by dsimp only; omega)
  rw [e, piece1, columns]
  refine congrArg _ ?_
  show _ = Cert.Kernel9Ideal.Out.pick _
  unfold Cert.Kernel9Ideal.Out.pick
  dsimp only
  split_ifs <;> simp at * <;> omega

end Cert.Reference9Ideal.Ref

end
-- ==== Proof.KvEvenSample.lean ====
/- The even layer's keys and values of one new position for each batch: the grid's blocks and the array that it fills. -/
module

public import Idealize.ShloMosaic.Lib.Pipeline.ValueKit
public import Idealize.ShloMosaic.Lib.Pointwise.Reduce
public import Idealize.ShloMosaic.Lib.Pipeline.ReadBack
public import Idealize.ShloMosaic.Lib.Pipeline.Value
public import Idealize.ShloMosaic.Lib.Claim
public import Idealize.ShloMosaic.Lib.StableHlo.RunRead
public import proofs.«01_k».proof.Proof.Gen.Kernel10Ideal.Value
public import proofs.«01_k».proof.Proof.FfnMath

@[expose] public section

set_option maxRecDepth 16384

noncomputable section

open Idealize.ShloMosaic Idealize.ShloMosaic.TcCoe

namespace Cert.Kernel10Ideal.Out

open Cert.Kernel10Ideal Cert.Kernel10Ideal.Gen Cert.Ffn

theorem pay1_apply (v8 : Vec Ideal S32x1024 .f32) (v10 : Vec Ideal S1x1024 .f32) (r : Fin 32) (d : Fin 1024) :
    k0_pay1 v8 v10 (ix2 r d) = normed (fun e => v8 (ix2 r e)) (v10 (ix2 0 d)) d := by
  unfold k0_pay1
  pointwise
  rfl

theorem pay2_apply (v3 : Vec Ideal S32x1024 .bf16) (v4 : Vec Ideal S1024x512 .bf16) (r : Fin 32) (k : Fin 512) :
    k0_pay2 v3 v4 (ix2 r k) = (∑ d : Fin 1024, v3 (ix2 r d) * v4 (ix2 d k) : EReal) := by
  unfold k0_pay2
  pointwise

variable (m : (ℓ : Loc nD τ sig) → Buf (Elt Ideal) ℓ)

theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![0, t.val] := by decide +kernel
theorem idx3 : ∀ t : Fin cfg0.N, win0_3.index t = ![0, t.val] := by decide +kernel

/-- Row `r`, column `d` of the layer's input. -/
def argX (c : Dev nD) (r d : ℕ) : EReal :=
  m (c.tc.loc main_arg0) (ix3 ⟨r % 32, Nat.mod_lt _ (by norm_num)⟩ 0 ⟨d % 1024, Nat.mod_lt _ (by norm_num)⟩)
/-- The gain of the normalisation. -/
def argG (c : Dev nD) (d : ℕ) : EReal := m (c.tc.loc main_arg1) (ix1 ⟨d % 1024, Nat.mod_lt _ (by norm_num)⟩)
/-- The layer's input weights. -/
def argW (c : Dev nD) (d k : ℕ) : EReal :=
  m (c.tc.loc main_arg2) (ix2 ⟨d % 1024, Nat.mod_lt _ (by norm_num)⟩ ⟨k % 3080, Nat.mod_lt _ (by norm_num)⟩)

theorem lt_n (t : Fin cfg0.N) : t.val < 4 := t.isLt

theorem blk0 (c : Dev nD) (t : Fin cfg0.N) (r : Fin 32) (d : Fin 1024) :
    iblk m c 0 t (ix2 r d) = argX m c r.val d.val := by
  have h : iblk m c 0 t (ix2 r d) = V m c main_v9 (ix2 r d) := by blk_ext [iblk, idx0 t]
  rw [h, V, argX]
  simp only [hostOps0]
  after_reads_simp
  pointwise
  blk_ext []

theorem blk1 (c : Dev nD) (t : Fin cfg0.N) (d : Fin 1024) :
    iblk m c 1 t (ix2 0 d) = argG m c d.val := by
  have h : iblk m c 1 t (ix2 0 d) = V m c main_v10 (ix2 0 d) := by blk_ext [iblk, idx1 t]
  rw [h, V, argG]
  simp only [hostOps0]
  after_reads_simp
  pointwise
  blk_ext []

/-- The column of the layer's input weights that gives column `n` of the keys and values: the keys of the two kinds of heads,
    then their values. -/
def pick (n : ℕ) : ℕ := if n < 512 then 512 + (n - 0) else if n < 1024 then 2048 + (n - 512) else if n < 1536 then 1024 + (n - 1024) else 2560 + (n - 1536)

theorem wts_0 (c : Dev nD) (k : Fin 512) (d : Fin 1024) :
    (V m c main_v8 : Vec Ideal S1024x2048 .bf16) (ix2 d ⟨k.val, by omega⟩) = argW m c d.val (512 + k.val) := by
  rw [V, argW]
  simp only [hostOps0]
  after_reads_simp
  pointwise
  after_reads_simp
  pointwise
  blk_ext []

theorem wts_1 (c : Dev nD) (k : Fin 512) (d : Fin 1024) :
    (V m c main_v8 : Vec Ideal S1024x2048 .bf16) (ix2 d ⟨512 + k.val, by omega⟩) = argW m c d.val (2048 + k.val) := by
  rw [V, argW]
  simp only [hostOps0]
  after_reads_simp
  pointwise
  after_reads_simp
  pointwise
  blk_ext []

theorem wts_2 (c : Dev nD) (k : Fin 512) (d : Fin 1024) :
    (V m c main_v8 : Vec Ideal S1024x2048 .bf16) (ix2 d ⟨1024 + k.val, by omega⟩) = argW m c d.val (1024 + k.val) := by
  rw [V, argW]
  simp only [hostOps0]
  after_reads_simp
  pointwise
  after_reads_simp
  pointwise
  rw [dif_neg (by omega), dif_neg (by omega), dif_pos (by omega)]
  blk_ext []

theorem wts_3 (c : Dev nD) (k : Fin 512) (d : Fin 1024) :
    (V m c main_v8 : Vec Ideal S1024x2048 .bf16) (ix2 d ⟨1536 + k.val, by omega⟩) = argW m c d.val (2560 + k.val) := by
  rw [V, argW]
  simp only [hostOps0]
  after_reads_simp
  pointwise
  after_reads_simp
  pointwise
  rw [dif_neg (by omega), dif_neg (by omega), dif_neg (by omega)]
  blk_ext []

theorem wts (c : Dev nD) (k : Fin 2048) (d : Fin 1024) :
    (V m c main_v8 : Vec Ideal S1024x2048 .bf16) (ix2 d k) = argW m c d.val (pick k.val) := by
  have hk := k.isLt
  by_cases h0 : k.val < 512
  · have e : k = ⟨(⟨k.val - 0, by omega⟩ : Fin 512).val, by dsimp only; omega⟩ := Fin.ext (by dsimp only; omega)
    rw [e, wts_0]
    refine congrArg (argW m c d.val) ?_
    dsimp only
    unfold pick
    rw [if_pos (by omega)]
    omega
  by_cases h1 : k.val < 1024
  · have e : k = ⟨512 + (⟨k.val - 512, by omega⟩ : Fin 512).val, by dsimp only; omega⟩ := Fin.ext (by dsimp only; omega)
    rw [e, wts_1]
    refine congrArg (argW m c d.val) ?_
    dsimp only
    unfold pick
    rw [if_neg (by omega)]
    rw [if_pos (by omega)]
    omega
  by_cases h2 : k.val < 1536
  · have e : k = ⟨1024 + (⟨k.val - 1024, by omega⟩ : Fin 512).val, by dsimp only; omega⟩ := Fin.ext (by dsimp only; omega)
    rw [e, wts_2]
    refine congrArg (argW m c d.val) ?_
    dsimp only
    unfold pick
    rw [if_neg (by omega)]
    rw [if_neg (by omega)]
    rw [if_pos (by omega)]
    omega
  have e : k = ⟨1536 + (⟨k.val - 1536, by omega⟩ : Fin 512).val, by dsimp only; omega⟩ := Fin.ext (by dsimp only; omega)
  rw [e, wts_3]
  refine congrArg (argW m c d.val) ?_
  dsimp only
  unfold pick
  rw [if_neg (by omega)]
  rw [if_neg (by omega)]
  rw [if_neg (by omega)]
  omega

theorem blk2 (c : Dev nD) (t : Fin cfg0.N) (k : Fin 512) (d : Fin 1024) :
    iblk m c 2 t (ix2 d k) = argW m c d.val (pick (512 * t.val + k.val)) := by
  have ht := lt_n t
  have h : iblk m c 2 t (ix2 d k) = (V m c main_v8 : Vec Ideal S1024x2048 .bf16) (ix2 d ⟨512 * t.val + k.val, by omega⟩) := by blk_ext [iblk, idx2 t]
  rw [h, wts]

/-- The product of the normalised rows with a grid point's block of weights. -/
theorem product (c : Dev nD) (t : Fin cfg0.N) (hs : Vec Ideal S32x1024 .bf16)
    (hh : ∀ (r : Fin 32) (d : Fin 1024), hs (ix2 r d) = hidden (argX m c) (argG m c) r.val d) (r : Fin 32) (k : Fin 512) :
    k0_pay2 hs (iblk m c 2 t) (ix2 r k) = column (argX m c) (argG m c) (argW m c) r.val (pick (512 * t.val + k.val)) := by
  rw [pay2_apply]
  unfold column
  refine Finset.sum_congr rfl fun d _ => ?_
  rw [hh, blk2]

/-- The normalised rows. -/
theorem first_h (c : Dev nD) (t : Fin cfg0.N) (r : Fin 32) (d : Fin 1024) :
    k0_pay1 (iblk m c 0 t) (iblk m c 1 t) (ix2 r d) = hidden (argX m c) (argG m c) r.val d := by
  rw [pay1_apply]
  exact normed_congr _ _ _ _ _ (fun e => blk0 m c t r e) (blk1 m c t d)

/-- The kept array holds the normalised rows after every grid point. -/
theorem kept (c : Dev nD) : ∀ (n : ℕ) (hn : n < cfg0.N) (r : Fin 32) (d : Fin 1024),
    (outsAt0 m c n hn).2 (ix2 r d) = hidden (argX m c) (argG m c) r.val d := by
  intro n
  induction n with
  | zero =>
    intro hn r d
    rw [outsAt0_A m c ⟨0, hn⟩ (show 0 % 4 = 0 by decide)]; dsimp only; frame_out; exact first_h m c _ r d
  | succ n ih =>
    intro hn r d
    have hl : n + 1 < 4 := hn
    rw [outsAt0_B m c ⟨n + 1, hn⟩ (show ¬(n + 1) % 4 = 0 by omega)]
    exact ih (by omega) r d

/-- A grid point's block of the array. -/
theorem point (c : Dev nD) (t : Fin cfg0.N) (r : Fin 32) (k : Fin 512) :
    (outsAt0 m c t.val t.isLt).1 (ix2 r k) = column (argX m c) (argG m c) (argW m c) r.val (pick (512 * t.val + k.val)) := by
  by_cases h0 : t.val % 4 = 0
  · rw [outsAt0_A m c t h0]; dsimp only; frame_out; exact product m c t _ (first_h m c t) r k
  · rw [outsAt0_B m c t h0]; dsimp only; frame_out
    simp only [read_unread_whole]
    exact product m c t _ (kept m c _ _) r k

/-- The result array. -/
def spec (c : Dev nD) : Vec Ideal S32x2048 .f32 := fun i => column (argX m c) (argG m c) (argW m c) (i 0).val (pick (i 1).val)

theorem flushed (c : Dev nD) (t : Fin cfg0.N) :
    (dats m 0 c).flushed 3 t = ((cfg0.win 3).blk t).view.read (Elt Ideal) (spec m c) := by
  show (cfg0.win 3).cut (grid0.coords t) ((dats m 0 c).after 3 t) = _
  rw [after0_3]
  funext y
  have hy0 : (y 0).val < 32 := (y 0).isLt
  have hy1 : (y 1).val < 512 := (y 1).isLt
  have hb0 : (((cfg0.win 3).blk t).view.emb y 0).val = win0_3.index t (0 : Fin 2) * 32 + 1 * (y 0).val := rfl
  have hb1 : (((cfg0.win 3).blk t).view.emb y 1).val = win0_3.index t (1 : Fin 2) * 512 + 1 * (y 1).val := rfl
  have e0 : win0_3.index t (0 : Fin 2) = 0 := congrFun (idx3 t) 0
  have e1 : win0_3.index t (1 : Fin 2) = t.val := congrFun (idx3 t) 1
  have e : (cfg0.win 3).xinj (grid0.coords t) y = ix2 ⟨(y 0).val, hy0⟩ ⟨(y 1).val, hy1⟩ := by
    funext a; apply Fin.ext
    match a with
    | ⟨0, _⟩ => rfl
    | ⟨1, _⟩ => rfl
  show (outsAt0 m c t.val t.isLt).1 ((cfg0.win 3).xinj (grid0.coords t) y) = spec m c (((cfg0.win 3).blk t).view.emb y)
  rw [e, point]
  unfold spec
  simp only [hb0, hb1, e0, e1]
  rw [show 0 * 32 + 1 * (y 0).val = (y 0).val by omega, show t.val * 512 + 1 * (y 1).val = 512 * t.val + (y 1).val by omega]

theorem mem_blk (t : Fin cfg0.N) (i : S32x2048.Idx) :
    i ∈ ((cfg0.win 3).blk t).view.set ↔ ∀ a : Fin 2, win0_3.index t a * S32x512.size a ≤ (i a).val ∧ (i a).val < win0_3.index t a * S32x512.size a + S32x512.size a := by
  show i ∈ ((View.whole main_v11).slice (win0_3.rect t)).set ↔ _
  rw [View.set_slice_whole, Rect.mem_set_unit]
  exact Iff.rfl

theorem flushes : ∀ t : Fin cfg0.N, (cfg0.win 3).flush t = true := (by decide +kernel : ∀ t : Fin grid0.N, win0_3.flush t = true)

theorem final (c : Dev nD) : (dats m 0 c).arrAt 3 cfg0.N = spec m c :=
  (dats m 0 c).arrAt_eq_of_cover 3 _ (fun t _ => flushed m c t) (fun i => by
    have h0 : (i 0).val < 32 := (i 0).isLt
    have h1 : (i 1).val < 2048 := (i 1).isLt
    let t : Fin cfg0.N := ⟨(i 1).val / 512, by show _ < 4; omega⟩
    have ht : t.val = (i 1).val / 512 := rfl
    refine ⟨t, flushes t, ?_⟩
    rw [mem_blk]
    have e0 : win0_3.index t (0 : Fin 2) = 0 := congrFun (idx3 t) 0
    have e1 : win0_3.index t (1 : Fin 2) = t.val := congrFun (idx3 t) 1
    intro a
    match a with
    | ⟨0, _⟩ => show win0_3.index t (0 : Fin 2) * 32 ≤ (i 0).val ∧ (i 0).val < win0_3.index t (0 : Fin 2) * 32 + 32; omega
    | ⟨1, _⟩ => show win0_3.index t (1 : Fin 2) * 512 ≤ (i 1).val ∧ (i 1).val < win0_3.index t (1 : Fin 2) * 512 + 512; omega)

end Cert.Kernel10Ideal.Out

end
-- ==== Proof.KvEvenSampleRef.lean ====
/- The reference program of the even layer's new keys and values, read entry by entry; the two programs give one result array. -/
module

public import Idealize.ShloMosaic.Lib.Pipeline.ValueKit
public import Idealize.ShloMosaic.Lib.Pointwise.Reduce
public import Idealize.ShloMosaic.Lib.Claim
public import proofs.«01_k».proof.Proof.Gen.Reference10Ideal.Read
public import proofs.«01_k».proof.Proof.FfnMath
public import proofs.«01_k».proof.Proof.KvEvenSample

@[expose] public section

set_option maxRecDepth 16384

noncomputable section

open Idealize.ShloMosaic Idealize.ShloMosaic.TcCoe

namespace Cert.Reference10Ideal.Ref

open Cert.Reference10Ideal Cert.Reference10Ideal.Gen Cert.Reference10Ideal.Read Cert.Ffn

section Reading

variable (x0 : (⟨S32x1x1024, .f32⟩ : BufTy).Contents (Elt Ideal)) (x1 : (⟨S1024, .f32⟩ : BufTy).Contents (Elt Ideal))
  (x2 : (⟨S1024x3080, .f32⟩ : BufTy).Contents (Elt Ideal))

/-- The normalised input. -/
theorem normal (b : Fin 32) (d : Fin 1024) :
    val_main_v12 (F := Ideal) x0 x1 (ix3 b 0 d) = normed (fun e => x0 (ix3 b 0 e)) (x1 (ix1 d)) d := by
  unfold val_main_v12 val_main_v11 val_main_v10 val_main_v9 val_main_v8 val_main_v7 val_main_v6 val_main_v5 val_main_v4 val_main_v3
    val_main_v2 val_main_v1 val_main_v0 val_main_cst val_main_cst_0 val_main_cst_1
  pointwise
  rfl

/-- The product with the weights. -/
theorem first (b : Fin 32) (k : Fin 3080) :
    val_main_v13 (F := Ideal) x0 x1 x2 (ix3 b 0 k)
      = ∑ d : Fin 1024, (normed (fun e => x0 (ix3 b 0 e)) (x1 (ix1 d)) d * x2 (ix2 d k) : EReal) := by
  rw [val_main_v13_apply]
  refine Finset.sum_congr rfl fun d _ => ?_
  rw [show lidx_main_v13 (ix3 b 0 k) d = ix3 b 0 d by blk_ext [lidx_main_v13], show ridx_main_v13 (ix3 b 0 k) d = ix2 d k by blk_ext [ridx_main_v13],
    normal]

theorem piece0 (b : Fin 32) (k : Fin 512) :
    val_main_v30 (F := Ideal) x0 x1 x2 (ix2 b ⟨k.val, by omega⟩) = val_main_v13 (F := Ideal) x0 x1 x2 (ix3 b 0 ⟨512 + k.val, by omega⟩) := by
  rw [val_main_v30_apply]
  have e : idx_main_v30 (ix2 b ⟨k.val, by omega⟩) = ix5 b 0 0 ⟨k.val / 64, by omega⟩ ⟨k.val % 64, by omega⟩ := by
    have hk := k.isLt
    blk_ext [idx_main_v30]
  rw [e]
  unfold val_main_v29 val_main_v28 val_main_v27 val_main_v26 val_main_v25 val_main_v24 val_main_v23 val_main_v22 val_main_v21 val_main_v19 val_main_v18 val_main_v16 val_main_v15
  generalize val_main_v13 (F := Ideal) x0 x1 x2 = y
  pointwise
  rw [dif_pos (by omega)]

theorem piece1 (b : Fin 32) (k : Fin 512) :
    val_main_v30 (F := Ideal) x0 x1 x2 (ix2 b ⟨512 + k.val, by omega⟩) = val_main_v13 (F := Ideal) x0 x1 x2 (ix3 b 0 ⟨2048 + k.val, by omega⟩) := by
  rw [val_main_v30_apply]
  have e : idx_main_v30 (ix2 b ⟨512 + k.val, by omega⟩) = ix5 b 0 0 ⟨8 + k.val / 64, by omega⟩ ⟨k.val % 64, by omega⟩ := by
    have hk := k.isLt
    blk_ext [idx_main_v30]
  rw [e]
  unfold val_main_v29 val_main_v28 val_main_v27 val_main_v26 val_main_v25 val_main_v24 val_main_v23 val_main_v22 val_main_v21 val_main_v19 val_main_v18 val_main_v16 val_main_v15
  generalize val_main_v13 (F := Ideal) x0 x1 x2 = y
  pointwise

theorem piece2 (b : Fin 32) (k : Fin 512) :
    val_main_v30 (F := Ideal) x0 x1 x2 (ix2 b ⟨1024 + k.val, by omega⟩) = val_main_v13 (F := Ideal) x0 x1 x2 (ix3 b 0 ⟨1024 + k.val, by omega⟩) := by
  rw [val_main_v30_apply]
  have e : idx_main_v30 (ix2 b ⟨1024 + k.val, by omega⟩) = ix5 b 0 1 ⟨k.val / 64, by omega⟩ ⟨k.val % 64, by omega⟩ := by
    have hk := k.isLt
    blk_ext [idx_main_v30]
  rw [e]
  unfold val_main_v29 val_main_v28 val_main_v27 val_main_v26 val_main_v25 val_main_v24 val_main_v23 val_main_v22 val_main_v21 val_main_v19 val_main_v18 val_main_v16 val_main_v15
  generalize val_main_v13 (F := Ideal) x0 x1 x2 = y
  pointwise
  rw [dif_pos (by omega)]

theorem piece3 (b : Fin 32) (k : Fin 512) :
    val_main_v30 (F := Ideal) x0 x1 x2 (ix2 b ⟨1536 + k.val, by omega⟩) = val_main_v13 (F := Ideal) x0 x1 x2 (ix3 b 0 ⟨2560 + k.val, by omega⟩) := by
  rw [val_main_v30_apply]
  have e : idx_main_v30 (ix2 b ⟨1536 + k.val, by omega⟩) = ix5 b 0 1 ⟨8 + k.val / 64, by omega⟩ ⟨k.val % 64, by omega⟩ := by
    have hk := k.isLt
    blk_ext [idx_main_v30]
  rw [e]
  unfold val_main_v29 val_main_v28 val_main_v27 val_main_v26 val_main_v25 val_main_v24 val_main_v23 val_main_v22 val_main_v21 val_main_v19 val_main_v18 val_main_v16 val_main_v15
  generalize val_main_v13 (F := Ideal) x0 x1 x2 = y
  pointwise

end Reading

open Cert.Kernel10Ideal.Out (argX argG argW)

variable (m : (ℓ : Loc Cert.Kernel10Ideal.nD Cert.Kernel10Ideal.τ Cert.Kernel10Ideal.sig) → Buf (Elt Ideal) ℓ) (c : Dev Cert.Kernel10Ideal.nD)

/-- The layer's input. -/
abbrev b0 : (⟨S32x1x1024, .f32⟩ : BufTy).Contents (Elt Ideal) := m (c.tc.loc Cert.Kernel10Ideal.main_arg0)
/-- The gain of the normalisation. -/
abbrev b1 : (⟨S1024, .f32⟩ : BufTy).Contents (Elt Ideal) := m (c.tc.loc Cert.Kernel10Ideal.main_arg1)
/-- The layer's input weights. -/
abbrev b2 : (⟨S1024x3080, .f32⟩ : BufTy).Contents (Elt Ideal) := m (c.tc.loc Cert.Kernel10Ideal.main_arg2)

theorem input (b : Fin 32) (d : Fin 1024) : b0 m c (ix3 b 0 d) = argX m c (b.val) d.val := by
  unfold argX
  refine congrArg (b0 m c) ?_
  blk_ext []

theorem gain (d : Fin 1024) : b1 m c (ix1 d) = argG m c d.val := by
  unfold argG
  refine congrArg (b1 m c) ?_
  blk_ext []

theorem weight (d : Fin 1024) (k : Fin 3080) : b2 m c (ix2 d k) = argW m c d.val k.val := by
  unfold argW
  refine congrArg (b2 m c) ?_
  blk_ext []

theorem columns (b : Fin 32) (k : Fin 3080) :
    val_main_v13 (F := Ideal) (b0 m c) (b1 m c) (b2 m c) (ix3 b 0 k) = column (argX m c) (argG m c) (argW m c) (b.val) k.val := by
  rw [first]
  unfold column Cert.Ffn.hidden
  refine Finset.sum_congr rfl fun d _ => ?_
  rw [weight]
  exact congrArg (fun a : EReal => a * argW m c d.val k.val) (normed_congr _ _ _ _ _ (fun e => input m c b e) (gain m c d))

/-- The result arrays of the two programs are one. -/
theorem value : val_main_v30 (F := Ideal) (b0 m c) (b1 m c) (b2 m c) = Cert.Kernel10Ideal.Out.spec m c := by
  funext i
  obtain ⟨b, k, rfl⟩ : ∃ (b : Fin 32) (k : Fin 2048), i = ix2 b k := ⟨_, _, eq_ix2 i⟩
  have hk := k.isLt
  unfold Cert.Kernel10Ideal.Out.spec
  dsimp only
  by_cases h0 : k.val < 512
  · have e : k = ⟨(⟨k.val - 0, by omega⟩ : Fin 512).val, by dsimp only; omega⟩ := Fin.ext (by dsimp only; omega)
    rw [e, piece0, columns]
    refine congrArg _ ?_
    show _ = Cert.Kernel10Ideal.Out.pick _
    unfold Cert.Kernel10Ideal.Out.pick
    dsimp only
    split_ifs <;> simp at * <;> omega
  by_cases h1 : k.val < 1024
  · have e : k = ⟨512 + (⟨k.val - 512, by omega⟩ : Fin 512).val, by dsimp only; omega⟩ := Fin.ext (by dsimp only; omega)
    rw [e, piece1, columns]
    refine congrArg _ ?_
    show _ = Cert.Kernel10Ideal.Out.pick _
    unfold Cert.Kernel10Ideal.Out.pick
    dsimp only
    split_ifs <;> simp at * <;> omega
  by_cases h2 : k.val < 1536
  · have e : k = ⟨1024 + (⟨k.val - 1024, by omega⟩ : Fin 512).val, by dsimp only; omega⟩ := Fin.ext (by dsimp only; omega)
    rw [e, piece2, columns]
    refine congrArg _ ?_
    show _ = Cert.Kernel10Ideal.Out.pick _
    unfold Cert.Kernel10Ideal.Out.pick
    dsimp only
    split_ifs <;> simp at * <;> omega
  have e : k = ⟨1536 + (⟨k.val - 1536, by omega⟩ : Fin 512).val, by dsimp only; omega⟩ := Fin.ext (by dsimp only; omega)
  rw [e, piece3, columns]
  refine congrArg _ ?_
  show _ = Cert.Kernel10Ideal.Out.pick _
  unfold Cert.Kernel10Ideal.Out.pick
  dsimp only
  split_ifs <;> simp at * <;> omega

end Cert.Reference10Ideal.Ref

end
-- ==== Proof.SampleFfnTile.lean ====
/- One step of the feed-forward kernel for one new position: the normalised rows, the product of the gated columns added to what was there,
   the result of the last step. -/
module

public import Idealize.ShloMosaic.Lib.Pipeline.ValueKit
public import Idealize.ShloMosaic.Lib.Pointwise.Reduce
public import proofs.«01_k».proof.Proof.Gen.Kernel11Ideal.Skeleton
public import proofs.«01_k».proof.Proof.FfnMath

@[expose] public section

set_option maxRecDepth 16384

noncomputable section

open Idealize.ShloMosaic Idealize.ShloMosaic.TcCoe

namespace Cert.Kernel11Ideal.Tile

open Cert.Kernel11Ideal Cert.Kernel11Ideal.Gen Cert.Ffn

theorem pay1_apply (v30 : Vec Ideal S32x1024 .f32) (v32 : Vec Ideal S1x1024 .f32) (r : Fin 32) (d : Fin 1024) :
    k0_pay1 v30 v32 (ix2 r d) = normed (fun e => v30 (ix2 r e)) (v32 (ix2 0 d)) d := by
  unfold k0_pay1
  pointwise
  rfl

theorem pay2_apply (r : Fin 32) (d : Fin 1024) : k0_pay2 (F := Ideal) (ix2 r d) = (0 : EReal) := by
  unfold k0_pay2
  pointwise

theorem pay3_apply (v3 : Vec Ideal S32x1024 .bf16) (v4 : Vec Ideal S1x1024x512 .bf16) (v7 : Vec Ideal S32x1024 .f32)
    (v20 : Vec Ideal S256x1024 .bf16) (r : Fin 32) (j : Fin 1024) :
    k0_pay3 v3 v4 v7 v20 (ix2 r j) = (v7 (ix2 r j) + ∑ k : Fin 256,
      gated (∑ d : Fin 1024, v3 (ix2 r d) * v4 (ix3 0 d ⟨k.val, by omega⟩)) (∑ d : Fin 1024, v3 (ix2 r d) * v4 (ix3 0 d ⟨256 + k.val, by omega⟩))
        * v20 (ix2 k j) : EReal) := by
  unfold k0_pay3
  pointwise
  simp only [gated, zero_sub]

theorem pay4_apply (v30 v32 : Vec Ideal S32x1024 .f32) (v33 : Vec Ideal S1x1024 .f32) (r : Fin 32) (j : Fin 1024) :
    k0_pay4 v30 v32 v33 (ix2 r j) = (v30 (ix2 r j) + normed (fun e => v32 (ix2 r e)) (v33 (ix2 0 j)) j : EReal) := by
  unfold k0_pay4
  pointwise
  rfl

end Cert.Kernel11Ideal.Tile

end
-- ==== Proof.SampleFfnBlocks.lean ====
/- The blocks that the feed-forward kernel for one new position's grid points read, as entries of the arguments. -/
module

public import Idealize.ShloMosaic.Lib.Pipeline.ValueKit
public import Idealize.ShloMosaic.Lib.Claim
public import Idealize.ShloMosaic.Lib.StableHlo.RunRead
public import proofs.«01_k».proof.Proof.Gen.Kernel11Ideal.Frame

@[expose] public section

set_option maxRecDepth 16384

noncomputable section

open Idealize.ShloMosaic Idealize.ShloMosaic.TcCoe

namespace Cert.Kernel11Ideal.Blocks

open Cert.Kernel11Ideal Cert.Kernel11Ideal.Gen

variable (m : (ℓ : Loc nD τ sig) → Buf (Elt Ideal) ℓ)

theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![t.val % 11, 0, 0] := by decide +kernel
theorem idx3 : ∀ t : Fin cfg0.N, win0_3.index t = ![t.val % 11, 0] := by decide +kernel
theorem idx4 : ∀ t : Fin cfg0.N, win0_4.index t = ![0, 0] := by decide +kernel

/-- Row `r`, column `d` of the layer's input. -/
def argX (c : Dev nD) (r d : ℕ) : EReal :=
  m (c.tc.loc main_arg0) (ix3 ⟨r % 32, Nat.mod_lt _ (by norm_num)⟩ 0 ⟨d % 1024, Nat.mod_lt _ (by norm_num)⟩)
/-- The gain of the first normalisation. -/
def argG (c : Dev nD) (d : ℕ) : EReal := m (c.tc.loc main_arg1) (ix1 ⟨d % 1024, Nat.mod_lt _ (by norm_num)⟩)
/-- The first weights. -/
def argW (c : Dev nD) (d k : ℕ) : EReal :=
  m (c.tc.loc main_arg2) (ix2 ⟨d % 1024, Nat.mod_lt _ (by norm_num)⟩ ⟨k % 5632, Nat.mod_lt _ (by norm_num)⟩)
/-- The second weights. -/
def argO (c : Dev nD) (k j : ℕ) : EReal :=
  m (c.tc.loc main_arg3) (ix2 ⟨k % 2816, Nat.mod_lt _ (by norm_num)⟩ ⟨j % 1024, Nat.mod_lt _ (by norm_num)⟩)
/-- The gain of the second normalisation. -/
def argH (c : Dev nD) (j : ℕ) : EReal := m (c.tc.loc main_arg4) (ix1 ⟨j % 1024, Nat.mod_lt _ (by norm_num)⟩)

theorem lt_11 (t : Fin cfg0.N) : t.val < 11 := t.isLt

theorem blk0 (c : Dev nD) (t : Fin cfg0.N) (r : Fin 32) (d : Fin 1024) :
    iblk m c 0 t (ix2 r d) = argX m c (r.val) d.val := by
  have h : iblk m c 0 t (ix2 r d) = V m c main_v8 (ix2 r d) := by blk_ext [iblk, idx0 t]
  rw [h, V, argX]
  simp only [hostOps0]
  after_reads_simp
  pointwise
  blk_ext []

theorem blk1 (c : Dev nD) (t : Fin cfg0.N) (d : Fin 1024) :
    iblk m c 1 t (ix2 0 d) = argG m c d.val := by
  have h : iblk m c 1 t (ix2 0 d) = V m c main_v9 (ix2 0 d) := by blk_ext [iblk, idx1 t]
  rw [h, V, argG]
  simp only [hostOps0]
  after_reads_simp
  pointwise
  blk_ext []

theorem blk4 (c : Dev nD) (t : Fin cfg0.N) (d : Fin 1024) :
    iblk m c 4 t (ix2 0 d) = argH m c d.val := by
  have h : iblk m c 4 t (ix2 0 d) = V m c main_v10 (ix2 0 d) := by blk_ext [iblk, idx4 t]
  rw [h, V, argH]
  simp only [hostOps0]
  after_reads_simp
  pointwise
  blk_ext []

theorem blk3 (c : Dev nD) (t : Fin cfg0.N) (k : Fin 256) (j : Fin 1024) :
    iblk m c 3 t (ix2 k j) = argO m c (256 * (t.val % 11) + k.val) j.val := by
  have h : iblk m c 3 t (ix2 k j) = V m c main_v7 (ix2 ⟨256 * (t.val % 11) + k.val, by omega⟩ j) := by blk_ext [iblk, idx3 t]
  rw [h, V, argO]
  simp only [hostOps0]
  after_reads_simp
  pointwise
  blk_ext []

theorem blk2_gate (c : Dev nD) (t : Fin cfg0.N) (d : Fin 1024) (k : Fin 256) :
    iblk m c 2 t (ix3 0 d ⟨k.val, by omega⟩) = argW m c d.val (256 * (t.val % 11) + k.val) := by
  have h : iblk m c 2 t (ix3 0 d ⟨k.val, by omega⟩) = V m c main_v6 (ix3 ⟨t.val % 11, by omega⟩ d ⟨k.val, by omega⟩) := by
    blk_ext [iblk, idx2 t]
  rw [h, V, argW]
  simp only [hostOps0]
  after_reads_simp
  pointwise
  after_reads_simp
  pointwise
  blk_ext []

theorem blk2_value (c : Dev nD) (t : Fin cfg0.N) (d : Fin 1024) (k : Fin 256) :
    iblk m c 2 t (ix3 0 d ⟨256 + k.val, by omega⟩) = argW m c d.val (2816 + (256 * (t.val % 11) + k.val)) := by
  have h : iblk m c 2 t (ix3 0 d ⟨256 + k.val, by omega⟩) = V m c main_v6 (ix3 ⟨t.val % 11, by omega⟩ d ⟨256 + k.val, by omega⟩) := by
    blk_ext [iblk, idx2 t]
  rw [h, V, argW]
  simp only [hostOps0]
  after_reads_simp
  pointwise
  after_reads_simp
  pointwise
  blk_ext []

end Cert.Kernel11Ideal.Blocks

end
-- ==== Proof.SampleFfnSteps.lean ====
/- What the feed-forward kernel for one new position keeps for a block of rows: the normalised rows, and the product with the second weights
   over the columns seen so far. The last step of a block writes its result. -/
module

public import Idealize.ShloMosaic.Lib.Pipeline.ValueKit
public import Idealize.ShloMosaic.Lib.Pipeline.ReadBack
public import proofs.«01_k».proof.Proof.Gen.Kernel11Ideal.Frame
public import proofs.«01_k».proof.Proof.FfnMath
public import proofs.«01_k».proof.Proof.SampleFfnTile
public import proofs.«01_k».proof.Proof.SampleFfnBlocks

@[expose] public section

set_option maxRecDepth 16384

noncomputable section

open Idealize.ShloMosaic Idealize.ShloMosaic.TcCoe

namespace Cert.Kernel11Ideal.Steps

open Cert.Kernel11Ideal Cert.Kernel11Ideal.Gen Cert.Kernel11Ideal.Blocks Cert.Kernel11Ideal.Tile Cert.Ffn

variable (m : (ℓ : Loc nD τ sig) → Buf (Elt Ideal) ℓ)

/-- The normalised rows of a grid point's block. -/
theorem first_h (c : Dev nD) (t : Fin cfg0.N) (r : Fin 32) (d : Fin 1024) :
    k0_pay1 (iblk m c 0 t) (iblk m c 1 t) (ix2 r d) = hidden (argX m c) (argG m c) (r.val) d := by
  rw [pay1_apply]
  exact normed_congr _ _ _ _ _ (fun e => blk0 m c t r e) (blk1 m c t d)

/-- A grid point adds 256 columns, given the normalised rows and the sum so far. -/
theorem step (c : Dev nD) (t : Fin cfg0.N) (hs : Vec Ideal S32x1024 .bf16) (ac : Vec Ideal S32x1024 .f32)
    (hh : ∀ (r : Fin 32) (d : Fin 1024), hs (ix2 r d) = hidden (argX m c) (argG m c) (r.val) d)
    (ha : ∀ (r : Fin 32) (j : Fin 1024), ac (ix2 r j) = part (argX m c) (argG m c) (argW m c) (argO m c) (r.val) j.val (256 * (t.val % 11)))
    (r : Fin 32) (j : Fin 1024) :
    k0_pay3 hs (iblk m c 2 t) ac (iblk m c 3 t) (ix2 r j)
      = part (argX m c) (argG m c) (argW m c) (argO m c) (r.val) j.val (256 * (t.val % 11 + 1)) := by
  rw [pay3_apply, ha, show 256 * (t.val % 11 + 1) = 256 * (t.val % 11) + 256 by omega, part_step]
  refine congrArg₂ (fun a b : EReal => a + b) rfl (Finset.sum_congr rfl fun k _ => ?_)
  rw [blk3]
  refine congrArg₂ (fun a b : EReal => a * b) ?_ rfl
  unfold act column
  refine congrArg₂ gated (Finset.sum_congr rfl fun d _ => ?_) (Finset.sum_congr rfl fun d _ => ?_)
  · rw [hh, blk2_gate]
  · rw [hh, blk2_value]

/-- What the two kept arrays hold after grid point `n`. -/
def Kept (c : Dev nD) (n : ℕ) (hn : n < cfg0.N) : Prop :=
  (∀ (r : Fin 32) (d : Fin 1024), (outsAt0 m c n hn).2.1 (ix2 r d) = hidden (argX m c) (argG m c) (r.val) d)
  ∧ (∀ (r : Fin 32) (j : Fin 1024), (outsAt0 m c n hn).2.2 (ix2 r j)
    = part (argX m c) (argG m c) (argW m c) (argO m c) (r.val) j.val (256 * (n % 11 + 1)))

theorem kept_A (c : Dev nD) (t : Fin cfg0.N) (h0 : t.val % 11 = 0) (h1 : ¬t.val % 11 = 10) : Kept m c t.val t.isLt := by
  refine ⟨fun r d => ?_, fun r j => ?_⟩
  · rw [outsAt0_A m c t h0 h1]; dsimp only; frame_out; exact first_h m c t r d
  · rw [outsAt0_A m c t h0 h1]; dsimp only; frame_out
    refine step m c t _ _ (first_h m c t) (fun r j => ?_) r j
    rw [pay2_apply, h0, Nat.mul_zero, part_zero]

theorem kept_next (c : Dev nD) (n : ℕ) (hn : n + 1 < cfg0.N) (h0 : ¬(n + 1) % 11 = 0) (ih : Kept m c n (by omega)) :
    Kept m c (n + 1) hn := by
  have e' : (n + 1) % 11 = n % 11 + 1 := by omega
  by_cases h1 : (n + 1) % 11 = 10
  · refine ⟨fun r d => ?_, fun r j => ?_⟩
    · rw [outsAt0_C m c ⟨n + 1, hn⟩ h0 h1]
      exact ih.1 r d
    · rw [outsAt0_C m c ⟨n + 1, hn⟩ h0 h1]; dsimp only; frame_out
      simp only [read_unread_whole]
      refine step m c ⟨n + 1, hn⟩ _ _ (fun r d => ?_) (fun r j => ?_) r j
      · exact ih.1 r d
      · show _ = part _ _ _ _ _ _ (256 * ((n + 1) % 11))
        rw [e']; exact ih.2 r j
  · refine ⟨fun r d => ?_, fun r j => ?_⟩
    · rw [outsAt0_B m c ⟨n + 1, hn⟩ h0 h1]
      exact ih.1 r d
    · rw [outsAt0_B m c ⟨n + 1, hn⟩ h0 h1]; dsimp only; frame_out
      simp only [read_unread_whole]
      refine step m c ⟨n + 1, hn⟩ _ _ (fun r d => ?_) (fun r j => ?_) r j
      · exact ih.1 r d
      · show _ = part _ _ _ _ _ _ (256 * ((n + 1) % 11))
        rw [e']; exact ih.2 r j

theorem kept (c : Dev nD) : ∀ (n : ℕ) (hn : n < cfg0.N), Kept m c n hn := by
  intro n
  induction n with
  | zero =>
    intro hn
    exact kept_A m c ⟨0, hn⟩ (show 0 % 11 = 0 by decide) (show ¬0 % 11 = 10 by decide)
  | succ n ih =>
    intro hn
    by_cases h0 : (n + 1) % 11 = 0
    · exact kept_A m c ⟨n + 1, hn⟩ h0 (show ¬(n + 1) % 11 = 10 by omega)
    · exact kept_next m c n hn h0 (ih (by omega))

/-- The last grid point of a block of rows writes the block's result. -/
theorem last (c : Dev nD) (n : ℕ) (hn : n + 1 < cfg0.N) (h1 : (n + 1) % 11 = 10) (r : Fin 32) (j : Fin 1024) :
    (outsAt0 m c (n + 1) hn).1 (ix2 r j)
      = result (argX m c) (argG m c) (argW m c) (argO m c) (argH m c) (r.val) j := by
  have h0 : ¬(n + 1) % 11 = 0 := by omega
  have hk := (kept m c (n + 1) hn).2
  rw [outsAt0_C m c ⟨n + 1, hn⟩ h0 h1] at hk ⊢
  dsimp only at hk ⊢
  revert hk
  frame_out
  intro hk
  rw [pay4_apply]
  refine congrArg₂ (fun a b : EReal => a + b) (blk0 m c ⟨n + 1, hn⟩ r j) (normed_congr _ _ _ _ _ (fun e => ?_) (blk4 m c ⟨n + 1, hn⟩ j))
  refine (hk r e).trans ?_
  rw [h1]

end Cert.Kernel11Ideal.Steps

end
-- ==== Proof.SampleFfnKernel.lean ====
/- The feed-forward kernel for one new position's result array: a row of the layer's input with its feed-forward part for one new position added. -/
module

public import proofs.«01_k».proof.Proof.Gen.Kernel11Ideal.Value
public import proofs.«01_k».proof.Proof.SampleFfnSteps

@[expose] public section

set_option maxRecDepth 16384

noncomputable section

open Idealize.ShloMosaic Idealize.ShloMosaic.TcCoe

namespace Cert.Kernel11Ideal.Out

open Cert.Kernel11Ideal Cert.Kernel11Ideal.Gen Cert.Kernel11Ideal.Blocks Cert.Kernel11Ideal.Steps Cert.Ffn

variable (m : (ℓ : Loc nD τ sig) → Buf (Elt Ideal) ℓ) (c : Dev nD)

/-- The result array. -/
def spec : Vec Ideal S32x1024 .f32 := fun i =>
  result (argX m c) (argG m c) (argW m c) (argO m c) (argH m c) (i 0).val ⟨(i 1).val % 1024, Nat.mod_lt _ (by norm_num)⟩

theorem value : Value.G5 m c = spec m c := by
  funext i
  have h0 : (i 0).val < 32 := (i 0).isLt
  have h1 : (i 1).val < 1024 := (i 1).isLt
  have hp : Value.pt5Of i = 9 + 1 := by
    unfold Value.pt5Of Value.run5Of
    omega
  have hN : Value.pt5Of i < cfg0.N := by
    rw [hp]; show _ < 11; omega
  unfold Value.G5
  rw [dif_pos hN, ← Value.outsAt0_sweep m c (Value.pt5Of i) hN]
  have e : Value.loc5Of i = ix2 ⟨(i 0).val % 32, Nat.mod_lt _ (by norm_num)⟩ ⟨(i 1).val % 1024, Nat.mod_lt _ (by norm_num)⟩ := by
    funext a; apply Fin.ext; fin_cases a
    · rfl
    · rfl
  rw [e]
  simp only [hp]
  rw [last m c 9 (by rw [← hp]; exact hN) (by omega)]
  unfold spec
  congr 1
  show (i 0).val % 32 = (i 0).val
  omega

end Cert.Kernel11Ideal.Out

end
-- ==== Proof.SampleFfnRef.lean ====
/- The reference program of the feed-forward part for one new position, read entry by entry. -/
module

public import Idealize.ShloMosaic.Lib.Pipeline.ValueKit
public import Idealize.ShloMosaic.Lib.Pointwise.Reduce
public import proofs.«01_k».proof.Proof.Gen.Reference11Ideal.Read
public import proofs.«01_k».proof.Proof.FfnMath

@[expose] public section

set_option maxRecDepth 16384

noncomputable section

open Idealize.ShloMosaic Idealize.ShloMosaic.TcCoe

namespace Cert.Reference11Ideal.Ref

open Cert.Reference11Ideal Cert.Reference11Ideal.Gen Cert.Reference11Ideal.Read Cert.Ffn

variable (x0 : (⟨S32x1x1024, .f32⟩ : BufTy).Contents (Elt Ideal)) (x1 x4 : (⟨S1024, .f32⟩ : BufTy).Contents (Elt Ideal))
  (x2 : (⟨S1024x5632, .f32⟩ : BufTy).Contents (Elt Ideal)) (x3 : (⟨S2816x1024, .f32⟩ : BufTy).Contents (Elt Ideal))

/-- The normalised input. -/
theorem normal (b : Fin 32) (d : Fin 1024) :
    val_main_v12 (F := Ideal) x0 x1 (ix3 b 0 d) = normed (fun e => x0 (ix3 b 0 e)) (x1 (ix1 d)) d := by
  unfold val_main_v12 val_main_v11 val_main_v10 val_main_v9 val_main_v8 val_main_v7 val_main_v6 val_main_v5 val_main_v4 val_main_v3
    val_main_v2 val_main_v1 val_main_v0 val_main_cst val_main_cst_0 val_main_cst_1
  pointwise
  rfl

/-- The product with the first weights. -/
theorem first (b : Fin 32) (k : Fin 5632) :
    val_main_v13 (F := Ideal) x0 x1 x2 (ix3 b 0 k)
      = ∑ d : Fin 1024, (normed (fun e => x0 (ix3 b 0 e)) (x1 (ix1 d)) d * x2 (ix2 d k) : EReal) := by
  rw [val_main_v13_apply]
  refine Finset.sum_congr rfl fun d _ => ?_
  rw [show lidx_main_v13 (ix3 b 0 k) d = ix3 b 0 d by blk_ext [lidx_main_v13], show ridx_main_v13 (ix3 b 0 k) d = ix2 d k by blk_ext [ridx_main_v13],
    normal]

/-- The gated columns. -/
theorem gate (b : Fin 32) (k : Fin 2816) :
    val_main_v17 (F := Ideal) x0 x1 x2 (ix3 b 0 k)
      = gated (val_main_v13 (F := Ideal) x0 x1 x2 (ix3 b 0 ⟨k.val, by omega⟩)) (val_main_v13 (F := Ideal) x0 x1 x2 (ix3 b 0 ⟨2816 + k.val, by omega⟩)) := by
  unfold val_main_v17 val_main_v16 val_main_call0_v5 val_main_call0_v4 val_main_call0_v3 val_main_call0_v2 val_main_call0_v1 val_main_call0_v0
    val_main_call0_cst val_main_call0_cst_0 val_main_v15 val_main_v14
  generalize val_main_v13 (F := Ideal) x0 x1 x2 = y
  pointwise
  rfl

/-- The product with the second weights. -/
theorem second (b : Fin 32) (j : Fin 1024) :
    val_main_v18 (F := Ideal) x0 x1 x2 x3 (ix3 b 0 j)
      = ∑ k : Fin 2816, (val_main_v17 (F := Ideal) x0 x1 x2 (ix3 b 0 k) * x3 (ix2 k j) : EReal) := by
  rw [val_main_v18_apply]
  refine Finset.sum_congr rfl fun k _ => ?_
  rw [show lidx_main_v18 (ix3 b 0 j) k = ix3 b 0 k by blk_ext [lidx_main_v18], show ridx_main_v18 (ix3 b 0 j) k = ix2 k j by blk_ext [ridx_main_v18]]

/-- The result, from the product with the second weights. -/
theorem final (b : Fin 32) (j : Fin 1024) :
    val_main_v32 (F := Ideal) x0 x1 x2 x3 x4 (ix3 b 0 j)
      = (x0 (ix3 b 0 j) + normed (fun e => val_main_v18 (F := Ideal) x0 x1 x2 x3 (ix3 b 0 e)) (x4 (ix1 j)) j : EReal) := by
  unfold val_main_v32 val_main_v31 val_main_v30 val_main_v29 val_main_v28 val_main_v27 val_main_v26 val_main_v25 val_main_v24 val_main_v23
    val_main_v22 val_main_v21 val_main_v20 val_main_v19 val_main_cst_2 val_main_cst_3 val_main_cst_4
  generalize val_main_v18 (F := Ideal) x0 x1 x2 x3 = y
  pointwise
  rfl

/-- The result's rows are the batches. -/
theorem rows (b : Fin 32) (j : Fin 1024) :
    val_main_v33 (F := Ideal) x0 x1 x2 x3 x4 (ix2 b j) = val_main_v32 (F := Ideal) x0 x1 x2 x3 x4 (ix3 b 0 j) := by
  rw [val_main_v33_apply]
  refine congrArg (val_main_v32 (F := Ideal) x0 x1 x2 x3 x4) ?_
  blk_ext [idx_main_v33]

end Cert.Reference11Ideal.Ref

end
-- ==== Proof.SampleFfnValue.lean ====
/- The two programs of the feed-forward part for one new position give one result array. -/
module

public import proofs.«01_k».proof.Proof.SampleFfnKernel
public import proofs.«01_k».proof.Proof.SampleFfnRef

@[expose] public section

set_option maxRecDepth 16384

noncomputable section

open Idealize.ShloMosaic Idealize.ShloMosaic.TcCoe

namespace Cert.Reference11Ideal.Ref

open Cert.Reference11Ideal Cert.Reference11Ideal.Gen Cert.Reference11Ideal.Read Cert.Ffn Cert.Kernel11Ideal.Blocks

variable (m : (ℓ : Loc Cert.Kernel11Ideal.nD Cert.Kernel11Ideal.τ Cert.Kernel11Ideal.sig) → Buf (Elt Ideal) ℓ) (c : Dev Cert.Kernel11Ideal.nD)

/-- The layer's input. -/
abbrev b0 : (⟨S32x1x1024, .f32⟩ : BufTy).Contents (Elt Ideal) := m (c.tc.loc Cert.Kernel11Ideal.main_arg0)
/-- The gain of the first normalisation. -/
abbrev b1 : (⟨S1024, .f32⟩ : BufTy).Contents (Elt Ideal) := m (c.tc.loc Cert.Kernel11Ideal.main_arg1)
/-- The first weights. -/
abbrev b2 : (⟨S1024x5632, .f32⟩ : BufTy).Contents (Elt Ideal) := m (c.tc.loc Cert.Kernel11Ideal.main_arg2)
/-- The second weights. -/
abbrev b3 : (⟨S2816x1024, .f32⟩ : BufTy).Contents (Elt Ideal) := m (c.tc.loc Cert.Kernel11Ideal.main_arg3)
/-- The gain of the second normalisation. -/
abbrev b4 : (⟨S1024, .f32⟩ : BufTy).Contents (Elt Ideal) := m (c.tc.loc Cert.Kernel11Ideal.main_arg4)

theorem input (b : Fin 32) (d : Fin 1024) : b0 m c (ix3 b 0 d) = argX m c (b.val) d.val := by
  unfold argX
  refine congrArg (b0 m c) ?_
  blk_ext []

theorem gain1 (d : Fin 1024) : b1 m c (ix1 d) = argG m c d.val := by
  unfold argG
  refine congrArg (b1 m c) ?_
  blk_ext []

theorem weight1 (d : Fin 1024) (k : Fin 5632) : b2 m c (ix2 d k) = argW m c d.val k.val := by
  unfold argW
  refine congrArg (b2 m c) ?_
  blk_ext []

theorem weight2 (k : Fin 2816) (j : Fin 1024) : b3 m c (ix2 k j) = argO m c k.val j.val := by
  unfold argO
  refine congrArg (b3 m c) ?_
  blk_ext []

theorem gain2 (d : Fin 1024) : b4 m c (ix1 d) = argH m c d.val := by
  unfold argH
  refine congrArg (b4 m c) ?_
  blk_ext []

theorem columns (b : Fin 32) (k : Fin 5632) :
    val_main_v13 (F := Ideal) (b0 m c) (b1 m c) (b2 m c) (ix3 b 0 k) = column (argX m c) (argG m c) (argW m c) (b.val) k.val := by
  rw [first]
  unfold column Cert.Ffn.hidden
  refine Finset.sum_congr rfl fun d _ => ?_
  rw [weight1]
  exact congrArg (fun a : EReal => a * argW m c d.val k.val) (normed_congr _ _ _ _ _ (fun e => input m c b e) (gain1 m c d))

theorem products (b : Fin 32) (j : Fin 1024) :
    val_main_v18 (F := Ideal) (b0 m c) (b1 m c) (b2 m c) (b3 m c) (ix3 b 0 j)
      = part (argX m c) (argG m c) (argW m c) (argO m c) (b.val) j.val 2816 := by
  rw [second, part_all]
  refine Finset.sum_congr rfl fun k _ => ?_
  rw [gate, columns, columns, weight2]
  rfl

/-- The result arrays of the two programs are one. -/
theorem value : val_main_v33 (F := Ideal) (b0 m c) (b1 m c) (b2 m c) (b3 m c) (b4 m c) = Cert.Kernel11Ideal.Out.spec m c := by
  funext i
  obtain ⟨b, j, rfl⟩ : ∃ (b : Fin 32) (j : Fin 1024), i = ix2 b j := ⟨_, _, eq_ix2 i⟩
  rw [rows, final]
  have e : Cert.Kernel11Ideal.Out.spec m c (ix2 b j) = result (argX m c) (argG m c) (argW m c) (argO m c) (argH m c) b.val j := by
    unfold Cert.Kernel11Ideal.Out.spec
    congr 1
    apply Fin.ext
    show j.val % 1024 = j.val
    omega
  rw [e]
  unfold result
  refine congrArg₂ (fun a b : EReal => a + b) ?_ (normed_congr _ _ _ _ _ (fun x => ?_) (gain2 m c _))
  · rw [input]
  · rw [products]

end Cert.Reference11Ideal.Ref

end
-- ==== Proof.LogSigmoid.lean ====
/- The logarithm of the sigmoid in two forms: the kernel's, and that of the softplus function at the negated argument. -/
module

public import Idealize.ShloMosaic.Lib.Pipeline.ValueKit
public import Idealize.ShloMosaic.Lib.Pointwise.Reduce

@[expose] public section

set_option maxRecDepth 16384

noncomputable section

open Idealize.ShloMosaic Idealize.ShloMosaic.TcCoe

namespace Cert.LogSigmoid

/-- The logarithm of the sigmoid of `x`. -/
def keep (x : EReal) : EReal := min x 0 - Ideal.log (1 + Ideal.exp (-(max x (-x))))

theorem log_real (x : EReal) : ∃ r : ℝ, Ideal.log (1 + Ideal.exp (-(max x (-x)))) = (r : EReal) := by
  have key : ∀ s : ℝ, 0 ≤ s → Ideal.log (1 + (s : EReal)) = ((Real.log (1 + s) : ℝ) : EReal) := by
    intro s hs
    have e : (1 : EReal) + (s : EReal) = ((1 + s : ℝ) : EReal) := by push_cast; rfl
    rw [e]
    show (if 1 + s ≤ 0 then (⊥ : EReal) else ((Real.log (1 + s) : ℝ) : EReal)) = _
    rw [if_neg (by linarith)]
  induction x using EReal.rec with
  | bot =>
    refine ⟨Real.log (1 + 0), ?_⟩
    rw [EReal.neg_bot, max_eq_right le_top, EReal.neg_top]
    exact key 0 le_rfl
  | top =>
    refine ⟨Real.log (1 + 0), ?_⟩
    rw [EReal.neg_top, max_eq_left bot_le, EReal.neg_top]
    exact key 0 le_rfl
  | coe r =>
    have e : max (r : EReal) (-(r : EReal)) = ((max r (-r) : ℝ) : EReal) := by
      rw [← EReal.coe_neg]
      exact (EReal.coe_strictMono.monotone.map_max).symm
    refine ⟨Real.log (1 + Real.exp (-(max r (-r)))), ?_⟩
    rw [e, ← EReal.coe_neg]
    exact key (Real.exp (-(max r (-r)))) (Real.exp_pos _).le

theorem neg_max_neg (x : EReal) : -(max (-x) 0) = min x 0 := by
  rcases le_total x 0 with h | h
  · rw [min_eq_left h, max_eq_left (by rw [EReal.le_neg, neg_zero]; exact h), neg_neg]
  · rw [min_eq_right h, max_eq_right (by rw [EReal.neg_le, neg_zero]; exact h), neg_zero]

/-- Minus the softplus function of `-x`. -/
theorem neg_softplus (x : EReal) : -(max (-x) 0 + Ideal.log (1 + Ideal.exp (-(max (-x) (- -x))))) = keep x := by
  unfold keep
  rw [neg_neg, max_comm (-x) x]
  obtain ⟨r, h⟩ := log_real x
  rw [h, EReal.neg_add (Or.inr (EReal.coe_ne_top r)) (Or.inr (EReal.coe_ne_bot r)), neg_max_neg]

end Cert.LogSigmoid

end
-- ==== Proof.ForgetLog.lean ====
/- The logarithms of the even layer's forget gates: the grid's blocks, the array that it fills, and the result. -/
module

public import Idealize.ShloMosaic.Lib.Pipeline.ValueKit
public import Idealize.ShloMosaic.Lib.Pointwise.Reduce
public import Idealize.ShloMosaic.Lib.Pipeline.ReadBack
public import Idealize.ShloMosaic.Lib.Pipeline.Value
public import Idealize.ShloMosaic.Lib.Claim
public import Idealize.ShloMosaic.Lib.StableHlo.RunRead
public import proofs.«01_k».proof.Proof.Gen.Kernel12Ideal.Frame
public import proofs.«01_k».proof.Proof.LogSigmoid

@[expose] public section

set_option maxRecDepth 16384

noncomputable section

open Idealize.ShloMosaic Idealize.ShloMosaic.TcCoe

namespace Cert.Kernel12Ideal.Out

open Cert.Kernel12Ideal Cert.Kernel12Ideal.Gen Cert.LogSigmoid

theorem pay6_apply (v3 : Vec Ideal S1x256x128 .f32) (v5 : Vec Ideal S1x128 .f32) (r : Fin 256) (h : Fin 128) :
    k0_pay6 v3 v5 (ix3 0 r h) = keep (v3 (ix3 0 r h) + v5 (ix2 0 h) : EReal) := by
  unfold k0_pay6 k0_pay5
  pointwise
  unfold keep
  simp only [zero_sub]
  rfl

variable (m : (ℓ : Loc nD τ sig) → Buf (Elt Ideal) ℓ)

theorem idx0 : ∀ t : Fin cfg0.N, win0_0.index t = ![t.val / 8, t.val % 8, 8] := by decide +kernel
theorem idx1 : ∀ t : Fin cfg0.N, win0_1.index t = ![0, 0] := by decide +kernel
theorem idx3 : ∀ t : Fin cfg0.N, win0_3.index t = ![t.val / 8, t.val % 8, 0] := by decide +kernel

/-- The forget gate's entry for head `h` in row `r` of the projections. -/
def argF (c : Dev nD) (r h : ℕ) : EReal :=
  m (c.tc.loc main_arg0) (ix3 ⟨r / 2048 % 8, Nat.mod_lt _ (by norm_num)⟩ ⟨r % 2048, Nat.mod_lt _ (by norm_num)⟩
    ⟨(1024 + h) % 1152, Nat.mod_lt _ (by norm_num)⟩)
/-- The forget gate's bias for head `h`. -/
def argB (c : Dev nD) (h : ℕ) : EReal := m (c.tc.loc main_arg1) (ix1 ⟨h % 8, Nat.mod_lt _ (by norm_num)⟩)

/-- The biases that the grid reads: one for each of the 128 lanes of a block. -/
def bias (c : Dev nD) : Vec Ideal S1x128 .f32 := V m c main_v1

/-- The first eight are the heads' biases. -/
theorem bias_head (c : Dev nD) (h : Fin 8) : bias m c (ix2 0 ⟨h.val, by omega⟩) = argB m c h.val := by
  have hh := h.isLt
  show V m c main_v1 (ix2 0 ⟨h.val, by omega⟩) = _
  rw [V, V0, argB]
  simp only [hostOps0, hostOps0_1, hostOps0_2, hostOps0_3, hostOps0_4]
  after_reads_simp
  pointwise
  change pad S128 ![0] ![120] ![0] (m (c.tc.loc main_arg1)) (sitofp (F := Ideal) .f32 (constantI S_ 32 0#32)) pads_S8_S128_01200 h_S_ (ix1 ⟨h.val, by omega⟩) = _
  pointwise
  refine (dif_pos ?_).trans ?_
  · intro a
    match a with
    | ⟨0, _⟩ => exact hh
  · blk_ext []

theorem lt_n (t : Fin cfg0.N) : t.val < 64 := t.isLt

theorem blk0 (c : Dev nD) (t : Fin cfg0.N) (r : Fin 256) (h : Fin 128) :
    iblk m c 0 t (ix3 0 r h) = argF m c (256 * t.val + r.val) h.val := by
  have ht := lt_n t
  have e : iblk m c 0 t (ix3 0 r h) = V m c main_arg0 (ix3 ⟨t.val / 8, by omega⟩ ⟨256 * (t.val % 8) + r.val, by omega⟩ ⟨1024 + h.val, by omega⟩) := by
    blk_ext [iblk, idx0 t]
  rw [e, V_main_arg0, argF]
  blk_ext []

theorem blk1 (c : Dev nD) (t : Fin cfg0.N) (h : Fin 128) : iblk m c 1 t (ix2 0 h) = bias m c (ix2 0 h) := by
  unfold bias
  blk_ext [iblk, idx1 t]

/-- Row `r` of the array that the grid fills, lane `h`. -/
def fill (c : Dev nD) (r : ℕ) (h : Fin 128) : EReal := keep (argF m c r h.val + bias m c (ix2 0 h))

theorem written (c : Dev nD) (t : Fin cfg0.N) (r : Fin 256) (h : Fin 128) :
    k0_pay6 (iblk m c 0 t) (iblk m c 1 t) (ix3 0 r h) = fill m c (256 * t.val + r.val) h := by
  rw [pay6_apply, blk0, blk1]
  rfl

/-- A grid point's block of the array. -/
theorem point (c : Dev nD) (t : Fin cfg0.N) (r : Fin 256) (h : Fin 128) :
    (outsAt0 m c t.val t.isLt).1 (ix3 0 r h) = fill m c (256 * t.val + r.val) h := by
  by_cases h0 : t.val % 8 = 0
  · rw [outsAt0_A m c t h0]; dsimp only; frame_out; exact written m c t r h
  · rw [outsAt0_B m c t h0]; dsimp only; frame_out; exact written m c t r h

/-- The array that the grid fills. -/
def arr (c : Dev nD) : Vec Ideal S8x2048x128 .f32 := fun i => fill m c (2048 * (i 0).val + (i 1).val) (i 2)

theorem flushed (c : Dev nD) (t : Fin cfg0.N) :
    (dats m 0 c).flushed 3 t = ((cfg0.win 3).blk t).view.read (Elt Ideal) (arr m c) := by
  show (cfg0.win 3).cut (grid0.coords t) ((dats m 0 c).after 3 t) = _
  rw [after0_3]
  funext y
  have hy0 : (y 0).val < 1 := (y 0).isLt
  have hy1 : (y 1).val < 256 := (y 1).isLt
  have hy2 : (y 2).val < 128 := (y 2).isLt
  have hb0 : (((cfg0.win 3).blk t).view.emb y 0).val = win0_3.index t (0 : Fin 3) * 1 + 1 * (y 0).val := rfl
  have hb1 : (((cfg0.win 3).blk t).view.emb y 1).val = win0_3.index t (1 : Fin 3) * 256 + 1 * (y 1).val := rfl
  have hb2 : (((cfg0.win 3).blk t).view.emb y 2).val = win0_3.index t (2 : Fin 3) * 128 + 1 * (y 2).val := rfl
  have e0 : win0_3.index t (0 : Fin 3) = t.val / 8 := congrFun (idx3 t) 0
  have e1 : win0_3.index t (1 : Fin 3) = t.val % 8 := congrFun (idx3 t) 1
  have e2 : win0_3.index t (2 : Fin 3) = 0 := congrFun (idx3 t) 2
  have e : (cfg0.win 3).xinj (grid0.coords t) y = ix3 0 ⟨(y 1).val, hy1⟩ ⟨(y 2).val, hy2⟩ := by
    funext a; apply Fin.ext
    match a with
    | ⟨0, _⟩ => show (y 0).val = 0; omega
    | ⟨1, _⟩ => rfl
    | ⟨2, _⟩ => rfl
  have e' : ((cfg0.win 3).blk t).view.emb y 2 = (⟨(y 2).val, hy2⟩ : Fin 128) := Fin.ext (by rw [hb2, e2]; show 0 * 128 + 1 * (y 2).val = (y 2).val; omega)
  show (outsAt0 m c t.val t.isLt).1 ((cfg0.win 3).xinj (grid0.coords t) y) = arr m c (((cfg0.win 3).blk t).view.emb y)
  rw [e, point]
  unfold arr
  rw [e', hb0, hb1, e0, e1]
  dsimp only
  rw [show 2048 * (t.val / 8 * 1 + 1 * (y 0).val) + (t.val % 8 * 256 + 1 * (y 1).val) = 256 * t.val + (y 1).val by omega]

theorem mem_blk (t : Fin cfg0.N) (i : S8x2048x128.Idx) :
    i ∈ ((cfg0.win 3).blk t).view.set ↔ ∀ a : Fin 3, win0_3.index t a * S1x256x128.size a ≤ (i a).val ∧ (i a).val < win0_3.index t a * S1x256x128.size a + S1x256x128.size a := by
  show i ∈ ((View.whole main_v5_0).slice (win0_3.rect t)).set ↔ _
  rw [View.set_slice_whole, Rect.mem_set_unit]
  exact Iff.rfl

theorem flushes : ∀ t : Fin cfg0.N, (cfg0.win 3).flush t = true := (by decide +kernel : ∀ t : Fin grid0.N, win0_3.flush t = true)

theorem final (c : Dev nD) : (dats m 0 c).arrAt 3 cfg0.N = arr m c :=
  (dats m 0 c).arrAt_eq_of_cover 3 _ (fun t _ => flushed m c t) (fun i => by
    have h0 : (i 0).val < 8 := (i 0).isLt
    have h1 : (i 1).val < 2048 := (i 1).isLt
    have h2 : (i 2).val < 128 := (i 2).isLt
    let t : Fin cfg0.N := ⟨8 * (i 0).val + (i 1).val / 256, by show _ < 64; omega⟩
    have ht : t.val = 8 * (i 0).val + (i 1).val / 256 := rfl
    refine ⟨t, flushes t, ?_⟩
    rw [mem_blk]
    have e0 : win0_3.index t (0 : Fin 3) = t.val / 8 := congrFun (idx3 t) 0
    have e1 : win0_3.index t (1 : Fin 3) = t.val % 8 := congrFun (idx3 t) 1
    have e2 : win0_3.index t (2 : Fin 3) = 0 := congrFun (idx3 t) 2
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 256 ≤ (i 1).val ∧ (i 1).val < win0_3.index t (1 : Fin 3) * 256 + 256; omega
    | ⟨2, _⟩ => show win0_3.index t (2 : Fin 3) * 128 ≤ (i 2).val ∧ (i 2).val < win0_3.index t (2 : Fin 3) * 128 + 128; omega)

/-- The result's entry for head `h` in row `r`. -/
def entry (c : Dev nD) (r h : ℕ) : EReal := keep (argF m c r h + argB m c h)

/-- The result array. -/
def spec (c : Dev nD) : Vec Ideal S8x2048x8 .f32 := fun i => entry m c (2048 * (i 0).val + (i 1).val) (i 2).val

theorem inj : Function.Injective (Pipeline.arrRef spec0) := by decide

/-- What the operations after the grid leave in the result. -/
theorem tail (c : Dev nD) : Pipeline.afterTail₀ cfgs (dats m) 0 (V0 m) [hostOps1] c main_v6 = spec m c := by
  have hw := (Pipeline.withArrays_arr spec0 inj c (V0 m c) (fun w => (dats m 0 c).arrAt w cfg0.N) 3).trans (final m c)
  unfold Pipeline.afterTail₀
  simp only [hostOps1]
  after_reads_simp
  funext i
  obtain ⟨b, t, h, rfl⟩ : ∃ (b : Fin 8) (t : Fin 2048) (h : Fin 8), i = ix3 b t h := ⟨_, _, _, eq_ix3 i⟩
  pointwise
  refine (congrFun hw _).trans ?_
  refine Eq.trans (show _ = fill m c (2048 * b.val + t.val) ⟨h.val, by omega⟩ from ?_) ?_
  · unfold arr
    congr 1
  · unfold fill
    rw [bias_head]
    rfl

theorem run (ρ : Dev nD → PrngReg) : θ_run defs (onTc (τ := τ) (main (F := Ideal))) ⟨m, fun _ => 0, ρ⟩ fun r => ∀ c : Dev nD,
      r.2.mem ((c.tc : Thread nD τ).loc main_v6) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h.1 c).2 main_v6 (Pipeline.mem_restRefs_of main_v6 (by decide) (by decide))).trans (tail m c), h.2 c⟩)
    (θ_run_and (run_main m ρ) (unchanged m ρ))

end Cert.Kernel12Ideal.Out

end
-- ==== Proof.ForgetLogRef.lean ====
/- The reference program of the forget gates' logarithms, read entry by entry; the two programs give one result array. -/
module

public import Idealize.ShloMosaic.Lib.Pipeline.ValueKit
public import Idealize.ShloMosaic.Lib.Pointwise.Reduce
public import Idealize.ShloMosaic.Lib.Claim
public import proofs.«01_k».proof.Proof.Gen.Reference12Ideal.Read
public import proofs.«01_k».proof.Proof.LogSigmoid
public import proofs.«01_k».proof.Proof.ForgetLog

@[expose] public section

set_option maxRecDepth 16384

noncomputable section

open Idealize.ShloMosaic Idealize.ShloMosaic.TcCoe

namespace Cert.Reference12Ideal.Ref

open Cert.Reference12Ideal Cert.Reference12Ideal.Gen Cert.Reference12Ideal.Read Cert.LogSigmoid

/-- An entry of the reference's result. -/
theorem entry (x0 : (⟨S8x2048x1152, .f32⟩ : BufTy).Contents (Elt Ideal)) (x1 : (⟨S8, .f32⟩ : BufTy).Contents (Elt Ideal)) (b : Fin 8) (t : Fin 2048) (h : Fin 8) :
    val_main_v4 (F := Ideal) x0 x1 (ix3 b t h) = keep (x0 (ix3 b t ⟨1024 + h.val, by omega⟩) + x1 (ix1 h) : EReal) := by
  rw [← neg_softplus]
  unfold val_main_v4 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0
    val_main_call0_call0_cst val_main_call0_v0 val_main_v3 val_main_v2 val_main_v1 val_main_v0
  pointwise
  simp
  show max (-(x0 (ix3 b t ⟨1024 + h.val, by omega⟩) + x1 (ix1 h) : EReal)) 0 + Ideal.log (1 + Ideal.exp (-(max (-(x0 (ix3 b t ⟨1024 + h.val, by omega⟩) + x1 (ix1 h) : EReal)) (- -(x0 (ix3 b t ⟨1024 + h.val, by omega⟩) + x1 (ix1 h) : EReal))))) = _
  rw [neg_neg]

variable (m : (ℓ : Loc Cert.Kernel12Ideal.nD Cert.Kernel12Ideal.τ Cert.Kernel12Ideal.sig) → Buf (Elt Ideal) ℓ) (c : Dev Cert.Kernel12Ideal.nD)

/-- The projections. -/
abbrev b0 : (⟨S8x2048x1152, .f32⟩ : BufTy).Contents (Elt Ideal) := m (c.tc.loc Cert.Kernel12Ideal.main_arg0)
/-- The forget gate's biases. -/
abbrev b1 : (⟨S8, .f32⟩ : BufTy).Contents (Elt Ideal) := m (c.tc.loc Cert.Kernel12Ideal.main_arg1)

theorem gate (b : Fin 8) (t : Fin 2048) (h : Fin 8) : b0 m c (ix3 b t ⟨1024 + h.val, by omega⟩) = Cert.Kernel12Ideal.Out.argF m c (2048 * b.val + t.val) h.val := by
  unfold Cert.Kernel12Ideal.Out.argF
  refine congrArg (b0 m c) ?_
  blk_ext []

theorem bias (h : Fin 8) : b1 m c (ix1 h) = Cert.Kernel12Ideal.Out.argB m c h.val := by
  unfold Cert.Kernel12Ideal.Out.argB
  refine congrArg (b1 m c) ?_
  blk_ext []

/-- The result arrays of the two programs are one. -/
theorem value : val_main_v4 (F := Ideal) (b0 m c) (b1 m c) = Cert.Kernel12Ideal.Out.spec m c := by
  funext i
  obtain ⟨b, t, h, rfl⟩ : ∃ (b : Fin 8) (t : Fin 2048) (h : Fin 8), i = ix3 b t h := ⟨_, _, _, eq_ix3 i⟩
  rw [entry, gate, bias]
  rfl

end Cert.Reference12Ideal.Ref

end
-- ==== Proof.ForgetLogSample.lean ====
/- The logarithms of the even layer's forget gates at one new position: the grid's block, and the result. -/
module

public import Idealize.ShloMosaic.Lib.Pipeline.ValueKit
public import Idealize.ShloMosaic.Lib.Pointwise.Reduce
public import Idealize.ShloMosaic.Lib.Pipeline.ReadBack
public import Idealize.ShloMosaic.Lib.Pipeline.Value
public import Idealize.ShloMosaic.Lib.Claim
public import Idealize.ShloMosaic.Lib.StableHlo.RunRead
public import proofs.«01_k».proof.Proof.Gen.Kernel13Ideal.Frame
public import proofs.«01_k».proof.Proof.LogSigmoid

@[expose] public section

set_option maxRecDepth 16384

noncomputable section

open Idealize.ShloMosaic Idealize.ShloMosaic.TcCoe

namespace Cert.Kernel13Ideal.Out

open Cert.Kernel13Ideal Cert.Kernel13Ideal.Gen Cert.LogSigmoid

theorem pay6_apply (v3 : Vec Ideal S1x32x128 .f32) (v5 : Vec Ideal S1x128 .f32) (r : Fin 32) (h : Fin 128) :
    k0_pay6 v3 v5 (ix3 0 r h) = keep (v3 (ix3 0 r h) + v5 (ix2 0 h) : EReal) := by
  unfold k0_pay6 k0_pay5
  pointwise
  unfold keep
  simp only [zero_sub]
  rfl

variable (m : (ℓ : Loc nD τ sig) → Buf (Elt Ideal) ℓ)

theorem idx0 : ∀ t : Fin cfg0.N, win0_0.index t = ![0, 0, 8] := by decide +kernel
theorem idx1 : ∀ t : Fin cfg0.N, win0_1.index t = ![0, 0] := by decide +kernel
theorem idx3 : ∀ t : Fin cfg0.N, win0_3.index t = ![0, 0, 0] := by decide +kernel

/-- The forget gate's entry for head `h` in row `r` of the projections. -/
def argF (c : Dev nD) (r h : ℕ) : EReal :=
  m (c.tc.loc main_arg0) (ix2 ⟨r % 32, Nat.mod_lt _ (by norm_num)⟩
    ⟨(1024 + h) % 1152, Nat.mod_lt _ (by norm_num)⟩)
/-- The forget gate's bias for head `h`. -/
def argB (c : Dev nD) (h : ℕ) : EReal := m (c.tc.loc main_arg1) (ix1 ⟨h % 8, Nat.mod_lt _ (by norm_num)⟩)

/-- The biases that the grid reads: one for each of the 128 lanes of a block. -/
def bias (c : Dev nD) : Vec Ideal S1x128 .f32 := V m c main_v1

/-- The first eight are the heads' biases. -/
theorem bias_head (c : Dev nD) (h : Fin 8) : bias m c (ix2 0 ⟨h.val, by omega⟩) = argB m c h.val := by
  have hh := h.isLt
  show V m c main_v1 (ix2 0 ⟨h.val, by omega⟩) = _
  rw [V, V0, argB]
  simp only [hostOps0, hostOps0_1, hostOps0_2, hostOps0_3, hostOps0_4]
  after_reads_simp
  pointwise
  change pad S128 ![0] ![120] ![0] (m (c.tc.loc main_arg1)) (sitofp (F := Ideal) .f32 (constantI S_ 32 0#32)) pads_S8_S128_01200 h_S_ (ix1 ⟨h.val, by omega⟩) = _
  pointwise
  refine (dif_pos ?_).trans ?_
  · intro a
    match a with
    | ⟨0, _⟩ => exact hh
  · blk_ext []

theorem lt_n (t : Fin cfg0.N) : t.val < 1 := t.isLt

theorem blk0 (c : Dev nD) (t : Fin cfg0.N) (r : Fin 32) (h : Fin 128) :
    iblk m c 0 t (ix3 0 r h) = argF m c (r.val) h.val := by
  have ht := lt_n t
  have e : iblk m c 0 t (ix3 0 r h) = V m c main_v2 (ix3 0 r ⟨1024 + h.val, by omega⟩) := by
    blk_ext [iblk, idx0 t]
  rw [e, V, V0, argF]
  simp only [hostOps0, hostOps0_1, hostOps0_2, hostOps0_3, hostOps0_4]
  after_reads_simp
  pointwise
  blk_ext []

theorem blk1 (c : Dev nD) (t : Fin cfg0.N) (h : Fin 128) : iblk m c 1 t (ix2 0 h) = bias m c (ix2 0 h) := by
  unfold bias
  blk_ext [iblk, idx1 t]

/-- Row `r` of the array that the grid fills, lane `h`. -/
def fill (c : Dev nD) (r : ℕ) (h : Fin 128) : EReal := keep (argF m c r h.val + bias m c (ix2 0 h))

theorem written (c : Dev nD) (t : Fin cfg0.N) (r : Fin 32) (h : Fin 128) :
    k0_pay6 (iblk m c 0 t) (iblk m c 1 t) (ix3 0 r h) = fill m c (r.val) h := by
  rw [pay6_apply, blk0, blk1]
  rfl

/-- A grid point's block of the array. -/
theorem point (c : Dev nD) (t : Fin cfg0.N) (r : Fin 32) (h : Fin 128) :
    (outsAt0 m c t).1 (ix3 0 r h) = fill m c (r.val) h := by
  unfold outsAt0
  dsimp only
  frame_out
  exact written m c t r h

/-- The array that the grid fills. -/
def arr (c : Dev nD) : Vec Ideal S1x32x128 .f32 := fun i => fill m c ((i 1).val) (i 2)

theorem flushed (c : Dev nD) (t : Fin cfg0.N) :
    (dats m 0 c).flushed 3 t = ((cfg0.win 3).blk t).view.read (Elt Ideal) (arr m c) := by
  show (cfg0.win 3).cut (grid0.coords t) ((dats m 0 c).after 3 t) = _
  rw [after0_3]
  funext y
  have hy0 : (y 0).val < 1 := (y 0).isLt
  have hy1 : (y 1).val < 32 := (y 1).isLt
  have hy2 : (y 2).val < 128 := (y 2).isLt
  have hb0 : (((cfg0.win 3).blk t).view.emb y 0).val = win0_3.index t (0 : Fin 3) * 1 + 1 * (y 0).val := rfl
  have hb1 : (((cfg0.win 3).blk t).view.emb y 1).val = win0_3.index t (1 : Fin 3) * 32 + 1 * (y 1).val := rfl
  have hb2 : (((cfg0.win 3).blk t).view.emb y 2).val = win0_3.index t (2 : Fin 3) * 128 + 1 * (y 2).val := rfl
  have e0 : win0_3.index t (0 : Fin 3) = 0 := congrFun (idx3 t) 0
  have e1 : win0_3.index t (1 : Fin 3) = 0 := congrFun (idx3 t) 1
  have e2 : win0_3.index t (2 : Fin 3) = 0 := congrFun (idx3 t) 2
  have e : (cfg0.win 3).xinj (grid0.coords t) y = ix3 0 ⟨(y 1).val, hy1⟩ ⟨(y 2).val, hy2⟩ := by
    funext a; apply Fin.ext
    match a with
    | ⟨0, _⟩ => show (y 0).val = 0; omega
    | ⟨1, _⟩ => rfl
    | ⟨2, _⟩ => rfl
  have e' : ((cfg0.win 3).blk t).view.emb y 2 = (⟨(y 2).val, hy2⟩ : Fin 128) := Fin.ext (by rw [hb2, e2]; show 0 * 128 + 1 * (y 2).val = (y 2).val; omega)
  show (outsAt0 m c t).1 ((cfg0.win 3).xinj (grid0.coords t) y) = arr m c (((cfg0.win 3).blk t).view.emb y)
  rw [e, point]
  unfold arr
  rw [e', hb1, e1]
  dsimp only
  rw [show 0 * 32 + 1 * (y 1).val = (y 1).val by omega]

theorem mem_blk (t : Fin cfg0.N) (i : S1x32x128.Idx) :
    i ∈ ((cfg0.win 3).blk t).view.set ↔ ∀ a : Fin 3, win0_3.index t a * S1x32x128.size a ≤ (i a).val ∧ (i a).val < win0_3.index t a * S1x32x128.size a + S1x32x128.size a := by
  show i ∈ ((View.whole main_v6_0).slice (win0_3.rect t)).set ↔ _
  rw [View.set_slice_whole, Rect.mem_set_unit]
  exact Iff.rfl

theorem flushes : ∀ t : Fin cfg0.N, (cfg0.win 3).flush t = true := (by decide +kernel : ∀ t : Fin grid0.N, win0_3.flush t = true)

theorem final (c : Dev nD) : (dats m 0 c).arrAt 3 cfg0.N = arr m c :=
  (dats m 0 c).arrAt_eq_of_cover 3 _ (fun t _ => flushed m c t) (fun i => by
    have h0 : (i 0).val < 1 := (i 0).isLt
    have h1 : (i 1).val < 32 := (i 1).isLt
    have h2 : (i 2).val < 128 := (i 2).isLt
    let t : Fin cfg0.N := ⟨0, by show _ < 1; omega⟩
    have ht : t.val = 0 := rfl
    refine ⟨t, flushes t, ?_⟩
    rw [mem_blk]
    have e0 : win0_3.index t (0 : Fin 3) = 0 := congrFun (idx3 t) 0
    have e1 : win0_3.index t (1 : Fin 3) = 0 := congrFun (idx3 t) 1
    have e2 : win0_3.index t (2 : Fin 3) = 0 := congrFun (idx3 t) 2
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 32 ≤ (i 1).val ∧ (i 1).val < win0_3.index t (1 : Fin 3) * 32 + 32; omega
    | ⟨2, _⟩ => show win0_3.index t (2 : Fin 3) * 128 ≤ (i 2).val ∧ (i 2).val < win0_3.index t (2 : Fin 3) * 128 + 128; omega)

/-- The result's entry for head `h` in row `r`. -/
def entry (c : Dev nD) (r h : ℕ) : EReal := keep (argF m c r h + argB m c h)

/-- The result array. -/
def spec (c : Dev nD) : Vec Ideal S32x8 .f32 := fun i => entry m c ((i 0).val) (i 1).val

theorem inj : Function.Injective (Pipeline.arrRef spec0) := by decide

/-- What the operations after the grid leave in the result. -/
theorem tail (c : Dev nD) : Pipeline.afterTail₀ cfgs (dats m) 0 (V0 m) [hostOps1] c main_v8 = spec m c := by
  have hw := (Pipeline.withArrays_arr spec0 inj c (V0 m c) (fun w => (dats m 0 c).arrAt w cfg0.N) 3).trans (final m c)
  unfold Pipeline.afterTail₀
  simp only [hostOps1]
  after_reads_simp
  funext i
  obtain ⟨t, h, rfl⟩ : ∃ (t : Fin 32) (h : Fin 8), i = ix2 t h := ⟨_, _, eq_ix2 i⟩
  pointwise
  refine (congrFun hw _).trans ?_
  refine Eq.trans (show _ = fill m c t.val ⟨h.val, by omega⟩ from ?_) ?_
  · unfold arr
    congr 1
  · unfold fill
    rw [bias_head]
    rfl

theorem run (ρ : Dev nD → PrngReg) : θ_run defs (onTc (τ := τ) (main (F := Ideal))) ⟨m, fun _ => 0, ρ⟩ fun r => ∀ c : Dev nD,
      r.2.mem ((c.tc : Thread nD τ).loc main_v8) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h.1 c).2 main_v8 (Pipeline.mem_restRefs_of main_v8 (by decide) (by decide))).trans (tail m c), h.2 c⟩)
    (θ_run_and (run_main m ρ) (unchanged m ρ))

end Cert.Kernel13Ideal.Out

end
-- ==== Proof.ForgetLogSampleRef.lean ====
/- The reference program of the forget gates' logarithms, read entry by entry; the two programs give one result array. -/
module

public import Idealize.ShloMosaic.Lib.Pipeline.ValueKit
public import Idealize.ShloMosaic.Lib.Pointwise.Reduce
public import Idealize.ShloMosaic.Lib.Claim
public import proofs.«01_k».proof.Proof.Gen.Reference13Ideal.Read
public import proofs.«01_k».proof.Proof.LogSigmoid
public import proofs.«01_k».proof.Proof.ForgetLogSample

@[expose] public section

set_option maxRecDepth 16384

noncomputable section

open Idealize.ShloMosaic Idealize.ShloMosaic.TcCoe

namespace Cert.Reference13Ideal.Ref

open Cert.Reference13Ideal Cert.Reference13Ideal.Gen Cert.Reference13Ideal.Read Cert.LogSigmoid

/-- An entry of the reference's result. -/
theorem entry (x0 : (⟨S32x1152, .f32⟩ : BufTy).Contents (Elt Ideal)) (x1 : (⟨S8, .f32⟩ : BufTy).Contents (Elt Ideal)) (t : Fin 32) (h : Fin 8) :
    val_main_v4 (F := Ideal) x0 x1 (ix2 t h) = keep (x0 (ix2 t ⟨1024 + h.val, by omega⟩) + x1 (ix1 h) : EReal) := by
  rw [← neg_softplus]
  unfold val_main_v4 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0
    val_main_call0_call0_cst val_main_call0_v0 val_main_v3 val_main_v2 val_main_v1 val_main_v0
  pointwise
  simp
  show max (-(x0 (ix2 t ⟨1024 + h.val, by omega⟩) + x1 (ix1 h) : EReal)) 0 + Ideal.log (1 + Ideal.exp (-(max (-(x0 (ix2 t ⟨1024 + h.val, by omega⟩) + x1 (ix1 h) : EReal)) (- -(x0 (ix2 t ⟨1024 + h.val, by omega⟩) + x1 (ix1 h) : EReal))))) = _
  rw [neg_neg]

variable (m : (ℓ : Loc Cert.Kernel13Ideal.nD Cert.Kernel13Ideal.τ Cert.Kernel13Ideal.sig) → Buf (Elt Ideal) ℓ) (c : Dev Cert.Kernel13Ideal.nD)

/-- The projections. -/
abbrev b0 : (⟨S32x1152, .f32⟩ : BufTy).Contents (Elt Ideal) := m (c.tc.loc Cert.Kernel13Ideal.main_arg0)
/-- The forget gate's biases. -/
abbrev b1 : (⟨S8, .f32⟩ : BufTy).Contents (Elt Ideal) := m (c.tc.loc Cert.Kernel13Ideal.main_arg1)

theorem gate (t : Fin 32) (h : Fin 8) : b0 m c (ix2 t ⟨1024 + h.val, by omega⟩) = Cert.Kernel13Ideal.Out.argF m c t.val h.val := by
  unfold Cert.Kernel13Ideal.Out.argF
  refine congrArg (b0 m c) ?_
  blk_ext []

theorem bias (h : Fin 8) : b1 m c (ix1 h) = Cert.Kernel13Ideal.Out.argB m c h.val := by
  unfold Cert.Kernel13Ideal.Out.argB
  refine congrArg (b1 m c) ?_
  blk_ext []

/-- The result arrays of the two programs are one. -/
theorem value : val_main_v4 (F := Ideal) (b0 m c) (b1 m c) = Cert.Kernel13Ideal.Out.spec m c := by
  funext i
  obtain ⟨t, h, rfl⟩ : ∃ (t : Fin 32) (h : Fin 8), i = ix2 t h := ⟨_, _, eq_ix2 i⟩
  rw [entry, gate, bias]
  rfl

end Cert.Reference13Ideal.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Finite
public import proofs.«01_k».proof.Proof.RefValue
public import proofs.«01_k».proof.Proof.FfnValue
public import proofs.«01_k».proof.Proof.KvEvenRef
public import proofs.«01_k».proof.Proof.OutProjRef
public import proofs.«01_k».proof.Proof.KvOddRef
public import proofs.«01_k».proof.Proof.QGateRef
public import proofs.«01_k».proof.Proof.WindowRef
public import proofs.«01_k».proof.Proof.WindowSampleRef
public import proofs.«01_k».proof.Proof.KvOddSampleRef
public import proofs.«01_k».proof.Proof.KvEvenSampleRef
public import proofs.«01_k».proof.Proof.SampleFfnValue
public import proofs.«01_k».proof.Proof.ForgetLogRef
public import proofs.«01_k».proof.Proof.ForgetLogSampleRef
public import Idealize.ShloMosaic.Lib.Quiescent

@[expose] public section

set_option maxRecDepth 16384

noncomputable section

namespace Cert.Proof

open Idealize.ShloMosaic Idealize.SL.Sem

instance : Cert.Pre_finite.Facts := Cert.Pre_finite.facts

/-- The kernel as printed runs, leaves its arguments, and ends at rest. -/
theorem frame_p : Cert.quiescent_Kernel := fun m ρ _ => Cert.Kernel.Gen.frame m ρ

/-- So does the kernel over the extended reals. -/
theorem frame_pi : Cert.quiescent_KernelIdeal := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The four constants that stand for exact numbers. -/
theorem preserves : Cert.preserves_Kernel_KernelIdeal :=
  ⟨IdealRules.named_const.statement Cert.KernelIdeal.κ "neg_log2e" .f32 0xBFB8AA3B#32 ((-((Real.log 2)⁻¹) : ℝ) : EReal) rfl,
    IdealRules.named_const.statement Cert.KernelIdeal.κ "scale_log2e" .f32 0x3E38AA3B#32 (((1 / 8) * (Real.log 2)⁻¹ : ℝ) : EReal) rfl,
    IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

/-- The two result arrays are one array, `Cert.KernelIdeal.Out.spec`. -/
theorem algebraic : Cert.algebraic_KernelIdeal_ReferenceIdeal_pre_finite := by
  intro m ρ m' ρ' hpre hagree
  refine ⟨fun c => Cert.KernelIdeal.Out.spec m c, ?_, ?_⟩
  · exact (θ_run Cert.KernelIdeal.defs _ _).mono
      (fun _ h c => ⟨(h c).1.trans (Cert.KernelIdeal.Out.value m c (Cert.Same.realArgs m hpre c)), (h c).2⟩)
      (Cert.KernelIdeal.Value.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v122_eq (StableHlo.launchContents m' c)).trans ?_
    obtain ⟨g0, g1, g2, g3, g4, g5, g6⟩ := hagree c
    rw [StableHlo.launchContents_devRef, StableHlo.launchContents_devRef, StableHlo.launchContents_devRef, StableHlo.launchContents_devRef,
      StableHlo.launchContents_devRef, StableHlo.launchContents_devRef, StableHlo.launchContents_devRef, g0, g1, g2, g3, g4, g5, g6]
    exact Cert.Same.value m c (Cert.Same.realArgs m hpre c)

/-- The feed-forward kernel as printed runs, leaves its arguments, and ends at rest. -/
theorem frame_p2 : Cert.quiescent_Kernel2 := fun m ρ _ => Cert.Kernel2.Gen.frame m ρ

/-- So does the feed-forward kernel over the extended reals. -/
theorem frame_pi2 : Cert.quiescent_Kernel2Ideal := fun m ρ _ => Cert.Kernel2Ideal.Gen.frame m ρ

/-- So does its reference. -/
theorem frame_ri2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- No operation of the feed-forward kernel is replaced. -/
theorem preserves2 : Cert.preserves_Kernel2_Kernel2Ideal := trivial

/-- The two result arrays are one array, `Cert.Kernel2Ideal.Out.spec`. -/
theorem algebraic2 : Cert.algebraic_Kernel2Ideal_Reference2Ideal := by
  intro m ρ m' ρ' _ hagree
  refine ⟨fun c => Cert.Kernel2Ideal.Out.spec m c, ?_, ?_⟩
  · exact (θ_run Cert.Kernel2Ideal.defs _ _).mono
      (fun _ h c => ⟨(h c).1.trans (Cert.Kernel2Ideal.Out.value m c), (h c).2⟩)
      (Cert.Kernel2Ideal.Value.run (F := Ideal) m ρ)
  · refine (θ_run Cert.Reference2Ideal.defs _ _).mono (fun _ h c => ⟨(h c).1.trans ?_, (h c).2⟩)
      (Cert.Reference2Ideal.Value.run (F := Ideal) m' ρ')
    refine (Cert.Reference2Ideal.Read.val_main_v33_eq m' c).trans ?_
    obtain ⟨g0, g1, g2, g3, g4⟩ := hagree c
    rw [g0, g1, g2, g3, g4]
    exact Cert.Reference2Ideal.Ref.value m c

/-- The kernel of the keys and values of the even layer as printed runs, leaves its arguments, and ends at rest. -/
theorem frame_p3 : Cert.quiescent_Kernel3 := fun m ρ _ => Cert.Kernel3.Gen.frame m ρ

/-- So does it over the extended reals. -/
theorem frame_pi3 : Cert.quiescent_Kernel3Ideal := fun m ρ _ => Cert.Kernel3Ideal.Gen.frame m ρ

/-- So does its reference. -/
theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- No operation of the kernel of the keys and values of the even layer is replaced. -/
theorem preserves3 : Cert.preserves_Kernel3_Kernel3Ideal := trivial

/-- The two result arrays are one array, `Cert.Kernel3Ideal.Out.spec`. -/
theorem algebraic3 : Cert.algebraic_Kernel3Ideal_Reference3Ideal := by
  intro m ρ m' ρ' _ hagree
  refine ⟨fun c => Cert.Kernel3Ideal.Out.spec m c, ?_, ?_⟩
  · exact Cert.Kernel3Ideal.Out.run m ρ
  · refine (θ_run Cert.Reference3Ideal.defs _ _).mono (fun _ h c => ⟨(h c).1.trans ?_, (h c).2⟩)
      (Cert.Reference3Ideal.Value.run (F := Ideal) m' ρ')
    refine (Cert.Reference3Ideal.Read.val_main_v29_eq m' c).trans ?_
    obtain ⟨g0, g1, g2⟩ := hagree c
    rw [g0, g1, g2]
    exact Cert.Reference3Ideal.Ref.value m c

/-- The kernel of the output projection as printed runs, leaves its arguments, and ends at rest. -/
theorem frame_p4 : Cert.quiescent_Kernel4 := fun m ρ _ => Cert.Kernel4.Gen.frame m ρ

/-- So does it over the extended reals. -/
theorem frame_pi4 : Cert.quiescent_Kernel4Ideal := fun m ρ _ => Cert.Kernel4Ideal.Gen.frame m ρ

/-- So does its reference. -/
theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- No operation of the kernel of the output projection is replaced. -/
theorem preserves4 : Cert.preserves_Kernel4_Kernel4Ideal := trivial

/-- The two result arrays are one array, `Cert.Kernel4Ideal.Out.spec`. -/
theorem algebraic4 : Cert.algebraic_Kernel4Ideal_Reference4Ideal := by
  intro m ρ m' ρ' _ hagree
  refine ⟨fun c => Cert.Kernel4Ideal.Out.spec m c, ?_, ?_⟩
  · exact (θ_run Cert.Kernel4Ideal.defs _ _).mono
      (fun _ h c => ⟨(h c).1.trans (Cert.Kernel4Ideal.Out.final m c), (h c).2⟩)
      (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    refine (Cert.Reference4Ideal.Read.val_main_v16_eq _ _ _ _).trans ?_
    obtain ⟨g0, g1, g2, g3⟩ := hagree c
    rw [g0, g1, g2, g3]
    exact Cert.Reference4Ideal.Ref.value m c

/-- The kernel of the keys and values of the odd layer as printed runs, leaves its arguments, and ends at rest. -/
theorem frame_p5 : Cert.quiescent_Kernel5 := fun m ρ _ => Cert.Kernel5.Gen.frame m ρ

/-- So does it over the extended reals. -/
theorem frame_pi5 : Cert.quiescent_Kernel5Ideal := fun m ρ _ => Cert.Kernel5Ideal.Gen.frame m ρ

/-- So does its reference. -/
theorem frame_ri5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- No operation of the kernel of the keys and values of the odd layer is replaced. -/
theorem preserves5 : Cert.preserves_Kernel5_Kernel5Ideal := trivial

/-- The two result arrays are one array, `Cert.Kernel5Ideal.Out.spec`. -/
theorem algebraic5 : Cert.algebraic_Kernel5Ideal_Reference5Ideal := by
  intro m ρ m' ρ' _ hagree
  refine ⟨fun c => Cert.Kernel5Ideal.Out.spec m c, ?_, ?_⟩
  · exact Cert.Kernel5Ideal.Out.run m ρ
  · refine (θ_run Cert.Reference5Ideal.defs _ _).mono (fun _ h c => ⟨(h c).1.trans ?_, (h c).2⟩)
      (Cert.Reference5Ideal.Value.run (F := Ideal) m' ρ')
    refine (Cert.Reference5Ideal.Read.val_main_v22_eq _ _ _).trans ?_
    obtain ⟨g0, g1, g2⟩ := hagree c
    rw [g0, g1, g2]
    exact Cert.Reference5Ideal.Ref.value m c

/-- The kernel of the queries and forget gates as printed runs, leaves its arguments, and ends at rest. -/
theorem frame_p6 : Cert.quiescent_Kernel6 := fun m ρ _ => Cert.Kernel6.Gen.frame m ρ

/-- So does it over the extended reals. -/
theorem frame_pi6 : Cert.quiescent_Kernel6Ideal := fun m ρ _ => Cert.Kernel6Ideal.Gen.frame m ρ

/-- So does its reference. -/
theorem frame_ri6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- No operation of the kernel of the queries and forget gates is replaced. -/
theorem preserves6 : Cert.preserves_Kernel6_Kernel6Ideal := trivial

/-- The two result arrays are one array, `Cert.Kernel6Ideal.Out.spec`. -/
theorem algebraic6 : Cert.algebraic_Kernel6Ideal_Reference6Ideal := by
  intro m ρ m' ρ' _ hagree
  refine ⟨fun c => Cert.Kernel6Ideal.Out.spec m c, ?_, ?_⟩
  · exact (θ_run Cert.Kernel6Ideal.defs _ _).mono
      (fun _ h c => ⟨(h c).1.trans (Cert.Kernel6Ideal.Out.final m c), (h c).2⟩)
      (Cert.Kernel6Ideal.Value.run_blocks (F := Ideal) m ρ)
  · refine (θ_run Cert.Reference6Ideal.defs _ _).mono (fun _ h c => ⟨(h c).1.trans ?_, (h c).2⟩)
      (Cert.Reference6Ideal.Value.run (F := Ideal) m' ρ')
    refine (Cert.Reference6Ideal.Read.val_main_v23_eq _ _ _).trans ?_
    obtain ⟨g0, g1, g2⟩ := hagree c
    rw [g0, g1, g2]
    exact Cert.Reference6Ideal.Ref.value m c

/-- The kernel of the window's keys and values as printed runs, leaves its arguments, and ends at rest. -/
theorem frame_p7 : Cert.quiescent_Kernel7 := fun m ρ _ => Cert.Kernel7.Gen.frame m ρ

/-- So does it over the extended reals. -/
theorem frame_pi7 : Cert.quiescent_Kernel7Ideal := fun m ρ _ => Cert.Kernel7Ideal.Gen.frame m ρ

/-- So does its reference. -/
theorem frame_ri7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- No operation of the kernel of the window's keys and values is replaced. -/
theorem preserves7 : Cert.preserves_Kernel7_Kernel7Ideal := trivial

/-- The two result arrays are one array, `Cert.Kernel7Ideal.Out.spec`. -/
theorem algebraic7 : Cert.algebraic_Kernel7Ideal_Reference7Ideal := by
  intro m ρ m' ρ' _ hagree
  refine ⟨fun c => Cert.Kernel7Ideal.Out.spec m c, ?_, ?_⟩
  · exact Cert.Kernel7Ideal.Out.run m ρ
  · refine (θ_run Cert.Reference7Ideal.defs _ _).mono (fun _ h c => ⟨(h c).1.trans ?_, (h c).2⟩)
      (Cert.Reference7Ideal.Value.run (F := Ideal) m' ρ')
    refine (Cert.Reference7Ideal.Read.val_main_v22_eq _ _ _).trans ?_
    obtain ⟨g0, g1, g2⟩ := hagree c
    rw [g0, g1, g2]
    exact Cert.Reference7Ideal.Ref.value m c

/-- The kernel of the window's keys and values at the new position as printed runs, leaves its arguments, and ends at rest. -/
theorem frame_p8 : Cert.quiescent_Kernel8 := fun m ρ _ => Cert.Kernel8.Gen.frame m ρ

/-- So does it over the extended reals. -/
theorem frame_pi8 : Cert.quiescent_Kernel8Ideal := fun m ρ _ => Cert.Kernel8Ideal.Gen.frame m ρ

/-- So does its reference. -/
theorem frame_ri8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- No operation of the kernel of the window's keys and values at the new position is replaced. -/
theorem preserves8 : Cert.preserves_Kernel8_Kernel8Ideal := trivial

/-- The two result arrays are one array, `Cert.Kernel8Ideal.Out.spec`. -/
theorem algebraic8 : Cert.algebraic_Kernel8Ideal_Reference8Ideal := by
  intro m ρ m' ρ' _ hagree
  refine ⟨fun c => Cert.Kernel8Ideal.Out.spec m c, ?_, ?_⟩
  · exact Cert.Kernel8Ideal.Out.run m ρ
  · refine (θ_run Cert.Reference8Ideal.defs _ _).mono (fun _ h c => ⟨(h c).1.trans ?_, (h c).2⟩)
      (Cert.Reference8Ideal.Value.run (F := Ideal) m' ρ')
    refine (Cert.Reference8Ideal.Read.val_main_v24_eq _ _ _ _).trans ?_
    obtain ⟨g0, g1, g2, g3⟩ := hagree c
    rw [g0, g1, g2, g3]
    exact Cert.Reference8Ideal.Ref.value m c

/-- The kernel of the odd layer's keys and values at the new position as printed runs, leaves its arguments, and ends at rest. -/
theorem frame_p9 : Cert.quiescent_Kernel9 := fun m ρ _ => Cert.Kernel9.Gen.frame m ρ

/-- So does it over the extended reals. -/
theorem frame_pi9 : Cert.quiescent_Kernel9Ideal := fun m ρ _ => Cert.Kernel9Ideal.Gen.frame m ρ

/-- So does its reference. -/
theorem frame_ri9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- No operation of the kernel of the odd layer's keys and values at the new position is replaced. -/
theorem preserves9 : Cert.preserves_Kernel9_Kernel9Ideal := trivial

/-- The two result arrays are one array, `Cert.Kernel9Ideal.Out.spec`. -/
theorem algebraic9 : Cert.algebraic_Kernel9Ideal_Reference9Ideal := by
  intro m ρ m' ρ' _ hagree
  refine ⟨fun c => Cert.Kernel9Ideal.Out.spec m c, ?_, ?_⟩
  · exact (θ_run Cert.Kernel9Ideal.defs _ _).mono
      (fun _ h c => ⟨(h c).1.trans (Cert.Kernel9Ideal.Out.final m c), (h c).2⟩)
      (Cert.Kernel9Ideal.Value.run_blocks (F := Ideal) m ρ)
  · refine (θ_run Cert.Reference9Ideal.defs _ _).mono (fun _ h c => ⟨(h c).1.trans ?_, (h c).2⟩)
      (Cert.Reference9Ideal.Value.run (F := Ideal) m' ρ')
    refine (Cert.Reference9Ideal.Read.val_main_v23_eq _ _ _).trans ?_
    obtain ⟨g0, g1, g2⟩ := hagree c
    rw [g0, g1, g2]
    exact Cert.Reference9Ideal.Ref.value m c

/-- The kernel of the even layer's keys and values at the new position as printed runs, leaves its arguments, and ends at rest. -/
theorem frame_p10 : Cert.quiescent_Kernel10 := fun m ρ _ => Cert.Kernel10.Gen.frame m ρ

/-- So does it over the extended reals. -/
theorem frame_pi10 : Cert.quiescent_Kernel10Ideal := fun m ρ _ => Cert.Kernel10Ideal.Gen.frame m ρ

/-- So does its reference. -/
theorem frame_ri10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- No operation of the kernel of the even layer's keys and values at the new position is replaced. -/
theorem preserves10 : Cert.preserves_Kernel10_Kernel10Ideal := trivial

/-- The two result arrays are one array, `Cert.Kernel10Ideal.Out.spec`. -/
theorem algebraic10 : Cert.algebraic_Kernel10Ideal_Reference10Ideal := by
  intro m ρ m' ρ' _ hagree
  refine ⟨fun c => Cert.Kernel10Ideal.Out.spec m c, ?_, ?_⟩
  · exact (θ_run Cert.Kernel10Ideal.defs _ _).mono
      (fun _ h c => ⟨(h c).1.trans (Cert.Kernel10Ideal.Out.final m c), (h c).2⟩)
      (Cert.Kernel10Ideal.Value.run_blocks (F := Ideal) m ρ)
  · refine (θ_run Cert.Reference10Ideal.defs _ _).mono (fun _ h c => ⟨(h c).1.trans ?_, (h c).2⟩)
      (Cert.Reference10Ideal.Value.run (F := Ideal) m' ρ')
    refine (Cert.Reference10Ideal.Read.val_main_v30_eq m' c).trans ?_
    obtain ⟨g0, g1, g2⟩ := hagree c
    rw [g0, g1, g2]
    exact Cert.Reference10Ideal.Ref.value m c

/-- The kernel of the feed-forward part at the new position as printed runs, leaves its arguments, and ends at rest. -/
theorem frame_p11 : Cert.quiescent_Kernel11 := fun m ρ _ => Cert.Kernel11.Gen.frame m ρ

/-- So does it over the extended reals. -/
theorem frame_pi11 : Cert.quiescent_Kernel11Ideal := fun m ρ _ => Cert.Kernel11Ideal.Gen.frame m ρ

/-- So does its reference. -/
theorem frame_ri11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- No operation of the kernel of the feed-forward part at the new position is replaced. -/
theorem preserves11 : Cert.preserves_Kernel11_Kernel11Ideal := trivial

/-- The two result arrays are one array, `Cert.Kernel11Ideal.Out.spec`. -/
theorem algebraic11 : Cert.algebraic_Kernel11Ideal_Reference11Ideal := by
  intro m ρ m' ρ' _ hagree
  refine ⟨fun c => Cert.Kernel11Ideal.Out.spec m c, ?_, ?_⟩
  · exact (θ_run Cert.Kernel11Ideal.defs _ _).mono
      (fun _ h c => ⟨(h c).1.trans (Cert.Kernel11Ideal.Out.value m c), (h c).2⟩)
      (Cert.Kernel11Ideal.Value.run (F := Ideal) m ρ)
  · refine (θ_run Cert.Reference11Ideal.defs _ _).mono (fun _ h c => ⟨(h c).1.trans ?_, (h c).2⟩)
      (Cert.Reference11Ideal.Value.run (F := Ideal) m' ρ')
    refine (Cert.Reference11Ideal.Read.val_main_v33_eq m' c).trans ?_
    obtain ⟨g0, g1, g2, g3, g4⟩ := hagree c
    rw [g0, g1, g2, g3, g4]
    exact Cert.Reference11Ideal.Ref.value m c

/-- The kernel of the forget gates' logarithms as printed runs, leaves its arguments, and ends at rest. -/
theorem frame_p12 : Cert.quiescent_Kernel12 := fun m ρ _ => Cert.Kernel12.Gen.frame m ρ

/-- So does it over the extended reals. -/
theorem frame_pi12 : Cert.quiescent_Kernel12Ideal := fun m ρ _ => Cert.Kernel12Ideal.Gen.frame m ρ

/-- So does its reference. -/
theorem frame_ri12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- No operation of the kernel of the forget gates' logarithms is replaced. -/
theorem preserves12 : Cert.preserves_Kernel12_Kernel12Ideal := trivial

/-- The two result arrays are one array, `Cert.Kernel12Ideal.Out.spec`. -/
theorem algebraic12 : Cert.algebraic_Kernel12Ideal_Reference12Ideal := by
  intro m ρ m' ρ' _ hagree
  refine ⟨fun c => Cert.Kernel12Ideal.Out.spec m c, ?_, ?_⟩
  · exact Cert.Kernel12Ideal.Out.run m ρ
  · refine (θ_run Cert.Reference12Ideal.defs _ _).mono (fun _ h c => ⟨(h c).1.trans ?_, (h c).2⟩)
      (Cert.Reference12Ideal.Value.run (F := Ideal) m' ρ')
    refine (Cert.Reference12Ideal.Read.val_main_v4_eq _ _).trans ?_
    obtain ⟨g0, g1⟩ := hagree c
    rw [g0, g1]
    exact Cert.Reference12Ideal.Ref.value m c

/-- The kernel of the forget gates' logarithms at the new position as printed runs, leaves its arguments, and ends at rest. -/
theorem frame_p13 : Cert.quiescent_Kernel13 := fun m ρ _ => Cert.Kernel13.Gen.frame m ρ

/-- So does it over the extended reals. -/
theorem frame_pi13 : Cert.quiescent_Kernel13Ideal := fun m ρ _ => Cert.Kernel13Ideal.Gen.frame m ρ

/-- So does its reference. -/
theorem frame_ri13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- No operation of the kernel of the forget gates' logarithms at the new position is replaced. -/
theorem preserves13 : Cert.preserves_Kernel13_Kernel13Ideal := trivial

/-- The two result arrays are one array, `Cert.Kernel13Ideal.Out.spec`. -/
theorem algebraic13 : Cert.algebraic_Kernel13Ideal_Reference13Ideal := by
  intro m ρ m' ρ' _ hagree
  refine ⟨fun c => Cert.Kernel13Ideal.Out.spec m c, ?_, ?_⟩
  · exact Cert.Kernel13Ideal.Out.run m ρ
  · refine (θ_run Cert.Reference13Ideal.defs _ _).mono (fun _ h c => ⟨(h c).1.trans ?_, (h c).2⟩)
      (Cert.Reference13Ideal.Value.run (F := Ideal) m' ρ')
    refine (Cert.Reference13Ideal.Read.val_main_v4_eq _ _).trans ?_
    obtain ⟨g0, g1⟩ := hagree c
    rw [g0, g1]
    exact Cert.Reference13Ideal.Ref.value m c

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Pre_finite.facts, frame_p, frame_pi, fun m ρ _ => frame_pi m ρ trivial, frame_ri, fun m ρ _ => frame_ri m ρ trivial,
    frame_p2, frame_pi2, frame_ri2,
    frame_p3, frame_pi3, frame_ri3,
    frame_p4, frame_pi4, frame_ri4,
    frame_p5, frame_pi5, frame_ri5,
    frame_p6, frame_pi6, frame_ri6,
    frame_p7, frame_pi7, frame_ri7,
    frame_p8, frame_pi8, frame_ri8,
    frame_p9, frame_pi9, frame_ri9,
    frame_p10, frame_pi10, frame_ri10,
    frame_p11, frame_pi11, frame_ri11,
    frame_p12, frame_pi12, frame_ri12,
    frame_p13, frame_pi13, frame_ri13,
    preserves, algebraic, preserves2, algebraic2, preserves3, algebraic3, preserves4, algebraic4, preserves5, algebraic5, preserves6, algebraic6, preserves7, algebraic7, preserves8, algebraic8, preserves9, algebraic9, preserves10, algebraic10, preserves11, algebraic11, preserves12, algebraic12, preserves13, algebraic13⟩

end Cert.Proof

end
